-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_features_and_w1 [hPre_finite_features_and_w1 : Cert.Pre_finite_features_and_w1.Facts] (m : (ℓ : Loc Cert.KernelIdeal.nD Cert.KernelIdeal.τ Cert.KernelIdeal.sig) → Buf (Elt Ideal) ℓ) : Prop :=
  ∀ c : Dev Cert.KernelIdeal.nD,
    (Cert.Pre_finite_features_and_w1.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_features_and_w1 [hPre_finite_features_and_w1 : Cert.Pre_finite_features_and_w1.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_features_and_w1.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_features_and_w1 [hKernelIdeal : Cert.KernelIdeal.Facts] [hPre_finite_features_and_w1 : Cert.Pre_finite_features_and_w1.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_features_and_w1 m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_features_and_w1 [hReferenceIdeal : Cert.ReferenceIdeal.Facts] [hPre_finite_features_and_w1 : Cert.Pre_finite_features_and_w1.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_features_and_w1 m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_features_and_w1 [hKernelIdeal : Cert.KernelIdeal.Facts] [hReferenceIdeal : Cert.ReferenceIdeal.Facts] [hPre_finite_features_and_w1 : Cert.Pre_finite_features_and_w1.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_features_and_w1 m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v312) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_features_and_w1 : Cert.Pre_finite_features_and_w1.Facts),
    quiescent_Kernel (hKernel := hKernel)
    ∧ quiescent_KernelIdeal (hKernelIdeal := hKernelIdeal)
    ∧ quiescent_KernelIdeal_pre_finite_features_and_w1 (hKernelIdeal := hKernelIdeal) (hPre_finite_features_and_w1 := hPre_finite_features_and_w1)
    ∧ quiescent_ReferenceIdeal (hReferenceIdeal := hReferenceIdeal)
    ∧ quiescent_ReferenceIdeal_pre_finite_features_and_w1 (hReferenceIdeal := hReferenceIdeal) (hPre_finite_features_and_w1 := hPre_finite_features_and_w1)
    ∧ preserves_Kernel_KernelIdeal
    ∧ algebraic_KernelIdeal_ReferenceIdeal_pre_finite_features_and_w1 (hKernelIdeal := hKernelIdeal) (hReferenceIdeal := hReferenceIdeal) (hPre_finite_features_and_w1 := hPre_finite_features_and_w1)
-- ==== Pre_finite_features_and_w1.lean ====
abbrev S1024x256x14x14 : Shape := ⟨4, ![1024, 256, 14, 14]⟩
abbrev S256x128 : Shape := ⟨2, ![256, 128]⟩
abbrev S128x128 : Shape := ⟨2, ![128, 128]⟩
abbrev S128x2 : Shape := ⟨2, ![128, 2]⟩
abbrev S_ : Shape := ⟨0, ![]⟩

class Facts : Prop where
  bcast_S_S1024x256x14x14 : S_.BroadcastsInDim S1024x256x14x14 (![] : Fin 0 → Fin S1024x256x14x14.rank)
  reducesTo_S1024x256x14x14_S_d0_1_2_3 : S1024x256x14x14.ReducesTo [0, 1, 2, 3] S_
  h_S_ : 0 < S_.numel
  bcast_S_S256x128 : S_.BroadcastsInDim S256x128 (![] : Fin 0 → Fin S256x128.rank)
  reducesTo_S256x128_S_d0_1 : S256x128.ReducesTo [0, 1] S_

variable [Facts]

def fn {F : FTy → Type} [FloatOps F] (main_arg0 : FVec F S1024x256x14x14 .f32) (main_arg1 : FVec F S256x128 .f32) (main_arg2 : FVec F S128x128 .f32) (main_arg3 : FVec F S128x2 .f32) : IVec S_ 1 :=
  let main_v0 : FVec F S1024x256x14x14 .f32 := Host.absf main_arg0
  let main_cst : FVec F S_ .f32 := constant S_ .f32 0x7F800000#32
  let main_v1 : FVec F S1024x256x14x14 .f32 := broadcastInDim S1024x256x14x14 ![] bcast_S_S1024x256x14x14 main_cst
  let main_v2 : IVec S1024x256x14x14 1 := cmpf .olt main_v0 main_v1
  let main_c : IVec S_ 1 := constantI S_ 1 1#1
  let main_v3 : IVec S_ 1 := (fun x v => Host.reduce IntOp.andi x v reducesTo_S1024x256x14x14_S_d0_1_2_3 h_S_) main_v2 main_c
  let main_v4 : FVec F S256x128 .f32 := Host.absf main_arg1
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  main_v8
-- ==== Kernel.lean ====
abbrev S1024x256x14x14 : Shape := ⟨4, ![1024, 256, 14, 14]⟩
abbrev S256x128 : Shape := ⟨2, ![256, 128]⟩
abbrev S128x128 : Shape := ⟨2, ![128, 128]⟩
abbrev S128x2 : Shape := ⟨2, ![128, 2]⟩
abbrev S128 : Shape := ⟨1, ![128]⟩
abbrev S1x128 : Shape := ⟨2, ![1, 128]⟩
abbrev S14x14x1024x256 : Shape := ⟨4, ![14, 14, 1024, 256]⟩
abbrev S196x1024x256 : Shape := ⟨3, ![196, 1024, 256]⟩
abbrev S128x256 : Shape := ⟨2, ![128, 256]⟩
abbrev S_ : Shape := ⟨0, ![]⟩
abbrev S8x128 : Shape := ⟨2, ![8, 128]⟩
abbrev S2x128 : Shape := ⟨2, ![2, 128]⟩
abbrev S1 : Shape := ⟨1, ![1]⟩
abbrev S1024x2x128 : Shape := ⟨3, ![1024, 2, 128]⟩
abbrev S1024x128x2 : Shape := ⟨3, ![1024, 128, 2]⟩
abbrev S64x2x128 : Shape := ⟨3, ![64, 2, 128]⟩
abbrev S2x64x224x256 : Shape := ⟨4, ![2, 64, 224, 256]⟩
abbrev S2x196 : Shape := ⟨2, ![2, 196]⟩
abbrev S64x2x256 : Shape := ⟨3, ![64, 2, 256]⟩
abbrev S1x64x2x256 : Shape := ⟨4, ![1, 64, 2, 256]⟩
abbrev S1x1 : Shape := ⟨2, ![1, 1]⟩
abbrev S1x64x1x256 : Shape := ⟨4, ![1, 64, 1, 256]⟩
abbrev S64x256 : Shape := ⟨2, ![64, 256]⟩
abbrev S1x64x256 : Shape := ⟨3, ![1, 64, 256]⟩
abbrev S14x128 : Shape := ⟨2, ![14, 128]⟩
abbrev S16x128 : Shape := ⟨2, ![16, 128]⟩
abbrev S1x1x224x256 : Shape := ⟨4, ![1, 1, 224, 256]⟩
abbrev S224x256 : Shape := ⟨2, ![224, 256]⟩
abbrev S128x224 : Shape := ⟨2, ![128, 224]⟩
abbrev S14x1x128 : Shape := ⟨3, ![14, 1, 128]⟩
abbrev S1x16x128 : Shape := ⟨3, ![1, 16, 128]⟩
abbrev S14x16x128 : Shape := ⟨3, ![14, 16, 128]⟩
abbrev S224x128 : Shape := ⟨2, ![224, 128]⟩
abbrev S1x2x128 : Shape := ⟨3, ![1, 2, 128]⟩

abbrev nBuf : Space → Nat
  | .hbm => 24
  | .vmem => 9
  | .smem => 0
  | _ => 0

abbrev bufTy : (tb : Table) → Fin (tcTables nBuf tb) → BufTy
  | .hbm, ⟨0, _⟩ => ⟨S1024x256x14x14, .f32⟩
  | .hbm, ⟨1, _⟩ => ⟨S256x128, .f32⟩
  | .hbm, ⟨2, _⟩ => ⟨S128x128, .f32⟩
  | .hbm, ⟨3, _⟩ => ⟨S128x2, .f32⟩
  | .hbm, ⟨4, _⟩ => ⟨S128, .f32⟩
  | .hbm, ⟨5, _⟩ => ⟨S1x128, .f32⟩
  | .hbm, ⟨6, _⟩ => ⟨S128, .f32⟩
  | .hbm, ⟨7, _⟩ => ⟨S1x128, .f32⟩
  | .hbm, ⟨8, _⟩ => ⟨S128x128, .bf16⟩
  | .hbm, ⟨9, _⟩ => ⟨S14x14x1024x256, .f32⟩
  | .hbm, ⟨10, _⟩ => ⟨S196x1024x256, .f32⟩
  | .hbm, ⟨11, _⟩ => ⟨S128x256, .f32⟩
  | .hbm, ⟨12, _⟩ => ⟨S128x256, .bf16⟩
  | .hbm, ⟨13, _⟩ => ⟨S128x128, .f32⟩
  | .hbm, ⟨14, _⟩ => ⟨S128x128, .bf16⟩
  | .hbm, ⟨15, _⟩ => ⟨S_, .f32⟩
  | .hbm, ⟨16, _⟩ => ⟨S8x128, .f32⟩
  | .hbm, ⟨17, _⟩ => ⟨S2x128, .f32⟩
  | .hbm, ⟨18, _⟩ => ⟨S_, .i32⟩
  | .hbm, ⟨19, _⟩ => ⟨S1, .i32⟩
  | .hbm, ⟨20, _⟩ => ⟨S8x128, .f32⟩
  | .hbm, ⟨21, _⟩ => ⟨S8x128, .bf16⟩
  | .hbm, ⟨22, _⟩ => ⟨S1024x2x128, .f32⟩
  | .hbm, ⟨23, _⟩ => ⟨S1024x128x2, .f32⟩
  | .local _ .vmem, ⟨0, _⟩ => ⟨S128x256, .bf16⟩
  | .local _ .vmem, ⟨1, _⟩ => ⟨S128x128, .bf16⟩
  | .local _ .vmem, ⟨2, _⟩ => ⟨S8x128, .bf16⟩
  | .local _ .vmem, ⟨3, _⟩ => ⟨S128x128, .bf16⟩
  | .local _ .vmem, ⟨4, _⟩ => ⟨S1x128, .f32⟩
  | .local _ .vmem, ⟨5, _⟩ => ⟨S1x128, .f32⟩
  | .local _ .vmem, ⟨6, _⟩ => ⟨S64x2x128, .f32⟩
  | .local _ .vmem, ⟨7, _⟩ => ⟨S64x2x128, .f32⟩
  | .local _ .vmem, ⟨8, _⟩ => ⟨S2x64x224x256, .f32⟩
  | _, _ => ⟨S1024x256x14x14, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_2 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_3 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | _ => false

abbrev dmaSemScopedAt (i : Nat) : Bool := match i / 128 with
  | 0 => dmaSemScopedAt0_0 i
  | 1 => dmaSemScopedAt0_1 i
  | 2 => dmaSemScopedAt0_2 i
  | 3 => dmaSemScopedAt0_3 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 400 → Bool
  | ⟨i, _⟩ => dmaSemScopedAt i

abbrev sig : RefSig :=
  ofTc nBuf bufTy 0 400 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_call0_cst_0 : Ref sig .tc := ⟨.hbm, 6, rfl⟩
abbrev main_call0_v1 : Ref sig .tc := ⟨.hbm, 7, rfl⟩
abbrev main_call0_cst_1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_cst_2 : Ref sig .tc := ⟨.hbm, 15, rfl⟩
abbrev main_call0_v8 : Ref sig .tc := ⟨.hbm, 16, rfl⟩
abbrev main_call0_v9 : Ref sig .tc := ⟨.hbm, 17, rfl⟩
abbrev main_call0_c : Ref sig .tc := ⟨.hbm, 18, rfl⟩
abbrev main_call0_v10 : Ref sig .tc := ⟨.hbm, 19, rfl⟩
abbrev main_call0_v11 : Ref sig .tc := ⟨.hbm, 20, rfl⟩
abbrev main_call0_v12 : Ref sig .tc := ⟨.hbm, 21, rfl⟩
abbrev main_call0_v13 : Ref sig .tc := ⟨.hbm, 22, rfl⟩
abbrev main_v0 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg6_1 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem6_1 : DmaSem sig := 7

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c1_i32_5 : BitVec 32 := 1#32
  let v13 : BitVec 32 := Scalar.addi arg0 c1_i32_5
  let c16_i32 : BitVec 32 := 16#32
  let v14 : BitVec 1 := Scalar.cmpi .slt v13 c16_i32
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_6 : BitVec 32 := 0#32
  let v15 : BitVec 1 := Scalar.cmpi .eq v12 c0_i32_6
  let v16 : BitVec 1 := Scalar.andi v14 v15
  let v17 : BitVec 32 := Scalar.extui v16
  let c0_i32_7 : BitVec 32 := 0#32
  let v18 : BitVec 1 := Scalar.cmpi .ne v17 c0_i32_7
  v18

def k0_off1 (i : grid0.Coords) : Fin 3 → Nat :=
  let c0_i32_4060 : BitVec 32 := 0#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4067 : BitVec 32 := 0#32
  ![0, v14891.toNat, 0]
def k0_off2 (i : grid0.Coords) : Fin 3 → Nat :=
  let c1_i32_4068 : BitVec 32 := 1#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4075 : BitVec 32 := 0#32
  ![1, v14891.toNat, 0]
def k0_off3 (i : grid0.Coords) : Fin 3 → Nat :=
  let c2_i32_4076 : BitVec 32 := 2#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4083 : BitVec 32 := 0#32
  ![2, v14891.toNat, 0]
def k0_off4 (i : grid0.Coords) : Fin 3 → Nat :=
  let c3_i32 : BitVec 32 := 3#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4090 : BitVec 32 := 0#32
  ![3, v14891.toNat, 0]
def k0_off5 (i : grid0.Coords) : Fin 3 → Nat :=
  let c4_i32 : BitVec 32 := 4#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4097 : BitVec 32 := 0#32
  ![4, v14891.toNat, 0]
def k0_off6 (i : grid0.Coords) : Fin 3 → Nat :=
  let c5_i32 : BitVec 32 := 5#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4104 : BitVec 32 := 0#32
  ![5, v14891.toNat, 0]
def k0_off7 (i : grid0.Coords) : Fin 3 → Nat :=
  let c6_i32 : BitVec 32 := 6#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4111 : BitVec 32 := 0#32
  ![6, v14891.toNat, 0]
def k0_off8 (i : grid0.Coords) : Fin 3 → Nat :=
  let c7_i32 : BitVec 32 := 7#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4118 : BitVec 32 := 0#32
  ![7, v14891.toNat, 0]
def k0_off9 (i : grid0.Coords) : Fin 3 → Nat :=
  let c8_i32 : BitVec 32 := 8#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4125 : BitVec 32 := 0#32
  ![8, v14891.toNat, 0]
def k0_off10 (i : grid0.Coords) : Fin 3 → Nat :=
  let c9_i32 : BitVec 32 := 9#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4132 : BitVec 32 := 0#32
  ![9, v14891.toNat, 0]
def k0_off11 (i : grid0.Coords) : Fin 3 → Nat :=
  let c10_i32 : BitVec 32 := 10#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4139 : BitVec 32 := 0#32
  ![10, v14891.toNat, 0]
def k0_off12 (i : grid0.Coords) : Fin 3 → Nat :=
  let c11_i32 : BitVec 32 := 11#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4146 : BitVec 32 := 0#32
  ![11, v14891.toNat, 0]
def k0_off13 (i : grid0.Coords) : Fin 3 → Nat :=
  let c12_i32 : BitVec 32 := 12#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4153 : BitVec 32 := 0#32
  ![12, v14891.toNat, 0]
def k0_off14 (i : grid0.Coords) : Fin 3 → Nat :=
  let c13_i32 : BitVec 32 := 13#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4160 : BitVec 32 := 0#32
  ![13, v14891.toNat, 0]
def k0_off15 (i : grid0.Coords) : Fin 3 → Nat :=
  let c14_i32 : BitVec 32 := 14#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4167 : BitVec 32 := 0#32
  ![14, v14891.toNat, 0]
def k0_off16 (i : grid0.Coords) : Fin 3 → Nat :=
  let c15_i32 : BitVec 32 := 15#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4173 : BitVec 32 := 0#32
  ![15, v14891.toNat, 0]
def k0_off17 (i : grid0.Coords) : Fin 3 → Nat :=
  let c16_i32_4174 : BitVec 32 := 16#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4180 : BitVec 32 := 0#32
  ![16, v14891.toNat, 0]
def k0_off18 (i : grid0.Coords) : Fin 3 → Nat :=
  let c17_i32_4181 : BitVec 32 := 17#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4187 : BitVec 32 := 0#32
  ![17, v14891.toNat, 0]
def k0_off19 (i : grid0.Coords) : Fin 3 → Nat :=
  let c18_i32_4188 : BitVec 32 := 18#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4194 : BitVec 32 := 0#32
  ![18, v14891.toNat, 0]
def k0_off20 (i : grid0.Coords) : Fin 3 → Nat :=
  let c19_i32_4195 : BitVec 32 := 19#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4201 : BitVec 32 := 0#32
  ![19, v14891.toNat, 0]
def k0_off21 (i : grid0.Coords) : Fin 3 → Nat :=
  let c20_i32_4202 : BitVec 32 := 20#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4208 : BitVec 32 := 0#32
  ![20, v14891.toNat, 0]
def k0_off22 (i : grid0.Coords) : Fin 3 → Nat :=
  let c21_i32_4209 : BitVec 32 := 21#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4215 : BitVec 32 := 0#32
  ![21, v14891.toNat, 0]
def k0_off23 (i : grid0.Coords) : Fin 3 → Nat :=
  let c22_i32_4216 : BitVec 32 := 22#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4222 : BitVec 32 := 0#32
  ![22, v14891.toNat, 0]
def k0_off24 (i : grid0.Coords) : Fin 3 → Nat :=
  let c23_i32_4223 : BitVec 32 := 23#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4229 : BitVec 32 := 0#32
  ![23, v14891.toNat, 0]
def k0_off25 (i : grid0.Coords) : Fin 3 → Nat :=
  let c24_i32_4230 : BitVec 32 := 24#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4236 : BitVec 32 := 0#32
  ![24, v14891.toNat, 0]
def k0_off26 (i : grid0.Coords) : Fin 3 → Nat :=
  let c25_i32_4237 : BitVec 32 := 25#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4243 : BitVec 32 := 0#32
  ![25, v14891.toNat, 0]
def k0_off27 (i : grid0.Coords) : Fin 3 → Nat :=
  let c26_i32_4244 : BitVec 32 := 26#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4250 : BitVec 32 := 0#32
  ![26, v14891.toNat, 0]
def k0_off28 (i : grid0.Coords) : Fin 3 → Nat :=
  let c27_i32_4251 : BitVec 32 := 27#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4257 : BitVec 32 := 0#32
  ![27, v14891.toNat, 0]
def k0_off29 (i : grid0.Coords) : Fin 3 → Nat :=
  let c28_i32_4258 : BitVec 32 := 28#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4264 : BitVec 32 := 0#32
  ![28, v14891.toNat, 0]
def k0_off30 (i : grid0.Coords) : Fin 3 → Nat :=
  let c29_i32_4265 : BitVec 32 := 29#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4271 : BitVec 32 := 0#32
  ![29, v14891.toNat, 0]
def k0_off31 (i : grid0.Coords) : Fin 3 → Nat :=
  let c30_i32 : BitVec 32 := 30#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4277 : BitVec 32 := 0#32
  ![30, v14891.toNat, 0]
def k0_off32 (i : grid0.Coords) : Fin 3 → Nat :=
  let c31_i32 : BitVec 32 := 31#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4283 : BitVec 32 := 0#32
  ![31, v14891.toNat, 0]
def k0_off33 (i : grid0.Coords) : Fin 3 → Nat :=
  let c32_i32_4284 : BitVec 32 := 32#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4290 : BitVec 32 := 0#32
  ![32, v14891.toNat, 0]
def k0_off34 (i : grid0.Coords) : Fin 3 → Nat :=
  let c33_i32_4291 : BitVec 32 := 33#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4297 : BitVec 32 := 0#32
  ![33, v14891.toNat, 0]
def k0_off35 (i : grid0.Coords) : Fin 3 → Nat :=
  let c34_i32_4298 : BitVec 32 := 34#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4304 : BitVec 32 := 0#32
  ![34, v14891.toNat, 0]
def k0_off36 (i : grid0.Coords) : Fin 3 → Nat :=
  let c35_i32_4305 : BitVec 32 := 35#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4311 : BitVec 32 := 0#32
  ![35, v14891.toNat, 0]
def k0_off37 (i : grid0.Coords) : Fin 3 → Nat :=
  let c36_i32_4312 : BitVec 32 := 36#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4318 : BitVec 32 := 0#32
  ![36, v14891.toNat, 0]
def k0_off38 (i : grid0.Coords) : Fin 3 → Nat :=
  let c37_i32_4319 : BitVec 32 := 37#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4325 : BitVec 32 := 0#32
  ![37, v14891.toNat, 0]
def k0_off39 (i : grid0.Coords) : Fin 3 → Nat :=
  let c38_i32_4326 : BitVec 32 := 38#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4332 : BitVec 32 := 0#32
  ![38, v14891.toNat, 0]
def k0_off40 (i : grid0.Coords) : Fin 3 → Nat :=
  let c39_i32_4333 : BitVec 32 := 39#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4339 : BitVec 32 := 0#32
  ![39, v14891.toNat, 0]
def k0_off41 (i : grid0.Coords) : Fin 3 → Nat :=
  let c40_i32_4340 : BitVec 32 := 40#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4346 : BitVec 32 := 0#32
  ![40, v14891.toNat, 0]
def k0_off42 (i : grid0.Coords) : Fin 3 → Nat :=
  let c41_i32_4347 : BitVec 32 := 41#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4353 : BitVec 32 := 0#32
  ![41, v14891.toNat, 0]
def k0_off43 (i : grid0.Coords) : Fin 3 → Nat :=
  let c42_i32_4354 : BitVec 32 := 42#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4360 : BitVec 32 := 0#32
  ![42, v14891.toNat, 0]
def k0_off44 (i : grid0.Coords) : Fin 3 → Nat :=
  let c43_i32_4361 : BitVec 32 := 43#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4367 : BitVec 32 := 0#32
  ![43, v14891.toNat, 0]
def k0_off45 (i : grid0.Coords) : Fin 3 → Nat :=
  let c44_i32_4368 : BitVec 32 := 44#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4374 : BitVec 32 := 0#32
  ![44, v14891.toNat, 0]
def k0_off46 (i : grid0.Coords) : Fin 3 → Nat :=
  let c45_i32_4375 : BitVec 32 := 45#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4381 : BitVec 32 := 0#32
  ![45, v14891.toNat, 0]
def k0_off47 (i : grid0.Coords) : Fin 3 → Nat :=
  let c46_i32 : BitVec 32 := 46#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4387 : BitVec 32 := 0#32
  ![46, v14891.toNat, 0]
def k0_off48 (i : grid0.Coords) : Fin 3 → Nat :=
  let c47_i32 : BitVec 32 := 47#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4393 : BitVec 32 := 0#32
  ![47, v14891.toNat, 0]
def k0_off49 (i : grid0.Coords) : Fin 3 → Nat :=
  let c48_i32_4394 : BitVec 32 := 48#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4400 : BitVec 32 := 0#32
  ![48, v14891.toNat, 0]
def k0_off50 (i : grid0.Coords) : Fin 3 → Nat :=
  let c49_i32_4401 : BitVec 32 := 49#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4407 : BitVec 32 := 0#32
  ![49, v14891.toNat, 0]
def k0_off51 (i : grid0.Coords) : Fin 3 → Nat :=
  let c50_i32_4408 : BitVec 32 := 50#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4414 : BitVec 32 := 0#32
  ![50, v14891.toNat, 0]
def k0_off52 (i : grid0.Coords) : Fin 3 → Nat :=
  let c51_i32_4415 : BitVec 32 := 51#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4421 : BitVec 32 := 0#32
  ![51, v14891.toNat, 0]
def k0_off53 (i : grid0.Coords) : Fin 3 → Nat :=
  let c52_i32_4422 : BitVec 32 := 52#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4428 : BitVec 32 := 0#32
  ![52, v14891.toNat, 0]
def k0_off54 (i : grid0.Coords) : Fin 3 → Nat :=
  let c53_i32_4429 : BitVec 32 := 53#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4435 : BitVec 32 := 0#32
  ![53, v14891.toNat, 0]
def k0_off55 (i : grid0.Coords) : Fin 3 → Nat :=
  let c54_i32_4436 : BitVec 32 := 54#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4442 : BitVec 32 := 0#32
  ![54, v14891.toNat, 0]
def k0_off56 (i : grid0.Coords) : Fin 3 → Nat :=
  let c55_i32_4443 : BitVec 32 := 55#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4449 : BitVec 32 := 0#32
  ![55, v14891.toNat, 0]
def k0_off57 (i : grid0.Coords) : Fin 3 → Nat :=
  let c56_i32_4450 : BitVec 32 := 56#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4457 : BitVec 32 := 0#32
  ![56, v14891.toNat, 0]
def k0_off58 (i : grid0.Coords) : Fin 3 → Nat :=
  let c57_i32_4458 : BitVec 32 := 57#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4464 : BitVec 32 := 0#32
  ![57, v14891.toNat, 0]
def k0_off59 (i : grid0.Coords) : Fin 3 → Nat :=
  let c58_i32_4465 : BitVec 32 := 58#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4471 : BitVec 32 := 0#32
  ![58, v14891.toNat, 0]
def k0_off60 (i : grid0.Coords) : Fin 3 → Nat :=
  let c59_i32_4472 : BitVec 32 := 59#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4478 : BitVec 32 := 0#32
  ![59, v14891.toNat, 0]
def k0_off61 (i : grid0.Coords) : Fin 3 → Nat :=
  let c60_i32_4479 : BitVec 32 := 60#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4485 : BitVec 32 := 0#32
  ![60, v14891.toNat, 0]
def k0_off62 (i : grid0.Coords) : Fin 3 → Nat :=
  let c61_i32_4486 : BitVec 32 := 61#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4492 : BitVec 32 := 0#32
  ![61, v14891.toNat, 0]
def k0_off63 (i : grid0.Coords) : Fin 3 → Nat :=
  let c62_i32 : BitVec 32 := 62#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4498 : BitVec 32 := 0#32
  ![62, v14891.toNat, 0]
def k0_off64 (i : grid0.Coords) : Fin 3 → Nat :=
  let c63_i32 : BitVec 32 := 63#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4504 : BitVec 32 := 0#32
  ![63, v14891.toNat, 0]
def k0_off65 (i : grid0.Coords) : Fin 3 → Nat :=
  let c64_i32_4505 : BitVec 32 := 64#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4511 : BitVec 32 := 0#32
  ![64, v14891.toNat, 0]
def k0_off66 (i : grid0.Coords) : Fin 3 → Nat :=
  let c65_i32_4512 : BitVec 32 := 65#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4518 : BitVec 32 := 0#32
  ![65, v14891.toNat, 0]
def k0_off67 (i : grid0.Coords) : Fin 3 → Nat :=
  let c66_i32_4519 : BitVec 32 := 66#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4525 : BitVec 32 := 0#32
  ![66, v14891.toNat, 0]
def k0_off68 (i : grid0.Coords) : Fin 3 → Nat :=
  let c67_i32_4526 : BitVec 32 := 67#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4532 : BitVec 32 := 0#32
  ![67, v14891.toNat, 0]
def k0_off69 (i : grid0.Coords) : Fin 3 → Nat :=
  let c68_i32_4533 : BitVec 32 := 68#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4539 : BitVec 32 := 0#32
  ![68, v14891.toNat, 0]
def k0_off70 (i : grid0.Coords) : Fin 3 → Nat :=
  let c69_i32_4540 : BitVec 32 := 69#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4546 : BitVec 32 := 0#32
  ![69, v14891.toNat, 0]
def k0_off71 (i : grid0.Coords) : Fin 3 → Nat :=
  let c70_i32_4547 : BitVec 32 := 70#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4553 : BitVec 32 := 0#32
  ![70, v14891.toNat, 0]
def k0_off72 (i : grid0.Coords) : Fin 3 → Nat :=
  let c71_i32_4554 : BitVec 32 := 71#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4560 : BitVec 32 := 0#32
  ![71, v14891.toNat, 0]
def k0_off73 (i : grid0.Coords) : Fin 3 → Nat :=
  let c72_i32_4561 : BitVec 32 := 72#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4567 : BitVec 32 := 0#32
  ![72, v14891.toNat, 0]
def k0_off74 (i : grid0.Coords) : Fin 3 → Nat :=
  let c73_i32_4568 : BitVec 32 := 73#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4574 : BitVec 32 := 0#32
  ![73, v14891.toNat, 0]
def k0_off75 (i : grid0.Coords) : Fin 3 → Nat :=
  let c74_i32_4575 : BitVec 32 := 74#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4581 : BitVec 32 := 0#32
  ![74, v14891.toNat, 0]
def k0_off76 (i : grid0.Coords) : Fin 3 → Nat :=
  let c75_i32_4582 : BitVec 32 := 75#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4588 : BitVec 32 := 0#32
  ![75, v14891.toNat, 0]
def k0_off77 (i : grid0.Coords) : Fin 3 → Nat :=
  let c76_i32_4589 : BitVec 32 := 76#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4595 : BitVec 32 := 0#32
  ![76, v14891.toNat, 0]
def k0_off78 (i : grid0.Coords) : Fin 3 → Nat :=
  let c77_i32_4596 : BitVec 32 := 77#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4602 : BitVec 32 := 0#32
  ![77, v14891.toNat, 0]
def k0_off79 (i : grid0.Coords) : Fin 3 → Nat :=
  let c78_i32 : BitVec 32 := 78#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4608 : BitVec 32 := 0#32
  ![78, v14891.toNat, 0]
def k0_off80 (i : grid0.Coords) : Fin 3 → Nat :=
  let c79_i32 : BitVec 32 := 79#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4614 : BitVec 32 := 0#32
  ![79, v14891.toNat, 0]
def k0_off81 (i : grid0.Coords) : Fin 3 → Nat :=
  let c80_i32_4615 : BitVec 32 := 80#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4621 : BitVec 32 := 0#32
  ![80, v14891.toNat, 0]
def k0_off82 (i : grid0.Coords) : Fin 3 → Nat :=
  let c81_i32_4622 : BitVec 32 := 81#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4628 : BitVec 32 := 0#32
  ![81, v14891.toNat, 0]
def k0_off83 (i : grid0.Coords) : Fin 3 → Nat :=
  let c82_i32_4629 : BitVec 32 := 82#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4635 : BitVec 32 := 0#32
  ![82, v14891.toNat, 0]
def k0_off84 (i : grid0.Coords) : Fin 3 → Nat :=
  let c83_i32_4636 : BitVec 32 := 83#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4642 : BitVec 32 := 0#32
  ![83, v14891.toNat, 0]
def k0_off85 (i : grid0.Coords) : Fin 3 → Nat :=
  let c84_i32_4643 : BitVec 32 := 84#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4649 : BitVec 32 := 0#32
  ![84, v14891.toNat, 0]
def k0_off86 (i : grid0.Coords) : Fin 3 → Nat :=
  let c85_i32_4650 : BitVec 32 := 85#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4656 : BitVec 32 := 0#32
  ![85, v14891.toNat, 0]
def k0_off87 (i : grid0.Coords) : Fin 3 → Nat :=
  let c86_i32_4657 : BitVec 32 := 86#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4663 : BitVec 32 := 0#32
  ![86, v14891.toNat, 0]
def k0_off88 (i : grid0.Coords) : Fin 3 → Nat :=
  let c87_i32_4664 : BitVec 32 := 87#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4670 : BitVec 32 := 0#32
  ![87, v14891.toNat, 0]
def k0_off89 (i : grid0.Coords) : Fin 3 → Nat :=
  let c88_i32_4671 : BitVec 32 := 88#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4677 : BitVec 32 := 0#32
  ![88, v14891.toNat, 0]
def k0_off90 (i : grid0.Coords) : Fin 3 → Nat :=
  let c89_i32_4678 : BitVec 32 := 89#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4684 : BitVec 32 := 0#32
  ![89, v14891.toNat, 0]
def k0_off91 (i : grid0.Coords) : Fin 3 → Nat :=
  let c90_i32_4685 : BitVec 32 := 90#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4691 : BitVec 32 := 0#32
  ![90, v14891.toNat, 0]
def k0_off92 (i : grid0.Coords) : Fin 3 → Nat :=
  let c91_i32_4692 : BitVec 32 := 91#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4698 : BitVec 32 := 0#32
  ![91, v14891.toNat, 0]
def k0_off93 (i : grid0.Coords) : Fin 3 → Nat :=
  let c92_i32_4699 : BitVec 32 := 92#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4705 : BitVec 32 := 0#32
  ![92, v14891.toNat, 0]
def k0_off94 (i : grid0.Coords) : Fin 3 → Nat :=
  let c93_i32_4706 : BitVec 32 := 93#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4712 : BitVec 32 := 0#32
  ![93, v14891.toNat, 0]
def k0_off95 (i : grid0.Coords) : Fin 3 → Nat :=
  let c94_i32 : BitVec 32 := 94#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4718 : BitVec 32 := 0#32
  ![94, v14891.toNat, 0]
def k0_off96 (i : grid0.Coords) : Fin 3 → Nat :=
  let c95_i32 : BitVec 32 := 95#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4724 : BitVec 32 := 0#32
  ![95, v14891.toNat, 0]
def k0_off97 (i : grid0.Coords) : Fin 3 → Nat :=
  let c96_i32_4725 : BitVec 32 := 96#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4731 : BitVec 32 := 0#32
  ![96, v14891.toNat, 0]
def k0_off98 (i : grid0.Coords) : Fin 3 → Nat :=
  let c97_i32_4732 : BitVec 32 := 97#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4738 : BitVec 32 := 0#32
  ![97, v14891.toNat, 0]
def k0_off99 (i : grid0.Coords) : Fin 3 → Nat :=
  let c98_i32_4739 : BitVec 32 := 98#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4745 : BitVec 32 := 0#32
  ![98, v14891.toNat, 0]
def k0_off100 (i : grid0.Coords) : Fin 3 → Nat :=
  let c99_i32_4746 : BitVec 32 := 99#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4752 : BitVec 32 := 0#32
  ![99, v14891.toNat, 0]
def k0_off101 (i : grid0.Coords) : Fin 3 → Nat :=
  let c100_i32_4753 : BitVec 32 := 100#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4759 : BitVec 32 := 0#32
  ![100, v14891.toNat, 0]
def k0_off102 (i : grid0.Coords) : Fin 3 → Nat :=
  let c101_i32_4760 : BitVec 32 := 101#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4766 : BitVec 32 := 0#32
  ![101, v14891.toNat, 0]
def k0_off103 (i : grid0.Coords) : Fin 3 → Nat :=
  let c102_i32_4767 : BitVec 32 := 102#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4773 : BitVec 32 := 0#32
  ![102, v14891.toNat, 0]
def k0_off104 (i : grid0.Coords) : Fin 3 → Nat :=
  let c103_i32_4774 : BitVec 32 := 103#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4780 : BitVec 32 := 0#32
  ![103, v14891.toNat, 0]
def k0_off105 (i : grid0.Coords) : Fin 3 → Nat :=
  let c104_i32_4781 : BitVec 32 := 104#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4787 : BitVec 32 := 0#32
  ![104, v14891.toNat, 0]
def k0_off106 (i : grid0.Coords) : Fin 3 → Nat :=
  let c105_i32_4788 : BitVec 32 := 105#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4794 : BitVec 32 := 0#32
  ![105, v14891.toNat, 0]
def k0_off107 (i : grid0.Coords) : Fin 3 → Nat :=
  let c106_i32_4795 : BitVec 32 := 106#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4801 : BitVec 32 := 0#32
  ![106, v14891.toNat, 0]
def k0_off108 (i : grid0.Coords) : Fin 3 → Nat :=
  let c107_i32_4802 : BitVec 32 := 107#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4808 : BitVec 32 := 0#32
  ![107, v14891.toNat, 0]
def k0_off109 (i : grid0.Coords) : Fin 3 → Nat :=
  let c108_i32_4809 : BitVec 32 := 108#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4815 : BitVec 32 := 0#32
  ![108, v14891.toNat, 0]
def k0_off110 (i : grid0.Coords) : Fin 3 → Nat :=
  let c109_i32_4816 : BitVec 32 := 109#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4822 : BitVec 32 := 0#32
  ![109, v14891.toNat, 0]
def k0_off111 (i : grid0.Coords) : Fin 3 → Nat :=
  let c110_i32 : BitVec 32 := 110#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4828 : BitVec 32 := 0#32
  ![110, v14891.toNat, 0]
def k0_off112 (i : grid0.Coords) : Fin 3 → Nat :=
  let c111_i32 : BitVec 32 := 111#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4834 : BitVec 32 := 0#32
  ![111, v14891.toNat, 0]
def k0_off113 (i : grid0.Coords) : Fin 3 → Nat :=
  let c112_i32_4835 : BitVec 32 := 112#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4841 : BitVec 32 := 0#32
  ![112, v14891.toNat, 0]
def k0_off114 (i : grid0.Coords) : Fin 3 → Nat :=
  let c113_i32_4842 : BitVec 32 := 113#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4848 : BitVec 32 := 0#32
  ![113, v14891.toNat, 0]
def k0_off115 (i : grid0.Coords) : Fin 3 → Nat :=
  let c114_i32_4849 : BitVec 32 := 114#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4855 : BitVec 32 := 0#32
  ![114, v14891.toNat, 0]
def k0_off116 (i : grid0.Coords) : Fin 3 → Nat :=
  let c115_i32_4856 : BitVec 32 := 115#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4862 : BitVec 32 := 0#32
  ![115, v14891.toNat, 0]
def k0_off117 (i : grid0.Coords) : Fin 3 → Nat :=
  let c116_i32_4863 : BitVec 32 := 116#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4869 : BitVec 32 := 0#32
  ![116, v14891.toNat, 0]
def k0_off118 (i : grid0.Coords) : Fin 3 → Nat :=
  let c117_i32_4870 : BitVec 32 := 117#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4876 : BitVec 32 := 0#32
  ![117, v14891.toNat, 0]
def k0_off119 (i : grid0.Coords) : Fin 3 → Nat :=
  let c118_i32_4877 : BitVec 32 := 118#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4883 : BitVec 32 := 0#32
  ![118, v14891.toNat, 0]
def k0_off120 (i : grid0.Coords) : Fin 3 → Nat :=
  let c119_i32_4884 : BitVec 32 := 119#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4890 : BitVec 32 := 0#32
  ![119, v14891.toNat, 0]
def k0_off121 (i : grid0.Coords) : Fin 3 → Nat :=
  let c120_i32_4891 : BitVec 32 := 120#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4897 : BitVec 32 := 0#32
  ![120, v14891.toNat, 0]
def k0_off122 (i : grid0.Coords) : Fin 3 → Nat :=
  let c121_i32_4898 : BitVec 32 := 121#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4904 : BitVec 32 := 0#32
  ![121, v14891.toNat, 0]
def k0_off123 (i : grid0.Coords) : Fin 3 → Nat :=
  let c122_i32_4905 : BitVec 32 := 122#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4911 : BitVec 32 := 0#32
  ![122, v14891.toNat, 0]
def k0_off124 (i : grid0.Coords) : Fin 3 → Nat :=
  let c123_i32_4912 : BitVec 32 := 123#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4918 : BitVec 32 := 0#32
  ![123, v14891.toNat, 0]
def k0_off125 (i : grid0.Coords) : Fin 3 → Nat :=
  let c124_i32_4919 : BitVec 32 := 124#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4925 : BitVec 32 := 0#32
  ![124, v14891.toNat, 0]
def k0_off126 (i : grid0.Coords) : Fin 3 → Nat :=
  let c125_i32_4926 : BitVec 32 := 125#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4932 : BitVec 32 := 0#32
  ![125, v14891.toNat, 0]
def k0_off127 (i : grid0.Coords) : Fin 3 → Nat :=
  let c126_i32 : BitVec 32 := 126#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4938 : BitVec 32 := 0#32
  ![126, v14891.toNat, 0]
def k0_off128 (i : grid0.Coords) : Fin 3 → Nat :=
  let c127_i32 : BitVec 32 := 127#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4944 : BitVec 32 := 0#32
  ![127, v14891.toNat, 0]
def k0_off129 (i : grid0.Coords) : Fin 3 → Nat :=
  let c128_i32_4945 : BitVec 32 := 128#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4951 : BitVec 32 := 0#32
  ![128, v14891.toNat, 0]
def k0_off130 (i : grid0.Coords) : Fin 3 → Nat :=
  let c129_i32_4952 : BitVec 32 := 129#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4958 : BitVec 32 := 0#32
  ![129, v14891.toNat, 0]
def k0_off131 (i : grid0.Coords) : Fin 3 → Nat :=
  let c130_i32_4959 : BitVec 32 := 130#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4965 : BitVec 32 := 0#32
  ![130, v14891.toNat, 0]
def k0_off132 (i : grid0.Coords) : Fin 3 → Nat :=
  let c131_i32_4966 : BitVec 32 := 131#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4972 : BitVec 32 := 0#32
  ![131, v14891.toNat, 0]
def k0_off133 (i : grid0.Coords) : Fin 3 → Nat :=
  let c132_i32_4973 : BitVec 32 := 132#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4979 : BitVec 32 := 0#32
  ![132, v14891.toNat, 0]
def k0_off134 (i : grid0.Coords) : Fin 3 → Nat :=
  let c133_i32_4980 : BitVec 32 := 133#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4986 : BitVec 32 := 0#32
  ![133, v14891.toNat, 0]
def k0_off135 (i : grid0.Coords) : Fin 3 → Nat :=
  let c134_i32_4987 : BitVec 32 := 134#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4993 : BitVec 32 := 0#32
  ![134, v14891.toNat, 0]
def k0_off136 (i : grid0.Coords) : Fin 3 → Nat :=
  let c135_i32_4994 : BitVec 32 := 135#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_5000 : BitVec 32 := 0#32
  ![135, v14891.toNat, 0]
def k0_off137 (i : grid0.Coords) : Fin 3 → Nat :=
  let c136_i32_5001 : BitVec 32 := 136#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_5007 : BitVec 32 := 0#32
  ![136, v14891.toNat, 0]
def k0_off138 (i : grid0.Coords) : Fin 3 → Nat :=
  let c137_i32_5008 : BitVec 32 := 137#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_5014 : BitVec 32 := 0#32
  ![137, v14891.toNat, 0]
def k0_off139 (i : grid0.Coords) : Fin 3 → Nat :=
  let c138_i32_5015 : BitVec 32 := 138#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_5021 : BitVec 32 := 0#32
  ![138, v14891.toNat, 0]
def k0_off140 (i : grid0.Coords) : Fin 3 → Nat :=
  let c139_i32_5022 : BitVec 32 := 139#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_5028 : BitVec 32 := 0#32
  ![139, v14891.toNat, 0]
def k0_off141 (i : grid0.Coords) : Fin 3 → Nat :=
  let c140_i32_5029 : BitVec 32 := 140#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_5035 : BitVec 32 := 0#32
  ![140, v14891.toNat, 0]
def k0_off142 (i : grid0.Coords) : Fin 3 → Nat :=
  let c141_i32_5036 : BitVec 32 := 141#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_5042 : BitVec 32 := 0#32
  ![141, v14891.toNat, 0]
def k0_off143 (i : grid0.Coords) : Fin 3 → Nat :=
  let c142_i32 : BitVec 32 := 142#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_5048 : BitVec 32 := 0#32
  ![142, v14891.toNat, 0]
def k0_off144 (i : grid0.Coords) : Fin 3 → Nat :=
  let c143_i32 : BitVec 32 := 143#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_5054 : BitVec 32 := 0#32
  ![143, v14891.toNat, 0]
def k0_off145 (i : grid0.Coords) : Fin 3 → Nat :=
  let c144_i32_5055 : BitVec 32 := 144#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_5061 : BitVec 32 := 0#32
  ![144, v14891.toNat, 0]
def k0_off146 (i : grid0.Coords) : Fin 3 → Nat :=
  let c145_i32_5062 : BitVec 32 := 145#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_5068 : BitVec 32 := 0#32
  ![145, v14891.toNat, 0]
def k0_off147 (i : grid0.Coords) : Fin 3 → Nat :=
  let c146_i32_5069 : BitVec 32 := 146#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_5075 : BitVec 32 := 0#32
  ![146, v14891.toNat, 0]
def k0_off148 (i : grid0.Coords) : Fin 3 → Nat :=
  let c147_i32_5076 : BitVec 32 := 147#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_5082 : BitVec 32 := 0#32
  ![147, v14891.toNat, 0]
def k0_off149 (i : grid0.Coords) : Fin 3 → Nat :=
  let c148_i32_5083 : BitVec 32 := 148#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_5089 : BitVec 32 := 0#32
  ![148, v14891.toNat, 0]
def k0_off150 (i : grid0.Coords) : Fin 3 → Nat :=
  let c149_i32_5090 : BitVec 32 := 149#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_5096 : BitVec 32 := 0#32
  ![149, v14891.toNat, 0]
def k0_off151 (i : grid0.Coords) : Fin 3 → Nat :=
  let c150_i32_5097 : BitVec 32 := 150#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_5103 : BitVec 32 := 0#32
  ![150, v14891.toNat, 0]
def k0_off152 (i : grid0.Coords) : Fin 3 → Nat :=
  let c151_i32_5104 : BitVec 32 := 151#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_5110 : BitVec 32 := 0#32
  ![151, v14891.toNat, 0]
def k0_off153 (i : grid0.Coords) : Fin 3 → Nat :=
  let c152_i32_5111 : BitVec 32 := 152#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_5117 : BitVec 32 := 0#32
  ![152, v14891.toNat, 0]
def k0_off154 (i : grid0.Coords) : Fin 3 → Nat :=
  let c153_i32_5118 : BitVec 32 := 153#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_5124 : BitVec 32 := 0#32
  ![153, v14891.toNat, 0]
def k0_off155 (i : grid0.Coords) : Fin 3 → Nat :=
  let c154_i32_5125 : BitVec 32 := 154#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_5131 : BitVec 32 := 0#32
  ![154, v14891.toNat, 0]
def k0_off156 (i : grid0.Coords) : Fin 3 → Nat :=
  let c155_i32_5132 : BitVec 32 := 155#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_5138 : BitVec 32 := 0#32
  ![155, v14891.toNat, 0]
def k0_off157 (i : grid0.Coords) : Fin 3 → Nat :=
  let c156_i32_5139 : BitVec 32 := 156#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_5145 : BitVec 32 := 0#32
  ![156, v14891.toNat, 0]
def k0_off158 (i : grid0.Coords) : Fin 3 → Nat :=
  let c157_i32_5146 : BitVec 32 := 157#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_5152 : BitVec 32 := 0#32
  ![157, v14891.toNat, 0]
def k0_off159 (i : grid0.Coords) : Fin 3 → Nat :=
  let c158_i32 : BitVec 32 := 158#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_5158 : BitVec 32 := 0#32
  ![158, v14891.toNat, 0]
def k0_off160 (i : grid0.Coords) : Fin 3 → Nat :=
  let c159_i32 : BitVec 32 := 159#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_5164 : BitVec 32 := 0#32
  ![159, v14891.toNat, 0]
def k0_off161 (i : grid0.Coords) : Fin 3 → Nat :=
  let c160_i32_5165 : BitVec 32 := 160#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_5171 : BitVec 32 := 0#32
  ![160, v14891.toNat, 0]
def k0_off162 (i : grid0.Coords) : Fin 3 → Nat :=
  let c161_i32_5172 : BitVec 32 := 161#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_5178 : BitVec 32 := 0#32
  ![161, v14891.toNat, 0]
def k0_off163 (i : grid0.Coords) : Fin 3 → Nat :=
  let c162_i32_5179 : BitVec 32 := 162#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_5185 : BitVec 32 := 0#32
  ![162, v14891.toNat, 0]
def k0_off164 (i : grid0.Coords) : Fin 3 → Nat :=
  let c163_i32_5186 : BitVec 32 := 163#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_5192 : BitVec 32 := 0#32
  ![163, v14891.toNat, 0]
def k0_off165 (i : grid0.Coords) : Fin 3 → Nat :=
  let c164_i32_5193 : BitVec 32 := 164#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_5199 : BitVec 32 := 0#32
  ![164, v14891.toNat, 0]
def k0_off166 (i : grid0.Coords) : Fin 3 → Nat :=
  let c165_i32_5200 : BitVec 32 := 165#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_5206 : BitVec 32 := 0#32
  ![165, v14891.toNat, 0]
def k0_off167 (i : grid0.Coords) : Fin 3 → Nat :=
  let c166_i32_5207 : BitVec 32 := 166#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_5213 : BitVec 32 := 0#32
  ![166, v14891.toNat, 0]
def k0_off168 (i : grid0.Coords) : Fin 3 → Nat :=
  let c167_i32_5214 : BitVec 32 := 167#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_5220 : BitVec 32 := 0#32
  ![167, v14891.toNat, 0]
def k0_off169 (i : grid0.Coords) : Fin 3 → Nat :=
  let c168_i32_5221 : BitVec 32 := 168#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_5227 : BitVec 32 := 0#32
  ![168, v14891.toNat, 0]
def k0_off170 (i : grid0.Coords) : Fin 3 → Nat :=
  let c169_i32_5228 : BitVec 32 := 169#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_5234 : BitVec 32 := 0#32
  ![169, v14891.toNat, 0]
def k0_off171 (i : grid0.Coords) : Fin 3 → Nat :=
  let c170_i32_5235 : BitVec 32 := 170#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_5241 : BitVec 32 := 0#32
  ![170, v14891.toNat, 0]
def k0_off172 (i : grid0.Coords) : Fin 3 → Nat :=
  let c171_i32_5242 : BitVec 32 := 171#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_5248 : BitVec 32 := 0#32
  ![171, v14891.toNat, 0]
def k0_off173 (i : grid0.Coords) : Fin 3 → Nat :=
  let c172_i32_5249 : BitVec 32 := 172#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_5255 : BitVec 32 := 0#32
  ![172, v14891.toNat, 0]
def k0_off174 (i : grid0.Coords) : Fin 3 → Nat :=
  let c173_i32_5256 : BitVec 32 := 173#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_5262 : BitVec 32 := 0#32
  ![173, v14891.toNat, 0]
def k0_off175 (i : grid0.Coords) : Fin 3 → Nat :=
  let c174_i32 : BitVec 32 := 174#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_5268 : BitVec 32 := 0#32
  ![174, v14891.toNat, 0]
def k0_off176 (i : grid0.Coords) : Fin 3 → Nat :=
  let c175_i32 : BitVec 32 := 175#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_5274 : BitVec 32 := 0#32
  ![175, v14891.toNat, 0]
def k0_off177 (i : grid0.Coords) : Fin 3 → Nat :=
  let c176_i32_5275 : BitVec 32 := 176#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_5281 : BitVec 32 := 0#32
  ![176, v14891.toNat, 0]
def k0_off178 (i : grid0.Coords) : Fin 3 → Nat :=
  let c177_i32_5282 : BitVec 32 := 177#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_5288 : BitVec 32 := 0#32
  ![177, v14891.toNat, 0]
def k0_off179 (i : grid0.Coords) : Fin 3 → Nat :=
  let c178_i32_5289 : BitVec 32 := 178#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_5295 : BitVec 32 := 0#32
  ![178, v14891.toNat, 0]
def k0_off180 (i : grid0.Coords) : Fin 3 → Nat :=
  let c179_i32_5296 : BitVec 32 := 179#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_5302 : BitVec 32 := 0#32
  ![179, v14891.toNat, 0]
def k0_off181 (i : grid0.Coords) : Fin 3 → Nat :=
  let c180_i32_5303 : BitVec 32 := 180#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_5309 : BitVec 32 := 0#32
  ![180, v14891.toNat, 0]
def k0_off182 (i : grid0.Coords) : Fin 3 → Nat :=
  let c181_i32_5310 : BitVec 32 := 181#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_5316 : BitVec 32 := 0#32
  ![181, v14891.toNat, 0]
def k0_off183 (i : grid0.Coords) : Fin 3 → Nat :=
  let c182_i32_5317 : BitVec 32 := 182#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_5323 : BitVec 32 := 0#32
  ![182, v14891.toNat, 0]
def k0_off184 (i : grid0.Coords) : Fin 3 → Nat :=
  let c183_i32_5324 : BitVec 32 := 183#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_5330 : BitVec 32 := 0#32
  ![183, v14891.toNat, 0]
def k0_off185 (i : grid0.Coords) : Fin 3 → Nat :=
  let c184_i32_5331 : BitVec 32 := 184#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_5337 : BitVec 32 := 0#32
  ![184, v14891.toNat, 0]
def k0_off186 (i : grid0.Coords) : Fin 3 → Nat :=
  let c185_i32_5338 : BitVec 32 := 185#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_5344 : BitVec 32 := 0#32
  ![185, v14891.toNat, 0]
def k0_off187 (i : grid0.Coords) : Fin 3 → Nat :=
  let c186_i32_5345 : BitVec 32 := 186#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_5351 : BitVec 32 := 0#32
  ![186, v14891.toNat, 0]
def k0_off188 (i : grid0.Coords) : Fin 3 → Nat :=
  let c187_i32_5352 : BitVec 32 := 187#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_5358 : BitVec 32 := 0#32
  ![187, v14891.toNat, 0]
def k0_off189 (i : grid0.Coords) : Fin 3 → Nat :=
  let c188_i32_5359 : BitVec 32 := 188#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_5365 : BitVec 32 := 0#32
  ![188, v14891.toNat, 0]
def k0_off190 (i : grid0.Coords) : Fin 3 → Nat :=
  let c189_i32_5366 : BitVec 32 := 189#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_5372 : BitVec 32 := 0#32
  ![189, v14891.toNat, 0]
def k0_off191 (i : grid0.Coords) : Fin 3 → Nat :=
  let c190_i32 : BitVec 32 := 190#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_5378 : BitVec 32 := 0#32
  ![190, v14891.toNat, 0]
def k0_off192 (i : grid0.Coords) : Fin 3 → Nat :=
  let c191_i32 : BitVec 32 := 191#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_5384 : BitVec 32 := 0#32
  ![191, v14891.toNat, 0]
def k0_off193 (i : grid0.Coords) : Fin 3 → Nat :=
  let c192_i32_5385 : BitVec 32 := 192#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_5391 : BitVec 32 := 0#32
  ![192, v14891.toNat, 0]
def k0_off194 (i : grid0.Coords) : Fin 3 → Nat :=
  let c193_i32_5392 : BitVec 32 := 193#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_5398 : BitVec 32 := 0#32
  ![193, v14891.toNat, 0]
def k0_off195 (i : grid0.Coords) : Fin 3 → Nat :=
  let c194_i32_5399 : BitVec 32 := 194#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_5405 : BitVec 32 := 0#32
  ![194, v14891.toNat, 0]
def k0_off196 (i : grid0.Coords) : Fin 3 → Nat :=
  let c195_i32_5406 : BitVec 32 := 195#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_5412 : BitVec 32 := 0#32
  ![195, v14891.toNat, 0]
def k0_cond3 (i : grid0.Coords) : BitVec 1 :=
  let arg0 : BitVec 32 := BitVec.ofNat 32 (i 0).val
  let c1_i32_8 : BitVec 32 := 1#32
  let v19 : BitVec 32 := Scalar.addi arg0 c1_i32_8
  let c16_i32_9 : BitVec 32 := 16#32
  let v20 : BitVec 1 := Scalar.cmpi .slt v19 c16_i32_9
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c1_i32_10 : BitVec 32 := 1#32
  let v21 : BitVec 1 := Scalar.cmpi .eq v12 c1_i32_10
  let v22 : BitVec 1 := Scalar.andi v20 v21
  let v23 : BitVec 32 := Scalar.extui v22
  let c0_i32_11 : BitVec 32 := 0#32
  let v24 : BitVec 1 := Scalar.cmpi .ne v23 c0_i32_11
  v24

def k0_off197 (i : grid0.Coords) : Fin 3 → Nat :=
  let c0_i32_4060 : BitVec 32 := 0#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4067 : BitVec 32 := 0#32
  ![0, v14891.toNat, 0]
def k0_off198 (i : grid0.Coords) : Fin 3 → Nat :=
  let c1_i32_4068 : BitVec 32 := 1#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4075 : BitVec 32 := 0#32
  ![1, v14891.toNat, 0]
def k0_off199 (i : grid0.Coords) : Fin 3 → Nat :=
  let c2_i32_4076 : BitVec 32 := 2#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4083 : BitVec 32 := 0#32
  ![2, v14891.toNat, 0]
def k0_off200 (i : grid0.Coords) : Fin 3 → Nat :=
  let c3_i32 : BitVec 32 := 3#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4090 : BitVec 32 := 0#32
  ![3, v14891.toNat, 0]
def k0_off201 (i : grid0.Coords) : Fin 3 → Nat :=
  let c4_i32 : BitVec 32 := 4#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4097 : BitVec 32 := 0#32
  ![4, v14891.toNat, 0]
def k0_off202 (i : grid0.Coords) : Fin 3 → Nat :=
  let c5_i32 : BitVec 32 := 5#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4104 : BitVec 32 := 0#32
  ![5, v14891.toNat, 0]
def k0_off203 (i : grid0.Coords) : Fin 3 → Nat :=
  let c6_i32 : BitVec 32 := 6#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4111 : BitVec 32 := 0#32
  ![6, v14891.toNat, 0]
def k0_off204 (i : grid0.Coords) : Fin 3 → Nat :=
  let c7_i32 : BitVec 32 := 7#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4118 : BitVec 32 := 0#32
  ![7, v14891.toNat, 0]
def k0_off205 (i : grid0.Coords) : Fin 3 → Nat :=
  let c8_i32 : BitVec 32 := 8#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4125 : BitVec 32 := 0#32
  ![8, v14891.toNat, 0]
def k0_off206 (i : grid0.Coords) : Fin 3 → Nat :=
  let c9_i32 : BitVec 32 := 9#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4132 : BitVec 32 := 0#32
  ![9, v14891.toNat, 0]
def k0_off207 (i : grid0.Coords) : Fin 3 → Nat :=
  let c10_i32 : BitVec 32 := 10#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4139 : BitVec 32 := 0#32
  ![10, v14891.toNat, 0]
def k0_off208 (i : grid0.Coords) : Fin 3 → Nat :=
  let c11_i32 : BitVec 32 := 11#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4146 : BitVec 32 := 0#32
  ![11, v14891.toNat, 0]
def k0_off209 (i : grid0.Coords) : Fin 3 → Nat :=
  let c12_i32 : BitVec 32 := 12#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4153 : BitVec 32 := 0#32
  ![12, v14891.toNat, 0]
def k0_off210 (i : grid0.Coords) : Fin 3 → Nat :=
  let c13_i32 : BitVec 32 := 13#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4160 : BitVec 32 := 0#32
  ![13, v14891.toNat, 0]
def k0_off211 (i : grid0.Coords) : Fin 3 → Nat :=
  let c14_i32 : BitVec 32 := 14#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4167 : BitVec 32 := 0#32
  ![14, v14891.toNat, 0]
def k0_off212 (i : grid0.Coords) : Fin 3 → Nat :=
  let c15_i32 : BitVec 32 := 15#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4173 : BitVec 32 := 0#32
  ![15, v14891.toNat, 0]
def k0_off213 (i : grid0.Coords) : Fin 3 → Nat :=
  let c16_i32_4174 : BitVec 32 := 16#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4180 : BitVec 32 := 0#32
  ![16, v14891.toNat, 0]
def k0_off214 (i : grid0.Coords) : Fin 3 → Nat :=
  let c17_i32_4181 : BitVec 32 := 17#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4187 : BitVec 32 := 0#32
  ![17, v14891.toNat, 0]
def k0_off215 (i : grid0.Coords) : Fin 3 → Nat :=
  let c18_i32_4188 : BitVec 32 := 18#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4194 : BitVec 32 := 0#32
  ![18, v14891.toNat, 0]
def k0_off216 (i : grid0.Coords) : Fin 3 → Nat :=
  let c19_i32_4195 : BitVec 32 := 19#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4201 : BitVec 32 := 0#32
  ![19, v14891.toNat, 0]
def k0_off217 (i : grid0.Coords) : Fin 3 → Nat :=
  let c20_i32_4202 : BitVec 32 := 20#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4208 : BitVec 32 := 0#32
  ![20, v14891.toNat, 0]
def k0_off218 (i : grid0.Coords) : Fin 3 → Nat :=
  let c21_i32_4209 : BitVec 32 := 21#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4215 : BitVec 32 := 0#32
  ![21, v14891.toNat, 0]
def k0_off219 (i : grid0.Coords) : Fin 3 → Nat :=
  let c22_i32_4216 : BitVec 32 := 22#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4222 : BitVec 32 := 0#32
  ![22, v14891.toNat, 0]
def k0_off220 (i : grid0.Coords) : Fin 3 → Nat :=
  let c23_i32_4223 : BitVec 32 := 23#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4229 : BitVec 32 := 0#32
  ![23, v14891.toNat, 0]
def k0_off221 (i : grid0.Coords) : Fin 3 → Nat :=
  let c24_i32_4230 : BitVec 32 := 24#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4236 : BitVec 32 := 0#32
  ![24, v14891.toNat, 0]
def k0_off222 (i : grid0.Coords) : Fin 3 → Nat :=
  let c25_i32_4237 : BitVec 32 := 25#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4243 : BitVec 32 := 0#32
  ![25, v14891.toNat, 0]
def k0_off223 (i : grid0.Coords) : Fin 3 → Nat :=
  let c26_i32_4244 : BitVec 32 := 26#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4250 : BitVec 32 := 0#32
  ![26, v14891.toNat, 0]
def k0_off224 (i : grid0.Coords) : Fin 3 → Nat :=
  let c27_i32_4251 : BitVec 32 := 27#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4257 : BitVec 32 := 0#32
  ![27, v14891.toNat, 0]
def k0_off225 (i : grid0.Coords) : Fin 3 → Nat :=
  let c28_i32_4258 : BitVec 32 := 28#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4264 : BitVec 32 := 0#32
  ![28, v14891.toNat, 0]
def k0_off226 (i : grid0.Coords) : Fin 3 → Nat :=
  let c29_i32_4265 : BitVec 32 := 29#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4271 : BitVec 32 := 0#32
  ![29, v14891.toNat, 0]
def k0_off227 (i : grid0.Coords) : Fin 3 → Nat :=
  let c30_i32 : BitVec 32 := 30#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4277 : BitVec 32 := 0#32
  ![30, v14891.toNat, 0]
def k0_off228 (i : grid0.Coords) : Fin 3 → Nat :=
  let c31_i32 : BitVec 32 := 31#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4283 : BitVec 32 := 0#32
  ![31, v14891.toNat, 0]
def k0_off229 (i : grid0.Coords) : Fin 3 → Nat :=
  let c32_i32_4284 : BitVec 32 := 32#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4290 : BitVec 32 := 0#32
  ![32, v14891.toNat, 0]
def k0_off230 (i : grid0.Coords) : Fin 3 → Nat :=
  let c33_i32_4291 : BitVec 32 := 33#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4297 : BitVec 32 := 0#32
  ![33, v14891.toNat, 0]
def k0_off231 (i : grid0.Coords) : Fin 3 → Nat :=
  let c34_i32_4298 : BitVec 32 := 34#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4304 : BitVec 32 := 0#32
  ![34, v14891.toNat, 0]
def k0_off232 (i : grid0.Coords) : Fin 3 → Nat :=
  let c35_i32_4305 : BitVec 32 := 35#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4311 : BitVec 32 := 0#32
  ![35, v14891.toNat, 0]
def k0_off233 (i : grid0.Coords) : Fin 3 → Nat :=
  let c36_i32_4312 : BitVec 32 := 36#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4318 : BitVec 32 := 0#32
  ![36, v14891.toNat, 0]
def k0_off234 (i : grid0.Coords) : Fin 3 → Nat :=
  let c37_i32_4319 : BitVec 32 := 37#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4325 : BitVec 32 := 0#32
  ![37, v14891.toNat, 0]
def k0_off235 (i : grid0.Coords) : Fin 3 → Nat :=
  let c38_i32_4326 : BitVec 32 := 38#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4332 : BitVec 32 := 0#32
  ![38, v14891.toNat, 0]
def k0_off236 (i : grid0.Coords) : Fin 3 → Nat :=
  let c39_i32_4333 : BitVec 32 := 39#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4339 : BitVec 32 := 0#32
  ![39, v14891.toNat, 0]
def k0_off237 (i : grid0.Coords) : Fin 3 → Nat :=
  let c40_i32_4340 : BitVec 32 := 40#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4346 : BitVec 32 := 0#32
  ![40, v14891.toNat, 0]
def k0_off238 (i : grid0.Coords) : Fin 3 → Nat :=
  let c41_i32_4347 : BitVec 32 := 41#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4353 : BitVec 32 := 0#32
  ![41, v14891.toNat, 0]
def k0_off239 (i : grid0.Coords) : Fin 3 → Nat :=
  let c42_i32_4354 : BitVec 32 := 42#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4360 : BitVec 32 := 0#32
  ![42, v14891.toNat, 0]
def k0_off240 (i : grid0.Coords) : Fin 3 → Nat :=
  let c43_i32_4361 : BitVec 32 := 43#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4367 : BitVec 32 := 0#32
  ![43, v14891.toNat, 0]
def k0_off241 (i : grid0.Coords) : Fin 3 → Nat :=
  let c44_i32_4368 : BitVec 32 := 44#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4374 : BitVec 32 := 0#32
  ![44, v14891.toNat, 0]
def k0_off242 (i : grid0.Coords) : Fin 3 → Nat :=
  let c45_i32_4375 : BitVec 32 := 45#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4381 : BitVec 32 := 0#32
  ![45, v14891.toNat, 0]
def k0_off243 (i : grid0.Coords) : Fin 3 → Nat :=
  let c46_i32 : BitVec 32 := 46#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4387 : BitVec 32 := 0#32
  ![46, v14891.toNat, 0]
def k0_off244 (i : grid0.Coords) : Fin 3 → Nat :=
  let c47_i32 : BitVec 32 := 47#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4393 : BitVec 32 := 0#32
  ![47, v14891.toNat, 0]
def k0_off245 (i : grid0.Coords) : Fin 3 → Nat :=
  let c48_i32_4394 : BitVec 32 := 48#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4400 : BitVec 32 := 0#32
  ![48, v14891.toNat, 0]
def k0_off246 (i : grid0.Coords) : Fin 3 → Nat :=
  let c49_i32_4401 : BitVec 32 := 49#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4407 : BitVec 32 := 0#32
  ![49, v14891.toNat, 0]
def k0_off247 (i : grid0.Coords) : Fin 3 → Nat :=
  let c50_i32_4408 : BitVec 32 := 50#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4414 : BitVec 32 := 0#32
  ![50, v14891.toNat, 0]
def k0_off248 (i : grid0.Coords) : Fin 3 → Nat :=
  let c51_i32_4415 : BitVec 32 := 51#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4421 : BitVec 32 := 0#32
  ![51, v14891.toNat, 0]
def k0_off249 (i : grid0.Coords) : Fin 3 → Nat :=
  let c52_i32_4422 : BitVec 32 := 52#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4428 : BitVec 32 := 0#32
  ![52, v14891.toNat, 0]
def k0_off250 (i : grid0.Coords) : Fin 3 → Nat :=
  let c53_i32_4429 : BitVec 32 := 53#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4435 : BitVec 32 := 0#32
  ![53, v14891.toNat, 0]
def k0_off251 (i : grid0.Coords) : Fin 3 → Nat :=
  let c54_i32_4436 : BitVec 32 := 54#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4442 : BitVec 32 := 0#32
  ![54, v14891.toNat, 0]
def k0_off252 (i : grid0.Coords) : Fin 3 → Nat :=
  let c55_i32_4443 : BitVec 32 := 55#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4449 : BitVec 32 := 0#32
  ![55, v14891.toNat, 0]
def k0_off253 (i : grid0.Coords) : Fin 3 → Nat :=
  let c56_i32_4450 : BitVec 32 := 56#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4457 : BitVec 32 := 0#32
  ![56, v14891.toNat, 0]
def k0_off254 (i : grid0.Coords) : Fin 3 → Nat :=
  let c57_i32_4458 : BitVec 32 := 57#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4464 : BitVec 32 := 0#32
  ![57, v14891.toNat, 0]
def k0_off255 (i : grid0.Coords) : Fin 3 → Nat :=
  let c58_i32_4465 : BitVec 32 := 58#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4471 : BitVec 32 := 0#32
  ![58, v14891.toNat, 0]
def k0_off256 (i : grid0.Coords) : Fin 3 → Nat :=
  let c59_i32_4472 : BitVec 32 := 59#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4478 : BitVec 32 := 0#32
  ![59, v14891.toNat, 0]
def k0_off257 (i : grid0.Coords) : Fin 3 → Nat :=
  let c60_i32_4479 : BitVec 32 := 60#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4485 : BitVec 32 := 0#32
  ![60, v14891.toNat, 0]
def k0_off258 (i : grid0.Coords) : Fin 3 → Nat :=
  let c61_i32_4486 : BitVec 32 := 61#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4492 : BitVec 32 := 0#32
  ![61, v14891.toNat, 0]
def k0_off259 (i : grid0.Coords) : Fin 3 → Nat :=
  let c62_i32 : BitVec 32 := 62#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4498 : BitVec 32 := 0#32
  ![62, v14891.toNat, 0]
def k0_off260 (i : grid0.Coords) : Fin 3 → Nat :=
  let c63_i32 : BitVec 32 := 63#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4504 : BitVec 32 := 0#32
  ![63, v14891.toNat, 0]
def k0_off261 (i : grid0.Coords) : Fin 3 → Nat :=
  let c64_i32_4505 : BitVec 32 := 64#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4511 : BitVec 32 := 0#32
  ![64, v14891.toNat, 0]
def k0_off262 (i : grid0.Coords) : Fin 3 → Nat :=
  let c65_i32_4512 : BitVec 32 := 65#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4518 : BitVec 32 := 0#32
  ![65, v14891.toNat, 0]
def k0_off263 (i : grid0.Coords) : Fin 3 → Nat :=
  let c66_i32_4519 : BitVec 32 := 66#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4525 : BitVec 32 := 0#32
  ![66, v14891.toNat, 0]
def k0_off264 (i : grid0.Coords) : Fin 3 → Nat :=
  let c67_i32_4526 : BitVec 32 := 67#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4532 : BitVec 32 := 0#32
  ![67, v14891.toNat, 0]
def k0_off265 (i : grid0.Coords) : Fin 3 → Nat :=
  let c68_i32_4533 : BitVec 32 := 68#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4539 : BitVec 32 := 0#32
  ![68, v14891.toNat, 0]
def k0_off266 (i : grid0.Coords) : Fin 3 → Nat :=
  let c69_i32_4540 : BitVec 32 := 69#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4546 : BitVec 32 := 0#32
  ![69, v14891.toNat, 0]
def k0_off267 (i : grid0.Coords) : Fin 3 → Nat :=
  let c70_i32_4547 : BitVec 32 := 70#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4553 : BitVec 32 := 0#32
  ![70, v14891.toNat, 0]
def k0_off268 (i : grid0.Coords) : Fin 3 → Nat :=
  let c71_i32_4554 : BitVec 32 := 71#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4560 : BitVec 32 := 0#32
  ![71, v14891.toNat, 0]
def k0_off269 (i : grid0.Coords) : Fin 3 → Nat :=
  let c72_i32_4561 : BitVec 32 := 72#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4567 : BitVec 32 := 0#32
  ![72, v14891.toNat, 0]
def k0_off270 (i : grid0.Coords) : Fin 3 → Nat :=
  let c73_i32_4568 : BitVec 32 := 73#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4574 : BitVec 32 := 0#32
  ![73, v14891.toNat, 0]
def k0_off271 (i : grid0.Coords) : Fin 3 → Nat :=
  let c74_i32_4575 : BitVec 32 := 74#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4581 : BitVec 32 := 0#32
  ![74, v14891.toNat, 0]
def k0_off272 (i : grid0.Coords) : Fin 3 → Nat :=
  let c75_i32_4582 : BitVec 32 := 75#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4588 : BitVec 32 := 0#32
  ![75, v14891.toNat, 0]
def k0_off273 (i : grid0.Coords) : Fin 3 → Nat :=
  let c76_i32_4589 : BitVec 32 := 76#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4595 : BitVec 32 := 0#32
  ![76, v14891.toNat, 0]
def k0_off274 (i : grid0.Coords) : Fin 3 → Nat :=
  let c77_i32_4596 : BitVec 32 := 77#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4602 : BitVec 32 := 0#32
  ![77, v14891.toNat, 0]
def k0_off275 (i : grid0.Coords) : Fin 3 → Nat :=
  let c78_i32 : BitVec 32 := 78#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4608 : BitVec 32 := 0#32
  ![78, v14891.toNat, 0]
def k0_off276 (i : grid0.Coords) : Fin 3 → Nat :=
  let c79_i32 : BitVec 32 := 79#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4614 : BitVec 32 := 0#32
  ![79, v14891.toNat, 0]
def k0_off277 (i : grid0.Coords) : Fin 3 → Nat :=
  let c80_i32_4615 : BitVec 32 := 80#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4621 : BitVec 32 := 0#32
  ![80, v14891.toNat, 0]
def k0_off278 (i : grid0.Coords) : Fin 3 → Nat :=
  let c81_i32_4622 : BitVec 32 := 81#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4628 : BitVec 32 := 0#32
  ![81, v14891.toNat, 0]
def k0_off279 (i : grid0.Coords) : Fin 3 → Nat :=
  let c82_i32_4629 : BitVec 32 := 82#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4635 : BitVec 32 := 0#32
  ![82, v14891.toNat, 0]
def k0_off280 (i : grid0.Coords) : Fin 3 → Nat :=
  let c83_i32_4636 : BitVec 32 := 83#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4642 : BitVec 32 := 0#32
  ![83, v14891.toNat, 0]
def k0_off281 (i : grid0.Coords) : Fin 3 → Nat :=
  let c84_i32_4643 : BitVec 32 := 84#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4649 : BitVec 32 := 0#32
  ![84, v14891.toNat, 0]
def k0_off282 (i : grid0.Coords) : Fin 3 → Nat :=
  let c85_i32_4650 : BitVec 32 := 85#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4656 : BitVec 32 := 0#32
  ![85, v14891.toNat, 0]
def k0_off283 (i : grid0.Coords) : Fin 3 → Nat :=
  let c86_i32_4657 : BitVec 32 := 86#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4663 : BitVec 32 := 0#32
  ![86, v14891.toNat, 0]
def k0_off284 (i : grid0.Coords) : Fin 3 → Nat :=
  let c87_i32_4664 : BitVec 32 := 87#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4670 : BitVec 32 := 0#32
  ![87, v14891.toNat, 0]
def k0_off285 (i : grid0.Coords) : Fin 3 → Nat :=
  let c88_i32_4671 : BitVec 32 := 88#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4677 : BitVec 32 := 0#32
  ![88, v14891.toNat, 0]
def k0_off286 (i : grid0.Coords) : Fin 3 → Nat :=
  let c89_i32_4678 : BitVec 32 := 89#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4684 : BitVec 32 := 0#32
  ![89, v14891.toNat, 0]
def k0_off287 (i : grid0.Coords) : Fin 3 → Nat :=
  let c90_i32_4685 : BitVec 32 := 90#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4691 : BitVec 32 := 0#32
  ![90, v14891.toNat, 0]
def k0_off288 (i : grid0.Coords) : Fin 3 → Nat :=
  let c91_i32_4692 : BitVec 32 := 91#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4698 : BitVec 32 := 0#32
  ![91, v14891.toNat, 0]
def k0_off289 (i : grid0.Coords) : Fin 3 → Nat :=
  let c92_i32_4699 : BitVec 32 := 92#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4705 : BitVec 32 := 0#32
  ![92, v14891.toNat, 0]
def k0_off290 (i : grid0.Coords) : Fin 3 → Nat :=
  let c93_i32_4706 : BitVec 32 := 93#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4712 : BitVec 32 := 0#32
  ![93, v14891.toNat, 0]
def k0_off291 (i : grid0.Coords) : Fin 3 → Nat :=
  let c94_i32 : BitVec 32 := 94#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4718 : BitVec 32 := 0#32
  ![94, v14891.toNat, 0]
def k0_off292 (i : grid0.Coords) : Fin 3 → Nat :=
  let c95_i32 : BitVec 32 := 95#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4724 : BitVec 32 := 0#32
  ![95, v14891.toNat, 0]
def k0_off293 (i : grid0.Coords) : Fin 3 → Nat :=
  let c96_i32_4725 : BitVec 32 := 96#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4731 : BitVec 32 := 0#32
  ![96, v14891.toNat, 0]
def k0_off294 (i : grid0.Coords) : Fin 3 → Nat :=
  let c97_i32_4732 : BitVec 32 := 97#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4738 : BitVec 32 := 0#32
  ![97, v14891.toNat, 0]
def k0_off295 (i : grid0.Coords) : Fin 3 → Nat :=
  let c98_i32_4739 : BitVec 32 := 98#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4745 : BitVec 32 := 0#32
  ![98, v14891.toNat, 0]
def k0_off296 (i : grid0.Coords) : Fin 3 → Nat :=
  let c99_i32_4746 : BitVec 32 := 99#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4752 : BitVec 32 := 0#32
  ![99, v14891.toNat, 0]
def k0_off297 (i : grid0.Coords) : Fin 3 → Nat :=
  let c100_i32_4753 : BitVec 32 := 100#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4759 : BitVec 32 := 0#32
  ![100, v14891.toNat, 0]
def k0_off298 (i : grid0.Coords) : Fin 3 → Nat :=
  let c101_i32_4760 : BitVec 32 := 101#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4766 : BitVec 32 := 0#32
  ![101, v14891.toNat, 0]
def k0_off299 (i : grid0.Coords) : Fin 3 → Nat :=
  let c102_i32_4767 : BitVec 32 := 102#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4773 : BitVec 32 := 0#32
  ![102, v14891.toNat, 0]
def k0_off300 (i : grid0.Coords) : Fin 3 → Nat :=
  let c103_i32_4774 : BitVec 32 := 103#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4780 : BitVec 32 := 0#32
  ![103, v14891.toNat, 0]
def k0_off301 (i : grid0.Coords) : Fin 3 → Nat :=
  let c104_i32_4781 : BitVec 32 := 104#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4787 : BitVec 32 := 0#32
  ![104, v14891.toNat, 0]
def k0_off302 (i : grid0.Coords) : Fin 3 → Nat :=
  let c105_i32_4788 : BitVec 32 := 105#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4794 : BitVec 32 := 0#32
  ![105, v14891.toNat, 0]
def k0_off303 (i : grid0.Coords) : Fin 3 → Nat :=
  let c106_i32_4795 : BitVec 32 := 106#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4801 : BitVec 32 := 0#32
  ![106, v14891.toNat, 0]
def k0_off304 (i : grid0.Coords) : Fin 3 → Nat :=
  let c107_i32_4802 : BitVec 32 := 107#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4808 : BitVec 32 := 0#32
  ![107, v14891.toNat, 0]
def k0_off305 (i : grid0.Coords) : Fin 3 → Nat :=
  let c108_i32_4809 : BitVec 32 := 108#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4815 : BitVec 32 := 0#32
  ![108, v14891.toNat, 0]
def k0_off306 (i : grid0.Coords) : Fin 3 → Nat :=
  let c109_i32_4816 : BitVec 32 := 109#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4822 : BitVec 32 := 0#32
  ![109, v14891.toNat, 0]
def k0_off307 (i : grid0.Coords) : Fin 3 → Nat :=
  let c110_i32 : BitVec 32 := 110#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4828 : BitVec 32 := 0#32
  ![110, v14891.toNat, 0]
def k0_off308 (i : grid0.Coords) : Fin 3 → Nat :=
  let c111_i32 : BitVec 32 := 111#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4834 : BitVec 32 := 0#32
  ![111, v14891.toNat, 0]
def k0_off309 (i : grid0.Coords) : Fin 3 → Nat :=
  let c112_i32_4835 : BitVec 32 := 112#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4841 : BitVec 32 := 0#32
  ![112, v14891.toNat, 0]
def k0_off310 (i : grid0.Coords) : Fin 3 → Nat :=
  let c113_i32_4842 : BitVec 32 := 113#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4848 : BitVec 32 := 0#32
  ![113, v14891.toNat, 0]
def k0_off311 (i : grid0.Coords) : Fin 3 → Nat :=
  let c114_i32_4849 : BitVec 32 := 114#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4855 : BitVec 32 := 0#32
  ![114, v14891.toNat, 0]
def k0_off312 (i : grid0.Coords) : Fin 3 → Nat :=
  let c115_i32_4856 : BitVec 32 := 115#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4862 : BitVec 32 := 0#32
  ![115, v14891.toNat, 0]
def k0_off313 (i : grid0.Coords) : Fin 3 → Nat :=
  let c116_i32_4863 : BitVec 32 := 116#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4869 : BitVec 32 := 0#32
  ![116, v14891.toNat, 0]
def k0_off314 (i : grid0.Coords) : Fin 3 → Nat :=
  let c117_i32_4870 : BitVec 32 := 117#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4876 : BitVec 32 := 0#32
  ![117, v14891.toNat, 0]
def k0_off315 (i : grid0.Coords) : Fin 3 → Nat :=
  let c118_i32_4877 : BitVec 32 := 118#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4883 : BitVec 32 := 0#32
  ![118, v14891.toNat, 0]
def k0_off316 (i : grid0.Coords) : Fin 3 → Nat :=
  let c119_i32_4884 : BitVec 32 := 119#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4890 : BitVec 32 := 0#32
  ![119, v14891.toNat, 0]
def k0_off317 (i : grid0.Coords) : Fin 3 → Nat :=
  let c120_i32_4891 : BitVec 32 := 120#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4897 : BitVec 32 := 0#32
  ![120, v14891.toNat, 0]
def k0_off318 (i : grid0.Coords) : Fin 3 → Nat :=
  let c121_i32_4898 : BitVec 32 := 121#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4904 : BitVec 32 := 0#32
  ![121, v14891.toNat, 0]
def k0_off319 (i : grid0.Coords) : Fin 3 → Nat :=
  let c122_i32_4905 : BitVec 32 := 122#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4911 : BitVec 32 := 0#32
  ![122, v14891.toNat, 0]
def k0_off320 (i : grid0.Coords) : Fin 3 → Nat :=
  let c123_i32_4912 : BitVec 32 := 123#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4918 : BitVec 32 := 0#32
  ![123, v14891.toNat, 0]
def k0_off321 (i : grid0.Coords) : Fin 3 → Nat :=
  let c124_i32_4919 : BitVec 32 := 124#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4925 : BitVec 32 := 0#32
  ![124, v14891.toNat, 0]
def k0_off322 (i : grid0.Coords) : Fin 3 → Nat :=
  let c125_i32_4926 : BitVec 32 := 125#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4932 : BitVec 32 := 0#32
  ![125, v14891.toNat, 0]
def k0_off323 (i : grid0.Coords) : Fin 3 → Nat :=
  let c126_i32 : BitVec 32 := 126#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4938 : BitVec 32 := 0#32
  ![126, v14891.toNat, 0]
def k0_off324 (i : grid0.Coords) : Fin 3 → Nat :=
  let c127_i32 : BitVec 32 := 127#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4944 : BitVec 32 := 0#32
  ![127, v14891.toNat, 0]
def k0_off325 (i : grid0.Coords) : Fin 3 → Nat :=
  let c128_i32_4945 : BitVec 32 := 128#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4951 : BitVec 32 := 0#32
  ![128, v14891.toNat, 0]
def k0_off326 (i : grid0.Coords) : Fin 3 → Nat :=
  let c129_i32_4952 : BitVec 32 := 129#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4958 : BitVec 32 := 0#32
  ![129, v14891.toNat, 0]
def k0_off327 (i : grid0.Coords) : Fin 3 → Nat :=
  let c130_i32_4959 : BitVec 32 := 130#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4965 : BitVec 32 := 0#32
  ![130, v14891.toNat, 0]
def k0_off328 (i : grid0.Coords) : Fin 3 → Nat :=
  let c131_i32_4966 : BitVec 32 := 131#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4972 : BitVec 32 := 0#32
  ![131, v14891.toNat, 0]
def k0_off329 (i : grid0.Coords) : Fin 3 → Nat :=
  let c132_i32_4973 : BitVec 32 := 132#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4979 : BitVec 32 := 0#32
  ![132, v14891.toNat, 0]
def k0_off330 (i : grid0.Coords) : Fin 3 → Nat :=
  let c133_i32_4980 : BitVec 32 := 133#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4986 : BitVec 32 := 0#32
  ![133, v14891.toNat, 0]
def k0_off331 (i : grid0.Coords) : Fin 3 → Nat :=
  let c134_i32_4987 : BitVec 32 := 134#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_4993 : BitVec 32 := 0#32
  ![134, v14891.toNat, 0]
def k0_off332 (i : grid0.Coords) : Fin 3 → Nat :=
  let c135_i32_4994 : BitVec 32 := 135#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_5000 : BitVec 32 := 0#32
  ![135, v14891.toNat, 0]
def k0_off333 (i : grid0.Coords) : Fin 3 → Nat :=
  let c136_i32_5001 : BitVec 32 := 136#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_5007 : BitVec 32 := 0#32
  ![136, v14891.toNat, 0]
def k0_off334 (i : grid0.Coords) : Fin 3 → Nat :=
  let c137_i32_5008 : BitVec 32 := 137#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_5014 : BitVec 32 := 0#32
  ![137, v14891.toNat, 0]
def k0_off335 (i : grid0.Coords) : Fin 3 → Nat :=
  let c138_i32_5015 : BitVec 32 := 138#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_5021 : BitVec 32 := 0#32
  ![138, v14891.toNat, 0]
def k0_off336 (i : grid0.Coords) : Fin 3 → Nat :=
  let c139_i32_5022 : BitVec 32 := 139#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_5028 : BitVec 32 := 0#32
  ![139, v14891.toNat, 0]
def k0_off337 (i : grid0.Coords) : Fin 3 → Nat :=
  let c140_i32_5029 : BitVec 32 := 140#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_5035 : BitVec 32 := 0#32
  ![140, v14891.toNat, 0]
def k0_off338 (i : grid0.Coords) : Fin 3 → Nat :=
  let c141_i32_5036 : BitVec 32 := 141#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_5042 : BitVec 32 := 0#32
  ![141, v14891.toNat, 0]
def k0_off339 (i : grid0.Coords) : Fin 3 → Nat :=
  let c142_i32 : BitVec 32 := 142#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_5048 : BitVec 32 := 0#32
  ![142, v14891.toNat, 0]
def k0_off340 (i : grid0.Coords) : Fin 3 → Nat :=
  let c143_i32 : BitVec 32 := 143#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_5054 : BitVec 32 := 0#32
  ![143, v14891.toNat, 0]
def k0_off341 (i : grid0.Coords) : Fin 3 → Nat :=
  let c144_i32_5055 : BitVec 32 := 144#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_5061 : BitVec 32 := 0#32
  ![144, v14891.toNat, 0]
def k0_off342 (i : grid0.Coords) : Fin 3 → Nat :=
  let c145_i32_5062 : BitVec 32 := 145#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_5068 : BitVec 32 := 0#32
  ![145, v14891.toNat, 0]
def k0_off343 (i : grid0.Coords) : Fin 3 → Nat :=
  let c146_i32_5069 : BitVec 32 := 146#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_5075 : BitVec 32 := 0#32
  ![146, v14891.toNat, 0]
def k0_off344 (i : grid0.Coords) : Fin 3 → Nat :=
  let c147_i32_5076 : BitVec 32 := 147#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_5082 : BitVec 32 := 0#32
  ![147, v14891.toNat, 0]
def k0_off345 (i : grid0.Coords) : Fin 3 → Nat :=
  let c148_i32_5083 : BitVec 32 := 148#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_5089 : BitVec 32 := 0#32
  ![148, v14891.toNat, 0]
def k0_off346 (i : grid0.Coords) : Fin 3 → Nat :=
  let c149_i32_5090 : BitVec 32 := 149#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_5096 : BitVec 32 := 0#32
  ![149, v14891.toNat, 0]
def k0_off347 (i : grid0.Coords) : Fin 3 → Nat :=
  let c150_i32_5097 : BitVec 32 := 150#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_5103 : BitVec 32 := 0#32
  ![150, v14891.toNat, 0]
def k0_off348 (i : grid0.Coords) : Fin 3 → Nat :=
  let c151_i32_5104 : BitVec 32 := 151#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_5110 : BitVec 32 := 0#32
  ![151, v14891.toNat, 0]
def k0_off349 (i : grid0.Coords) : Fin 3 → Nat :=
  let c152_i32_5111 : BitVec 32 := 152#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_5117 : BitVec 32 := 0#32
  ![152, v14891.toNat, 0]
def k0_off350 (i : grid0.Coords) : Fin 3 → Nat :=
  let c153_i32_5118 : BitVec 32 := 153#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_5124 : BitVec 32 := 0#32
  ![153, v14891.toNat, 0]
def k0_off351 (i : grid0.Coords) : Fin 3 → Nat :=
  let c154_i32_5125 : BitVec 32 := 154#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_5131 : BitVec 32 := 0#32
  ![154, v14891.toNat, 0]
def k0_off352 (i : grid0.Coords) : Fin 3 → Nat :=
  let c155_i32_5132 : BitVec 32 := 155#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_5138 : BitVec 32 := 0#32
  ![155, v14891.toNat, 0]
def k0_off353 (i : grid0.Coords) : Fin 3 → Nat :=
  let c156_i32_5139 : BitVec 32 := 156#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_5145 : BitVec 32 := 0#32
  ![156, v14891.toNat, 0]
def k0_off354 (i : grid0.Coords) : Fin 3 → Nat :=
  let c157_i32_5146 : BitVec 32 := 157#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_5152 : BitVec 32 := 0#32
  ![157, v14891.toNat, 0]
def k0_off355 (i : grid0.Coords) : Fin 3 → Nat :=
  let c158_i32 : BitVec 32 := 158#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_5158 : BitVec 32 := 0#32
  ![158, v14891.toNat, 0]
def k0_off356 (i : grid0.Coords) : Fin 3 → Nat :=
  let c159_i32 : BitVec 32 := 159#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_5164 : BitVec 32 := 0#32
  ![159, v14891.toNat, 0]
def k0_off357 (i : grid0.Coords) : Fin 3 → Nat :=
  let c160_i32_5165 : BitVec 32 := 160#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_5171 : BitVec 32 := 0#32
  ![160, v14891.toNat, 0]
def k0_off358 (i : grid0.Coords) : Fin 3 → Nat :=
  let c161_i32_5172 : BitVec 32 := 161#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_5178 : BitVec 32 := 0#32
  ![161, v14891.toNat, 0]
def k0_off359 (i : grid0.Coords) : Fin 3 → Nat :=
  let c162_i32_5179 : BitVec 32 := 162#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_5185 : BitVec 32 := 0#32
  ![162, v14891.toNat, 0]
def k0_off360 (i : grid0.Coords) : Fin 3 → Nat :=
  let c163_i32_5186 : BitVec 32 := 163#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_5192 : BitVec 32 := 0#32
  ![163, v14891.toNat, 0]
def k0_off361 (i : grid0.Coords) : Fin 3 → Nat :=
  let c164_i32_5193 : BitVec 32 := 164#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_5199 : BitVec 32 := 0#32
  ![164, v14891.toNat, 0]
def k0_off362 (i : grid0.Coords) : Fin 3 → Nat :=
  let c165_i32_5200 : BitVec 32 := 165#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_5206 : BitVec 32 := 0#32
  ![165, v14891.toNat, 0]
def k0_off363 (i : grid0.Coords) : Fin 3 → Nat :=
  let c166_i32_5207 : BitVec 32 := 166#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_5213 : BitVec 32 := 0#32
  ![166, v14891.toNat, 0]
def k0_off364 (i : grid0.Coords) : Fin 3 → Nat :=
  let c167_i32_5214 : BitVec 32 := 167#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_5220 : BitVec 32 := 0#32
  ![167, v14891.toNat, 0]
def k0_off365 (i : grid0.Coords) : Fin 3 → Nat :=
  let c168_i32_5221 : BitVec 32 := 168#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_5227 : BitVec 32 := 0#32
  ![168, v14891.toNat, 0]
def k0_off366 (i : grid0.Coords) : Fin 3 → Nat :=
  let c169_i32_5228 : BitVec 32 := 169#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_5234 : BitVec 32 := 0#32
  ![169, v14891.toNat, 0]
def k0_off367 (i : grid0.Coords) : Fin 3 → Nat :=
  let c170_i32_5235 : BitVec 32 := 170#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_5241 : BitVec 32 := 0#32
  ![170, v14891.toNat, 0]
def k0_off368 (i : grid0.Coords) : Fin 3 → Nat :=
  let c171_i32_5242 : BitVec 32 := 171#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_5248 : BitVec 32 := 0#32
  ![171, v14891.toNat, 0]
def k0_off369 (i : grid0.Coords) : Fin 3 → Nat :=
  let c172_i32_5249 : BitVec 32 := 172#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_5255 : BitVec 32 := 0#32
  ![172, v14891.toNat, 0]
def k0_off370 (i : grid0.Coords) : Fin 3 → Nat :=
  let c173_i32_5256 : BitVec 32 := 173#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_5262 : BitVec 32 := 0#32
  ![173, v14891.toNat, 0]
def k0_off371 (i : grid0.Coords) : Fin 3 → Nat :=
  let c174_i32 : BitVec 32 := 174#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_5268 : BitVec 32 := 0#32
  ![174, v14891.toNat, 0]
def k0_off372 (i : grid0.Coords) : Fin 3 → Nat :=
  let c175_i32 : BitVec 32 := 175#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_5274 : BitVec 32 := 0#32
  ![175, v14891.toNat, 0]
def k0_off373 (i : grid0.Coords) : Fin 3 → Nat :=
  let c176_i32_5275 : BitVec 32 := 176#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_5281 : BitVec 32 := 0#32
  ![176, v14891.toNat, 0]
def k0_off374 (i : grid0.Coords) : Fin 3 → Nat :=
  let c177_i32_5282 : BitVec 32 := 177#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_5288 : BitVec 32 := 0#32
  ![177, v14891.toNat, 0]
def k0_off375 (i : grid0.Coords) : Fin 3 → Nat :=
  let c178_i32_5289 : BitVec 32 := 178#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_5295 : BitVec 32 := 0#32
  ![178, v14891.toNat, 0]
def k0_off376 (i : grid0.Coords) : Fin 3 → Nat :=
  let c179_i32_5296 : BitVec 32 := 179#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_5302 : BitVec 32 := 0#32
  ![179, v14891.toNat, 0]
def k0_off377 (i : grid0.Coords) : Fin 3 → Nat :=
  let c180_i32_5303 : BitVec 32 := 180#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_5309 : BitVec 32 := 0#32
  ![180, v14891.toNat, 0]
def k0_off378 (i : grid0.Coords) : Fin 3 → Nat :=
  let c181_i32_5310 : BitVec 32 := 181#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_5316 : BitVec 32 := 0#32
  ![181, v14891.toNat, 0]
def k0_off379 (i : grid0.Coords) : Fin 3 → Nat :=
  let c182_i32_5317 : BitVec 32 := 182#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_5323 : BitVec 32 := 0#32
  ![182, v14891.toNat, 0]
def k0_off380 (i : grid0.Coords) : Fin 3 → Nat :=
  let c183_i32_5324 : BitVec 32 := 183#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_5330 : BitVec 32 := 0#32
  ![183, v14891.toNat, 0]
def k0_off381 (i : grid0.Coords) : Fin 3 → Nat :=
  let c184_i32_5331 : BitVec 32 := 184#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_5337 : BitVec 32 := 0#32
  ![184, v14891.toNat, 0]
def k0_off382 (i : grid0.Coords) : Fin 3 → Nat :=
  let c185_i32_5338 : BitVec 32 := 185#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_5344 : BitVec 32 := 0#32
  ![185, v14891.toNat, 0]
def k0_off383 (i : grid0.Coords) : Fin 3 → Nat :=
  let c186_i32_5345 : BitVec 32 := 186#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_5351 : BitVec 32 := 0#32
  ![186, v14891.toNat, 0]
def k0_off384 (i : grid0.Coords) : Fin 3 → Nat :=
  let c187_i32_5352 : BitVec 32 := 187#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_5358 : BitVec 32 := 0#32
  ![187, v14891.toNat, 0]
def k0_off385 (i : grid0.Coords) : Fin 3 → Nat :=
  let c188_i32_5359 : BitVec 32 := 188#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_5365 : BitVec 32 := 0#32
  ![188, v14891.toNat, 0]
def k0_off386 (i : grid0.Coords) : Fin 3 → Nat :=
  let c189_i32_5366 : BitVec 32 := 189#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_5372 : BitVec 32 := 0#32
  ![189, v14891.toNat, 0]
def k0_off387 (i : grid0.Coords) : Fin 3 → Nat :=
  let c190_i32 : BitVec 32 := 190#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_5378 : BitVec 32 := 0#32
  ![190, v14891.toNat, 0]
def k0_off388 (i : grid0.Coords) : Fin 3 → Nat :=
  let c191_i32 : BitVec 32 := 191#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_5384 : BitVec 32 := 0#32
  ![191, v14891.toNat, 0]
def k0_off389 (i : grid0.Coords) : Fin 3 → Nat :=
  let c192_i32_5385 : BitVec 32 := 192#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_5391 : BitVec 32 := 0#32
  ![192, v14891.toNat, 0]
def k0_off390 (i : grid0.Coords) : Fin 3 → Nat :=
  let c193_i32_5392 : BitVec 32 := 193#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_5398 : BitVec 32 := 0#32
  ![193, v14891.toNat, 0]
def k0_off391 (i : grid0.Coords) : Fin 3 → Nat :=
  let c194_i32_5399 : BitVec 32 := 194#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_5405 : BitVec 32 := 0#32
  ![194, v14891.toNat, 0]
def k0_off392 (i : grid0.Coords) : Fin 3 → Nat :=
  let c195_i32_5406 : BitVec 32 := 195#32
  let arg0 : BitVec 32 := BitVec.ofNat 32 (i 0).val
  let c1_i32_4059 : BitVec 32 := 1#32
  let v14890 : BitVec 32 := Scalar.addi arg0 c1_i32_4059
  let c64_i32 : BitVec 32 := 64#32
  let v14891 : BitVec 32 := Scalar.muli v14890 c64_i32
  let c0_i32_5412 : BitVec 32 := 0#32
  ![195, v14891.toNat, 0]
def k0_cond4 (i : grid0.Coords) : BitVec 1 :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_19 : BitVec 32 := 0#32
  let v34 : BitVec 1 := Scalar.cmpi .eq v12 c0_i32_19
  let v35 : BitVec 32 := Scalar.extui v34
  let c0_i32_20 : BitVec 32 := 0#32
  let v36 : BitVec 1 := Scalar.cmpi .ne v35 c0_i32_20
  v36

def k0_off393 (i : grid0.Coords) : Fin 3 → Nat :=
  let c0_i32_4059 : BitVec 32 := 0#32
  let arg0 : BitVec 32 := BitVec.ofNat 32 (i 0).val
  let c64_i32 : BitVec 32 := 64#32
  let v14890 : BitVec 32 := Scalar.muli arg0 c64_i32
  let c0_i32_4066 : BitVec 32 := 0#32
  ![0, v14890.toNat, 0]
def k0_off394 (i : grid0.Coords) : Fin 3 → Nat :=
  let c1_i32_4067 : BitVec 32 := 1#32
  let arg0 : BitVec 32 := BitVec.ofNat 32 (i 0).val
  let c64_i32 : BitVec 32 := 64#32
  let v14890 : BitVec 32 := Scalar.muli arg0 c64_i32
  let c0_i32_4074 : BitVec 32 := 0#32
  ![1, v14890.toNat, 0]
def k0_off395 (i : grid0.Coords) : Fin 3 → Nat :=
  let c2_i32_4075 : BitVec 32 := 2#32
  let arg0 : BitVec 32 := BitVec.ofNat 32 (i 0).val
  let c64_i32 : BitVec 32 := 64#32
  let v14890 : BitVec 32 := Scalar.muli arg0 c64_i32
  let c0_i32_4082 : BitVec 32 := 0#32
  ![2, v14890.toNat, 0]
def k0_off396 (i : grid0.Coords) : Fin 3 → Nat :=
  let c3_i32 : BitVec 32 := 3#32
  let arg0 : BitVec 32 := BitVec.ofNat 32 (i 0).val
  let c64_i32 : BitVec 32 := 64#32
  let v14890 : BitVec 32 := Scalar.muli arg0 c64_i32
  let c0_i32_4089 : BitVec 32 := 0#32
  ![3, v14890.toNat, 0]
def k0_off397 (i : grid0.Coords) : Fin 3 → Nat :=
  let c4_i32 : BitVec 32 := 4#32
  let arg0 : BitVec 32 := BitVec.ofNat 32 (i 0).val
  let c64_i32 : BitVec 32 := 64#32
  let v14890 : BitVec 32 := Scalar.muli arg0 c64_i32
  let c0_i32_4096 : BitVec 32 := 0#32
  ![4, v14890.toNat, 0]
def k0_off398 (i : grid0.Coords) : Fin 3 → Nat :=
  let c5_i32 : BitVec 32 := 5#32
  let arg0 : BitVec 32 := BitVec.ofNat 32 (i 0).val
  let c64_i32 : BitVec 32 := 64#32
  let v14890 : BitVec 32 := Scalar.muli arg0 c64_i32
  let c0_i32_4103 : BitVec 32 := 0#32
  ![5, v14890.toNat, 0]
def k0_off399 (i : grid0.Coords) : Fin 3 → Nat :=
  let c6_i32 : BitVec 32 := 6#32
  let arg0 : BitVec 32 := BitVec.ofNat 32 (i 0).val
  let c64_i32 : BitVec 32 := 64#32
  let v14890 : BitVec 32 := Scalar.muli arg0 c64_i32
  let c0_i32_4110 : BitVec 32 := 0#32
  ![6, v14890.toNat, 0]
def k0_off400 (i : grid0.Coords) : Fin 3 → Nat :=
  let c7_i32 : BitVec 32 := 7#32
  let arg0 : BitVec 32 := BitVec.ofNat 32 (i 0).val
  let c64_i32 : BitVec 32 := 64#32
  let v14890 : BitVec 32 := Scalar.muli arg0 c64_i32
  let c0_i32_4117 : BitVec 32 := 0#32
  ![7, v14890.toNat, 0]
def k0_off401 (i : grid0.Coords) : Fin 3 → Nat :=
  let c8_i32 : BitVec 32 := 8#32
  let arg0 : BitVec 32 := BitVec.ofNat 32 (i 0).val
  let c64_i32 : BitVec 32 := 64#32
  let v14890 : BitVec 32 := Scalar.muli arg0 c64_i32
  let c0_i32_4124 : BitVec 32 := 0#32
  ![8, v14890.toNat, 0]
def k0_off402 (i : grid0.Coords) : Fin 3 → Nat :=
  let c9_i32 : BitVec 32 := 9#32
  let arg0 : BitVec 32 := BitVec.ofNat 32 (i 0).val
  let c64_i32 : BitVec 32 := 64#32
  let v14890 : BitVec 32 := Scalar.muli arg0 c64_i32
  let c0_i32_4131 : BitVec 32 := 0#32
  ![9, v14890.toNat, 0]
def k0_off403 (i : grid0.Coords) : Fin 3 → Nat :=
  let c10_i32 : BitVec 32 := 10#32
  let arg0 : BitVec 32 := BitVec.ofNat 32 (i 0).val
  let c64_i32 : BitVec 32 := 64#32
  let v14890 : BitVec 32 := Scalar.muli arg0 c64_i32
  let c0_i32_4138 : BitVec 32 := 0#32
  ![10, v14890.toNat, 0]
def k0_off404 (i : grid0.Coords) : Fin 3 → Nat :=
  let c11_i32 : BitVec 32 := 11#32
  let arg0 : BitVec 32 := BitVec.ofNat 32 (i 0).val
  let c64_i32 : BitVec 32 := 64#32
  let v14890 : BitVec 32 := Scalar.muli arg0 c64_i32
  let c0_i32_4145 : BitVec 32 := 0#32
  ![11, v14890.toNat, 0]
def k0_off405 (i : grid0.Coords) : Fin 3 → Nat :=
  let c12_i32 : BitVec 32 := 12#32
  let arg0 : BitVec 32 := BitVec.ofNat 32 (i 0).val
  let c64_i32 : BitVec 32 := 64#32
  let v14890 : BitVec 32 := Scalar.muli arg0 c64_i32
  let c0_i32_4152 : BitVec 32 := 0#32
  ![12, v14890.toNat, 0]
def k0_off406 (i : grid0.Coords) : Fin 3 → Nat :=
  let c13_i32 : BitVec 32 := 13#32
  let arg0 : BitVec 32 := BitVec.ofNat 32 (i 0).val
  let c64_i32 : BitVec 32 := 64#32
  let v14890 : BitVec 32 := Scalar.muli arg0 c64_i32
  let c0_i32_4159 : BitVec 32 := 0#32
  ![13, v14890.toNat, 0]
def k0_off407 (i : grid0.Coords) : Fin 3 → Nat :=
  let c14_i32 : BitVec 32 := 14#32
  let arg0 : BitVec 32 := BitVec.ofNat 32 (i 0).val
  let c64_i32 : BitVec 32 := 64#32
  let v14890 : BitVec 32 := Scalar.muli arg0 c64_i32
  let c0_i32_4166 : BitVec 32 := 0#32
  ![14, v14890.toNat, 0]
def k0_off408 (i : grid0.Coords) : Fin 3 → Nat :=
  let c15_i32 : BitVec 32 := 15#32
  let arg0 : BitVec 32 := BitVec.ofNat 32 (i 0).val
  let c64_i32 : BitVec 32 := 64#32
  let v14890 : BitVec 32 := Scalar.muli arg0 c64_i32
  let c0_i32_4172 : BitVec 32 := 0#32
  ![15, v14890.toNat, 0]
def k0_off409 (i : grid0.Coords) : Fin 3 → Nat :=
  let c16_i32_4173 : BitVec 32 := 16#32
  let arg0 : BitVec 32 := BitVec.ofNat 32 (i 0).val
  let c64_i32 : BitVec 32 := 64#32
  let v14890 : BitVec 32 := Scalar.muli arg0 c64_i32
  let c0_i32_4179 : BitVec 32 := 0#32
  ![16, v14890.toNat, 0]
def k0_off410 (i : grid0.Coords) : Fin 3 → Nat :=
  let c17_i32_4180 : BitVec 32 := 17#32
  let arg0 : BitVec 32 := BitVec.ofNat 32 (i 0).val
  let c64_i32 : BitVec 32 := 64#32
  let v14890 : BitVec 32 := Scalar.muli arg0 c64_i32
  let c0_i32_4186 : BitVec 32 := 0#32
  ![17, v14890.toNat, 0]
def k0_off411 (i : grid0.Coords) : Fin 3 → Nat :=
  let c18_i32_4187 : BitVec 32 := 18#32
  let arg0 : BitVec 32 := BitVec.ofNat 32 (i 0).val
  let c64_i32 : BitVec 32 := 64#32
  let v14890 : BitVec 32 := Scalar.muli arg0 c64_i32
  let c0_i32_4193 : BitVec 32 := 0#32
  ![18, v14890.toNat, 0]
def k0_off412 (i : grid0.Coords) : Fin 3 → Nat :=
  let c19_i32_4194 : BitVec 32 := 19#32
  let arg0 : BitVec 32 := BitVec.ofNat 32 (i 0).val
  let c64_i32 : BitVec 32 := 64#32
  let v14890 : BitVec 32 := Scalar.muli arg0 c64_i32
  let c0_i32_4200 : BitVec 32 := 0#32
  ![19, v14890.toNat, 0]
def k0_off413 (i : grid0.Coords) : Fin 3 → Nat :=
  let c20_i32_4201 : BitVec 32 := 20#32
  let arg0 : BitVec 32 := BitVec.ofNat 32 (i 0).val
  let c64_i32 : BitVec 32 := 64#32
  let v14890 : BitVec 32 := Scalar.muli arg0 c64_i32
  let c0_i32_4207 : BitVec 32 := 0#32
  ![20, v14890.toNat, 0]
def k0_off414 (i : grid0.Coords) : Fin 3 → Nat :=
  let c21_i32_4208 : BitVec 32 := 21#32
  let arg0 : BitVec 32 := BitVec.ofNat 32 (i 0).val
  let c64_i32 : BitVec 32 := 64#32
  let v14890 : BitVec 32 := Scalar.muli arg0 c64_i32
  let c0_i32_4214 : BitVec 32 := 0#32
  ![21, v14890.toNat, 0]
def k0_off415 (i : grid0.Coords) : Fin 3 → Nat :=
  let c22_i32_4215 : BitVec 32 := 22#32
  let arg0 : BitVec 32 := BitVec.ofNat 32 (i 0).val
  let c64_i32 : BitVec 32 := 64#32
  let v14890 : BitVec 32 := Scalar.muli arg0 c64_i32
  let c0_i32_4221 : BitVec 32 := 0#32
  ![22, v14890.toNat, 0]
def k0_off416 (i : grid0.Coords) : Fin 3 → Nat :=
  let c23_i32_4222 : BitVec 32 := 23#32
  let arg0 : BitVec 32 := BitVec.ofNat 32 (i 0).val
  let c64_i32 : BitVec 32 := 64#32
  let v14890 : BitVec 32 := Scalar.muli arg0 c64_i32
  let c0_i32_4228 : BitVec 32 := 0#32
  ![23, v14890.toNat, 0]
def k0_off417 (i : grid0.Coords) : Fin 3 → Nat :=
  let c24_i32_4229 : BitVec 32 := 24#32
  let arg0 : BitVec 32 := BitVec.ofNat 32 (i 0).val
  let c64_i32 : BitVec 32 := 64#32
  let v14890 : BitVec 32 := Scalar.muli arg0 c64_i32
  let c0_i32_4235 : BitVec 32 := 0#32
  ![24, v14890.toNat, 0]
def k0_off418 (i : grid0.Coords) : Fin 3 → Nat :=
  let c25_i32_4236 : BitVec 32 := 25#32
  let arg0 : BitVec 32 := BitVec.ofNat 32 (i 0).val
  let c64_i32 : BitVec 32 := 64#32
  let v14890 : BitVec 32 := Scalar.muli arg0 c64_i32
  let c0_i32_4242 : BitVec 32 := 0#32
  ![25, v14890.toNat, 0]
def k0_off419 (i : grid0.Coords) : Fin 3 → Nat :=
  let c26_i32_4243 : BitVec 32 := 26#32
  let arg0 : BitVec 32 := BitVec.ofNat 32 (i 0).val
  let c64_i32 : BitVec 32 := 64#32
  let v14890 : BitVec 32 := Scalar.muli arg0 c64_i32
  let c0_i32_4249 : BitVec 32 := 0#32
  ![26, v14890.toNat, 0]
def k0_off420 (i : grid0.Coords) : Fin 3 → Nat :=
  let c27_i32_4250 : BitVec 32 := 27#32
  let arg0 : BitVec 32 := BitVec.ofNat 32 (i 0).val
  let c64_i32 : BitVec 32 := 64#32
  let v14890 : BitVec 32 := Scalar.muli arg0 c64_i32
  let c0_i32_4256 : BitVec 32 := 0#32
  ![27, v14890.toNat, 0]
def k0_off421 (i : grid0.Coords) : Fin 3 → Nat :=
  let c28_i32_4257 : BitVec 32 := 28#32
  let arg0 : BitVec 32 := BitVec.ofNat 32 (i 0).val
  let c64_i32 : BitVec 32 := 64#32
  let v14890 : BitVec 32 := Scalar.muli arg0 c64_i32
  let c0_i32_4263 : BitVec 32 := 0#32
  ![28, v14890.toNat, 0]
def k0_off422 (i : grid0.Coords) : Fin 3 → Nat :=
  let c29_i32_4264 : BitVec 32 := 29#32
  let arg0 : BitVec 32 := BitVec.ofNat 32 (i 0).val
  let c64_i32 : BitVec 32 := 64#32
  let v14890 : BitVec 32 := Scalar.muli arg0 c64_i32
  let c0_i32_4270 : BitVec 32 := 0#32
  ![29, v14890.toNat, 0]
def k0_off423 (i : grid0.Coords) : Fin 3 → Nat :=
  let c30_i32 : BitVec 32 := 30#32
  let arg0 : BitVec 32 := BitVec.ofNat 32 (i 0).val
  let c64_i32 : BitVec 32 := 64#32
  let v14890 : BitVec 32 := Scalar.muli arg0 c64_i32
  let c0_i32_4276 : BitVec 32 := 0#32
  ![30, v14890.toNat, 0]
def k0_off424 (i : grid0.Coords) : Fin 3 → Nat :=
  let c31_i32 : BitVec 32 := 31#32
  let arg0 : BitVec 32 := BitVec.ofNat 32 (i 0).val
  let c64_i32 : BitVec 32 := 64#32
  let v14890 : BitVec 32 := Scalar.muli arg0 c64_i32
  let c0_i32_4282 : BitVec 32 := 0#32
  ![31, v14890.toNat, 0]
def k0_off425 (i : grid0.Coords) : Fin 3 → Nat :=
  let c32_i32_4283 : BitVec 32 := 32#32
  let arg0 : BitVec 32 := BitVec.ofNat 32 (i 0).val
  let c64_i32 : BitVec 32 := 64#32
  let v14890 : BitVec 32 := Scalar.muli arg0 c64_i32
  let c0_i32_4289 : BitVec 32 := 0#32
  ![32, v14890.toNat, 0]
def k0_off426 (i : grid0.Coords) : Fin 3 → Nat :=
  let c33_i32_4290 : BitVec 32 := 33#32
  let arg0 : BitVec 32 := BitVec.ofNat 32 (i 0).val
  let c64_i32 : BitVec 32 := 64#32
  let v14890 : BitVec 32 := Scalar.muli arg0 c64_i32
  let c0_i32_4296 : BitVec 32 := 0#32
  ![33, v14890.toNat, 0]
def k0_off427 (i : grid0.Coords) : Fin 3 → Nat :=
  let c34_i32_4297 : BitVec 32 := 34#32
  let arg0 : BitVec 32 := BitVec.ofNat 32 (i 0).val
  let c64_i32 : BitVec 32 := 64#32
  let v14890 : BitVec 32 := Scalar.muli arg0 c64_i32
  let c0_i32_4303 : BitVec 32 := 0#32
  ![34, v14890.toNat, 0]
def k0_off428 (i : grid0.Coords) : Fin 3 → Nat :=
  let c35_i32_4304 : BitVec 32 := 35#32
  let arg0 : BitVec 32 := BitVec.ofNat 32 (i 0).val
  let c64_i32 : BitVec 32 := 64#32
  let v14890 : BitVec 32 := Scalar.muli arg0 c64_i32
  let c0_i32_4310 : BitVec 32 := 0#32
  ![35, v14890.toNat, 0]
def k0_off429 (i : grid0.Coords) : Fin 3 → Nat :=
  let c36_i32_4311 : BitVec 32 := 36#32
  let arg0 : BitVec 32 := BitVec.ofNat 32 (i 0).val
  let c64_i32 : BitVec 32 := 64#32
  let v14890 : BitVec 32 := Scalar.muli arg0 c64_i32
  let c0_i32_4317 : BitVec 32 := 0#32
  ![36, v14890.toNat, 0]
def k0_off430 (i : grid0.Coords) : Fin 3 → Nat :=
  let c37_i32_4318 : BitVec 32 := 37#32
  let arg0 : BitVec 32 := BitVec.ofNat 32 (i 0).val
  let c64_i32 : BitVec 32 := 64#32
  let v14890 : BitVec 32 := Scalar.muli arg0 c64_i32
  let c0_i32_4324 : BitVec 32 := 0#32
  ![37, v14890.toNat, 0]
def k0_off431 (i : grid0.Coords) : Fin 3 → Nat :=
  let c38_i32_4325 : BitVec 32 := 38#32
  let arg0 : BitVec 32 := BitVec.ofNat 32 (i 0).val
  let c64_i32 : BitVec 32 := 64#32
  let v14890 : BitVec 32 := Scalar.muli arg0 c64_i32
  let c0_i32_4331 : BitVec 32 := 0#32
  ![38, v14890.toNat, 0]
def k0_off432 (i : grid0.Coords) : Fin 3 → Nat :=
  let c39_i32_4332 : BitVec 32 := 39#32
  let arg0 : BitVec 32 := BitVec.ofNat 32 (i 0).val
  let c64_i32 : BitVec 32 := 64#32
  let v14890 : BitVec 32 := Scalar.muli arg0 c64_i32
  let c0_i32_4338 : BitVec 32 := 0#32
  ![39, v14890.toNat, 0]
def k0_off433 (i : grid0.Coords) : Fin 3 → Nat :=
  let c40_i32_4339 : BitVec 32 := 40#32
  let arg0 : BitVec 32 := BitVec.ofNat 32 (i 0).val
  let c64_i32 : BitVec 32 := 64#32
  let v14890 : BitVec 32 := Scalar.muli arg0 c64_i32
  let c0_i32_4345 : BitVec 32 := 0#32
  ![40, v14890.toNat, 0]
def k0_off434 (i : grid0.Coords) : Fin 3 → Nat :=
  let c41_i32_4346 : BitVec 32 := 41#32
  let arg0 : BitVec 32 := BitVec.ofNat 32 (i 0).val
  let c64_i32 : BitVec 32 := 64#32
  let v14890 : BitVec 32 := Scalar.muli arg0 c64_i32
  let c0_i32_4352 : BitVec 32 := 0#32
  ![41, v14890.toNat, 0]
def k0_off435 (i : grid0.Coords) : Fin 3 → Nat :=
  let c42_i32_4353 : BitVec 32 := 42#32
  let arg0 : BitVec 32 := BitVec.ofNat 32 (i 0).val
  let c64_i32 : BitVec 32 := 64#32
  let v14890 : BitVec 32 := Scalar.muli arg0 c64_i32
  let c0_i32_4359 : BitVec 32 := 0#32
  ![42, v14890.toNat, 0]
def k0_off436 (i : grid0.Coords) : Fin 3 → Nat :=
  let c43_i32_4360 : BitVec 32 := 43#32
  let arg0 : BitVec 32 := BitVec.ofNat 32 (i 0).val
  let c64_i32 : BitVec 32 := 64#32
  let v14890 : BitVec 32 := Scalar.muli arg0 c64_i32
  let c0_i32_4366 : BitVec 32 := 0#32
  ![43, v14890.toNat, 0]
def k0_off437 (i : grid0.Coords) : Fin 3 → Nat :=
  let c44_i32_4367 : BitVec 32 := 44#32
  let arg0 : BitVec 32 := BitVec.ofNat 32 (i 0).val
  let c64_i32 : BitVec 32 := 64#32
  let v14890 : BitVec 32 := Scalar.muli arg0 c64_i32
  let c0_i32_4373 : BitVec 32 := 0#32
  ![44, v14890.toNat, 0]
def k0_off438 (i : grid0.Coords) : Fin 3 → Nat :=
  let c45_i32_4374 : BitVec 32 := 45#32
  let arg0 : BitVec 32 := BitVec.ofNat 32 (i 0).val
  let c64_i32 : BitVec 32 := 64#32
  let v14890 : BitVec 32 := Scalar.muli arg0 c64_i32
  let c0_i32_4380 : BitVec 32 := 0#32
  ![45, v14890.toNat, 0]
def k0_off439 (i : grid0.Coords) : Fin 3 → Nat :=
  let c46_i32 : BitVec 32 := 46#32
  let arg0 : BitVec 32 := BitVec.ofNat 32 (i 0).val
  let c64_i32 : BitVec 32 := 64#32
  let v14890 : BitVec 32 := Scalar.muli arg0 c64_i32
  let c0_i32_4386 : BitVec 32 := 0#32
  ![46, v14890.toNat, 0]
def k0_off440 (i : grid0.Coords) : Fin 3 → Nat :=
  let c47_i32 : BitVec 32 := 47#32
  let arg0 : BitVec 32 := BitVec.ofNat 32 (i 0).val
  let c64_i32 : BitVec 32 := 64#32
  let v14890 : BitVec 32 := Scalar.muli arg0 c64_i32
  let c0_i32_4392 : BitVec 32 := 0#32
  ![47, v14890.toNat, 0]
def k0_off441 (i : grid0.Coords) : Fin 3 → Nat :=
  let c48_i32_4393 : BitVec 32 := 48#32
  let arg0 : BitVec 32 := BitVec.ofNat 32 (i 0).val
  let c64_i32 : BitVec 32 := 64#32
  let v14890 : BitVec 32 := Scalar.muli arg0 c64_i32
  let c0_i32_4399 : BitVec 32 := 0#32
  ![48, v14890.toNat, 0]
def k0_off442 (i : grid0.Coords) : Fin 3 → Nat :=
  let c49_i32_4400 : BitVec 32 := 49#32
  let arg0 : BitVec 32 := BitVec.ofNat 32 (i 0).val
  let c64_i32 : BitVec 32 := 64#32
  let v14890 : BitVec 32 := Scalar.muli arg0 c64_i32
  let c0_i32_4406 : BitVec 32 := 0#32
  ![49, v14890.toNat, 0]
def k0_off443 (i : grid0.Coords) : Fin 3 → Nat :=
  let c50_i32_4407 : BitVec 32 := 50#32
  let arg0 : BitVec 32 := BitVec.ofNat 32 (i 0).val
  let c64_i32 : BitVec 32 := 64#32
  let v14890 : BitVec 32 := Scalar.muli arg0 c64_i32
  let c0_i32_4413 : BitVec 32 := 0#32
  ![50, v14890.toNat, 0]
def k0_off444 (i : grid0.Coords) : Fin 3 → Nat :=
  let c51_i32_4414 : BitVec 32 := 51#32
  let arg0 : BitVec 32 := BitVec.ofNat 32 (i 0).val
  let c64_i32 : BitVec 32 := 64#32
  let v14890 : BitVec 32 := Scalar.muli arg0 c64_i32
  let c0_i32_4420 : BitVec 32 := 0#32
  ![51, v14890.toNat, 0]
def k0_off445 (i : grid0.Coords) : Fin 3 → Nat :=
  let c52_i32_4421 : BitVec 32 := 52#32
  let arg0 : BitVec 32 := BitVec.ofNat 32 (i 0).val
  let c64_i32 : BitVec 32 := 64#32
  let v14890 : BitVec 32 := Scalar.muli arg0 c64_i32
  let c0_i32_4427 : BitVec 32 := 0#32
  ![52, v14890.toNat, 0]
def k0_off446 (i : grid0.Coords) : Fin 3 → Nat :=
  let c53_i32_4428 : BitVec 32 := 53#32
  let arg0 : BitVec 32 := BitVec.ofNat 32 (i 0).val
  let c64_i32 : BitVec 32 := 64#32
  let v14890 : BitVec 32 := Scalar.muli arg0 c64_i32
  let c0_i32_4434 : BitVec 32 := 0#32
  ![53, v14890.toNat, 0]
def k0_off447 (i : grid0.Coords) : Fin 3 → Nat :=
  let c54_i32_4435 : BitVec 32 := 54#32
  let arg0 : BitVec 32 := BitVec.ofNat 32 (i 0).val
  let c64_i32 : BitVec 32 := 64#32
  let v14890 : BitVec 32 := Scalar.muli arg0 c64_i32
  let c0_i32_4441 : BitVec 32 := 0#32
  ![54, v14890.toNat, 0]
def k0_off448 (i : grid0.Coords) : Fin 3 → Nat :=
  let c55_i32_4442 : BitVec 32 := 55#32
  let arg0 : BitVec 32 := BitVec.ofNat 32 (i 0).val
  let c64_i32 : BitVec 32 := 64#32
  let v14890 : BitVec 32 := Scalar.muli arg0 c64_i32
  let c0_i32_4448 : BitVec 32 := 0#32
  ![55, v14890.toNat, 0]
def k0_off449 (i : grid0.Coords) : Fin 3 → Nat :=
  let c56_i32_4449 : BitVec 32 := 56#32
  let arg0 : BitVec 32 := BitVec.ofNat 32 (i 0).val
  let c64_i32 : BitVec 32 := 64#32
  let v14890 : BitVec 32 := Scalar.muli arg0 c64_i32
  let c0_i32_4456 : BitVec 32 := 0#32
  ![56, v14890.toNat, 0]
def k0_off450 (i : grid0.Coords) : Fin 3 → Nat :=
  let c57_i32_4457 : BitVec 32 := 57#32
  let arg0 : BitVec 32 := BitVec.ofNat 32 (i 0).val
  let c64_i32 : BitVec 32 := 64#32
  let v14890 : BitVec 32 := Scalar.muli arg0 c64_i32
  let c0_i32_4463 : BitVec 32 := 0#32
  ![57, v14890.toNat, 0]
def k0_off451 (i : grid0.Coords) : Fin 3 → Nat :=
  let c58_i32_4464 : BitVec 32 := 58#32
  let arg0 : BitVec 32 := BitVec.ofNat 32 (i 0).val
  let c64_i32 : BitVec 32 := 64#32
  let v14890 : BitVec 32 := Scalar.muli arg0 c64_i32
  let c0_i32_4470 : BitVec 32 := 0#32
  ![58, v14890.toNat, 0]
def k0_off452 (i : grid0.Coords) : Fin 3 → Nat :=
  let c59_i32_4471 : BitVec 32 := 59#32
  let arg0 : BitVec 32 := BitVec.ofNat 32 (i 0).val
  let c64_i32 : BitVec 32 := 64#32
  let v14890 : BitVec 32 := Scalar.muli arg0 c64_i32
  let c0_i32_4477 : BitVec 32 := 0#32
  ![59, v14890.toNat, 0]
def k0_off453 (i : grid0.Coords) : Fin 3 → Nat :=
  let c60_i32_4478 : BitVec 32 := 60#32
  let arg0 : BitVec 32 := BitVec.ofNat 32 (i 0).val
  let c64_i32 : BitVec 32 := 64#32
  let v14890 : BitVec 32 := Scalar.muli arg0 c64_i32
  let c0_i32_4484 : BitVec 32 := 0#32
  ![60, v14890.toNat, 0]
def k0_off454 (i : grid0.Coords) : Fin 3 → Nat :=
  let c61_i32_4485 : BitVec 32 := 61#32
  let arg0 : BitVec 32 := BitVec.ofNat 32 (i 0).val
  let c64_i32 : BitVec 32 := 64#32
  let v14890 : BitVec 32 := Scalar.muli arg0 c64_i32
  let c0_i32_4491 : BitVec 32 := 0#32
  ![61, v14890.toNat, 0]
def k0_off455 (i : grid0.Coords) : Fin 3 → Nat :=
  let c62_i32 : BitVec 32 := 62#32
  let arg0 : BitVec 32 := BitVec.ofNat 32 (i 0).val
  let c64_i32 : BitVec 32 := 64#32
  let v14890 : BitVec 32 := Scalar.muli arg0 c64_i32
  let c0_i32_4497 : BitVec 32 := 0#32
  ![62, v14890.toNat, 0]
def k0_off456 (i : grid0.Coords) : Fin 3 → Nat :=
  let c63_i32 : BitVec 32 := 63#32
  let arg0 : BitVec 32 := BitVec.ofNat 32 (i 0).val
  let c64_i32 : BitVec 32 := 64#32
  let v14890 : BitVec 32 := Scalar.muli arg0 c64_i32
  let c0_i32_4503 : BitVec 32 := 0#32
  ![63, v14890.toNat, 0]
def k0_off457 (i : grid0.Coords) : Fin 3 → Nat :=
  let c64_i32_4504 : BitVec 32 := 64#32
  let arg0 : BitVec 32 := BitVec.ofNat 32 (i 0).val
  let c64_i32 : BitVec 32 := 64#32
  let v14890 : BitVec 32 := Scalar.muli arg0 c64_i32
  let c0_i32_4510 : BitVec 32 := 0#32
  ![64, v14890.toNat, 0]
def k0_off458 (i : grid0.Coords) : Fin 3 → Nat :=
  let c65_i32_4511 : BitVec 32 := 65#32
  let arg0 : BitVec 32 := BitVec.ofNat 32 (i 0).val
  let c64_i32 : BitVec 32 := 64#32
  let v14890 : BitVec 32 := Scalar.muli arg0 c64_i32
  let c0_i32_4517 : BitVec 32 := 0#32
  ![65, v14890.toNat, 0]
def k0_off459 (i : grid0.Coords) : Fin 3 → Nat :=
  let c66_i32_4518 : BitVec 32 := 66#32
  let arg0 : BitVec 32 := BitVec.ofNat 32 (i 0).val
  let c64_i32 : BitVec 32 := 64#32
  let v14890 : BitVec 32 := Scalar.muli arg0 c64_i32
  let c0_i32_4524 : BitVec 32 := 0#32
  ![66, v14890.toNat, 0]
def k0_off460 (i : grid0.Coords) : Fin 3 → Nat :=
  let c67_i32_4525 : BitVec 32 := 67#32
  let arg0 : BitVec 32 := BitVec.ofNat 32 (i 0).val
  let c64_i32 : BitVec 32 := 64#32
  let v14890 : BitVec 32 := Scalar.muli arg0 c64_i32
  let c0_i32_4531 : BitVec 32 := 0#32
  ![67, v14890.toNat, 0]
def k0_off461 (i : grid0.Coords) : Fin 3 → Nat :=
  let c68_i32_4532 : BitVec 32 := 68#32
  let arg0 : BitVec 32 := BitVec.ofNat 32 (i 0).val
  let c64_i32 : BitVec 32 := 64#32
  let v14890 : BitVec 32 := Scalar.muli arg0 c64_i32
  let c0_i32_4538 : BitVec 32 := 0#32
  ![68, v14890.toNat, 0]
def k0_off462 (i : grid0.Coords) : Fin 3 → Nat :=
  let c69_i32_4539 : BitVec 32 := 69#32
  let arg0 : BitVec 32 := BitVec.ofNat 32 (i 0).val
  let c64_i32 : BitVec 32 := 64#32
  let v14890 : BitVec 32 := Scalar.muli arg0 c64_i32
  let c0_i32_4545 : BitVec 32 := 0#32
  ![69, v14890.toNat, 0]
def k0_off463 (i : grid0.Coords) : Fin 3 → Nat :=
  let c70_i32_4546 : BitVec 32 := 70#32
  let arg0 : BitVec 32 := BitVec.ofNat 32 (i 0).val
  let c64_i32 : BitVec 32 := 64#32
  let v14890 : BitVec 32 := Scalar.muli arg0 c64_i32
  let c0_i32_4552 : BitVec 32 := 0#32
  ![70, v14890.toNat, 0]
def k0_off464 (i : grid0.Coords) : Fin 3 → Nat :=
  let c71_i32_4553 : BitVec 32 := 71#32
  let arg0 : BitVec 32 := BitVec.ofNat 32 (i 0).val
  let c64_i32 : BitVec 32 := 64#32
  let v14890 : BitVec 32 := Scalar.muli arg0 c64_i32
  let c0_i32_4559 : BitVec 32 := 0#32
  ![71, v14890.toNat, 0]
def k0_off465 (i : grid0.Coords) : Fin 3 → Nat :=
  let c72_i32_4560 : BitVec 32 := 72#32
  let arg0 : BitVec 32 := BitVec.ofNat 32 (i 0).val
  let c64_i32 : BitVec 32 := 64#32
  let v14890 : BitVec 32 := Scalar.muli arg0 c64_i32
  let c0_i32_4566 : BitVec 32 := 0#32
  ![72, v14890.toNat, 0]
def k0_off466 (i : grid0.Coords) : Fin 3 → Nat :=
  let c73_i32_4567 : BitVec 32 := 73#32
  let arg0 : BitVec 32 := BitVec.ofNat 32 (i 0).val
  let c64_i32 : BitVec 32 := 64#32
  let v14890 : BitVec 32 := Scalar.muli arg0 c64_i32
  let c0_i32_4573 : BitVec 32 := 0#32
  ![73, v14890.toNat, 0]
def k0_off467 (i : grid0.Coords) : Fin 3 → Nat :=
  let c74_i32_4574 : BitVec 32 := 74#32
  let arg0 : BitVec 32 := BitVec.ofNat 32 (i 0).val
  let c64_i32 : BitVec 32 := 64#32
  let v14890 : BitVec 32 := Scalar.muli arg0 c64_i32
  let c0_i32_4580 : BitVec 32 := 0#32
  ![74, v14890.toNat, 0]
def k0_off468 (i : grid0.Coords) : Fin 3 → Nat :=
  let c75_i32_4581 : BitVec 32 := 75#32
  let arg0 : BitVec 32 := BitVec.ofNat 32 (i 0).val
  let c64_i32 : BitVec 32 := 64#32
  let v14890 : BitVec 32 := Scalar.muli arg0 c64_i32
  let c0_i32_4587 : BitVec 32 := 0#32
  ![75, v14890.toNat, 0]
def k0_off469 (i : grid0.Coords) : Fin 3 → Nat :=
  let c76_i32_4588 : BitVec 32 := 76#32
  let arg0 : BitVec 32 := BitVec.ofNat 32 (i 0).val
  let c64_i32 : BitVec 32 := 64#32
  let v14890 : BitVec 32 := Scalar.muli arg0 c64_i32
  let c0_i32_4594 : BitVec 32 := 0#32
  ![76, v14890.toNat, 0]
def k0_off470 (i : grid0.Coords) : Fin 3 → Nat :=
  let c77_i32_4595 : BitVec 32 := 77#32
  let arg0 : BitVec 32 := BitVec.ofNat 32 (i 0).val
  let c64_i32 : BitVec 32 := 64#32
  let v14890 : BitVec 32 := Scalar.muli arg0 c64_i32
  let c0_i32_4601 : BitVec 32 := 0#32
  ![77, v14890.toNat, 0]
def k0_off471 (i : grid0.Coords) : Fin 3 → Nat :=
  let c78_i32 : BitVec 32 := 78#32
  let arg0 : BitVec 32 := BitVec.ofNat 32 (i 0).val
  let c64_i32 : BitVec 32 := 64#32
  let v14890 : BitVec 32 := Scalar.muli arg0 c64_i32
  let c0_i32_4607 : BitVec 32 := 0#32
  ![78, v14890.toNat, 0]
def k0_off472 (i : grid0.Coords) : Fin 3 → Nat :=
  let c79_i32 : BitVec 32 := 79#32
  let arg0 : BitVec 32 := BitVec.ofNat 32 (i 0).val
  let c64_i32 : BitVec 32 := 64#32
  let v14890 : BitVec 32 := Scalar.muli arg0 c64_i32
  let c0_i32_4613 : BitVec 32 := 0#32
  ![79, v14890.toNat, 0]
def k0_off473 (i : grid0.Coords) : Fin 3 → Nat :=
  let c80_i32_4614 : BitVec 32 := 80#32
  let arg0 : BitVec 32 := BitVec.ofNat 32 (i 0).val
  let c64_i32 : BitVec 32 := 64#32
  let v14890 : BitVec 32 := Scalar.muli arg0 c64_i32
  let c0_i32_4620 : BitVec 32 := 0#32
  ![80, v14890.toNat, 0]
def k0_off474 (i : grid0.Coords) : Fin 3 → Nat :=
  let c81_i32_4621 : BitVec 32 := 81#32
  let arg0 : BitVec 32 := BitVec.ofNat 32 (i 0).val
  let c64_i32 : BitVec 32 := 64#32
  let v14890 : BitVec 32 := Scalar.muli arg0 c64_i32
  let c0_i32_4627 : BitVec 32 := 0#32
  ![81, v14890.toNat, 0]
def k0_off475 (i : grid0.Coords) : Fin 3 → Nat :=
  let c82_i32_4628 : BitVec 32 := 82#32
  let arg0 : BitVec 32 := BitVec.ofNat 32 (i 0).val
  let c64_i32 : BitVec 32 := 64#32
  let v14890 : BitVec 32 := Scalar.muli arg0 c64_i32
  let c0_i32_4634 : BitVec 32 := 0#32
  ![82, v14890.toNat, 0]
def k0_off476 (i : grid0.Coords) : Fin 3 → Nat :=
  let c83_i32_4635 : BitVec 32 := 83#32
  let arg0 : BitVec 32 := BitVec.ofNat 32 (i 0).val
  let c64_i32 : BitVec 32 := 64#32
  let v14890 : BitVec 32 := Scalar.muli arg0 c64_i32
  let c0_i32_4641 : BitVec 32 := 0#32
  ![83, v14890.toNat, 0]
def k0_off477 (i : grid0.Coords) : Fin 3 → Nat :=
  let c84_i32_4642 : BitVec 32 := 84#32
  let arg0 : BitVec 32 := BitVec.ofNat 32 (i 0).val
  let c64_i32 : BitVec 32 := 64#32
  let v14890 : BitVec 32 := Scalar.muli arg0 c64_i32
  let c0_i32_4648 : BitVec 32 := 0#32
  ![84, v14890.toNat, 0]
def k0_off478 (i : grid0.Coords) : Fin 3 → Nat :=
  let c85_i32_4649 : BitVec 32 := 85#32
  let arg0 : BitVec 32 := BitVec.ofNat 32 (i 0).val
  let c64_i32 : BitVec 32 := 64#32
  let v14890 : BitVec 32 := Scalar.muli arg0 c64_i32
  let c0_i32_4655 : BitVec 32 := 0#32
  ![85, v14890.toNat, 0]
def k0_off479 (i : grid0.Coords) : Fin 3 → Nat :=
  let c86_i32_4656 : BitVec 32 := 86#32
  let arg0 : BitVec 32 := BitVec.ofNat 32 (i 0).val
  let c64_i32 : BitVec 32 := 64#32
  let v14890 : BitVec 32 := Scalar.muli arg0 c64_i32
  let c0_i32_4662 : BitVec 32 := 0#32
  ![86, v14890.toNat, 0]
def k0_off480 (i : grid0.Coords) : Fin 3 → Nat :=
  let c87_i32_4663 : BitVec 32 := 87#32
  let arg0 : BitVec 32 := BitVec.ofNat 32 (i 0).val
  let c64_i32 : BitVec 32 := 64#32
  let v14890 : BitVec 32 := Scalar.muli arg0 c64_i32
  let c0_i32_4669 : BitVec 32 := 0#32
  ![87, v14890.toNat, 0]
def k0_off481 (i : grid0.Coords) : Fin 3 → Nat :=
  let c88_i32_4670 : BitVec 32 := 88#32
  let arg0 : BitVec 32 := BitVec.ofNat 32 (i 0).val
  let c64_i32 : BitVec 32 := 64#32
  let v14890 : BitVec 32 := Scalar.muli arg0 c64_i32
  let c0_i32_4676 : BitVec 32 := 0#32
  ![88, v14890.toNat, 0]
def k0_off482 (i : grid0.Coords) : Fin 3 → Nat :=
  let c89_i32_4677 : BitVec 32 := 89#32
  let arg0 : BitVec 32 := BitVec.ofNat 32 (i 0).val
  let c64_i32 : BitVec 32 := 64#32
  let v14890 : BitVec 32 := Scalar.muli arg0 c64_i32
  let c0_i32_4683 : BitVec 32 := 0#32
  ![89, v14890.toNat, 0]
def k0_off483 (i : grid0.Coords) : Fin 3 → Nat :=
  let c90_i32_4684 : BitVec 32 := 90#32
  let arg0 : BitVec 32 := BitVec.ofNat 32 (i 0).val
  let c64_i32 : BitVec 32 := 64#32
  let v14890 : BitVec 32 := Scalar.muli arg0 c64_i32
  let c0_i32_4690 : BitVec 32 := 0#32
  ![90, v14890.toNat, 0]
def k0_off484 (i : grid0.Coords) : Fin 3 → Nat :=
  let c91_i32_4691 : BitVec 32 := 91#32
  let arg0 : BitVec 32 := BitVec.ofNat 32 (i 0).val
  let c64_i32 : BitVec 32 := 64#32
  let v14890 : BitVec 32 := Scalar.muli arg0 c64_i32
  let c0_i32_4697 : BitVec 32 := 0#32
  ![91, v14890.toNat, 0]
def k0_off485 (i : grid0.Coords) : Fin 3 → Nat :=
  let c92_i32_4698 : BitVec 32 := 92#32
  let arg0 : BitVec 32 := BitVec.ofNat 32 (i 0).val
  let c64_i32 : BitVec 32 := 64#32
  let v14890 : BitVec 32 := Scalar.muli arg0 c64_i32
  let c0_i32_4704 : BitVec 32 := 0#32
  ![92, v14890.toNat, 0]
def k0_off486 (i : grid0.Coords) : Fin 3 → Nat :=
  let c93_i32_4705 : BitVec 32 := 93#32
  let arg0 : BitVec 32 := BitVec.ofNat 32 (i 0).val
  let c64_i32 : BitVec 32 := 64#32
  let v14890 : BitVec 32 := Scalar.muli arg0 c64_i32
  let c0_i32_4711 : BitVec 32 := 0#32
  ![93, v14890.toNat, 0]
def k0_off487 (i : grid0.Coords) : Fin 3 → Nat :=
  let c94_i32 : BitVec 32 := 94#32
  let arg0 : BitVec 32 := BitVec.ofNat 32 (i 0).val
  let c64_i32 : BitVec 32 := 64#32
  let v14890 : BitVec 32 := Scalar.muli arg0 c64_i32
  let c0_i32_4717 : BitVec 32 := 0#32
  ![94, v14890.toNat, 0]
def k0_off488 (i : grid0.Coords) : Fin 3 → Nat :=
  let c95_i32 : BitVec 32 := 95#32
  let arg0 : BitVec 32 := BitVec.ofNat 32 (i 0).val
  let c64_i32 : BitVec 32 := 64#32
  let v14890 : BitVec 32 := Scalar.muli arg0 c64_i32
  let c0_i32_4723 : BitVec 32 := 0#32
  ![95, v14890.toNat, 0]
def k0_off489 (i : grid0.Coords) : Fin 3 → Nat :=
  let c96_i32_4724 : BitVec 32 := 96#32
  let arg0 : BitVec 32 := BitVec.ofNat 32 (i 0).val
  let c64_i32 : BitVec 32 := 64#32
  let v14890 : BitVec 32 := Scalar.muli arg0 c64_i32
  let c0_i32_4730 : BitVec 32 := 0#32
  ![96, v14890.toNat, 0]
def k0_off490 (i : grid0.Coords) : Fin 3 → Nat :=
  let c97_i32_4731 : BitVec 32 := 97#32
  let arg0 : BitVec 32 := BitVec.ofNat 32 (i 0).val
  let c64_i32 : BitVec 32 := 64#32
  let v14890 : BitVec 32 := Scalar.muli arg0 c64_i32
  let c0_i32_4737 : BitVec 32 := 0#32
  ![97, v14890.toNat, 0]
def k0_off491 (i : grid0.Coords) : Fin 3 → Nat :=
  let c98_i32_4738 : BitVec 32 := 98#32
  let arg0 : BitVec 32 := BitVec.ofNat 32 (i 0).val
  let c64_i32 : BitVec 32 := 64#32
  let v14890 : BitVec 32 := Scalar.muli arg0 c64_i32
  let c0_i32_4744 : BitVec 32 := 0#32
  ![98, v14890.toNat, 0]
def k0_off492 (i : grid0.Coords) : Fin 3 → Nat :=
  let c99_i32_4745 : BitVec 32 := 99#32
  let arg0 : BitVec 32 := BitVec.ofNat 32 (i 0).val
  let c64_i32 : BitVec 32 := 64#32
  let v14890 : BitVec 32 := Scalar.muli arg0 c64_i32
  let c0_i32_4751 : BitVec 32 := 0#32
  ![99, v14890.toNat, 0]
def k0_off493 (i : grid0.Coords) : Fin 3 → Nat :=
  let c100_i32_4752 : BitVec 32 := 100#32
  let arg0 : BitVec 32 := BitVec.ofNat 32 (i 0).val
  let c64_i32 : BitVec 32 := 64#32
  let v14890 : BitVec 32 := Scalar.muli arg0 c64_i32
  let c0_i32_4758 : BitVec 32 := 0#32
  ![100, v14890.toNat, 0]
def k0_off494 (i : grid0.Coords) : Fin 3 → Nat :=
  let c101_i32_4759 : BitVec 32 := 101#32
  let arg0 : BitVec 32 := BitVec.ofNat 32 (i 0).val
  let c64_i32 : BitVec 32 := 64#32
  let v14890 : BitVec 32 := Scalar.muli arg0 c64_i32
  let c0_i32_4765 : BitVec 32 := 0#32
  ![101, v14890.toNat, 0]
def k0_off495 (i : grid0.Coords) : Fin 3 → Nat :=
  let c102_i32_4766 : BitVec 32 := 102#32
  let arg0 : BitVec 32 := BitVec.ofNat 32 (i 0).val
  let c64_i32 : BitVec 32 := 64#32
  let v14890 : BitVec 32 := Scalar.muli arg0 c64_i32
  let c0_i32_4772 : BitVec 32 := 0#32
  ![102, v14890.toNat, 0]
def k0_off496 (i : grid0.Coords) : Fin 3 → Nat :=
  let c103_i32_4773 : BitVec 32 := 103#32
  let arg0 : BitVec 32 := BitVec.ofNat 32 (i 0).val
  let c64_i32 : BitVec 32 := 64#32
  let v14890 : BitVec 32 := Scalar.muli arg0 c64_i32
  let c0_i32_4779 : BitVec 32 := 0#32
  ![103, v14890.toNat, 0]
def k0_off497 (i : grid0.Coords) : Fin 3 → Nat :=
  let c104_i32_4780 : BitVec 32 := 104#32
  let arg0 : BitVec 32 := BitVec.ofNat 32 (i 0).val
  let c64_i32 : BitVec 32 := 64#32
  let v14890 : BitVec 32 := Scalar.muli arg0 c64_i32
  let c0_i32_4786 : BitVec 32 := 0#32
  ![104, v14890.toNat, 0]
def k0_off498 (i : grid0.Coords) : Fin 3 → Nat :=
  let c105_i32_4787 : BitVec 32 := 105#32
  let arg0 : BitVec 32 := BitVec.ofNat 32 (i 0).val
  let c64_i32 : BitVec 32 := 64#32
  let v14890 : BitVec 32 := Scalar.muli arg0 c64_i32
  let c0_i32_4793 : BitVec 32 := 0#32
  ![105, v14890.toNat, 0]
def k0_off499 (i : grid0.Coords) : Fin 3 → Nat :=
  let c106_i32_4794 : BitVec 32 := 106#32
  let arg0 : BitVec 32 := BitVec.ofNat 32 (i 0).val
  let c64_i32 : BitVec 32 := 64#32
  let v14890 : BitVec 32 := Scalar.muli arg0 c64_i32
  let c0_i32_4800 : BitVec 32 := 0#32
  ![106, v14890.toNat, 0]
def k0_off500 (i : grid0.Coords) : Fin 3 → Nat :=
  let c107_i32_4801 : BitVec 32 := 107#32
  let arg0 : BitVec 32 := BitVec.ofNat 32 (i 0).val
  let c64_i32 : BitVec 32 := 64#32
  let v14890 : BitVec 32 := Scalar.muli arg0 c64_i32
  let c0_i32_4807 : BitVec 32 := 0#32
  ![107, v14890.toNat, 0]
def k0_off501 (i : grid0.Coords) : Fin 3 → Nat :=
  let c108_i32_4808 : BitVec 32 := 108#32
  let arg0 : BitVec 32 := BitVec.ofNat 32 (i 0).val
  let c64_i32 : BitVec 32 := 64#32
  let v14890 : BitVec 32 := Scalar.muli arg0 c64_i32
  let c0_i32_4814 : BitVec 32 := 0#32
  ![108, v14890.toNat, 0]
def k0_off502 (i : grid0.Coords) : Fin 3 → Nat :=
  let c109_i32_4815 : BitVec 32 := 109#32
  let arg0 : BitVec 32 := BitVec.ofNat 32 (i 0).val
  let c64_i32 : BitVec 32 := 64#32
  let v14890 : BitVec 32 := Scalar.muli arg0 c64_i32
  let c0_i32_4821 : BitVec 32 := 0#32
  ![109, v14890.toNat, 0]
def k0_off503 (i : grid0.Coords) : Fin 3 → Nat :=
  let c110_i32 : BitVec 32 := 110#32
  let arg0 : BitVec 32 := BitVec.ofNat 32 (i 0).val
  let c64_i32 : BitVec 32 := 64#32
  let v14890 : BitVec 32 := Scalar.muli arg0 c64_i32
  let c0_i32_4827 : BitVec 32 := 0#32
  ![110, v14890.toNat, 0]
def k0_off504 (i : grid0.Coords) : Fin 3 → Nat :=
  let c111_i32 : BitVec 32 := 111#32
  let arg0 : BitVec 32 := BitVec.ofNat 32 (i 0).val
  let c64_i32 : BitVec 32 := 64#32
  let v14890 : BitVec 32 := Scalar.muli arg0 c64_i32
  let c0_i32_4833 : BitVec 32 := 0#32
  ![111, v14890.toNat, 0]
def k0_off505 (i : grid0.Coords) : Fin 3 → Nat :=
  let c112_i32_4834 : BitVec 32 := 112#32
  let arg0 : BitVec 32 := BitVec.ofNat 32 (i 0).val
  let c64_i32 : BitVec 32 := 64#32
  let v14890 : BitVec 32 := Scalar.muli arg0 c64_i32
  let c0_i32_4840 : BitVec 32 := 0#32
  ![112, v14890.toNat, 0]
def k0_off506 (i : grid0.Coords) : Fin 3 → Nat :=
  let c113_i32_4841 : BitVec 32 := 113#32
  let arg0 : BitVec 32 := BitVec.ofNat 32 (i 0).val
  let c64_i32 : BitVec 32 := 64#32
  let v14890 : BitVec 32 := Scalar.muli arg0 c64_i32
  let c0_i32_4847 : BitVec 32 := 0#32
  ![113, v14890.toNat, 0]
def k0_off507 (i : grid0.Coords) : Fin 3 → Nat :=
  let c114_i32_4848 : BitVec 32 := 114#32
  let arg0 : BitVec 32 := BitVec.ofNat 32 (i 0).val
  let c64_i32 : BitVec 32 := 64#32
  let v14890 : BitVec 32 := Scalar.muli arg0 c64_i32
  let c0_i32_4854 : BitVec 32 := 0#32
  ![114, v14890.toNat, 0]
def k0_off508 (i : grid0.Coords) : Fin 3 → Nat :=
  let c115_i32_4855 : BitVec 32 := 115#32
  let arg0 : BitVec 32 := BitVec.ofNat 32 (i 0).val
  let c64_i32 : BitVec 32 := 64#32
  let v14890 : BitVec 32 := Scalar.muli arg0 c64_i32
  let c0_i32_4861 : BitVec 32 := 0#32
  ![115, v14890.toNat, 0]
def k0_off509 (i : grid0.Coords) : Fin 3 → Nat :=
  let c116_i32_4862 : BitVec 32 := 116#32
  let arg0 : BitVec 32 := BitVec.ofNat 32 (i 0).val
  let c64_i32 : BitVec 32 := 64#32
  let v14890 : BitVec 32 := Scalar.muli arg0 c64_i32
  let c0_i32_4868 : BitVec 32 := 0#32
  ![116, v14890.toNat, 0]
def k0_off510 (i : grid0.Coords) : Fin 3 → Nat :=
  let c117_i32_4869 : BitVec 32 := 117#32
  let arg0 : BitVec 32 := BitVec.ofNat 32 (i 0).val
  let c64_i32 : BitVec 32 := 64#32
  let v14890 : BitVec 32 := Scalar.muli arg0 c64_i32
  let c0_i32_4875 : BitVec 32 := 0#32
  ![117, v14890.toNat, 0]
def k0_off511 (i : grid0.Coords) : Fin 3 → Nat :=
  let c118_i32_4876 : BitVec 32 := 118#32
  let arg0 : BitVec 32 := BitVec.ofNat 32 (i 0).val
  let c64_i32 : BitVec 32 := 64#32
  let v14890 : BitVec 32 := Scalar.muli arg0 c64_i32
  let c0_i32_4882 : BitVec 32 := 0#32
  ![118, v14890.toNat, 0]
def k0_off512 (i : grid0.Coords) : Fin 3 → Nat :=
  let c119_i32_4883 : BitVec 32 := 119#32
  let arg0 : BitVec 32 := BitVec.ofNat 32 (i 0).val
  let c64_i32 : BitVec 32 := 64#32
  let v14890 : BitVec 32 := Scalar.muli arg0 c64_i32
  let c0_i32_4889 : BitVec 32 := 0#32
  ![119, v14890.toNat, 0]
def k0_off513 (i : grid0.Coords) : Fin 3 → Nat :=
  let c120_i32_4890 : BitVec 32 := 120#32
  let arg0 : BitVec 32 := BitVec.ofNat 32 (i 0).val
  let c64_i32 : BitVec 32 := 64#32
  let v14890 : BitVec 32 := Scalar.muli arg0 c64_i32
  let c0_i32_4896 : BitVec 32 := 0#32
  ![120, v14890.toNat, 0]
def k0_off514 (i : grid0.Coords) : Fin 3 → Nat :=
  let c121_i32_4897 : BitVec 32 := 121#32
  let arg0 : BitVec 32 := BitVec.ofNat 32 (i 0).val
  let c64_i32 : BitVec 32 := 64#32
  let v14890 : BitVec 32 := Scalar.muli arg0 c64_i32
  let c0_i32_4903 : BitVec 32 := 0#32
  ![121, v14890.toNat, 0]
def k0_off515 (i : grid0.Coords) : Fin 3 → Nat :=
  let c122_i32_4904 : BitVec 32 := 122#32
  let arg0 : BitVec 32 := BitVec.ofNat 32 (i 0).val
  let c64_i32 : BitVec 32 := 64#32
  let v14890 : BitVec 32 := Scalar.muli arg0 c64_i32
  let c0_i32_4910 : BitVec 32 := 0#32
  ![122, v14890.toNat, 0]
def k0_off516 (i : grid0.Coords) : Fin 3 → Nat :=
  let c123_i32_4911 : BitVec 32 := 123#32
  let arg0 : BitVec 32 := BitVec.ofNat 32 (i 0).val
  let c64_i32 : BitVec 32 := 64#32
  let v14890 : BitVec 32 := Scalar.muli arg0 c64_i32
  let c0_i32_4917 : BitVec 32 := 0#32
  ![123, v14890.toNat, 0]
def k0_off517 (i : grid0.Coords) : Fin 3 → Nat :=
  let c124_i32_4918 : BitVec 32 := 124#32
  let arg0 : BitVec 32 := BitVec.ofNat 32 (i 0).val
  let c64_i32 : BitVec 32 := 64#32
  let v14890 : BitVec 32 := Scalar.muli arg0 c64_i32
  let c0_i32_4924 : BitVec 32 := 0#32
  ![124, v14890.toNat, 0]
def k0_off518 (i : grid0.Coords) : Fin 3 → Nat :=
  let c125_i32_4925 : BitVec 32 := 125#32
  let arg0 : BitVec 32 := BitVec.ofNat 32 (i 0).val
  let c64_i32 : BitVec 32 := 64#32
  let v14890 : BitVec 32 := Scalar.muli arg0 c64_i32
  let c0_i32_4931 : BitVec 32 := 0#32
  ![125, v14890.toNat, 0]
def k0_off519 (i : grid0.Coords) : Fin 3 → Nat :=
  let c126_i32 : BitVec 32 := 126#32
  let arg0 : BitVec 32 := BitVec.ofNat 32 (i 0).val
  let c64_i32 : BitVec 32 := 64#32
  let v14890 : BitVec 32 := Scalar.muli arg0 c64_i32
  let c0_i32_4937 : BitVec 32 := 0#32
  ![126, v14890.toNat, 0]
def k0_off520 (i : grid0.Coords) : Fin 3 → Nat :=
  let c127_i32 : BitVec 32 := 127#32
  let arg0 : BitVec 32 := BitVec.ofNat 32 (i 0).val
  let c64_i32 : BitVec 32 := 64#32
  let v14890 : BitVec 32 := Scalar.muli arg0 c64_i32
  let c0_i32_4943 : BitVec 32 := 0#32
  ![127, v14890.toNat, 0]
def k0_off521 (i : grid0.Coords) : Fin 3 → Nat :=
  let c128_i32_4944 : BitVec 32 := 128#32
  let arg0 : BitVec 32 := BitVec.ofNat 32 (i 0).val
  let c64_i32 : BitVec 32 := 64#32
  let v14890 : BitVec 32 := Scalar.muli arg0 c64_i32
  let c0_i32_4950 : BitVec 32 := 0#32
  ![128, v14890.toNat, 0]
def k0_off522 (i : grid0.Coords) : Fin 3 → Nat :=
  let c129_i32_4951 : BitVec 32 := 129#32
  let arg0 : BitVec 32 := BitVec.ofNat 32 (i 0).val
  let c64_i32 : BitVec 32 := 64#32
  let v14890 : BitVec 32 := Scalar.muli arg0 c64_i32
  let c0_i32_4957 : BitVec 32 := 0#32
  ![129, v14890.toNat, 0]
def k0_off523 (i : grid0.Coords) : Fin 3 → Nat :=
  let c130_i32_4958 : BitVec 32 := 130#32
  let arg0 : BitVec 32 := BitVec.ofNat 32 (i 0).val
  let c64_i32 : BitVec 32 := 64#32
  let v14890 : BitVec 32 := Scalar.muli arg0 c64_i32
  let c0_i32_4964 : BitVec 32 := 0#32
  ![130, v14890.toNat, 0]
def k0_off524 (i : grid0.Coords) : Fin 3 → Nat :=
  let c131_i32_4965 : BitVec 32 := 131#32
  let arg0 : BitVec 32 := BitVec.ofNat 32 (i 0).val
  let c64_i32 : BitVec 32 := 64#32
  let v14890 : BitVec 32 := Scalar.muli arg0 c64_i32
  let c0_i32_4971 : BitVec 32 := 0#32
  ![131, v14890.toNat, 0]
def k0_off525 (i : grid0.Coords) : Fin 3 → Nat :=
  let c132_i32_4972 : BitVec 32 := 132#32
  let arg0 : BitVec 32 := BitVec.ofNat 32 (i 0).val
  let c64_i32 : BitVec 32 := 64#32
  let v14890 : BitVec 32 := Scalar.muli arg0 c64_i32
  let c0_i32_4978 : BitVec 32 := 0#32
  ![132, v14890.toNat, 0]
def k0_off526 (i : grid0.Coords) : Fin 3 → Nat :=
  let c133_i32_4979 : BitVec 32 := 133#32
  let arg0 : BitVec 32 := BitVec.ofNat 32 (i 0).val
  let c64_i32 : BitVec 32 := 64#32
  let v14890 : BitVec 32 := Scalar.muli arg0 c64_i32
  let c0_i32_4985 : BitVec 32 := 0#32
  ![133, v14890.toNat, 0]
def k0_off527 (i : grid0.Coords) : Fin 3 → Nat :=
  let c134_i32_4986 : BitVec 32 := 134#32
  let arg0 : BitVec 32 := BitVec.ofNat 32 (i 0).val
  let c64_i32 : BitVec 32 := 64#32
  let v14890 : BitVec 32 := Scalar.muli arg0 c64_i32
  let c0_i32_4992 : BitVec 32 := 0#32
  ![134, v14890.toNat, 0]
def k0_off528 (i : grid0.Coords) : Fin 3 → Nat :=
  let c135_i32_4993 : BitVec 32 := 135#32
  let arg0 : BitVec 32 := BitVec.ofNat 32 (i 0).val
  let c64_i32 : BitVec 32 := 64#32
  let v14890 : BitVec 32 := Scalar.muli arg0 c64_i32
  let c0_i32_4999 : BitVec 32 := 0#32
  ![135, v14890.toNat, 0]
def k0_off529 (i : grid0.Coords) : Fin 3 → Nat :=
  let c136_i32_5000 : BitVec 32 := 136#32
  let arg0 : BitVec 32 := BitVec.ofNat 32 (i 0).val
  let c64_i32 : BitVec 32 := 64#32
  let v14890 : BitVec 32 := Scalar.muli arg0 c64_i32
  let c0_i32_5006 : BitVec 32 := 0#32
  ![136, v14890.toNat, 0]
def k0_off530 (i : grid0.Coords) : Fin 3 → Nat :=
  let c137_i32_5007 : BitVec 32 := 137#32
  let arg0 : BitVec 32 := BitVec.ofNat 32 (i 0).val
  let c64_i32 : BitVec 32 := 64#32
  let v14890 : BitVec 32 := Scalar.muli arg0 c64_i32
  let c0_i32_5013 : BitVec 32 := 0#32
  ![137, v14890.toNat, 0]
def k0_off531 (i : grid0.Coords) : Fin 3 → Nat :=
  let c138_i32_5014 : BitVec 32 := 138#32
  let arg0 : BitVec 32 := BitVec.ofNat 32 (i 0).val
  let c64_i32 : BitVec 32 := 64#32
  let v14890 : BitVec 32 := Scalar.muli arg0 c64_i32
  let c0_i32_5020 : BitVec 32 := 0#32
  ![138, v14890.toNat, 0]
def k0_off532 (i : grid0.Coords) : Fin 3 → Nat :=
  let c139_i32_5021 : BitVec 32 := 139#32
  let arg0 : BitVec 32 := BitVec.ofNat 32 (i 0).val
  let c64_i32 : BitVec 32 := 64#32
  let v14890 : BitVec 32 := Scalar.muli arg0 c64_i32
  let c0_i32_5027 : BitVec 32 := 0#32
  ![139, v14890.toNat, 0]
def k0_off533 (i : grid0.Coords) : Fin 3 → Nat :=
  let c140_i32_5028 : BitVec 32 := 140#32
  let arg0 : BitVec 32 := BitVec.ofNat 32 (i 0).val
  let c64_i32 : BitVec 32 := 64#32
  let v14890 : BitVec 32 := Scalar.muli arg0 c64_i32
  let c0_i32_5034 : BitVec 32 := 0#32
  ![140, v14890.toNat, 0]
def k0_off534 (i : grid0.Coords) : Fin 3 → Nat :=
  let c141_i32_5035 : BitVec 32 := 141#32
  let arg0 : BitVec 32 := BitVec.ofNat 32 (i 0).val
  let c64_i32 : BitVec 32 := 64#32
  let v14890 : BitVec 32 := Scalar.muli arg0 c64_i32
  let c0_i32_5041 : BitVec 32 := 0#32
  ![141, v14890.toNat, 0]
def k0_off535 (i : grid0.Coords) : Fin 3 → Nat :=
  let c142_i32 : BitVec 32 := 142#32
  let arg0 : BitVec 32 := BitVec.ofNat 32 (i 0).val
  let c64_i32 : BitVec 32 := 64#32
  let v14890 : BitVec 32 := Scalar.muli arg0 c64_i32
  let c0_i32_5047 : BitVec 32 := 0#32
  ![142, v14890.toNat, 0]
def k0_off536 (i : grid0.Coords) : Fin 3 → Nat :=
  let c143_i32 : BitVec 32 := 143#32
  let arg0 : BitVec 32 := BitVec.ofNat 32 (i 0).val
  let c64_i32 : BitVec 32 := 64#32
  let v14890 : BitVec 32 := Scalar.muli arg0 c64_i32
  let c0_i32_5053 : BitVec 32 := 0#32
  ![143, v14890.toNat, 0]
def k0_off537 (i : grid0.Coords) : Fin 3 → Nat :=
  let c144_i32_5054 : BitVec 32 := 144#32
  let arg0 : BitVec 32 := BitVec.ofNat 32 (i 0).val
  let c64_i32 : BitVec 32 := 64#32
  let v14890 : BitVec 32 := Scalar.muli arg0 c64_i32
  let c0_i32_5060 : BitVec 32 := 0#32
  ![144, v14890.toNat, 0]
def k0_off538 (i : grid0.Coords) : Fin 3 → Nat :=
  let c145_i32_5061 : BitVec 32 := 145#32
  let arg0 : BitVec 32 := BitVec.ofNat 32 (i 0).val
  let c64_i32 : BitVec 32 := 64#32
  let v14890 : BitVec 32 := Scalar.muli arg0 c64_i32
  let c0_i32_5067 : BitVec 32 := 0#32
  ![145, v14890.toNat, 0]
def k0_off539 (i : grid0.Coords) : Fin 3 → Nat :=
  let c146_i32_5068 : BitVec 32 := 146#32
  let arg0 : BitVec 32 := BitVec.ofNat 32 (i 0).val
  let c64_i32 : BitVec 32 := 64#32
  let v14890 : BitVec 32 := Scalar.muli arg0 c64_i32
  let c0_i32_5074 : BitVec 32 := 0#32
  ![146, v14890.toNat, 0]
def k0_off540 (i : grid0.Coords) : Fin 3 → Nat :=
  let c147_i32_5075 : BitVec 32 := 147#32
  let arg0 : BitVec 32 := BitVec.ofNat 32 (i 0).val
  let c64_i32 : BitVec 32 := 64#32
  let v14890 : BitVec 32 := Scalar.muli arg0 c64_i32
  let c0_i32_5081 : BitVec 32 := 0#32
  ![147, v14890.toNat, 0]
def k0_off541 (i : grid0.Coords) : Fin 3 → Nat :=
  let c148_i32_5082 : BitVec 32 := 148#32
  let arg0 : BitVec 32 := BitVec.ofNat 32 (i 0).val
  let c64_i32 : BitVec 32 := 64#32
  let v14890 : BitVec 32 := Scalar.muli arg0 c64_i32
  let c0_i32_5088 : BitVec 32 := 0#32
  ![148, v14890.toNat, 0]
def k0_off542 (i : grid0.Coords) : Fin 3 → Nat :=
  let c149_i32_5089 : BitVec 32 := 149#32
  let arg0 : BitVec 32 := BitVec.ofNat 32 (i 0).val
  let c64_i32 : BitVec 32 := 64#32
  let v14890 : BitVec 32 := Scalar.muli arg0 c64_i32
  let c0_i32_5095 : BitVec 32 := 0#32
  ![149, v14890.toNat, 0]
def k0_off543 (i : grid0.Coords) : Fin 3 → Nat :=
  let c150_i32_5096 : BitVec 32 := 150#32
  let arg0 : BitVec 32 := BitVec.ofNat 32 (i 0).val
  let c64_i32 : BitVec 32 := 64#32
  let v14890 : BitVec 32 := Scalar.muli arg0 c64_i32
  let c0_i32_5102 : BitVec 32 := 0#32
  ![150, v14890.toNat, 0]
def k0_off544 (i : grid0.Coords) : Fin 3 → Nat :=
  let c151_i32_5103 : BitVec 32 := 151#32
  let arg0 : BitVec 32 := BitVec.ofNat 32 (i 0).val
  let c64_i32 : BitVec 32 := 64#32
  let v14890 : BitVec 32 := Scalar.muli arg0 c64_i32
  let c0_i32_5109 : BitVec 32 := 0#32
  ![151, v14890.toNat, 0]
def k0_off545 (i : grid0.Coords) : Fin 3 → Nat :=
  let c152_i32_5110 : BitVec 32 := 152#32
  let arg0 : BitVec 32 := BitVec.ofNat 32 (i 0).val
  let c64_i32 : BitVec 32 := 64#32
  let v14890 : BitVec 32 := Scalar.muli arg0 c64_i32
  let c0_i32_5116 : BitVec 32 := 0#32
  ![152, v14890.toNat, 0]
def k0_off546 (i : grid0.Coords) : Fin 3 → Nat :=
  let c153_i32_5117 : BitVec 32 := 153#32
  let arg0 : BitVec 32 := BitVec.ofNat 32 (i 0).val
  let c64_i32 : BitVec 32 := 64#32
  let v14890 : BitVec 32 := Scalar.muli arg0 c64_i32
  let c0_i32_5123 : BitVec 32 := 0#32
  ![153, v14890.toNat, 0]
def k0_off547 (i : grid0.Coords) : Fin 3 → Nat :=
  let c154_i32_5124 : BitVec 32 := 154#32
  let arg0 : BitVec 32 := BitVec.ofNat 32 (i 0).val
  let c64_i32 : BitVec 32 := 64#32
  let v14890 : BitVec 32 := Scalar.muli arg0 c64_i32
  let c0_i32_5130 : BitVec 32 := 0#32
  ![154, v14890.toNat, 0]
def k0_off548 (i : grid0.Coords) : Fin 3 → Nat :=
  let c155_i32_5131 : BitVec 32 := 155#32
  let arg0 : BitVec 32 := BitVec.ofNat 32 (i 0).val
  let c64_i32 : BitVec 32 := 64#32
  let v14890 : BitVec 32 := Scalar.muli arg0 c64_i32
  let c0_i32_5137 : BitVec 32 := 0#32
  ![155, v14890.toNat, 0]
def k0_off549 (i : grid0.Coords) : Fin 3 → Nat :=
  let c156_i32_5138 : BitVec 32 := 156#32
  let arg0 : BitVec 32 := BitVec.ofNat 32 (i 0).val
  let c64_i32 : BitVec 32 := 64#32
  let v14890 : BitVec 32 := Scalar.muli arg0 c64_i32
  let c0_i32_5144 : BitVec 32 := 0#32
  ![156, v14890.toNat, 0]
def k0_off550 (i : grid0.Coords) : Fin 3 → Nat :=
  let c157_i32_5145 : BitVec 32 := 157#32
  let arg0 : BitVec 32 := BitVec.ofNat 32 (i 0).val
  let c64_i32 : BitVec 32 := 64#32
  let v14890 : BitVec 32 := Scalar.muli arg0 c64_i32
  let c0_i32_5151 : BitVec 32 := 0#32
  ![157, v14890.toNat, 0]
def k0_off551 (i : grid0.Coords) : Fin 3 → Nat :=
  let c158_i32 : BitVec 32 := 158#32
  let arg0 : BitVec 32 := BitVec.ofNat 32 (i 0).val
  let c64_i32 : BitVec 32 := 64#32
  let v14890 : BitVec 32 := Scalar.muli arg0 c64_i32
  let c0_i32_5157 : BitVec 32 := 0#32
  ![158, v14890.toNat, 0]
def k0_off552 (i : grid0.Coords) : Fin 3 → Nat :=
  let c159_i32 : BitVec 32 := 159#32
  let arg0 : BitVec 32 := BitVec.ofNat 32 (i 0).val
  let c64_i32 : BitVec 32 := 64#32
  let v14890 : BitVec 32 := Scalar.muli arg0 c64_i32
  let c0_i32_5163 : BitVec 32 := 0#32
  ![159, v14890.toNat, 0]
def k0_off553 (i : grid0.Coords) : Fin 3 → Nat :=
  let c160_i32_5164 : BitVec 32 := 160#32
  let arg0 : BitVec 32 := BitVec.ofNat 32 (i 0).val
  let c64_i32 : BitVec 32 := 64#32
  let v14890 : BitVec 32 := Scalar.muli arg0 c64_i32
  let c0_i32_5170 : BitVec 32 := 0#32
  ![160, v14890.toNat, 0]
def k0_off554 (i : grid0.Coords) : Fin 3 → Nat :=
  let c161_i32_5171 : BitVec 32 := 161#32
  let arg0 : BitVec 32 := BitVec.ofNat 32 (i 0).val
  let c64_i32 : BitVec 32 := 64#32
  let v14890 : BitVec 32 := Scalar.muli arg0 c64_i32
  let c0_i32_5177 : BitVec 32 := 0#32
  ![161, v14890.toNat, 0]
def k0_off555 (i : grid0.Coords) : Fin 3 → Nat :=
  let c162_i32_5178 : BitVec 32 := 162#32
  let arg0 : BitVec 32 := BitVec.ofNat 32 (i 0).val
  let c64_i32 : BitVec 32 := 64#32
  let v14890 : BitVec 32 := Scalar.muli arg0 c64_i32
  let c0_i32_5184 : BitVec 32 := 0#32
  ![162, v14890.toNat, 0]
def k0_off556 (i : grid0.Coords) : Fin 3 → Nat :=
  let c163_i32_5185 : BitVec 32 := 163#32
  let arg0 : BitVec 32 := BitVec.ofNat 32 (i 0).val
  let c64_i32 : BitVec 32 := 64#32
  let v14890 : BitVec 32 := Scalar.muli arg0 c64_i32
  let c0_i32_5191 : BitVec 32 := 0#32
  ![163, v14890.toNat, 0]
def k0_off557 (i : grid0.Coords) : Fin 3 → Nat :=
  let c164_i32_5192 : BitVec 32 := 164#32
  let arg0 : BitVec 32 := BitVec.ofNat 32 (i 0).val
  let c64_i32 : BitVec 32 := 64#32
  let v14890 : BitVec 32 := Scalar.muli arg0 c64_i32
  let c0_i32_5198 : BitVec 32 := 0#32
  ![164, v14890.toNat, 0]
def k0_off558 (i : grid0.Coords) : Fin 3 → Nat :=
  let c165_i32_5199 : BitVec 32 := 165#32
  let arg0 : BitVec 32 := BitVec.ofNat 32 (i 0).val
  let c64_i32 : BitVec 32 := 64#32
  let v14890 : BitVec 32 := Scalar.muli arg0 c64_i32
  let c0_i32_5205 : BitVec 32 := 0#32
  ![165, v14890.toNat, 0]
def k0_off559 (i : grid0.Coords) : Fin 3 → Nat :=
  let c166_i32_5206 : BitVec 32 := 166#32
  let arg0 : BitVec 32 := BitVec.ofNat 32 (i 0).val
  let c64_i32 : BitVec 32 := 64#32
  let v14890 : BitVec 32 := Scalar.muli arg0 c64_i32
  let c0_i32_5212 : BitVec 32 := 0#32
  ![166, v14890.toNat, 0]
def k0_off560 (i : grid0.Coords) : Fin 3 → Nat :=
  let c167_i32_5213 : BitVec 32 := 167#32
  let arg0 : BitVec 32 := BitVec.ofNat 32 (i 0).val
  let c64_i32 : BitVec 32 := 64#32
  let v14890 : BitVec 32 := Scalar.muli arg0 c64_i32
  let c0_i32_5219 : BitVec 32 := 0#32
  ![167, v14890.toNat, 0]
def k0_off561 (i : grid0.Coords) : Fin 3 → Nat :=
  let c168_i32_5220 : BitVec 32 := 168#32
  let arg0 : BitVec 32 := BitVec.ofNat 32 (i 0).val
  let c64_i32 : BitVec 32 := 64#32
  let v14890 : BitVec 32 := Scalar.muli arg0 c64_i32
  let c0_i32_5226 : BitVec 32 := 0#32
  ![168, v14890.toNat, 0]
def k0_off562 (i : grid0.Coords) : Fin 3 → Nat :=
  let c169_i32_5227 : BitVec 32 := 169#32
  let arg0 : BitVec 32 := BitVec.ofNat 32 (i 0).val
  let c64_i32 : BitVec 32 := 64#32
  let v14890 : BitVec 32 := Scalar.muli arg0 c64_i32
  let c0_i32_5233 : BitVec 32 := 0#32
  ![169, v14890.toNat, 0]
def k0_off563 (i : grid0.Coords) : Fin 3 → Nat :=
  let c170_i32_5234 : BitVec 32 := 170#32
  let arg0 : BitVec 32 := BitVec.ofNat 32 (i 0).val
  let c64_i32 : BitVec 32 := 64#32
  let v14890 : BitVec 32 := Scalar.muli arg0 c64_i32
  let c0_i32_5240 : BitVec 32 := 0#32
  ![170, v14890.toNat, 0]
def k0_off564 (i : grid0.Coords) : Fin 3 → Nat :=
  let c171_i32_5241 : BitVec 32 := 171#32
  let arg0 : BitVec 32 := BitVec.ofNat 32 (i 0).val
  let c64_i32 : BitVec 32 := 64#32
  let v14890 : BitVec 32 := Scalar.muli arg0 c64_i32
  let c0_i32_5247 : BitVec 32 := 0#32
  ![171, v14890.toNat, 0]
def k0_off565 (i : grid0.Coords) : Fin 3 → Nat :=
  let c172_i32_5248 : BitVec 32 := 172#32
  let arg0 : BitVec 32 := BitVec.ofNat 32 (i 0).val
  let c64_i32 : BitVec 32 := 64#32
  let v14890 : BitVec 32 := Scalar.muli arg0 c64_i32
  let c0_i32_5254 : BitVec 32 := 0#32
  ![172, v14890.toNat, 0]
def k0_off566 (i : grid0.Coords) : Fin 3 → Nat :=
  let c173_i32_5255 : BitVec 32 := 173#32
  let arg0 : BitVec 32 := BitVec.ofNat 32 (i 0).val
  let c64_i32 : BitVec 32 := 64#32
  let v14890 : BitVec 32 := Scalar.muli arg0 c64_i32
  let c0_i32_5261 : BitVec 32 := 0#32
  ![173, v14890.toNat, 0]
def k0_off567 (i : grid0.Coords) : Fin 3 → Nat :=
  let c174_i32 : BitVec 32 := 174#32
  let arg0 : BitVec 32 := BitVec.ofNat 32 (i 0).val
  let c64_i32 : BitVec 32 := 64#32
  let v14890 : BitVec 32 := Scalar.muli arg0 c64_i32
  let c0_i32_5267 : BitVec 32 := 0#32
  ![174, v14890.toNat, 0]
def k0_off568 (i : grid0.Coords) : Fin 3 → Nat :=
  let c175_i32 : BitVec 32 := 175#32
  let arg0 : BitVec 32 := BitVec.ofNat 32 (i 0).val
  let c64_i32 : BitVec 32 := 64#32
  let v14890 : BitVec 32 := Scalar.muli arg0 c64_i32
  let c0_i32_5273 : BitVec 32 := 0#32
  ![175, v14890.toNat, 0]
def k0_off569 (i : grid0.Coords) : Fin 3 → Nat :=
  let c176_i32_5274 : BitVec 32 := 176#32
  let arg0 : BitVec 32 := BitVec.ofNat 32 (i 0).val
  let c64_i32 : BitVec 32 := 64#32
  let v14890 : BitVec 32 := Scalar.muli arg0 c64_i32
  let c0_i32_5280 : BitVec 32 := 0#32
  ![176, v14890.toNat, 0]
def k0_off570 (i : grid0.Coords) : Fin 3 → Nat :=
  let c177_i32_5281 : BitVec 32 := 177#32
  let arg0 : BitVec 32 := BitVec.ofNat 32 (i 0).val
  let c64_i32 : BitVec 32 := 64#32
  let v14890 : BitVec 32 := Scalar.muli arg0 c64_i32
  let c0_i32_5287 : BitVec 32 := 0#32
  ![177, v14890.toNat, 0]
def k0_off571 (i : grid0.Coords) : Fin 3 → Nat :=
  let c178_i32_5288 : BitVec 32 := 178#32
  let arg0 : BitVec 32 := BitVec.ofNat 32 (i 0).val
  let c64_i32 : BitVec 32 := 64#32
  let v14890 : BitVec 32 := Scalar.muli arg0 c64_i32
  let c0_i32_5294 : BitVec 32 := 0#32
  ![178, v14890.toNat, 0]
def k0_off572 (i : grid0.Coords) : Fin 3 → Nat :=
  let c179_i32_5295 : BitVec 32 := 179#32
  let arg0 : BitVec 32 := BitVec.ofNat 32 (i 0).val
  let c64_i32 : BitVec 32 := 64#32
  let v14890 : BitVec 32 := Scalar.muli arg0 c64_i32
  let c0_i32_5301 : BitVec 32 := 0#32
  ![179, v14890.toNat, 0]
def k0_off573 (i : grid0.Coords) : Fin 3 → Nat :=
  let c180_i32_5302 : BitVec 32 := 180#32
  let arg0 : BitVec 32 := BitVec.ofNat 32 (i 0).val
  let c64_i32 : BitVec 32 := 64#32
  let v14890 : BitVec 32 := Scalar.muli arg0 c64_i32
  let c0_i32_5308 : BitVec 32 := 0#32
  ![180, v14890.toNat, 0]
def k0_off574 (i : grid0.Coords) : Fin 3 → Nat :=
  let c181_i32_5309 : BitVec 32 := 181#32
  let arg0 : BitVec 32 := BitVec.ofNat 32 (i 0).val
  let c64_i32 : BitVec 32 := 64#32
  let v14890 : BitVec 32 := Scalar.muli arg0 c64_i32
  let c0_i32_5315 : BitVec 32 := 0#32
  ![181, v14890.toNat, 0]
def k0_off575 (i : grid0.Coords) : Fin 3 → Nat :=
  let c182_i32_5316 : BitVec 32 := 182#32
  let arg0 : BitVec 32 := BitVec.ofNat 32 (i 0).val
  let c64_i32 : BitVec 32 := 64#32
  let v14890 : BitVec 32 := Scalar.muli arg0 c64_i32
  let c0_i32_5322 : BitVec 32 := 0#32
  ![182, v14890.toNat, 0]
def k0_off576 (i : grid0.Coords) : Fin 3 → Nat :=
  let c183_i32_5323 : BitVec 32 := 183#32
  let arg0 : BitVec 32 := BitVec.ofNat 32 (i 0).val
  let c64_i32 : BitVec 32 := 64#32
  let v14890 : BitVec 32 := Scalar.muli arg0 c64_i32
  let c0_i32_5329 : BitVec 32 := 0#32
  ![183, v14890.toNat, 0]
def k0_off577 (i : grid0.Coords) : Fin 3 → Nat :=
  let c184_i32_5330 : BitVec 32 := 184#32
  let arg0 : BitVec 32 := BitVec.ofNat 32 (i 0).val
  let c64_i32 : BitVec 32 := 64#32
  let v14890 : BitVec 32 := Scalar.muli arg0 c64_i32
  let c0_i32_5336 : BitVec 32 := 0#32
  ![184, v14890.toNat, 0]
def k0_off578 (i : grid0.Coords) : Fin 3 → Nat :=
  let c185_i32_5337 : BitVec 32 := 185#32
  let arg0 : BitVec 32 := BitVec.ofNat 32 (i 0).val
  let c64_i32 : BitVec 32 := 64#32
  let v14890 : BitVec 32 := Scalar.muli arg0 c64_i32
  let c0_i32_5343 : BitVec 32 := 0#32
  ![185, v14890.toNat, 0]
def k0_off579 (i : grid0.Coords) : Fin 3 → Nat :=
  let c186_i32_5344 : BitVec 32 := 186#32
  let arg0 : BitVec 32 := BitVec.ofNat 32 (i 0).val
  let c64_i32 : BitVec 32 := 64#32
  let v14890 : BitVec 32 := Scalar.muli arg0 c64_i32
  let c0_i32_5350 : BitVec 32 := 0#32
  ![186, v14890.toNat, 0]
def k0_off580 (i : grid0.Coords) : Fin 3 → Nat :=
  let c187_i32_5351 : BitVec 32 := 187#32
  let arg0 : BitVec 32 := BitVec.ofNat 32 (i 0).val
  let c64_i32 : BitVec 32 := 64#32
  let v14890 : BitVec 32 := Scalar.muli arg0 c64_i32
  let c0_i32_5357 : BitVec 32 := 0#32
  ![187, v14890.toNat, 0]
def k0_off581 (i : grid0.Coords) : Fin 3 → Nat :=
  let c188_i32_5358 : BitVec 32 := 188#32
  let arg0 : BitVec 32 := BitVec.ofNat 32 (i 0).val
  let c64_i32 : BitVec 32 := 64#32
  let v14890 : BitVec 32 := Scalar.muli arg0 c64_i32
  let c0_i32_5364 : BitVec 32 := 0#32
  ![188, v14890.toNat, 0]
def k0_off582 (i : grid0.Coords) : Fin 3 → Nat :=
  let c189_i32_5365 : BitVec 32 := 189#32
  let arg0 : BitVec 32 := BitVec.ofNat 32 (i 0).val
  let c64_i32 : BitVec 32 := 64#32
  let v14890 : BitVec 32 := Scalar.muli arg0 c64_i32
  let c0_i32_5371 : BitVec 32 := 0#32
  ![189, v14890.toNat, 0]
def k0_off583 (i : grid0.Coords) : Fin 3 → Nat :=
  let c190_i32 : BitVec 32 := 190#32
  let arg0 : BitVec 32 := BitVec.ofNat 32 (i 0).val
  let c64_i32 : BitVec 32 := 64#32
  let v14890 : BitVec 32 := Scalar.muli arg0 c64_i32
  let c0_i32_5377 : BitVec 32 := 0#32
  ![190, v14890.toNat, 0]
def k0_off584 (i : grid0.Coords) : Fin 3 → Nat :=
  let c191_i32 : BitVec 32 := 191#32
  let arg0 : BitVec 32 := BitVec.ofNat 32 (i 0).val
  let c64_i32 : BitVec 32 := 64#32
  let v14890 : BitVec 32 := Scalar.muli arg0 c64_i32
  let c0_i32_5383 : BitVec 32 := 0#32
  ![191, v14890.toNat, 0]
def k0_off585 (i : grid0.Coords) : Fin 3 → Nat :=
  let c192_i32_5384 : BitVec 32 := 192#32
  let arg0 : BitVec 32 := BitVec.ofNat 32 (i 0).val
  let c64_i32 : BitVec 32 := 64#32
  let v14890 : BitVec 32 := Scalar.muli arg0 c64_i32
  let c0_i32_5390 : BitVec 32 := 0#32
  ![192, v14890.toNat, 0]
def k0_off586 (i : grid0.Coords) : Fin 3 → Nat :=
  let c193_i32_5391 : BitVec 32 := 193#32
  let arg0 : BitVec 32 := BitVec.ofNat 32 (i 0).val
  let c64_i32 : BitVec 32 := 64#32
  let v14890 : BitVec 32 := Scalar.muli arg0 c64_i32
  let c0_i32_5397 : BitVec 32 := 0#32
  ![193, v14890.toNat, 0]
def k0_off587 (i : grid0.Coords) : Fin 3 → Nat :=
  let c194_i32_5398 : BitVec 32 := 194#32
  let arg0 : BitVec 32 := BitVec.ofNat 32 (i 0).val
  let c64_i32 : BitVec 32 := 64#32
  let v14890 : BitVec 32 := Scalar.muli arg0 c64_i32
  let c0_i32_5404 : BitVec 32 := 0#32
  ![194, v14890.toNat, 0]
def k0_off588 (i : grid0.Coords) : Fin 3 → Nat :=
  let c195_i32_5405 : BitVec 32 := 195#32
  let arg0 : BitVec 32 := BitVec.ofNat 32 (i 0).val
  let c64_i32 : BitVec 32 := 64#32
  let v14890 : BitVec 32 := Scalar.muli arg0 c64_i32
  let c0_i32_5411 : BitVec 32 := 0#32
  ![195, v14890.toNat, 0]
def k0_cond5 (i : grid0.Coords) : BitVec 1 :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c1_i32_21 : BitVec 32 := 1#32
  let v37 : BitVec 1 := Scalar.cmpi .eq v12 c1_i32_21
  let v38 : BitVec 32 := Scalar.extui v37
  let c0_i32_22 : BitVec 32 := 0#32
  let v39 : BitVec 1 := Scalar.cmpi .ne v38 c0_i32_22
  v39

def k0_off589 (i : grid0.Coords) : Fin 3 → Nat :=
  let c0_i32_4059 : BitVec 32 := 0#32
  let arg0 : BitVec 32 := BitVec.ofNat 32 (i 0).val
  let c64_i32 : BitVec 32 := 64#32
  let v14890 : BitVec 32 := Scalar.muli arg0 c64_i32
  let c0_i32_4066 : BitVec 32 := 0#32
  ![0, v14890.toNat, 0]
def k0_off590 (i : grid0.Coords) : Fin 3 → Nat :=
  let c1_i32_4067 : BitVec 32 := 1#32
  let arg0 : BitVec 32 := BitVec.ofNat 32 (i 0).val
  let c64_i32 : BitVec 32 := 64#32
  let v14890 : BitVec 32 := Scalar.muli arg0 c64_i32
  let c0_i32_4074 : BitVec 32 := 0#32
  ![1, v14890.toNat, 0]
def k0_off591 (i : grid0.Coords) : Fin 3 → Nat :=
  let c2_i32_4075 : BitVec 32 := 2#32
  let arg0 : BitVec 32 := BitVec.ofNat 32 (i 0).val
  let c64_i32 : BitVec 32 := 64#32
  let v14890 : BitVec 32 := Scalar.muli arg0 c64_i32
  let c0_i32_4082 : BitVec 32 := 0#32
  ![2, v14890.toNat, 0]
def k0_off592 (i : grid0.Coords) : Fin 3 → Nat :=
  let c3_i32 : BitVec 32 := 3#32
  let arg0 : BitVec 32 := BitVec.ofNat 32 (i 0).val
  let c64_i32 : BitVec 32 := 64#32
  let v14890 : BitVec 32 := Scalar.muli arg0 c64_i32
  let c0_i32_4089 : BitVec 32 := 0#32
  ![3, v14890.toNat, 0]
def k0_off593 (i : grid0.Coords) : Fin 3 → Nat :=
  let c4_i32 : BitVec 32 := 4#32
  let arg0 : BitVec 32 := BitVec.ofNat 32 (i 0).val
  let c64_i32 : BitVec 32 := 64#32
  let v14890 : BitVec 32 := Scalar.muli arg0 c64_i32
  let c0_i32_4096 : BitVec 32 := 0#32
  ![4, v14890.toNat, 0]
def k0_off594 (i : grid0.Coords) : Fin 3 → Nat :=
  let c5_i32 : BitVec 32 := 5#32
  let arg0 : BitVec 32 := BitVec.ofNat 32 (i 0).val
  let c64_i32 : BitVec 32 := 64#32
  let v14890 : BitVec 32 := Scalar.muli arg0 c64_i32
  let c0_i32_4103 : BitVec 32 := 0#32
  ![5, v14890.toNat, 0]
def k0_off595 (i : grid0.Coords) : Fin 3 → Nat :=
  let c6_i32 : BitVec 32 := 6#32
  let arg0 : BitVec 32 := BitVec.ofNat 32 (i 0).val
  let c64_i32 : BitVec 32 := 64#32
  let v14890 : BitVec 32 := Scalar.muli arg0 c64_i32
  let c0_i32_4110 : BitVec 32 := 0#32
  ![6, v14890.toNat, 0]
def k0_off596 (i : grid0.Coords) : Fin 3 → Nat :=
  let c7_i32 : BitVec 32 := 7#32
  let arg0 : BitVec 32 := BitVec.ofNat 32 (i 0).val
  let c64_i32 : BitVec 32 := 64#32
  let v14890 : BitVec 32 := Scalar.muli arg0 c64_i32
  let c0_i32_4117 : BitVec 32 := 0#32
  ![7, v14890.toNat, 0]
def k0_off597 (i : grid0.Coords) : Fin 3 → Nat :=
  let c8_i32 : BitVec 32 := 8#32
  let arg0 : BitVec 32 := BitVec.ofNat 32 (i 0).val
  let c64_i32 : BitVec 32 := 64#32
  let v14890 : BitVec 32 := Scalar.muli arg0 c64_i32
  let c0_i32_4124 : BitVec 32 := 0#32
  ![8, v14890.toNat, 0]
def k0_off598 (i : grid0.Coords) : Fin 3 → Nat :=
  let c9_i32 : BitVec 32 := 9#32
  let arg0 : BitVec 32 := BitVec.ofNat 32 (i 0).val
  let c64_i32 : BitVec 32 := 64#32
  let v14890 : BitVec 32 := Scalar.muli arg0 c64_i32
  let c0_i32_4131 : BitVec 32 := 0#32
  ![9, v14890.toNat, 0]
def k0_off599 (i : grid0.Coords) : Fin 3 → Nat :=
  let c10_i32 : BitVec 32 := 10#32
  let arg0 : BitVec 32 := BitVec.ofNat 32 (i 0).val
  let c64_i32 : BitVec 32 := 64#32
  let v14890 : BitVec 32 := Scalar.muli arg0 c64_i32
  let c0_i32_4138 : BitVec 32 := 0#32
  ![10, v14890.toNat, 0]
def k0_off600 (i : grid0.Coords) : Fin 3 → Nat :=
  let c11_i32 : BitVec 32 := 11#32
  let arg0 : BitVec 32 := BitVec.ofNat 32 (i 0).val
  let c64_i32 : BitVec 32 := 64#32
  let v14890 : BitVec 32 := Scalar.muli arg0 c64_i32
  let c0_i32_4145 : BitVec 32 := 0#32
  ![11, v14890.toNat, 0]
def k0_off601 (i : grid0.Coords) : Fin 3 → Nat :=
  let c12_i32 : BitVec 32 := 12#32
  let arg0 : BitVec 32 := BitVec.ofNat 32 (i 0).val
  let c64_i32 : BitVec 32 := 64#32
  let v14890 : BitVec 32 := Scalar.muli arg0 c64_i32
  let c0_i32_4152 : BitVec 32 := 0#32
  ![12, v14890.toNat, 0]
def k0_off602 (i : grid0.Coords) : Fin 3 → Nat :=
  let c13_i32 : BitVec 32 := 13#32
  let arg0 : BitVec 32 := BitVec.ofNat 32 (i 0).val
  let c64_i32 : BitVec 32 := 64#32
  let v14890 : BitVec 32 := Scalar.muli arg0 c64_i32
  let c0_i32_4159 : BitVec 32 := 0#32
  ![13, v14890.toNat, 0]
def k0_off603 (i : grid0.Coords) : Fin 3 → Nat :=
  let c14_i32 : BitVec 32 := 14#32
  let arg0 : BitVec 32 := BitVec.ofNat 32 (i 0).val
  let c64_i32 : BitVec 32 := 64#32
  let v14890 : BitVec 32 := Scalar.muli arg0 c64_i32
  let c0_i32_4166 : BitVec 32 := 0#32
  ![14, v14890.toNat, 0]
def k0_off604 (i : grid0.Coords) : Fin 3 → Nat :=
  let c15_i32 : BitVec 32 := 15#32
  let arg0 : BitVec 32 := BitVec.ofNat 32 (i 0).val
  let c64_i32 : BitVec 32 := 64#32
  let v14890 : BitVec 32 := Scalar.muli arg0 c64_i32
  let c0_i32_4172 : BitVec 32 := 0#32
  ![15, v14890.toNat, 0]
def k0_off605 (i : grid0.Coords) : Fin 3 → Nat :=
  let c16_i32_4173 : BitVec 32 := 16#32
  let arg0 : BitVec 32 := BitVec.ofNat 32 (i 0).val
  let c64_i32 : BitVec 32 := 64#32
  let v14890 : BitVec 32 := Scalar.muli arg0 c64_i32
  let c0_i32_4179 : BitVec 32 := 0#32
  ![16, v14890.toNat, 0]
def k0_off606 (i : grid0.Coords) : Fin 3 → Nat :=
  let c17_i32_4180 : BitVec 32 := 17#32
  let arg0 : BitVec 32 := BitVec.ofNat 32 (i 0).val
  let c64_i32 : BitVec 32 := 64#32
  let v14890 : BitVec 32 := Scalar.muli arg0 c64_i32
  let c0_i32_4186 : BitVec 32 := 0#32
  ![17, v14890.toNat, 0]
def k0_off607 (i : grid0.Coords) : Fin 3 → Nat :=
  let c18_i32_4187 : BitVec 32 := 18#32
  let arg0 : BitVec 32 := BitVec.ofNat 32 (i 0).val
  let c64_i32 : BitVec 32 := 64#32
  let v14890 : BitVec 32 := Scalar.muli arg0 c64_i32
  let c0_i32_4193 : BitVec 32 := 0#32
  ![18, v14890.toNat, 0]
def k0_off608 (i : grid0.Coords) : Fin 3 → Nat :=
  let c19_i32_4194 : BitVec 32 := 19#32
  let arg0 : BitVec 32 := BitVec.ofNat 32 (i 0).val
  let c64_i32 : BitVec 32 := 64#32
  let v14890 : BitVec 32 := Scalar.muli arg0 c64_i32
  let c0_i32_4200 : BitVec 32 := 0#32
  ![19, v14890.toNat, 0]
def k0_off609 (i : grid0.Coords) : Fin 3 → Nat :=
  let c20_i32_4201 : BitVec 32 := 20#32
  let arg0 : BitVec 32 := BitVec.ofNat 32 (i 0).val
  let c64_i32 : BitVec 32 := 64#32
  let v14890 : BitVec 32 := Scalar.muli arg0 c64_i32
  let c0_i32_4207 : BitVec 32 := 0#32
  ![20, v14890.toNat, 0]
def k0_off610 (i : grid0.Coords) : Fin 3 → Nat :=
  let c21_i32_4208 : BitVec 32 := 21#32
  let arg0 : BitVec 32 := BitVec.ofNat 32 (i 0).val
  let c64_i32 : BitVec 32 := 64#32
  let v14890 : BitVec 32 := Scalar.muli arg0 c64_i32
  let c0_i32_4214 : BitVec 32 := 0#32
  ![21, v14890.toNat, 0]
def k0_off611 (i : grid0.Coords) : Fin 3 → Nat :=
  let c22_i32_4215 : BitVec 32 := 22#32
  let arg0 : BitVec 32 := BitVec.ofNat 32 (i 0).val
  let c64_i32 : BitVec 32 := 64#32
  let v14890 : BitVec 32 := Scalar.muli arg0 c64_i32
  let c0_i32_4221 : BitVec 32 := 0#32
  ![22, v14890.toNat, 0]
def k0_off612 (i : grid0.Coords) : Fin 3 → Nat :=
  let c23_i32_4222 : BitVec 32 := 23#32
  let arg0 : BitVec 32 := BitVec.ofNat 32 (i 0).val
  let c64_i32 : BitVec 32 := 64#32
  let v14890 : BitVec 32 := Scalar.muli arg0 c64_i32
  let c0_i32_4228 : BitVec 32 := 0#32
  ![23, v14890.toNat, 0]
def k0_off613 (i : grid0.Coords) : Fin 3 → Nat :=
  let c24_i32_4229 : BitVec 32 := 24#32
  let arg0 : BitVec 32 := BitVec.ofNat 32 (i 0).val
  let c64_i32 : BitVec 32 := 64#32
  let v14890 : BitVec 32 := Scalar.muli arg0 c64_i32
  let c0_i32_4235 : BitVec 32 := 0#32
  ![24, v14890.toNat, 0]
def k0_off614 (i : grid0.Coords) : Fin 3 → Nat :=
  let c25_i32_4236 : BitVec 32 := 25#32
  let arg0 : BitVec 32 := BitVec.ofNat 32 (i 0).val
  let c64_i32 : BitVec 32 := 64#32
  let v14890 : BitVec 32 := Scalar.muli arg0 c64_i32
  let c0_i32_4242 : BitVec 32 := 0#32
  ![25, v14890.toNat, 0]
def k0_off615 (i : grid0.Coords) : Fin 3 → Nat :=
  let c26_i32_4243 : BitVec 32 := 26#32
  let arg0 : BitVec 32 := BitVec.ofNat 32 (i 0).val
  let c64_i32 : BitVec 32 := 64#32
  let v14890 : BitVec 32 := Scalar.muli arg0 c64_i32
  let c0_i32_4249 : BitVec 32 := 0#32
  ![26, v14890.toNat, 0]
def k0_off616 (i : grid0.Coords) : Fin 3 → Nat :=
  let c27_i32_4250 : BitVec 32 := 27#32
  let arg0 : BitVec 32 := BitVec.ofNat 32 (i 0).val
  let c64_i32 : BitVec 32 := 64#32
  let v14890 : BitVec 32 := Scalar.muli arg0 c64_i32
  let c0_i32_4256 : BitVec 32 := 0#32
  ![27, v14890.toNat, 0]
def k0_off617 (i : grid0.Coords) : Fin 3 → Nat :=
  let c28_i32_4257 : BitVec 32 := 28#32
  let arg0 : BitVec 32 := BitVec.ofNat 32 (i 0).val
  let c64_i32 : BitVec 32 := 64#32
  let v14890 : BitVec 32 := Scalar.muli arg0 c64_i32
  let c0_i32_4263 : BitVec 32 := 0#32
  ![28, v14890.toNat, 0]
def k0_off618 (i : grid0.Coords) : Fin 3 → Nat :=
  let c29_i32_4264 : BitVec 32 := 29#32
  let arg0 : BitVec 32 := BitVec.ofNat 32 (i 0).val
  let c64_i32 : BitVec 32 := 64#32
  let v14890 : BitVec 32 := Scalar.muli arg0 c64_i32
  let c0_i32_4270 : BitVec 32 := 0#32
  ![29, v14890.toNat, 0]
def k0_off619 (i : grid0.Coords) : Fin 3 → Nat :=
  let c30_i32 : BitVec 32 := 30#32
  let arg0 : BitVec 32 := BitVec.ofNat 32 (i 0).val
  let c64_i32 : BitVec 32 := 64#32
  let v14890 : BitVec 32 := Scalar.muli arg0 c64_i32
  let c0_i32_4276 : BitVec 32 := 0#32
  ![30, v14890.toNat, 0]
def k0_off620 (i : grid0.Coords) : Fin 3 → Nat :=
  let c31_i32 : BitVec 32 := 31#32
  let arg0 : BitVec 32 := BitVec.ofNat 32 (i 0).val
  let c64_i32 : BitVec 32 := 64#32
  let v14890 : BitVec 32 := Scalar.muli arg0 c64_i32
  let c0_i32_4282 : BitVec 32 := 0#32
  ![31, v14890.toNat, 0]
def k0_off621 (i : grid0.Coords) : Fin 3 → Nat :=
  let c32_i32_4283 : BitVec 32 := 32#32
  let arg0 : BitVec 32 := BitVec.ofNat 32 (i 0).val
  let c64_i32 : BitVec 32 := 64#32
  let v14890 : BitVec 32 := Scalar.muli arg0 c64_i32
  let c0_i32_4289 : BitVec 32 := 0#32
  ![32, v14890.toNat, 0]
def k0_off622 (i : grid0.Coords) : Fin 3 → Nat :=
  let c33_i32_4290 : BitVec 32 := 33#32
  let arg0 : BitVec 32 := BitVec.ofNat 32 (i 0).val
  let c64_i32 : BitVec 32 := 64#32
  let v14890 : BitVec 32 := Scalar.muli arg0 c64_i32
  let c0_i32_4296 : BitVec 32 := 0#32
  ![33, v14890.toNat, 0]
def k0_off623 (i : grid0.Coords) : Fin 3 → Nat :=
  let c34_i32_4297 : BitVec 32 := 34#32
  let arg0 : BitVec 32 := BitVec.ofNat 32 (i 0).val
  let c64_i32 : BitVec 32 := 64#32
  let v14890 : BitVec 32 := Scalar.muli arg0 c64_i32
  let c0_i32_4303 : BitVec 32 := 0#32
  ![34, v14890.toNat, 0]
def k0_off624 (i : grid0.Coords) : Fin 3 → Nat :=
  let c35_i32_4304 : BitVec 32 := 35#32
  let arg0 : BitVec 32 := BitVec.ofNat 32 (i 0).val
  let c64_i32 : BitVec 32 := 64#32
  let v14890 : BitVec 32 := Scalar.muli arg0 c64_i32
  let c0_i32_4310 : BitVec 32 := 0#32
  ![35, v14890.toNat, 0]
def k0_off625 (i : grid0.Coords) : Fin 3 → Nat :=
  let c36_i32_4311 : BitVec 32 := 36#32
  let arg0 : BitVec 32 := BitVec.ofNat 32 (i 0).val
  let c64_i32 : BitVec 32 := 64#32
  let v14890 : BitVec 32 := Scalar.muli arg0 c64_i32
  let c0_i32_4317 : BitVec 32 := 0#32
  ![36, v14890.toNat, 0]
def k0_off626 (i : grid0.Coords) : Fin 3 → Nat :=
  let c37_i32_4318 : BitVec 32 := 37#32
  let arg0 : BitVec 32 := BitVec.ofNat 32 (i 0).val
  let c64_i32 : BitVec 32 := 64#32
  let v14890 : BitVec 32 := Scalar.muli arg0 c64_i32
  let c0_i32_4324 : BitVec 32 := 0#32
  ![37, v14890.toNat, 0]
def k0_off627 (i : grid0.Coords) : Fin 3 → Nat :=
  let c38_i32_4325 : BitVec 32 := 38#32
  let arg0 : BitVec 32 := BitVec.ofNat 32 (i 0).val
  let c64_i32 : BitVec 32 := 64#32
  let v14890 : BitVec 32 := Scalar.muli arg0 c64_i32
  let c0_i32_4331 : BitVec 32 := 0#32
  ![38, v14890.toNat, 0]
def k0_off628 (i : grid0.Coords) : Fin 3 → Nat :=
  let c39_i32_4332 : BitVec 32 := 39#32
  let arg0 : BitVec 32 := BitVec.ofNat 32 (i 0).val
  let c64_i32 : BitVec 32 := 64#32
  let v14890 : BitVec 32 := Scalar.muli arg0 c64_i32
  let c0_i32_4338 : BitVec 32 := 0#32
  ![39, v14890.toNat, 0]
def k0_off629 (i : grid0.Coords) : Fin 3 → Nat :=
  let c40_i32_4339 : BitVec 32 := 40#32
  let arg0 : BitVec 32 := BitVec.ofNat 32 (i 0).val
  let c64_i32 : BitVec 32 := 64#32
  let v14890 : BitVec 32 := Scalar.muli arg0 c64_i32
  let c0_i32_4345 : BitVec 32 := 0#32
  ![40, v14890.toNat, 0]
def k0_off630 (i : grid0.Coords) : Fin 3 → Nat :=
  let c41_i32_4346 : BitVec 32 := 41#32
  let arg0 : BitVec 32 := BitVec.ofNat 32 (i 0).val
  let c64_i32 : BitVec 32 := 64#32
  let v14890 : BitVec 32 := Scalar.muli arg0 c64_i32
  let c0_i32_4352 : BitVec 32 := 0#32
  ![41, v14890.toNat, 0]
def k0_off631 (i : grid0.Coords) : Fin 3 → Nat :=
  let c42_i32_4353 : BitVec 32 := 42#32
  let arg0 : BitVec 32 := BitVec.ofNat 32 (i 0).val
  let c64_i32 : BitVec 32 := 64#32
  let v14890 : BitVec 32 := Scalar.muli arg0 c64_i32
  let c0_i32_4359 : BitVec 32 := 0#32
  ![42, v14890.toNat, 0]
def k0_off632 (i : grid0.Coords) : Fin 3 → Nat :=
  let c43_i32_4360 : BitVec 32 := 43#32
  let arg0 : BitVec 32 := BitVec.ofNat 32 (i 0).val
  let c64_i32 : BitVec 32 := 64#32
  let v14890 : BitVec 32 := Scalar.muli arg0 c64_i32
  let c0_i32_4366 : BitVec 32 := 0#32
  ![43, v14890.toNat, 0]
def k0_off633 (i : grid0.Coords) : Fin 3 → Nat :=
  let c44_i32_4367 : BitVec 32 := 44#32
  let arg0 : BitVec 32 := BitVec.ofNat 32 (i 0).val
  let c64_i32 : BitVec 32 := 64#32
  let v14890 : BitVec 32 := Scalar.muli arg0 c64_i32
  let c0_i32_4373 : BitVec 32 := 0#32
  ![44, v14890.toNat, 0]
def k0_off634 (i : grid0.Coords) : Fin 3 → Nat :=
  let c45_i32_4374 : BitVec 32 := 45#32
  let arg0 : BitVec 32 := BitVec.ofNat 32 (i 0).val
  let c64_i32 : BitVec 32 := 64#32
  let v14890 : BitVec 32 := Scalar.muli arg0 c64_i32
  let c0_i32_4380 : BitVec 32 := 0#32
  ![45, v14890.toNat, 0]
def k0_off635 (i : grid0.Coords) : Fin 3 → Nat :=
  let c46_i32 : BitVec 32 := 46#32
  let arg0 : BitVec 32 := BitVec.ofNat 32 (i 0).val
  let c64_i32 : BitVec 32 := 64#32
  let v14890 : BitVec 32 := Scalar.muli arg0 c64_i32
  let c0_i32_4386 : BitVec 32 := 0#32
  ![46, v14890.toNat, 0]
def k0_off636 (i : grid0.Coords) : Fin 3 → Nat :=
  let c47_i32 : BitVec 32 := 47#32
  let arg0 : BitVec 32 := BitVec.ofNat 32 (i 0).val
  let c64_i32 : BitVec 32 := 64#32
  let v14890 : BitVec 32 := Scalar.muli arg0 c64_i32
  let c0_i32_4392 : BitVec 32 := 0#32
  ![47, v14890.toNat, 0]
def k0_off637 (i : grid0.Coords) : Fin 3 → Nat :=
  let c48_i32_4393 : BitVec 32 := 48#32
  let arg0 : BitVec 32 := BitVec.ofNat 32 (i 0).val
  let c64_i32 : BitVec 32 := 64#32
  let v14890 : BitVec 32 := Scalar.muli arg0 c64_i32
  let c0_i32_4399 : BitVec 32 := 0#32
  ![48, v14890.toNat, 0]
def k0_off638 (i : grid0.Coords) : Fin 3 → Nat :=
  let c49_i32_4400 : BitVec 32 := 49#32
  let arg0 : BitVec 32 := BitVec.ofNat 32 (i 0).val
  let c64_i32 : BitVec 32 := 64#32
  let v14890 : BitVec 32 := Scalar.muli arg0 c64_i32
  let c0_i32_4406 : BitVec 32 := 0#32
  ![49, v14890.toNat, 0]
def k0_off639 (i : grid0.Coords) : Fin 3 → Nat :=
  let c50_i32_4407 : BitVec 32 := 50#32
  let arg0 : BitVec 32 := BitVec.ofNat 32 (i 0).val
  let c64_i32 : BitVec 32 := 64#32
  let v14890 : BitVec 32 := Scalar.muli arg0 c64_i32
  let c0_i32_4413 : BitVec 32 := 0#32
  ![50, v14890.toNat, 0]
def k0_off640 (i : grid0.Coords) : Fin 3 → Nat :=
  let c51_i32_4414 : BitVec 32 := 51#32
  let arg0 : BitVec 32 := BitVec.ofNat 32 (i 0).val
  let c64_i32 : BitVec 32 := 64#32
  let v14890 : BitVec 32 := Scalar.muli arg0 c64_i32
  let c0_i32_4420 : BitVec 32 := 0#32
  ![51, v14890.toNat, 0]
def k0_off641 (i : grid0.Coords) : Fin 3 → Nat :=
  let c52_i32_4421 : BitVec 32 := 52#32
  let arg0 : BitVec 32 := BitVec.ofNat 32 (i 0).val
  let c64_i32 : BitVec 32 := 64#32
  let v14890 : BitVec 32 := Scalar.muli arg0 c64_i32
  let c0_i32_4427 : BitVec 32 := 0#32
  ![52, v14890.toNat, 0]
def k0_off642 (i : grid0.Coords) : Fin 3 → Nat :=
  let c53_i32_4428 : BitVec 32 := 53#32
  let arg0 : BitVec 32 := BitVec.ofNat 32 (i 0).val
  let c64_i32 : BitVec 32 := 64#32
  let v14890 : BitVec 32 := Scalar.muli arg0 c64_i32
  let c0_i32_4434 : BitVec 32 := 0#32
  ![53, v14890.toNat, 0]
def k0_off643 (i : grid0.Coords) : Fin 3 → Nat :=
  let c54_i32_4435 : BitVec 32 := 54#32
  let arg0 : BitVec 32 := BitVec.ofNat 32 (i 0).val
  let c64_i32 : BitVec 32 := 64#32
  let v14890 : BitVec 32 := Scalar.muli arg0 c64_i32
  let c0_i32_4441 : BitVec 32 := 0#32
  ![54, v14890.toNat, 0]
def k0_off644 (i : grid0.Coords) : Fin 3 → Nat :=
  let c55_i32_4442 : BitVec 32 := 55#32
  let arg0 : BitVec 32 := BitVec.ofNat 32 (i 0).val
  let c64_i32 : BitVec 32 := 64#32
  let v14890 : BitVec 32 := Scalar.muli arg0 c64_i32
  let c0_i32_4448 : BitVec 32 := 0#32
  ![55, v14890.toNat, 0]
def k0_off645 (i : grid0.Coords) : Fin 3 → Nat :=
  let c56_i32_4449 : BitVec 32 := 56#32
  let arg0 : BitVec 32 := BitVec.ofNat 32 (i 0).val
  let c64_i32 : BitVec 32 := 64#32
  let v14890 : BitVec 32 := Scalar.muli arg0 c64_i32
  let c0_i32_4456 : BitVec 32 := 0#32
  ![56, v14890.toNat, 0]
def k0_off646 (i : grid0.Coords) : Fin 3 → Nat :=
  let c57_i32_4457 : BitVec 32 := 57#32
  let arg0 : BitVec 32 := BitVec.ofNat 32 (i 0).val
  let c64_i32 : BitVec 32 := 64#32
  let v14890 : BitVec 32 := Scalar.muli arg0 c64_i32
  let c0_i32_4463 : BitVec 32 := 0#32
  ![57, v14890.toNat, 0]
def k0_off647 (i : grid0.Coords) : Fin 3 → Nat :=
  let c58_i32_4464 : BitVec 32 := 58#32
  let arg0 : BitVec 32 := BitVec.ofNat 32 (i 0).val
  let c64_i32 : BitVec 32 := 64#32
  let v14890 : BitVec 32 := Scalar.muli arg0 c64_i32
  let c0_i32_4470 : BitVec 32 := 0#32
  ![58, v14890.toNat, 0]
def k0_off648 (i : grid0.Coords) : Fin 3 → Nat :=
  let c59_i32_4471 : BitVec 32 := 59#32
  let arg0 : BitVec 32 := BitVec.ofNat 32 (i 0).val
  let c64_i32 : BitVec 32 := 64#32
  let v14890 : BitVec 32 := Scalar.muli arg0 c64_i32
  let c0_i32_4477 : BitVec 32 := 0#32
  ![59, v14890.toNat, 0]
def k0_off649 (i : grid0.Coords) : Fin 3 → Nat :=
  let c60_i32_4478 : BitVec 32 := 60#32
  let arg0 : BitVec 32 := BitVec.ofNat 32 (i 0).val
  let c64_i32 : BitVec 32 := 64#32
  let v14890 : BitVec 32 := Scalar.muli arg0 c64_i32
  let c0_i32_4484 : BitVec 32 := 0#32
  ![60, v14890.toNat, 0]
def k0_off650 (i : grid0.Coords) : Fin 3 → Nat :=
  let c61_i32_4485 : BitVec 32 := 61#32
  let arg0 : BitVec 32 := BitVec.ofNat 32 (i 0).val
  let c64_i32 : BitVec 32 := 64#32
  let v14890 : BitVec 32 := Scalar.muli arg0 c64_i32
  let c0_i32_4491 : BitVec 32 := 0#32
  ![61, v14890.toNat, 0]
def k0_off651 (i : grid0.Coords) : Fin 3 → Nat :=
  let c62_i32 : BitVec 32 := 62#32
  let arg0 : BitVec 32 := BitVec.ofNat 32 (i 0).val
  let c64_i32 : BitVec 32 := 64#32
  let v14890 : BitVec 32 := Scalar.muli arg0 c64_i32
  let c0_i32_4497 : BitVec 32 := 0#32
  ![62, v14890.toNat, 0]
def k0_off652 (i : grid0.Coords) : Fin 3 → Nat :=
  let c63_i32 : BitVec 32 := 63#32
  let arg0 : BitVec 32 := BitVec.ofNat 32 (i 0).val
  let c64_i32 : BitVec 32 := 64#32
  let v14890 : BitVec 32 := Scalar.muli arg0 c64_i32
  let c0_i32_4503 : BitVec 32 := 0#32
  ![63, v14890.toNat, 0]
def k0_off653 (i : grid0.Coords) : Fin 3 → Nat :=
  let c64_i32_4504 : BitVec 32 := 64#32
  let arg0 : BitVec 32 := BitVec.ofNat 32 (i 0).val
  let c64_i32 : BitVec 32 := 64#32
  let v14890 : BitVec 32 := Scalar.muli arg0 c64_i32
  let c0_i32_4510 : BitVec 32 := 0#32
  ![64, v14890.toNat, 0]
def k0_off654 (i : grid0.Coords) : Fin 3 → Nat :=
  let c65_i32_4511 : BitVec 32 := 65#32
  let arg0 : BitVec 32 := BitVec.ofNat 32 (i 0).val
  let c64_i32 : BitVec 32 := 64#32
  let v14890 : BitVec 32 := Scalar.muli arg0 c64_i32
  let c0_i32_4517 : BitVec 32 := 0#32
  ![65, v14890.toNat, 0]
def k0_off655 (i : grid0.Coords) : Fin 3 → Nat :=
  let c66_i32_4518 : BitVec 32 := 66#32
  let arg0 : BitVec 32 := BitVec.ofNat 32 (i 0).val
  let c64_i32 : BitVec 32 := 64#32
  let v14890 : BitVec 32 := Scalar.muli arg0 c64_i32
  let c0_i32_4524 : BitVec 32 := 0#32
  ![66, v14890.toNat, 0]
def k0_off656 (i : grid0.Coords) : Fin 3 → Nat :=
  let c67_i32_4525 : BitVec 32 := 67#32
  let arg0 : BitVec 32 := BitVec.ofNat 32 (i 0).val
  let c64_i32 : BitVec 32 := 64#32
  let v14890 : BitVec 32 := Scalar.muli arg0 c64_i32
  let c0_i32_4531 : BitVec 32 := 0#32
  ![67, v14890.toNat, 0]
def k0_off657 (i : grid0.Coords) : Fin 3 → Nat :=
  let c68_i32_4532 : BitVec 32 := 68#32
  let arg0 : BitVec 32 := BitVec.ofNat 32 (i 0).val
  let c64_i32 : BitVec 32 := 64#32
  let v14890 : BitVec 32 := Scalar.muli arg0 c64_i32
  let c0_i32_4538 : BitVec 32 := 0#32
  ![68, v14890.toNat, 0]
def k0_off658 (i : grid0.Coords) : Fin 3 → Nat :=
  let c69_i32_4539 : BitVec 32 := 69#32
  let arg0 : BitVec 32 := BitVec.ofNat 32 (i 0).val
  let c64_i32 : BitVec 32 := 64#32
  let v14890 : BitVec 32 := Scalar.muli arg0 c64_i32
  let c0_i32_4545 : BitVec 32 := 0#32
  ![69, v14890.toNat, 0]
def k0_off659 (i : grid0.Coords) : Fin 3 → Nat :=
  let c70_i32_4546 : BitVec 32 := 70#32
  let arg0 : BitVec 32 := BitVec.ofNat 32 (i 0).val
  let c64_i32 : BitVec 32 := 64#32
  let v14890 : BitVec 32 := Scalar.muli arg0 c64_i32
  let c0_i32_4552 : BitVec 32 := 0#32
  ![70, v14890.toNat, 0]
def k0_off660 (i : grid0.Coords) : Fin 3 → Nat :=
  let c71_i32_4553 : BitVec 32 := 71#32
  let arg0 : BitVec 32 := BitVec.ofNat 32 (i 0).val
  let c64_i32 : BitVec 32 := 64#32
  let v14890 : BitVec 32 := Scalar.muli arg0 c64_i32
  let c0_i32_4559 : BitVec 32 := 0#32
  ![71, v14890.toNat, 0]
def k0_off661 (i : grid0.Coords) : Fin 3 → Nat :=
  let c72_i32_4560 : BitVec 32 := 72#32
  let arg0 : BitVec 32 := BitVec.ofNat 32 (i 0).val
  let c64_i32 : BitVec 32 := 64#32
  let v14890 : BitVec 32 := Scalar.muli arg0 c64_i32
  let c0_i32_4566 : BitVec 32 := 0#32
  ![72, v14890.toNat, 0]
def k0_off662 (i : grid0.Coords) : Fin 3 → Nat :=
  let c73_i32_4567 : BitVec 32 := 73#32
  let arg0 : BitVec 32 := BitVec.ofNat 32 (i 0).val
  let c64_i32 : BitVec 32 := 64#32
  let v14890 : BitVec 32 := Scalar.muli arg0 c64_i32
  let c0_i32_4573 : BitVec 32 := 0#32
  ![73, v14890.toNat, 0]
def k0_off663 (i : grid0.Coords) : Fin 3 → Nat :=
  let c74_i32_4574 : BitVec 32 := 74#32
  let arg0 : BitVec 32 := BitVec.ofNat 32 (i 0).val
  let c64_i32 : BitVec 32 := 64#32
  let v14890 : BitVec 32 := Scalar.muli arg0 c64_i32
  let c0_i32_4580 : BitVec 32 := 0#32
  ![74, v14890.toNat, 0]
def k0_off664 (i : grid0.Coords) : Fin 3 → Nat :=
  let c75_i32_4581 : BitVec 32 := 75#32
  let arg0 : BitVec 32 := BitVec.ofNat 32 (i 0).val
  let c64_i32 : BitVec 32 := 64#32
  let v14890 : BitVec 32 := Scalar.muli arg0 c64_i32
  let c0_i32_4587 : BitVec 32 := 0#32
  ![75, v14890.toNat, 0]
def k0_off665 (i : grid0.Coords) : Fin 3 → Nat :=
  let c76_i32_4588 : BitVec 32 := 76#32
  let arg0 : BitVec 32 := BitVec.ofNat 32 (i 0).val
  let c64_i32 : BitVec 32 := 64#32
  let v14890 : BitVec 32 := Scalar.muli arg0 c64_i32
  let c0_i32_4594 : BitVec 32 := 0#32
  ![76, v14890.toNat, 0]
def k0_off666 (i : grid0.Coords) : Fin 3 → Nat :=
  let c77_i32_4595 : BitVec 32 := 77#32
  let arg0 : BitVec 32 := BitVec.ofNat 32 (i 0).val
  let c64_i32 : BitVec 32 := 64#32
  let v14890 : BitVec 32 := Scalar.muli arg0 c64_i32
  let c0_i32_4601 : BitVec 32 := 0#32
  ![77, v14890.toNat, 0]
def k0_off667 (i : grid0.Coords) : Fin 3 → Nat :=
  let c78_i32 : BitVec 32 := 78#32
  let arg0 : BitVec 32 := BitVec.ofNat 32 (i 0).val
  let c64_i32 : BitVec 32 := 64#32
  let v14890 : BitVec 32 := Scalar.muli arg0 c64_i32
  let c0_i32_4607 : BitVec 32 := 0#32
  ![78, v14890.toNat, 0]
def k0_off668 (i : grid0.Coords) : Fin 3 → Nat :=
  let c79_i32 : BitVec 32 := 79#32
  let arg0 : BitVec 32 := BitVec.ofNat 32 (i 0).val
  let c64_i32 : BitVec 32 := 64#32
  let v14890 : BitVec 32 := Scalar.muli arg0 c64_i32
  let c0_i32_4613 : BitVec 32 := 0#32
  ![79, v14890.toNat, 0]
def k0_off669 (i : grid0.Coords) : Fin 3 → Nat :=
  let c80_i32_4614 : BitVec 32 := 80#32
  let arg0 : BitVec 32 := BitVec.ofNat 32 (i 0).val
  let c64_i32 : BitVec 32 := 64#32
  let v14890 : BitVec 32 := Scalar.muli arg0 c64_i32
  let c0_i32_4620 : BitVec 32 := 0#32
  ![80, v14890.toNat, 0]
def k0_off670 (i : grid0.Coords) : Fin 3 → Nat :=
  let c81_i32_4621 : BitVec 32 := 81#32
  let arg0 : BitVec 32 := BitVec.ofNat 32 (i 0).val
  let c64_i32 : BitVec 32 := 64#32
  let v14890 : BitVec 32 := Scalar.muli arg0 c64_i32
  let c0_i32_4627 : BitVec 32 := 0#32
  ![81, v14890.toNat, 0]
def k0_off671 (i : grid0.Coords) : Fin 3 → Nat :=
  let c82_i32_4628 : BitVec 32 := 82#32
  let arg0 : BitVec 32 := BitVec.ofNat 32 (i 0).val
  let c64_i32 : BitVec 32 := 64#32
  let v14890 : BitVec 32 := Scalar.muli arg0 c64_i32
  let c0_i32_4634 : BitVec 32 := 0#32
  ![82, v14890.toNat, 0]
def k0_off672 (i : grid0.Coords) : Fin 3 → Nat :=
  let c83_i32_4635 : BitVec 32 := 83#32
  let arg0 : BitVec 32 := BitVec.ofNat 32 (i 0).val
  let c64_i32 : BitVec 32 := 64#32
  let v14890 : BitVec 32 := Scalar.muli arg0 c64_i32
  let c0_i32_4641 : BitVec 32 := 0#32
  ![83, v14890.toNat, 0]
def k0_off673 (i : grid0.Coords) : Fin 3 → Nat :=
  let c84_i32_4642 : BitVec 32 := 84#32
  let arg0 : BitVec 32 := BitVec.ofNat 32 (i 0).val
  let c64_i32 : BitVec 32 := 64#32
  let v14890 : BitVec 32 := Scalar.muli arg0 c64_i32
  let c0_i32_4648 : BitVec 32 := 0#32
  ![84, v14890.toNat, 0]
def k0_off674 (i : grid0.Coords) : Fin 3 → Nat :=
  let c85_i32_4649 : BitVec 32 := 85#32
  let arg0 : BitVec 32 := BitVec.ofNat 32 (i 0).val
  let c64_i32 : BitVec 32 := 64#32
  let v14890 : BitVec 32 := Scalar.muli arg0 c64_i32
  let c0_i32_4655 : BitVec 32 := 0#32
  ![85, v14890.toNat, 0]
def k0_off675 (i : grid0.Coords) : Fin 3 → Nat :=
  let c86_i32_4656 : BitVec 32 := 86#32
  let arg0 : BitVec 32 := BitVec.ofNat 32 (i 0).val
  let c64_i32 : BitVec 32 := 64#32
  let v14890 : BitVec 32 := Scalar.muli arg0 c64_i32
  let c0_i32_4662 : BitVec 32 := 0#32
  ![86, v14890.toNat, 0]
def k0_off676 (i : grid0.Coords) : Fin 3 → Nat :=
  let c87_i32_4663 : BitVec 32 := 87#32
  let arg0 : BitVec 32 := BitVec.ofNat 32 (i 0).val
  let c64_i32 : BitVec 32 := 64#32
  let v14890 : BitVec 32 := Scalar.muli arg0 c64_i32
  let c0_i32_4669 : BitVec 32 := 0#32
  ![87, v14890.toNat, 0]
def k0_off677 (i : grid0.Coords) : Fin 3 → Nat :=
  let c88_i32_4670 : BitVec 32 := 88#32
  let arg0 : BitVec 32 := BitVec.ofNat 32 (i 0).val
  let c64_i32 : BitVec 32 := 64#32
  let v14890 : BitVec 32 := Scalar.muli arg0 c64_i32
  let c0_i32_4676 : BitVec 32 := 0#32
  ![88, v14890.toNat, 0]
def k0_off678 (i : grid0.Coords) : Fin 3 → Nat :=
  let c89_i32_4677 : BitVec 32 := 89#32
  let arg0 : BitVec 32 := BitVec.ofNat 32 (i 0).val
  let c64_i32 : BitVec 32 := 64#32
  let v14890 : BitVec 32 := Scalar.muli arg0 c64_i32
  let c0_i32_4683 : BitVec 32 := 0#32
  ![89, v14890.toNat, 0]
def k0_off679 (i : grid0.Coords) : Fin 3 → Nat :=
  let c90_i32_4684 : BitVec 32 := 90#32
  let arg0 : BitVec 32 := BitVec.ofNat 32 (i 0).val
  let c64_i32 : BitVec 32 := 64#32
  let v14890 : BitVec 32 := Scalar.muli arg0 c64_i32
  let c0_i32_4690 : BitVec 32 := 0#32
  ![90, v14890.toNat, 0]
def k0_off680 (i : grid0.Coords) : Fin 3 → Nat :=
  let c91_i32_4691 : BitVec 32 := 91#32
  let arg0 : BitVec 32 := BitVec.ofNat 32 (i 0).val
  let c64_i32 : BitVec 32 := 64#32
  let v14890 : BitVec 32 := Scalar.muli arg0 c64_i32
  let c0_i32_4697 : BitVec 32 := 0#32
  ![91, v14890.toNat, 0]
def k0_off681 (i : grid0.Coords) : Fin 3 → Nat :=
  let c92_i32_4698 : BitVec 32 := 92#32
  let arg0 : BitVec 32 := BitVec.ofNat 32 (i 0).val
  let c64_i32 : BitVec 32 := 64#32
  let v14890 : BitVec 32 := Scalar.muli arg0 c64_i32
  let c0_i32_4704 : BitVec 32 := 0#32
  ![92, v14890.toNat, 0]
def k0_off682 (i : grid0.Coords) : Fin 3 → Nat :=
  let c93_i32_4705 : BitVec 32 := 93#32
  let arg0 : BitVec 32 := BitVec.ofNat 32 (i 0).val
  let c64_i32 : BitVec 32 := 64#32
  let v14890 : BitVec 32 := Scalar.muli arg0 c64_i32
  let c0_i32_4711 : BitVec 32 := 0#32
  ![93, v14890.toNat, 0]
def k0_off683 (i : grid0.Coords) : Fin 3 → Nat :=
  let c94_i32 : BitVec 32 := 94#32
  let arg0 : BitVec 32 := BitVec.ofNat 32 (i 0).val
  let c64_i32 : BitVec 32 := 64#32
  let v14890 : BitVec 32 := Scalar.muli arg0 c64_i32
  let c0_i32_4717 : BitVec 32 := 0#32
  ![94, v14890.toNat, 0]
def k0_off684 (i : grid0.Coords) : Fin 3 → Nat :=
  let c95_i32 : BitVec 32 := 95#32
  let arg0 : BitVec 32 := BitVec.ofNat 32 (i 0).val
  let c64_i32 : BitVec 32 := 64#32
  let v14890 : BitVec 32 := Scalar.muli arg0 c64_i32
  let c0_i32_4723 : BitVec 32 := 0#32
  ![95, v14890.toNat, 0]
def k0_off685 (i : grid0.Coords) : Fin 3 → Nat :=
  let c96_i32_4724 : BitVec 32 := 96#32
  let arg0 : BitVec 32 := BitVec.ofNat 32 (i 0).val
  let c64_i32 : BitVec 32 := 64#32
  let v14890 : BitVec 32 := Scalar.muli arg0 c64_i32
  let c0_i32_4730 : BitVec 32 := 0#32
  ![96, v14890.toNat, 0]
def k0_off686 (i : grid0.Coords) : Fin 3 → Nat :=
  let c97_i32_4731 : BitVec 32 := 97#32
  let arg0 : BitVec 32 := BitVec.ofNat 32 (i 0).val
  let c64_i32 : BitVec 32 := 64#32
  let v14890 : BitVec 32 := Scalar.muli arg0 c64_i32
  let c0_i32_4737 : BitVec 32 := 0#32
  ![97, v14890.toNat, 0]
def k0_off687 (i : grid0.Coords) : Fin 3 → Nat :=
  let c98_i32_4738 : BitVec 32 := 98#32
  let arg0 : BitVec 32 := BitVec.ofNat 32 (i 0).val
  let c64_i32 : BitVec 32 := 64#32
  let v14890 : BitVec 32 := Scalar.muli arg0 c64_i32
  let c0_i32_4744 : BitVec 32 := 0#32
  ![98, v14890.toNat, 0]
def k0_off688 (i : grid0.Coords) : Fin 3 → Nat :=
  let c99_i32_4745 : BitVec 32 := 99#32
  let arg0 : BitVec 32 := BitVec.ofNat 32 (i 0).val
  let c64_i32 : BitVec 32 := 64#32
  let v14890 : BitVec 32 := Scalar.muli arg0 c64_i32
  let c0_i32_4751 : BitVec 32 := 0#32
  ![99, v14890.toNat, 0]
def k0_off689 (i : grid0.Coords) : Fin 3 → Nat :=
  let c100_i32_4752 : BitVec 32 := 100#32
  let arg0 : BitVec 32 := BitVec.ofNat 32 (i 0).val
  let c64_i32 : BitVec 32 := 64#32
  let v14890 : BitVec 32 := Scalar.muli arg0 c64_i32
  let c0_i32_4758 : BitVec 32 := 0#32
  ![100, v14890.toNat, 0]
def k0_off690 (i : grid0.Coords) : Fin 3 → Nat :=
  let c101_i32_4759 : BitVec 32 := 101#32
  let arg0 : BitVec 32 := BitVec.ofNat 32 (i 0).val
  let c64_i32 : BitVec 32 := 64#32
  let v14890 : BitVec 32 := Scalar.muli arg0 c64_i32
  let c0_i32_4765 : BitVec 32 := 0#32
  ![101, v14890.toNat, 0]
def k0_off691 (i : grid0.Coords) : Fin 3 → Nat :=
  let c102_i32_4766 : BitVec 32 := 102#32
  let arg0 : BitVec 32 := BitVec.ofNat 32 (i 0).val
  let c64_i32 : BitVec 32 := 64#32
  let v14890 : BitVec 32 := Scalar.muli arg0 c64_i32
  let c0_i32_4772 : BitVec 32 := 0#32
  ![102, v14890.toNat, 0]
def k0_off692 (i : grid0.Coords) : Fin 3 → Nat :=
  let c103_i32_4773 : BitVec 32 := 103#32
  let arg0 : BitVec 32 := BitVec.ofNat 32 (i 0).val
  let c64_i32 : BitVec 32 := 64#32
  let v14890 : BitVec 32 := Scalar.muli arg0 c64_i32
  let c0_i32_4779 : BitVec 32 := 0#32
  ![103, v14890.toNat, 0]
def k0_off693 (i : grid0.Coords) : Fin 3 → Nat :=
  let c104_i32_4780 : BitVec 32 := 104#32
  let arg0 : BitVec 32 := BitVec.ofNat 32 (i 0).val
  let c64_i32 : BitVec 32 := 64#32
  let v14890 : BitVec 32 := Scalar.muli arg0 c64_i32
  let c0_i32_4786 : BitVec 32 := 0#32
  ![104, v14890.toNat, 0]
def k0_off694 (i : grid0.Coords) : Fin 3 → Nat :=
  let c105_i32_4787 : BitVec 32 := 105#32
  let arg0 : BitVec 32 := BitVec.ofNat 32 (i 0).val
  let c64_i32 : BitVec 32 := 64#32
  let v14890 : BitVec 32 := Scalar.muli arg0 c64_i32
  let c0_i32_4793 : BitVec 32 := 0#32
  ![105, v14890.toNat, 0]
def k0_off695 (i : grid0.Coords) : Fin 3 → Nat :=
  let c106_i32_4794 : BitVec 32 := 106#32
  let arg0 : BitVec 32 := BitVec.ofNat 32 (i 0).val
  let c64_i32 : BitVec 32 := 64#32
  let v14890 : BitVec 32 := Scalar.muli arg0 c64_i32
  let c0_i32_4800 : BitVec 32 := 0#32
  ![106, v14890.toNat, 0]
def k0_off696 (i : grid0.Coords) : Fin 3 → Nat :=
  let c107_i32_4801 : BitVec 32 := 107#32
  let arg0 : BitVec 32 := BitVec.ofNat 32 (i 0).val
  let c64_i32 : BitVec 32 := 64#32
  let v14890 : BitVec 32 := Scalar.muli arg0 c64_i32
  let c0_i32_4807 : BitVec 32 := 0#32
  ![107, v14890.toNat, 0]
def k0_off697 (i : grid0.Coords) : Fin 3 → Nat :=
  let c108_i32_4808 : BitVec 32 := 108#32
  let arg0 : BitVec 32 := BitVec.ofNat 32 (i 0).val
  let c64_i32 : BitVec 32 := 64#32
  let v14890 : BitVec 32 := Scalar.muli arg0 c64_i32
  let c0_i32_4814 : BitVec 32 := 0#32
  ![108, v14890.toNat, 0]
def k0_off698 (i : grid0.Coords) : Fin 3 → Nat :=
  let c109_i32_4815 : BitVec 32 := 109#32
  let arg0 : BitVec 32 := BitVec.ofNat 32 (i 0).val
  let c64_i32 : BitVec 32 := 64#32
  let v14890 : BitVec 32 := Scalar.muli arg0 c64_i32
  let c0_i32_4821 : BitVec 32 := 0#32
  ![109, v14890.toNat, 0]
def k0_off699 (i : grid0.Coords) : Fin 3 → Nat :=
  let c110_i32 : BitVec 32 := 110#32
  let arg0 : BitVec 32 := BitVec.ofNat 32 (i 0).val
  let c64_i32 : BitVec 32 := 64#32
  let v14890 : BitVec 32 := Scalar.muli arg0 c64_i32
  let c0_i32_4827 : BitVec 32 := 0#32
  ![110, v14890.toNat, 0]
def k0_off700 (i : grid0.Coords) : Fin 3 → Nat :=
  let c111_i32 : BitVec 32 := 111#32
  let arg0 : BitVec 32 := BitVec.ofNat 32 (i 0).val
  let c64_i32 : BitVec 32 := 64#32
  let v14890 : BitVec 32 := Scalar.muli arg0 c64_i32
  let c0_i32_4833 : BitVec 32 := 0#32
  ![111, v14890.toNat, 0]
def k0_off701 (i : grid0.Coords) : Fin 3 → Nat :=
  let c112_i32_4834 : BitVec 32 := 112#32
  let arg0 : BitVec 32 := BitVec.ofNat 32 (i 0).val
  let c64_i32 : BitVec 32 := 64#32
  let v14890 : BitVec 32 := Scalar.muli arg0 c64_i32
  let c0_i32_4840 : BitVec 32 := 0#32
  ![112, v14890.toNat, 0]
def k0_off702 (i : grid0.Coords) : Fin 3 → Nat :=
  let c113_i32_4841 : BitVec 32 := 113#32
  let arg0 : BitVec 32 := BitVec.ofNat 32 (i 0).val
  let c64_i32 : BitVec 32 := 64#32
  let v14890 : BitVec 32 := Scalar.muli arg0 c64_i32
  let c0_i32_4847 : BitVec 32 := 0#32
  ![113, v14890.toNat, 0]
def k0_off703 (i : grid0.Coords) : Fin 3 → Nat :=
  let c114_i32_4848 : BitVec 32 := 114#32
  let arg0 : BitVec 32 := BitVec.ofNat 32 (i 0).val
  let c64_i32 : BitVec 32 := 64#32
  let v14890 : BitVec 32 := Scalar.muli arg0 c64_i32
  let c0_i32_4854 : BitVec 32 := 0#32
  ![114, v14890.toNat, 0]
def k0_off704 (i : grid0.Coords) : Fin 3 → Nat :=
  let c115_i32_4855 : BitVec 32 := 115#32
  let arg0 : BitVec 32 := BitVec.ofNat 32 (i 0).val
  let c64_i32 : BitVec 32 := 64#32
  let v14890 : BitVec 32 := Scalar.muli arg0 c64_i32
  let c0_i32_4861 : BitVec 32 := 0#32
  ![115, v14890.toNat, 0]
def k0_off705 (i : grid0.Coords) : Fin 3 → Nat :=
  let c116_i32_4862 : BitVec 32 := 116#32
  let arg0 : BitVec 32 := BitVec.ofNat 32 (i 0).val
  let c64_i32 : BitVec 32 := 64#32
  let v14890 : BitVec 32 := Scalar.muli arg0 c64_i32
  let c0_i32_4868 : BitVec 32 := 0#32
  ![116, v14890.toNat, 0]
def k0_off706 (i : grid0.Coords) : Fin 3 → Nat :=
  let c117_i32_4869 : BitVec 32 := 117#32
  let arg0 : BitVec 32 := BitVec.ofNat 32 (i 0).val
  let c64_i32 : BitVec 32 := 64#32
  let v14890 : BitVec 32 := Scalar.muli arg0 c64_i32
  let c0_i32_4875 : BitVec 32 := 0#32
  ![117, v14890.toNat, 0]
def k0_off707 (i : grid0.Coords) : Fin 3 → Nat :=
  let c118_i32_4876 : BitVec 32 := 118#32
  let arg0 : BitVec 32 := BitVec.ofNat 32 (i 0).val
  let c64_i32 : BitVec 32 := 64#32
  let v14890 : BitVec 32 := Scalar.muli arg0 c64_i32
  let c0_i32_4882 : BitVec 32 := 0#32
  ![118, v14890.toNat, 0]
def k0_off708 (i : grid0.Coords) : Fin 3 → Nat :=
  let c119_i32_4883 : BitVec 32 := 119#32
  let arg0 : BitVec 32 := BitVec.ofNat 32 (i 0).val
  let c64_i32 : BitVec 32 := 64#32
  let v14890 : BitVec 32 := Scalar.muli arg0 c64_i32
  let c0_i32_4889 : BitVec 32 := 0#32
  ![119, v14890.toNat, 0]
def k0_off709 (i : grid0.Coords) : Fin 3 → Nat :=
  let c120_i32_4890 : BitVec 32 := 120#32
  let arg0 : BitVec 32 := BitVec.ofNat 32 (i 0).val
  let c64_i32 : BitVec 32 := 64#32
  let v14890 : BitVec 32 := Scalar.muli arg0 c64_i32
  let c0_i32_4896 : BitVec 32 := 0#32
  ![120, v14890.toNat, 0]
def k0_off710 (i : grid0.Coords) : Fin 3 → Nat :=
  let c121_i32_4897 : BitVec 32 := 121#32
  let arg0 : BitVec 32 := BitVec.ofNat 32 (i 0).val
  let c64_i32 : BitVec 32 := 64#32
  let v14890 : BitVec 32 := Scalar.muli arg0 c64_i32
  let c0_i32_4903 : BitVec 32 := 0#32
  ![121, v14890.toNat, 0]
def k0_off711 (i : grid0.Coords) : Fin 3 → Nat :=
  let c122_i32_4904 : BitVec 32 := 122#32
  let arg0 : BitVec 32 := BitVec.ofNat 32 (i 0).val
  let c64_i32 : BitVec 32 := 64#32
  let v14890 : BitVec 32 := Scalar.muli arg0 c64_i32
  let c0_i32_4910 : BitVec 32 := 0#32
  ![122, v14890.toNat, 0]
def k0_off712 (i : grid0.Coords) : Fin 3 → Nat :=
  let c123_i32_4911 : BitVec 32 := 123#32
  let arg0 : BitVec 32 := BitVec.ofNat 32 (i 0).val
  let c64_i32 : BitVec 32 := 64#32
  let v14890 : BitVec 32 := Scalar.muli arg0 c64_i32
  let c0_i32_4917 : BitVec 32 := 0#32
  ![123, v14890.toNat, 0]
def k0_off713 (i : grid0.Coords) : Fin 3 → Nat :=
  let c124_i32_4918 : BitVec 32 := 124#32
  let arg0 : BitVec 32 := BitVec.ofNat 32 (i 0).val
  let c64_i32 : BitVec 32 := 64#32
  let v14890 : BitVec 32 := Scalar.muli arg0 c64_i32
  let c0_i32_4924 : BitVec 32 := 0#32
  ![124, v14890.toNat, 0]
def k0_off714 (i : grid0.Coords) : Fin 3 → Nat :=
  let c125_i32_4925 : BitVec 32 := 125#32
  let arg0 : BitVec 32 := BitVec.ofNat 32 (i 0).val
  let c64_i32 : BitVec 32 := 64#32
  let v14890 : BitVec 32 := Scalar.muli arg0 c64_i32
  let c0_i32_4931 : BitVec 32 := 0#32
  ![125, v14890.toNat, 0]
def k0_off715 (i : grid0.Coords) : Fin 3 → Nat :=
  let c126_i32 : BitVec 32 := 126#32
  let arg0 : BitVec 32 := BitVec.ofNat 32 (i 0).val
  let c64_i32 : BitVec 32 := 64#32
  let v14890 : BitVec 32 := Scalar.muli arg0 c64_i32
  let c0_i32_4937 : BitVec 32 := 0#32
  ![126, v14890.toNat, 0]
def k0_off716 (i : grid0.Coords) : Fin 3 → Nat :=
  let c127_i32 : BitVec 32 := 127#32
  let arg0 : BitVec 32 := BitVec.ofNat 32 (i 0).val
  let c64_i32 : BitVec 32 := 64#32
  let v14890 : BitVec 32 := Scalar.muli arg0 c64_i32
  let c0_i32_4943 : BitVec 32 := 0#32
  ![127, v14890.toNat, 0]
def k0_off717 (i : grid0.Coords) : Fin 3 → Nat :=
  let c128_i32_4944 : BitVec 32 := 128#32
  let arg0 : BitVec 32 := BitVec.ofNat 32 (i 0).val
  let c64_i32 : BitVec 32 := 64#32
  let v14890 : BitVec 32 := Scalar.muli arg0 c64_i32
  let c0_i32_4950 : BitVec 32 := 0#32
  ![128, v14890.toNat, 0]
def k0_off718 (i : grid0.Coords) : Fin 3 → Nat :=
  let c129_i32_4951 : BitVec 32 := 129#32
  let arg0 : BitVec 32 := BitVec.ofNat 32 (i 0).val
  let c64_i32 : BitVec 32 := 64#32
  let v14890 : BitVec 32 := Scalar.muli arg0 c64_i32
  let c0_i32_4957 : BitVec 32 := 0#32
  ![129, v14890.toNat, 0]
def k0_off719 (i : grid0.Coords) : Fin 3 → Nat :=
  let c130_i32_4958 : BitVec 32 := 130#32
  let arg0 : BitVec 32 := BitVec.ofNat 32 (i 0).val
  let c64_i32 : BitVec 32 := 64#32
  let v14890 : BitVec 32 := Scalar.muli arg0 c64_i32
  let c0_i32_4964 : BitVec 32 := 0#32
  ![130, v14890.toNat, 0]
def k0_off720 (i : grid0.Coords) : Fin 3 → Nat :=
  let c131_i32_4965 : BitVec 32 := 131#32
  let arg0 : BitVec 32 := BitVec.ofNat 32 (i 0).val
  let c64_i32 : BitVec 32 := 64#32
  let v14890 : BitVec 32 := Scalar.muli arg0 c64_i32
  let c0_i32_4971 : BitVec 32 := 0#32
  ![131, v14890.toNat, 0]
def k0_off721 (i : grid0.Coords) : Fin 3 → Nat :=
  let c132_i32_4972 : BitVec 32 := 132#32
  let arg0 : BitVec 32 := BitVec.ofNat 32 (i 0).val
  let c64_i32 : BitVec 32 := 64#32
  let v14890 : BitVec 32 := Scalar.muli arg0 c64_i32
  let c0_i32_4978 : BitVec 32 := 0#32
  ![132, v14890.toNat, 0]
def k0_off722 (i : grid0.Coords) : Fin 3 → Nat :=
  let c133_i32_4979 : BitVec 32 := 133#32
  let arg0 : BitVec 32 := BitVec.ofNat 32 (i 0).val
  let c64_i32 : BitVec 32 := 64#32
  let v14890 : BitVec 32 := Scalar.muli arg0 c64_i32
  let c0_i32_4985 : BitVec 32 := 0#32
  ![133, v14890.toNat, 0]
def k0_off723 (i : grid0.Coords) : Fin 3 → Nat :=
  let c134_i32_4986 : BitVec 32 := 134#32
  let arg0 : BitVec 32 := BitVec.ofNat 32 (i 0).val
  let c64_i32 : BitVec 32 := 64#32
  let v14890 : BitVec 32 := Scalar.muli arg0 c64_i32
  let c0_i32_4992 : BitVec 32 := 0#32
  ![134, v14890.toNat, 0]
def k0_off724 (i : grid0.Coords) : Fin 3 → Nat :=
  let c135_i32_4993 : BitVec 32 := 135#32
  let arg0 : BitVec 32 := BitVec.ofNat 32 (i 0).val
  let c64_i32 : BitVec 32 := 64#32
  let v14890 : BitVec 32 := Scalar.muli arg0 c64_i32
  let c0_i32_4999 : BitVec 32 := 0#32
  ![135, v14890.toNat, 0]
def k0_off725 (i : grid0.Coords) : Fin 3 → Nat :=
  let c136_i32_5000 : BitVec 32 := 136#32
  let arg0 : BitVec 32 := BitVec.ofNat 32 (i 0).val
  let c64_i32 : BitVec 32 := 64#32
  let v14890 : BitVec 32 := Scalar.muli arg0 c64_i32
  let c0_i32_5006 : BitVec 32 := 0#32
  ![136, v14890.toNat, 0]
def k0_off726 (i : grid0.Coords) : Fin 3 → Nat :=
  let c137_i32_5007 : BitVec 32 := 137#32
  let arg0 : BitVec 32 := BitVec.ofNat 32 (i 0).val
  let c64_i32 : BitVec 32 := 64#32
  let v14890 : BitVec 32 := Scalar.muli arg0 c64_i32
  let c0_i32_5013 : BitVec 32 := 0#32
  ![137, v14890.toNat, 0]
def k0_off727 (i : grid0.Coords) : Fin 3 → Nat :=
  let c138_i32_5014 : BitVec 32 := 138#32
  let arg0 : BitVec 32 := BitVec.ofNat 32 (i 0).val
  let c64_i32 : BitVec 32 := 64#32
  let v14890 : BitVec 32 := Scalar.muli arg0 c64_i32
  let c0_i32_5020 : BitVec 32 := 0#32
  ![138, v14890.toNat, 0]
def k0_off728 (i : grid0.Coords) : Fin 3 → Nat :=
  let c139_i32_5021 : BitVec 32 := 139#32
  let arg0 : BitVec 32 := BitVec.ofNat 32 (i 0).val
  let c64_i32 : BitVec 32 := 64#32
  let v14890 : BitVec 32 := Scalar.muli arg0 c64_i32
  let c0_i32_5027 : BitVec 32 := 0#32
  ![139, v14890.toNat, 0]
def k0_off729 (i : grid0.Coords) : Fin 3 → Nat :=
  let c140_i32_5028 : BitVec 32 := 140#32
  let arg0 : BitVec 32 := BitVec.ofNat 32 (i 0).val
  let c64_i32 : BitVec 32 := 64#32
  let v14890 : BitVec 32 := Scalar.muli arg0 c64_i32
  let c0_i32_5034 : BitVec 32 := 0#32
  ![140, v14890.toNat, 0]
def k0_off730 (i : grid0.Coords) : Fin 3 → Nat :=
  let c141_i32_5035 : BitVec 32 := 141#32
  let arg0 : BitVec 32 := BitVec.ofNat 32 (i 0).val
  let c64_i32 : BitVec 32 := 64#32
  let v14890 : BitVec 32 := Scalar.muli arg0 c64_i32
  let c0_i32_5041 : BitVec 32 := 0#32
  ![141, v14890.toNat, 0]
def k0_off731 (i : grid0.Coords) : Fin 3 → Nat :=
  let c142_i32 : BitVec 32 := 142#32
  let arg0 : BitVec 32 := BitVec.ofNat 32 (i 0).val
  let c64_i32 : BitVec 32 := 64#32
  let v14890 : BitVec 32 := Scalar.muli arg0 c64_i32
  let c0_i32_5047 : BitVec 32 := 0#32
  ![142, v14890.toNat, 0]
def k0_off732 (i : grid0.Coords) : Fin 3 → Nat :=
  let c143_i32 : BitVec 32 := 143#32
  let arg0 : BitVec 32 := BitVec.ofNat 32 (i 0).val
  let c64_i32 : BitVec 32 := 64#32
  let v14890 : BitVec 32 := Scalar.muli arg0 c64_i32
  let c0_i32_5053 : BitVec 32 := 0#32
  ![143, v14890.toNat, 0]
def k0_off733 (i : grid0.Coords) : Fin 3 → Nat :=
  let c144_i32_5054 : BitVec 32 := 144#32
  let arg0 : BitVec 32 := BitVec.ofNat 32 (i 0).val
  let c64_i32 : BitVec 32 := 64#32
  let v14890 : BitVec 32 := Scalar.muli arg0 c64_i32
  let c0_i32_5060 : BitVec 32 := 0#32
  ![144, v14890.toNat, 0]
def k0_off734 (i : grid0.Coords) : Fin 3 → Nat :=
  let c145_i32_5061 : BitVec 32 := 145#32
  let arg0 : BitVec 32 := BitVec.ofNat 32 (i 0).val
  let c64_i32 : BitVec 32 := 64#32
  let v14890 : BitVec 32 := Scalar.muli arg0 c64_i32
  let c0_i32_5067 : BitVec 32 := 0#32
  ![145, v14890.toNat, 0]
def k0_off735 (i : grid0.Coords) : Fin 3 → Nat :=
  let c146_i32_5068 : BitVec 32 := 146#32
  let arg0 : BitVec 32 := BitVec.ofNat 32 (i 0).val
  let c64_i32 : BitVec 32 := 64#32
  let v14890 : BitVec 32 := Scalar.muli arg0 c64_i32
  let c0_i32_5074 : BitVec 32 := 0#32
  ![146, v14890.toNat, 0]
def k0_off736 (i : grid0.Coords) : Fin 3 → Nat :=
  let c147_i32_5075 : BitVec 32 := 147#32
  let arg0 : BitVec 32 := BitVec.ofNat 32 (i 0).val
  let c64_i32 : BitVec 32 := 64#32
  let v14890 : BitVec 32 := Scalar.muli arg0 c64_i32
  let c0_i32_5081 : BitVec 32 := 0#32
  ![147, v14890.toNat, 0]
def k0_off737 (i : grid0.Coords) : Fin 3 → Nat :=
  let c148_i32_5082 : BitVec 32 := 148#32
  let arg0 : BitVec 32 := BitVec.ofNat 32 (i 0).val
  let c64_i32 : BitVec 32 := 64#32
  let v14890 : BitVec 32 := Scalar.muli arg0 c64_i32
  let c0_i32_5088 : BitVec 32 := 0#32
  ![148, v14890.toNat, 0]
def k0_off738 (i : grid0.Coords) : Fin 3 → Nat :=
  let c149_i32_5089 : BitVec 32 := 149#32
  let arg0 : BitVec 32 := BitVec.ofNat 32 (i 0).val
  let c64_i32 : BitVec 32 := 64#32
  let v14890 : BitVec 32 := Scalar.muli arg0 c64_i32
  let c0_i32_5095 : BitVec 32 := 0#32
  ![149, v14890.toNat, 0]
def k0_off739 (i : grid0.Coords) : Fin 3 → Nat :=
  let c150_i32_5096 : BitVec 32 := 150#32
  let arg0 : BitVec 32 := BitVec.ofNat 32 (i 0).val
  let c64_i32 : BitVec 32 := 64#32
  let v14890 : BitVec 32 := Scalar.muli arg0 c64_i32
  let c0_i32_5102 : BitVec 32 := 0#32
  ![150, v14890.toNat, 0]
def k0_off740 (i : grid0.Coords) : Fin 3 → Nat :=
  let c151_i32_5103 : BitVec 32 := 151#32
  let arg0 : BitVec 32 := BitVec.ofNat 32 (i 0).val
  let c64_i32 : BitVec 32 := 64#32
  let v14890 : BitVec 32 := Scalar.muli arg0 c64_i32
  let c0_i32_5109 : BitVec 32 := 0#32
  ![151, v14890.toNat, 0]
def k0_off741 (i : grid0.Coords) : Fin 3 → Nat :=
  let c152_i32_5110 : BitVec 32 := 152#32
  let arg0 : BitVec 32 := BitVec.ofNat 32 (i 0).val
  let c64_i32 : BitVec 32 := 64#32
  let v14890 : BitVec 32 := Scalar.muli arg0 c64_i32
  let c0_i32_5116 : BitVec 32 := 0#32
  ![152, v14890.toNat, 0]
def k0_off742 (i : grid0.Coords) : Fin 3 → Nat :=
  let c153_i32_5117 : BitVec 32 := 153#32
  let arg0 : BitVec 32 := BitVec.ofNat 32 (i 0).val
  let c64_i32 : BitVec 32 := 64#32
  let v14890 : BitVec 32 := Scalar.muli arg0 c64_i32
  let c0_i32_5123 : BitVec 32 := 0#32
  ![153, v14890.toNat, 0]
def k0_off743 (i : grid0.Coords) : Fin 3 → Nat :=
  let c154_i32_5124 : BitVec 32 := 154#32
  let arg0 : BitVec 32 := BitVec.ofNat 32 (i 0).val
  let c64_i32 : BitVec 32 := 64#32
  let v14890 : BitVec 32 := Scalar.muli arg0 c64_i32
  let c0_i32_5130 : BitVec 32 := 0#32
  ![154, v14890.toNat, 0]
def k0_off744 (i : grid0.Coords) : Fin 3 → Nat :=
  let c155_i32_5131 : BitVec 32 := 155#32
  let arg0 : BitVec 32 := BitVec.ofNat 32 (i 0).val
  let c64_i32 : BitVec 32 := 64#32
  let v14890 : BitVec 32 := Scalar.muli arg0 c64_i32
  let c0_i32_5137 : BitVec 32 := 0#32
  ![155, v14890.toNat, 0]
def k0_off745 (i : grid0.Coords) : Fin 3 → Nat :=
  let c156_i32_5138 : BitVec 32 := 156#32
  let arg0 : BitVec 32 := BitVec.ofNat 32 (i 0).val
  let c64_i32 : BitVec 32 := 64#32
  let v14890 : BitVec 32 := Scalar.muli arg0 c64_i32
  let c0_i32_5144 : BitVec 32 := 0#32
  ![156, v14890.toNat, 0]
def k0_off746 (i : grid0.Coords) : Fin 3 → Nat :=
  let c157_i32_5145 : BitVec 32 := 157#32
  let arg0 : BitVec 32 := BitVec.ofNat 32 (i 0).val
  let c64_i32 : BitVec 32 := 64#32
  let v14890 : BitVec 32 := Scalar.muli arg0 c64_i32
  let c0_i32_5151 : BitVec 32 := 0#32
  ![157, v14890.toNat, 0]
def k0_off747 (i : grid0.Coords) : Fin 3 → Nat :=
  let c158_i32 : BitVec 32 := 158#32
  let arg0 : BitVec 32 := BitVec.ofNat 32 (i 0).val
  let c64_i32 : BitVec 32 := 64#32
  let v14890 : BitVec 32 := Scalar.muli arg0 c64_i32
  let c0_i32_5157 : BitVec 32 := 0#32
  ![158, v14890.toNat, 0]
def k0_off748 (i : grid0.Coords) : Fin 3 → Nat :=
  let c159_i32 : BitVec 32 := 159#32
  let arg0 : BitVec 32 := BitVec.ofNat 32 (i 0).val
  let c64_i32 : BitVec 32 := 64#32
  let v14890 : BitVec 32 := Scalar.muli arg0 c64_i32
  let c0_i32_5163 : BitVec 32 := 0#32
  ![159, v14890.toNat, 0]
def k0_off749 (i : grid0.Coords) : Fin 3 → Nat :=
  let c160_i32_5164 : BitVec 32 := 160#32
  let arg0 : BitVec 32 := BitVec.ofNat 32 (i 0).val
  let c64_i32 : BitVec 32 := 64#32
  let v14890 : BitVec 32 := Scalar.muli arg0 c64_i32
  let c0_i32_5170 : BitVec 32 := 0#32
  ![160, v14890.toNat, 0]
def k0_off750 (i : grid0.Coords) : Fin 3 → Nat :=
  let c161_i32_5171 : BitVec 32 := 161#32
  let arg0 : BitVec 32 := BitVec.ofNat 32 (i 0).val
  let c64_i32 : BitVec 32 := 64#32
  let v14890 : BitVec 32 := Scalar.muli arg0 c64_i32
  let c0_i32_5177 : BitVec 32 := 0#32
  ![161, v14890.toNat, 0]
def k0_off751 (i : grid0.Coords) : Fin 3 → Nat :=
  let c162_i32_5178 : BitVec 32 := 162#32
  let arg0 : BitVec 32 := BitVec.ofNat 32 (i 0).val
  let c64_i32 : BitVec 32 := 64#32
  let v14890 : BitVec 32 := Scalar.muli arg0 c64_i32
  let c0_i32_5184 : BitVec 32 := 0#32
  ![162, v14890.toNat, 0]
def k0_off752 (i : grid0.Coords) : Fin 3 → Nat :=
  let c163_i32_5185 : BitVec 32 := 163#32
  let arg0 : BitVec 32 := BitVec.ofNat 32 (i 0).val
  let c64_i32 : BitVec 32 := 64#32
  let v14890 : BitVec 32 := Scalar.muli arg0 c64_i32
  let c0_i32_5191 : BitVec 32 := 0#32
  ![163, v14890.toNat, 0]
def k0_off753 (i : grid0.Coords) : Fin 3 → Nat :=
  let c164_i32_5192 : BitVec 32 := 164#32
  let arg0 : BitVec 32 := BitVec.ofNat 32 (i 0).val
  let c64_i32 : BitVec 32 := 64#32
  let v14890 : BitVec 32 := Scalar.muli arg0 c64_i32
  let c0_i32_5198 : BitVec 32 := 0#32
  ![164, v14890.toNat, 0]
def k0_off754 (i : grid0.Coords) : Fin 3 → Nat :=
  let c165_i32_5199 : BitVec 32 := 165#32
  let arg0 : BitVec 32 := BitVec.ofNat 32 (i 0).val
  let c64_i32 : BitVec 32 := 64#32
  let v14890 : BitVec 32 := Scalar.muli arg0 c64_i32
  let c0_i32_5205 : BitVec 32 := 0#32
  ![165, v14890.toNat, 0]
def k0_off755 (i : grid0.Coords) : Fin 3 → Nat :=
  let c166_i32_5206 : BitVec 32 := 166#32
  let arg0 : BitVec 32 := BitVec.ofNat 32 (i 0).val
  let c64_i32 : BitVec 32 := 64#32
  let v14890 : BitVec 32 := Scalar.muli arg0 c64_i32
  let c0_i32_5212 : BitVec 32 := 0#32
  ![166, v14890.toNat, 0]
def k0_off756 (i : grid0.Coords) : Fin 3 → Nat :=
  let c167_i32_5213 : BitVec 32 := 167#32
  let arg0 : BitVec 32 := BitVec.ofNat 32 (i 0).val
  let c64_i32 : BitVec 32 := 64#32
  let v14890 : BitVec 32 := Scalar.muli arg0 c64_i32
  let c0_i32_5219 : BitVec 32 := 0#32
  ![167, v14890.toNat, 0]
def k0_off757 (i : grid0.Coords) : Fin 3 → Nat :=
  let c168_i32_5220 : BitVec 32 := 168#32
  let arg0 : BitVec 32 := BitVec.ofNat 32 (i 0).val
  let c64_i32 : BitVec 32 := 64#32
  let v14890 : BitVec 32 := Scalar.muli arg0 c64_i32
  let c0_i32_5226 : BitVec 32 := 0#32
  ![168, v14890.toNat, 0]
def k0_off758 (i : grid0.Coords) : Fin 3 → Nat :=
  let c169_i32_5227 : BitVec 32 := 169#32
  let arg0 : BitVec 32 := BitVec.ofNat 32 (i 0).val
  let c64_i32 : BitVec 32 := 64#32
  let v14890 : BitVec 32 := Scalar.muli arg0 c64_i32
  let c0_i32_5233 : BitVec 32 := 0#32
  ![169, v14890.toNat, 0]
def k0_off759 (i : grid0.Coords) : Fin 3 → Nat :=
  let c170_i32_5234 : BitVec 32 := 170#32
  let arg0 : BitVec 32 := BitVec.ofNat 32 (i 0).val
  let c64_i32 : BitVec 32 := 64#32
  let v14890 : BitVec 32 := Scalar.muli arg0 c64_i32
  let c0_i32_5240 : BitVec 32 := 0#32
  ![170, v14890.toNat, 0]
def k0_off760 (i : grid0.Coords) : Fin 3 → Nat :=
  let c171_i32_5241 : BitVec 32 := 171#32
  let arg0 : BitVec 32 := BitVec.ofNat 32 (i 0).val
  let c64_i32 : BitVec 32 := 64#32
  let v14890 : BitVec 32 := Scalar.muli arg0 c64_i32
  let c0_i32_5247 : BitVec 32 := 0#32
  ![171, v14890.toNat, 0]
def k0_off761 (i : grid0.Coords) : Fin 3 → Nat :=
  let c172_i32_5248 : BitVec 32 := 172#32
  let arg0 : BitVec 32 := BitVec.ofNat 32 (i 0).val
  let c64_i32 : BitVec 32 := 64#32
  let v14890 : BitVec 32 := Scalar.muli arg0 c64_i32
  let c0_i32_5254 : BitVec 32 := 0#32
  ![172, v14890.toNat, 0]
def k0_off762 (i : grid0.Coords) : Fin 3 → Nat :=
  let c173_i32_5255 : BitVec 32 := 173#32
  let arg0 : BitVec 32 := BitVec.ofNat 32 (i 0).val
  let c64_i32 : BitVec 32 := 64#32
  let v14890 : BitVec 32 := Scalar.muli arg0 c64_i32
  let c0_i32_5261 : BitVec 32 := 0#32
  ![173, v14890.toNat, 0]
def k0_off763 (i : grid0.Coords) : Fin 3 → Nat :=
  let c174_i32 : BitVec 32 := 174#32
  let arg0 : BitVec 32 := BitVec.ofNat 32 (i 0).val
  let c64_i32 : BitVec 32 := 64#32
  let v14890 : BitVec 32 := Scalar.muli arg0 c64_i32
  let c0_i32_5267 : BitVec 32 := 0#32
  ![174, v14890.toNat, 0]
def k0_off764 (i : grid0.Coords) : Fin 3 → Nat :=
  let c175_i32 : BitVec 32 := 175#32
  let arg0 : BitVec 32 := BitVec.ofNat 32 (i 0).val
  let c64_i32 : BitVec 32 := 64#32
  let v14890 : BitVec 32 := Scalar.muli arg0 c64_i32
  let c0_i32_5273 : BitVec 32 := 0#32
  ![175, v14890.toNat, 0]
def k0_off765 (i : grid0.Coords) : Fin 3 → Nat :=
  let c176_i32_5274 : BitVec 32 := 176#32
  let arg0 : BitVec 32 := BitVec.ofNat 32 (i 0).val
  let c64_i32 : BitVec 32 := 64#32
  let v14890 : BitVec 32 := Scalar.muli arg0 c64_i32
  let c0_i32_5280 : BitVec 32 := 0#32
  ![176, v14890.toNat, 0]
def k0_off766 (i : grid0.Coords) : Fin 3 → Nat :=
  let c177_i32_5281 : BitVec 32 := 177#32
  let arg0 : BitVec 32 := BitVec.ofNat 32 (i 0).val
  let c64_i32 : BitVec 32 := 64#32
  let v14890 : BitVec 32 := Scalar.muli arg0 c64_i32
  let c0_i32_5287 : BitVec 32 := 0#32
  ![177, v14890.toNat, 0]
def k0_off767 (i : grid0.Coords) : Fin 3 → Nat :=
  let c178_i32_5288 : BitVec 32 := 178#32
  let arg0 : BitVec 32 := BitVec.ofNat 32 (i 0).val
  let c64_i32 : BitVec 32 := 64#32
  let v14890 : BitVec 32 := Scalar.muli arg0 c64_i32
  let c0_i32_5294 : BitVec 32 := 0#32
  ![178, v14890.toNat, 0]
def k0_off768 (i : grid0.Coords) : Fin 3 → Nat :=
  let c179_i32_5295 : BitVec 32 := 179#32
  let arg0 : BitVec 32 := BitVec.ofNat 32 (i 0).val
  let c64_i32 : BitVec 32 := 64#32
  let v14890 : BitVec 32 := Scalar.muli arg0 c64_i32
  let c0_i32_5301 : BitVec 32 := 0#32
  ![179, v14890.toNat, 0]
def k0_off769 (i : grid0.Coords) : Fin 3 → Nat :=
  let c180_i32_5302 : BitVec 32 := 180#32
  let arg0 : BitVec 32 := BitVec.ofNat 32 (i 0).val
  let c64_i32 : BitVec 32 := 64#32
  let v14890 : BitVec 32 := Scalar.muli arg0 c64_i32
  let c0_i32_5308 : BitVec 32 := 0#32
  ![180, v14890.toNat, 0]
def k0_off770 (i : grid0.Coords) : Fin 3 → Nat :=
  let c181_i32_5309 : BitVec 32 := 181#32
  let arg0 : BitVec 32 := BitVec.ofNat 32 (i 0).val
  let c64_i32 : BitVec 32 := 64#32
  let v14890 : BitVec 32 := Scalar.muli arg0 c64_i32
  let c0_i32_5315 : BitVec 32 := 0#32
  ![181, v14890.toNat, 0]
def k0_off771 (i : grid0.Coords) : Fin 3 → Nat :=
  let c182_i32_5316 : BitVec 32 := 182#32
  let arg0 : BitVec 32 := BitVec.ofNat 32 (i 0).val
  let c64_i32 : BitVec 32 := 64#32
  let v14890 : BitVec 32 := Scalar.muli arg0 c64_i32
  let c0_i32_5322 : BitVec 32 := 0#32
  ![182, v14890.toNat, 0]
def k0_off772 (i : grid0.Coords) : Fin 3 → Nat :=
  let c183_i32_5323 : BitVec 32 := 183#32
  let arg0 : BitVec 32 := BitVec.ofNat 32 (i 0).val
  let c64_i32 : BitVec 32 := 64#32
  let v14890 : BitVec 32 := Scalar.muli arg0 c64_i32
  let c0_i32_5329 : BitVec 32 := 0#32
  ![183, v14890.toNat, 0]
def k0_off773 (i : grid0.Coords) : Fin 3 → Nat :=
  let c184_i32_5330 : BitVec 32 := 184#32
  let arg0 : BitVec 32 := BitVec.ofNat 32 (i 0).val
  let c64_i32 : BitVec 32 := 64#32
  let v14890 : BitVec 32 := Scalar.muli arg0 c64_i32
  let c0_i32_5336 : BitVec 32 := 0#32
  ![184, v14890.toNat, 0]
def k0_off774 (i : grid0.Coords) : Fin 3 → Nat :=
  let c185_i32_5337 : BitVec 32 := 185#32
  let arg0 : BitVec 32 := BitVec.ofNat 32 (i 0).val
  let c64_i32 : BitVec 32 := 64#32
  let v14890 : BitVec 32 := Scalar.muli arg0 c64_i32
  let c0_i32_5343 : BitVec 32 := 0#32
  ![185, v14890.toNat, 0]
def k0_off775 (i : grid0.Coords) : Fin 3 → Nat :=
  let c186_i32_5344 : BitVec 32 := 186#32
  let arg0 : BitVec 32 := BitVec.ofNat 32 (i 0).val
  let c64_i32 : BitVec 32 := 64#32
  let v14890 : BitVec 32 := Scalar.muli arg0 c64_i32
  let c0_i32_5350 : BitVec 32 := 0#32
  ![186, v14890.toNat, 0]
def k0_off776 (i : grid0.Coords) : Fin 3 → Nat :=
  let c187_i32_5351 : BitVec 32 := 187#32
  let arg0 : BitVec 32 := BitVec.ofNat 32 (i 0).val
  let c64_i32 : BitVec 32 := 64#32
  let v14890 : BitVec 32 := Scalar.muli arg0 c64_i32
  let c0_i32_5357 : BitVec 32 := 0#32
  ![187, v14890.toNat, 0]
def k0_off777 (i : grid0.Coords) : Fin 3 → Nat :=
  let c188_i32_5358 : BitVec 32 := 188#32
  let arg0 : BitVec 32 := BitVec.ofNat 32 (i 0).val
  let c64_i32 : BitVec 32 := 64#32
  let v14890 : BitVec 32 := Scalar.muli arg0 c64_i32
  let c0_i32_5364 : BitVec 32 := 0#32
  ![188, v14890.toNat, 0]
def k0_off778 (i : grid0.Coords) : Fin 3 → Nat :=
  let c189_i32_5365 : BitVec 32 := 189#32
  let arg0 : BitVec 32 := BitVec.ofNat 32 (i 0).val
  let c64_i32 : BitVec 32 := 64#32
  let v14890 : BitVec 32 := Scalar.muli arg0 c64_i32
  let c0_i32_5371 : BitVec 32 := 0#32
  ![189, v14890.toNat, 0]
def k0_off779 (i : grid0.Coords) : Fin 3 → Nat :=
  let c190_i32 : BitVec 32 := 190#32
  let arg0 : BitVec 32 := BitVec.ofNat 32 (i 0).val
  let c64_i32 : BitVec 32 := 64#32
  let v14890 : BitVec 32 := Scalar.muli arg0 c64_i32
  let c0_i32_5377 : BitVec 32 := 0#32
  ![190, v14890.toNat, 0]
def k0_off780 (i : grid0.Coords) : Fin 3 → Nat :=
  let c191_i32 : BitVec 32 := 191#32
  let arg0 : BitVec 32 := BitVec.ofNat 32 (i 0).val
  let c64_i32 : BitVec 32 := 64#32
  let v14890 : BitVec 32 := Scalar.muli arg0 c64_i32
  let c0_i32_5383 : BitVec 32 := 0#32
  ![191, v14890.toNat, 0]
def k0_off781 (i : grid0.Coords) : Fin 3 → Nat :=
  let c192_i32_5384 : BitVec 32 := 192#32
  let arg0 : BitVec 32 := BitVec.ofNat 32 (i 0).val
  let c64_i32 : BitVec 32 := 64#32
  let v14890 : BitVec 32 := Scalar.muli arg0 c64_i32
  let c0_i32_5390 : BitVec 32 := 0#32
  ![192, v14890.toNat, 0]
def k0_off782 (i : grid0.Coords) : Fin 3 → Nat :=
  let c193_i32_5391 : BitVec 32 := 193#32
  let arg0 : BitVec 32 := BitVec.ofNat 32 (i 0).val
  let c64_i32 : BitVec 32 := 64#32
  let v14890 : BitVec 32 := Scalar.muli arg0 c64_i32
  let c0_i32_5397 : BitVec 32 := 0#32
  ![193, v14890.toNat, 0]
def k0_off783 (i : grid0.Coords) : Fin 3 → Nat :=
  let c194_i32_5398 : BitVec 32 := 194#32
  let arg0 : BitVec 32 := BitVec.ofNat 32 (i 0).val
  let c64_i32 : BitVec 32 := 64#32
  let v14890 : BitVec 32 := Scalar.muli arg0 c64_i32
  let c0_i32_5404 : BitVec 32 := 0#32
  ![194, v14890.toNat, 0]
def k0_off784 (i : grid0.Coords) : Fin 3 → Nat :=
  let c195_i32_5405 : BitVec 32 := 195#32
  let arg0 : BitVec 32 := BitVec.ofNat 32 (i 0).val
  let c64_i32 : BitVec 32 := 64#32
  let v14890 : BitVec 32 := Scalar.muli arg0 c64_i32
  let c0_i32_5411 : BitVec 32 := 0#32
  ![195, v14890.toNat, 0]
def k0_off785 (i : grid0.Coords) : Fin 4 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v40 : Index := Scalar.indexCast v12
  let c0_23 : Index := 0#32
  let c0_24 : Index := 0#32
  let c0_25 : Index := 0#32
  ![v40.toNat, 0, 0, 0]
def k0_off786 (i : grid0.Coords) : Fin 4 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v46 : Index := Scalar.indexCast v12
  let c1 : Index := 1#32
  let c0_26 : Index := 0#32
  let c0_27 : Index := 0#32
  ![v46.toNat, 1, 0, 0]
def k0_off787 (i : grid0.Coords) : Fin 4 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v52 : Index := Scalar.indexCast v12
  let c2 : Index := 2#32
  let c0_29 : Index := 0#32
  let c0_30 : Index := 0#32
  ![v52.toNat, 2, 0, 0]
def k0_off788 (i : grid0.Coords) : Fin 4 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v58 : Index := Scalar.indexCast v12
  let c3 : Index := 3#32
  let c0_32 : Index := 0#32
  let c0_33 : Index := 0#32
  ![v58.toNat, 3, 0, 0]
def k0_off789 (i : grid0.Coords) : Fin 4 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v64 : Index := Scalar.indexCast v12
  let c4 : Index := 4#32
  let c0_35 : Index := 0#32
  let c0_36 : Index := 0#32
  ![v64.toNat, 4, 0, 0]
def k0_off790 (i : grid0.Coords) : Fin 4 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v70 : Index := Scalar.indexCast v12
  let c5 : Index := 5#32
  let c0_38 : Index := 0#32
  let c0_39 : Index := 0#32
  ![v70.toNat, 5, 0, 0]
def k0_off791 (i : grid0.Coords) : Fin 4 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v76 : Index := Scalar.indexCast v12
  let c6 : Index := 6#32
  let c0_41 : Index := 0#32
  let c0_42 : Index := 0#32
  ![v76.toNat, 6, 0, 0]
def k0_off792 (i : grid0.Coords) : Fin 4 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v82 : Index := Scalar.indexCast v12
  let c7 : Index := 7#32
  let c0_44 : Index := 0#32
  let c0_45 : Index := 0#32
  ![v82.toNat, 7, 0, 0]
def k0_off793 (i : grid0.Coords) : Fin 4 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v88 : Index := Scalar.indexCast v12
  let c8 : Index := 8#32
  let c0_47 : Index := 0#32
  let c0_48 : Index := 0#32
  ![v88.toNat, 8, 0, 0]
def k0_off794 (i : grid0.Coords) : Fin 4 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v94 : Index := Scalar.indexCast v12
  let c9 : Index := 9#32
  let c0_50 : Index := 0#32
  let c0_51 : Index := 0#32
  ![v94.toNat, 9, 0, 0]
def k0_off795 (i : grid0.Coords) : Fin 4 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v100 : Index := Scalar.indexCast v12
  let c10 : Index := 10#32
  let c0_53 : Index := 0#32
  let c0_54 : Index := 0#32
  ![v100.toNat, 10, 0, 0]
def k0_off796 (i : grid0.Coords) : Fin 4 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v106 : Index := Scalar.indexCast v12
  let c11 : Index := 11#32
  let c0_56 : Index := 0#32
  let c0_57 : Index := 0#32
  ![v106.toNat, 11, 0, 0]
def k0_off797 (i : grid0.Coords) : Fin 4 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v112 : Index := Scalar.indexCast v12
  let c12 : Index := 12#32
  let c0_59 : Index := 0#32
  let c0_60 : Index := 0#32
  ![v112.toNat, 12, 0, 0]
def k0_off798 (i : grid0.Coords) : Fin 4 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v118 : Index := Scalar.indexCast v12
  let c13 : Index := 13#32
  let c0_62 : Index := 0#32
  let c0_63 : Index := 0#32
  ![v118.toNat, 13, 0, 0]
def k0_off799 (i : grid0.Coords) : Fin 4 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v124 : Index := Scalar.indexCast v12
  let c14 : Index := 14#32
  let c0_65 : Index := 0#32
  let c0_66 : Index := 0#32
  ![v124.toNat, 14, 0, 0]
def k0_off800 (i : grid0.Coords) : Fin 4 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v130 : Index := Scalar.indexCast v12
  let c15 : Index := 15#32
  let c0_68 : Index := 0#32
  let c0_69 : Index := 0#32
  ![v130.toNat, 15, 0, 0]
def k0_off801 (i : grid0.Coords) : Fin 4 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v136 : Index := Scalar.indexCast v12
  let c16 : Index := 16#32
  let c0_71 : Index := 0#32
  let c0_72 : Index := 0#32
  ![v136.toNat, 16, 0, 0]
def k0_off802 (i : grid0.Coords) : Fin 4 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v142 : Index := Scalar.indexCast v12
  let c17 : Index := 17#32
  let c0_74 : Index := 0#32
  let c0_75 : Index := 0#32
  ![v142.toNat, 17, 0, 0]
def k0_off803 (i : grid0.Coords) : Fin 4 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v148 : Index := Scalar.indexCast v12
  let c18 : Index := 18#32
  let c0_77 : Index := 0#32
  let c0_78 : Index := 0#32
  ![v148.toNat, 18, 0, 0]
def k0_off804 (i : grid0.Coords) : Fin 4 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v154 : Index := Scalar.indexCast v12
  let c19 : Index := 19#32
  let c0_80 : Index := 0#32
  let c0_81 : Index := 0#32
  ![v154.toNat, 19, 0, 0]
def k0_off805 (i : grid0.Coords) : Fin 4 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v160 : Index := Scalar.indexCast v12
  let c20 : Index := 20#32
  let c0_83 : Index := 0#32
  let c0_84 : Index := 0#32
  ![v160.toNat, 20, 0, 0]
def k0_off806 (i : grid0.Coords) : Fin 4 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v166 : Index := Scalar.indexCast v12
  let c21 : Index := 21#32
  let c0_86 : Index := 0#32
  let c0_87 : Index := 0#32
  ![v166.toNat, 21, 0, 0]
def k0_off807 (i : grid0.Coords) : Fin 4 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v172 : Index := Scalar.indexCast v12
  let c22 : Index := 22#32
  let c0_89 : Index := 0#32
  let c0_90 : Index := 0#32
  ![v172.toNat, 22, 0, 0]
def k0_off808 (i : grid0.Coords) : Fin 4 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v178 : Index := Scalar.indexCast v12
  let c23 : Index := 23#32
  let c0_92 : Index := 0#32
  let c0_93 : Index := 0#32
  ![v178.toNat, 23, 0, 0]
def k0_off809 (i : grid0.Coords) : Fin 4 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v184 : Index := Scalar.indexCast v12
  let c24 : Index := 24#32
  let c0_95 : Index := 0#32
  let c0_96 : Index := 0#32
  ![v184.toNat, 24, 0, 0]
def k0_off810 (i : grid0.Coords) : Fin 4 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v190 : Index := Scalar.indexCast v12
  let c25 : Index := 25#32
  let c0_98 : Index := 0#32
  let c0_99 : Index := 0#32
  ![v190.toNat, 25, 0, 0]
def k0_off811 (i : grid0.Coords) : Fin 4 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v196 : Index := Scalar.indexCast v12
  let c26 : Index := 26#32
  let c0_101 : Index := 0#32
  let c0_102 : Index := 0#32
  ![v196.toNat, 26, 0, 0]
def k0_off812 (i : grid0.Coords) : Fin 4 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v202 : Index := Scalar.indexCast v12
  let c27 : Index := 27#32
  let c0_104 : Index := 0#32
  let c0_105 : Index := 0#32
  ![v202.toNat, 27, 0, 0]
def k0_off813 (i : grid0.Coords) : Fin 4 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v208 : Index := Scalar.indexCast v12
  let c28 : Index := 28#32
  let c0_107 : Index := 0#32
  let c0_108 : Index := 0#32
  ![v208.toNat, 28, 0, 0]
def k0_off814 (i : grid0.Coords) : Fin 4 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v214 : Index := Scalar.indexCast v12
  let c29 : Index := 29#32
  let c0_110 : Index := 0#32
  let c0_111 : Index := 0#32
  ![v214.toNat, 29, 0, 0]
def k0_off815 (i : grid0.Coords) : Fin 4 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v220 : Index := Scalar.indexCast v12
  let c30 : Index := 30#32
  let c0_113 : Index := 0#32
  let c0_114 : Index := 0#32
  ![v220.toNat, 30, 0, 0]
def k0_off816 (i : grid0.Coords) : Fin 4 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v226 : Index := Scalar.indexCast v12
  let c31 : Index := 31#32
  let c0_116 : Index := 0#32
  let c0_117 : Index := 0#32
  ![v226.toNat, 31, 0, 0]
def k0_off817 (i : grid0.Coords) : Fin 4 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v232 : Index := Scalar.indexCast v12
  let c32 : Index := 32#32
  let c0_119 : Index := 0#32
  let c0_120 : Index := 0#32
  ![v232.toNat, 32, 0, 0]
def k0_off818 (i : grid0.Coords) : Fin 4 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v238 : Index := Scalar.indexCast v12
  let c33 : Index := 33#32
  let c0_122 : Index := 0#32
  let c0_123 : Index := 0#32
  ![v238.toNat, 33, 0, 0]
def k0_off819 (i : grid0.Coords) : Fin 4 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v244 : Index := Scalar.indexCast v12
  let c34 : Index := 34#32
  let c0_125 : Index := 0#32
  let c0_126 : Index := 0#32
  ![v244.toNat, 34, 0, 0]
def k0_off820 (i : grid0.Coords) : Fin 4 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v250 : Index := Scalar.indexCast v12
  let c35 : Index := 35#32
  let c0_128 : Index := 0#32
  let c0_129 : Index := 0#32
  ![v250.toNat, 35, 0, 0]
def k0_off821 (i : grid0.Coords) : Fin 4 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v256 : Index := Scalar.indexCast v12
  let c36 : Index := 36#32
  let c0_131 : Index := 0#32
  let c0_132 : Index := 0#32
  ![v256.toNat, 36, 0, 0]
def k0_off822 (i : grid0.Coords) : Fin 4 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v262 : Index := Scalar.indexCast v12
  let c37 : Index := 37#32
  let c0_134 : Index := 0#32
  let c0_135 : Index := 0#32
  ![v262.toNat, 37, 0, 0]
def k0_off823 (i : grid0.Coords) : Fin 4 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v268 : Index := Scalar.indexCast v12
  let c38 : Index := 38#32
  let c0_137 : Index := 0#32
  let c0_138 : Index := 0#32
  ![v268.toNat, 38, 0, 0]
def k0_off824 (i : grid0.Coords) : Fin 4 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v274 : Index := Scalar.indexCast v12
  let c39 : Index := 39#32
  let c0_140 : Index := 0#32
  let c0_141 : Index := 0#32
  ![v274.toNat, 39, 0, 0]
def k0_off825 (i : grid0.Coords) : Fin 4 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v280 : Index := Scalar.indexCast v12
  let c40 : Index := 40#32
  let c0_143 : Index := 0#32
  let c0_144 : Index := 0#32
  ![v280.toNat, 40, 0, 0]
def k0_off826 (i : grid0.Coords) : Fin 4 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v286 : Index := Scalar.indexCast v12
  let c41 : Index := 41#32
  let c0_146 : Index := 0#32
  let c0_147 : Index := 0#32
  ![v286.toNat, 41, 0, 0]
def k0_off827 (i : grid0.Coords) : Fin 4 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v292 : Index := Scalar.indexCast v12
  let c42 : Index := 42#32
  let c0_149 : Index := 0#32
  let c0_150 : Index := 0#32
  ![v292.toNat, 42, 0, 0]
def k0_off828 (i : grid0.Coords) : Fin 4 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v298 : Index := Scalar.indexCast v12
  let c43 : Index := 43#32
  let c0_152 : Index := 0#32
  let c0_153 : Index := 0#32
  ![v298.toNat, 43, 0, 0]
def k0_off829 (i : grid0.Coords) : Fin 4 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v304 : Index := Scalar.indexCast v12
  let c44 : Index := 44#32
  let c0_155 : Index := 0#32
  let c0_156 : Index := 0#32
  ![v304.toNat, 44, 0, 0]
def k0_off830 (i : grid0.Coords) : Fin 4 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v310 : Index := Scalar.indexCast v12
  let c45 : Index := 45#32
  let c0_158 : Index := 0#32
  let c0_159 : Index := 0#32
  ![v310.toNat, 45, 0, 0]
def k0_off831 (i : grid0.Coords) : Fin 4 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v316 : Index := Scalar.indexCast v12
  let c46 : Index := 46#32
  let c0_161 : Index := 0#32
  let c0_162 : Index := 0#32
  ![v316.toNat, 46, 0, 0]
def k0_off832 (i : grid0.Coords) : Fin 4 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v322 : Index := Scalar.indexCast v12
  let c47 : Index := 47#32
  let c0_164 : Index := 0#32
  let c0_165 : Index := 0#32
  ![v322.toNat, 47, 0, 0]
def k0_off833 (i : grid0.Coords) : Fin 4 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v328 : Index := Scalar.indexCast v12
  let c48 : Index := 48#32
  let c0_167 : Index := 0#32
  let c0_168 : Index := 0#32
  ![v328.toNat, 48, 0, 0]
def k0_off834 (i : grid0.Coords) : Fin 4 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v334 : Index := Scalar.indexCast v12
  let c49 : Index := 49#32
  let c0_170 : Index := 0#32
  let c0_171 : Index := 0#32
  ![v334.toNat, 49, 0, 0]
def k0_off835 (i : grid0.Coords) : Fin 4 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v340 : Index := Scalar.indexCast v12
  let c50 : Index := 50#32
  let c0_173 : Index := 0#32
  let c0_174 : Index := 0#32
  ![v340.toNat, 50, 0, 0]
def k0_off836 (i : grid0.Coords) : Fin 4 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v346 : Index := Scalar.indexCast v12
  let c51 : Index := 51#32
  let c0_176 : Index := 0#32
  let c0_177 : Index := 0#32
  ![v346.toNat, 51, 0, 0]
def k0_off837 (i : grid0.Coords) : Fin 4 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v352 : Index := Scalar.indexCast v12
  let c52 : Index := 52#32
  let c0_179 : Index := 0#32
  let c0_180 : Index := 0#32
  ![v352.toNat, 52, 0, 0]
def k0_off838 (i : grid0.Coords) : Fin 4 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v358 : Index := Scalar.indexCast v12
  let c53 : Index := 53#32
  let c0_182 : Index := 0#32
  let c0_183 : Index := 0#32
  ![v358.toNat, 53, 0, 0]
def k0_off839 (i : grid0.Coords) : Fin 4 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v364 : Index := Scalar.indexCast v12
  let c54 : Index := 54#32
  let c0_185 : Index := 0#32
  let c0_186 : Index := 0#32
  ![v364.toNat, 54, 0, 0]
def k0_off840 (i : grid0.Coords) : Fin 4 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v370 : Index := Scalar.indexCast v12
  let c55 : Index := 55#32
  let c0_188 : Index := 0#32
  let c0_189 : Index := 0#32
  ![v370.toNat, 55, 0, 0]
def k0_off841 (i : grid0.Coords) : Fin 4 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v376 : Index := Scalar.indexCast v12
  let c56 : Index := 56#32
  let c0_191 : Index := 0#32
  let c0_192 : Index := 0#32
  ![v376.toNat, 56, 0, 0]
def k0_off842 (i : grid0.Coords) : Fin 4 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v382 : Index := Scalar.indexCast v12
  let c57 : Index := 57#32
  let c0_194 : Index := 0#32
  let c0_195 : Index := 0#32
  ![v382.toNat, 57, 0, 0]
def k0_off843 (i : grid0.Coords) : Fin 4 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v388 : Index := Scalar.indexCast v12
  let c58 : Index := 58#32
  let c0_197 : Index := 0#32
  let c0_198 : Index := 0#32
  ![v388.toNat, 58, 0, 0]
def k0_off844 (i : grid0.Coords) : Fin 4 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v394 : Index := Scalar.indexCast v12
  let c59 : Index := 59#32
  let c0_200 : Index := 0#32
  let c0_201 : Index := 0#32
  ![v394.toNat, 59, 0, 0]
def k0_off845 (i : grid0.Coords) : Fin 4 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v400 : Index := Scalar.indexCast v12
  let c60 : Index := 60#32
  let c0_203 : Index := 0#32
  let c0_204 : Index := 0#32
  ![v400.toNat, 60, 0, 0]
def k0_off846 (i : grid0.Coords) : Fin 4 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v406 : Index := Scalar.indexCast v12
  let c61 : Index := 61#32
  let c0_206 : Index := 0#32
  let c0_207 : Index := 0#32
  ![v406.toNat, 61, 0, 0]
def k0_off847 (i : grid0.Coords) : Fin 4 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v412 : Index := Scalar.indexCast v12
  let c62 : Index := 62#32
  let c0_209 : Index := 0#32
  let c0_210 : Index := 0#32
  ![v412.toNat, 62, 0, 0]
def k0_off848 (i : grid0.Coords) : Fin 4 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v418 : Index := Scalar.indexCast v12
  let c63 : Index := 63#32
  let c0_212 : Index := 0#32
  let c0_213 : Index := 0#32
  ![v418.toNat, 63, 0, 0]
def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S128x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S64x2x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S1024x256x14x14 : Shape := ⟨4, ![1024, 256, 14, 14]⟩
abbrev S256x128 : Shape := ⟨2, ![256, 128]⟩
abbrev S128x128 : Shape := ⟨2, ![128, 128]⟩
abbrev S128x2 : Shape := ⟨2, ![128, 2]⟩
abbrev S128 : Shape := ⟨1, ![128]⟩
abbrev S128x1 : Shape := ⟨2, ![128, 1]⟩
abbrev S1x128x2 : Shape := ⟨3, ![1, 128, 2]⟩
abbrev S1024x128x2 : Shape := ⟨3, ![1024, 128, 2]⟩
abbrev S2 : Shape := ⟨1, ![2]⟩
abbrev S_ : Shape := ⟨0, ![]⟩
abbrev S4 : Shape := ⟨1, ![4]⟩
abbrev S1x4 : Shape := ⟨2, ![1, 4]⟩
abbrev S128x4 : Shape := ⟨2, ![128, 4]⟩
abbrev S1024x128x1 : Shape := ⟨3, ![1024, 128, 1]⟩
abbrev S1024x128 : Shape := ⟨2, ![1024, 128]⟩
abbrev S1024x256x196 : Shape := ⟨3, ![1024, 256, 196]⟩
abbrev S1024x1x128 : Shape := ⟨3, ![1024, 1, 128]⟩
abbrev S1 : Shape := ⟨1, ![1]⟩
abbrev S1x1x1 : Shape := ⟨3, ![1, 1, 1]⟩
abbrev S1024x256x128 : Shape := ⟨3, ![1024, 256, 128]⟩
abbrev S1024x128x256 : Shape := ⟨3, ![1024, 128, 256]⟩
abbrev S128x4x1 : Shape := ⟨3, ![128, 4, 1]⟩
abbrev S1024x128x4x256 : Shape := ⟨4, ![1024, 128, 4, 256]⟩
abbrev S1024x128x128 : Shape := ⟨3, ![1024, 128, 128]⟩
abbrev S1024x128x4x128 : Shape := ⟨4, ![1024, 128, 4, 128]⟩

abbrev nBuf : Space → Nat
  | .hbm => 756
  | .vmem => 0
  | .smem => 0
  | _ => 0

abbrev hbmTy0_0 (i : Nat) : BufTy := match i % 128 with
  | 0 => ⟨S1024x256x14x14, .f32⟩
  | 1 => ⟨S256x128, .f32⟩
  | 2 => ⟨S128x128, .f32⟩
  | 3 => ⟨S128x2, .f32⟩
  | 4 => ⟨S128, .f32⟩
  | 5 => ⟨S128, .f32⟩
  | 6 => ⟨S128x1, .f32⟩
  | 7 => ⟨S128x1, .f32⟩
  | 8 => ⟨S128x2, .f32⟩
  | 9 => ⟨S1x128x2, .f32⟩
  | 10 => ⟨S1024x128x2, .f32⟩
  | 11 => ⟨S2, .i32⟩
  | 12 => ⟨S_, .i32⟩
  | 13 => ⟨S2, .i32⟩
  | 14 => ⟨S2, .i32⟩
  | 15 => ⟨S2, .i32⟩
  | 16 => ⟨S_, .i32⟩
  | 17 => ⟨S2, .i32⟩
  | 18 => ⟨S2, .i32⟩
  | 19 => ⟨S4, .i32⟩
  | 20 => ⟨S128, .i32⟩
  | 21 => ⟨S128x1, .i32⟩
  | 22 => ⟨S1x4, .i32⟩
  | 23 => ⟨S128x4, .i32⟩
  | 24 => ⟨S128x4, .i32⟩
  | 25 => ⟨S128x4, .i32⟩
  | 26 => ⟨S_, .i32⟩
  | 27 => ⟨S_, .i32⟩
  | 28 => ⟨S_, .i32⟩
  | 29 => ⟨S_, .i1⟩
  | 30 => ⟨S_, .i32⟩
  | 31 => ⟨S_, .i32⟩
  | 32 => ⟨S128x4, .i32⟩
  | 33 => ⟨S128x4, .i32⟩
  | 34 => ⟨S_, .i32⟩
  | 35 => ⟨S128x4, .i32⟩
  | 36 => ⟨S128x4, .i1⟩
  | 37 => ⟨S_, .i32⟩
  | 38 => ⟨S128x4, .i32⟩
  | 39 => ⟨S128x4, .i1⟩
  | 40 => ⟨S_, .i32⟩
  | 41 => ⟨S_, .i1⟩
  | 42 => ⟨S128x4, .i1⟩
  | 43 => ⟨S128x4, .i1⟩
  | 44 => ⟨S128x4, .i1⟩
  | 45 => ⟨S128x4, .i32⟩
  | 46 => ⟨S128x4, .i32⟩
  | 47 => ⟨S128x4, .i32⟩
  | 48 => ⟨S1024x128x1, .f32⟩
  | 49 => ⟨S1024x128, .f32⟩
  | 50 => ⟨S_, .f32⟩
  | 51 => ⟨S_, .f32⟩
  | 52 => ⟨S_, .f32⟩
  | 53 => ⟨S1024x128, .f32⟩
  | 54 => ⟨S1024x128, .f32⟩
  | 55 => ⟨S_, .f32⟩
  | 56 => ⟨S1024x128, .f32⟩
  | 57 => ⟨S1024x128, .f32⟩
  | 58 => ⟨S1024x128x1, .f32⟩
  | 59 => ⟨S1024x128, .f32⟩
  | 60 => ⟨S_, .f32⟩
  | 61 => ⟨S_, .f32⟩
  | 62 => ⟨S_, .f32⟩
  | 63 => ⟨S1024x128, .f32⟩
  | 64 => ⟨S1024x128, .f32⟩
  | 65 => ⟨S_, .f32⟩
  | 66 => ⟨S1024x128, .f32⟩
  | 67 => ⟨S1024x128, .f32⟩
  | 68 => ⟨S1024x128, .f32⟩
  | 69 => ⟨S1024x128, .f32⟩
  | 70 => ⟨S1024x128, .f32⟩
  | 71 => ⟨S1024x128, .f32⟩
  | 72 => ⟨S1024x128, .i32⟩
  | 73 => ⟨S1024x128, .i32⟩
  | 74 => ⟨S_, .i32⟩
  | 75 => ⟨S1024x128, .i32⟩
  | 76 => ⟨S1024x128, .i32⟩
  | 77 => ⟨S_, .i32⟩
  | 78 => ⟨S_, .i32⟩
  | 79 => ⟨S_, .i32⟩
  | 80 => ⟨S1024x128, .i32⟩
  | 81 => ⟨S1024x128, .i32⟩
  | 82 => ⟨S_, .i32⟩
  | 83 => ⟨S1024x128, .i32⟩
  | 84 => ⟨S1024x128, .i32⟩
  | 85 => ⟨S_, .i32⟩
  | 86 => ⟨S1024x128, .i32⟩
  | 87 => ⟨S1024x128, .i32⟩
  | 88 => ⟨S_, .i32⟩
  | 89 => ⟨S_, .i32⟩
  | 90 => ⟨S_, .i32⟩
  | 91 => ⟨S1024x128, .i32⟩
  | 92 => ⟨S1024x128, .i32⟩
  | 93 => ⟨S_, .i32⟩
  | 94 => ⟨S1024x128, .i32⟩
  | 95 => ⟨S1024x128, .i32⟩
  | 96 => ⟨S1024x256x196, .f32⟩
  | 97 => ⟨S_, .i32⟩
  | 98 => ⟨S1024x128, .i32⟩
  | 99 => ⟨S1024x128, .i32⟩
  | 100 => ⟨S1024x128, .i32⟩
  | 101 => ⟨S1024x1x128, .i32⟩
  | 102 => ⟨S_, .i32⟩
  | 103 => ⟨S1024x1x128, .i32⟩
  | 104 => ⟨S1024x1x128, .i1⟩
  | 105 => ⟨S_, .i32⟩
  | 106 => ⟨S1024x1x128, .i32⟩
  | 107 => ⟨S1024x1x128, .i32⟩
  | 108 => ⟨S1024x1x128, .i32⟩
  | 109 => ⟨S1024x128x1, .i32⟩
  | 110 => ⟨S1, .i32⟩
  | 111 => ⟨S_, .i32⟩
  | 112 => ⟨S1024x128x1, .i32⟩
  | 113 => ⟨S1024x128x1, .i1⟩
  | 114 => ⟨S1x1x1, .i32⟩
  | 115 => ⟨S1024x128x1, .i32⟩
  | 116 => ⟨S1024x128x1, .i1⟩
  | 117 => ⟨S1024x128x1, .i1⟩
  | 118 => ⟨S_, .i1⟩
  | 119 => ⟨S1024x128, .i1⟩
  | 120 => ⟨S1024x256x128, .f32⟩
  | 121 => ⟨S1024x256x128, .i1⟩
  | 122 => ⟨S_, .f32⟩
  | 123 => ⟨S1024x256x128, .f32⟩
  | 124 => ⟨S1024x256x128, .f32⟩
  | 125 => ⟨S_, .i32⟩
  | 126 => ⟨S1024x128, .i32⟩
  | 127 => ⟨S1024x128, .i32⟩
  | _ => ⟨S1024x256x14x14, .f32⟩

abbrev hbmTy0_1 (i : Nat) : BufTy := match i % 128 with
  | 0 => ⟨S1024x128, .i32⟩
  | 1 => ⟨S1024x1x128, .i32⟩
  | 2 => ⟨S_, .i32⟩
  | 3 => ⟨S1024x1x128, .i32⟩
  | 4 => ⟨S1024x1x128, .i1⟩
  | 5 => ⟨S_, .i32⟩
  | 6 => ⟨S1024x1x128, .i32⟩
  | 7 => ⟨S1024x1x128, .i32⟩
  | 8 => ⟨S1024x1x128, .i32⟩
  | 9 => ⟨S1024x128x1, .i32⟩
  | 10 => ⟨S1, .i32⟩
  | 11 => ⟨S_, .i32⟩
  | 12 => ⟨S1024x128x1, .i32⟩
  | 13 => ⟨S1024x128x1, .i1⟩
  | 14 => ⟨S1x1x1, .i32⟩
  | 15 => ⟨S1024x128x1, .i32⟩
  | 16 => ⟨S1024x128x1, .i1⟩
  | 17 => ⟨S1024x128x1, .i1⟩
  | 18 => ⟨S_, .i1⟩
  | 19 => ⟨S1024x128, .i1⟩
  | 20 => ⟨S1024x256x128, .f32⟩
  | 21 => ⟨S1024x256x128, .i1⟩
  | 22 => ⟨S_, .f32⟩
  | 23 => ⟨S1024x256x128, .f32⟩
  | 24 => ⟨S1024x256x128, .f32⟩
  | 25 => ⟨S_, .i32⟩
  | 26 => ⟨S1024x128, .i32⟩
  | 27 => ⟨S1024x128, .i32⟩
  | 28 => ⟨S1024x128, .i32⟩
  | 29 => ⟨S1024x1x128, .i32⟩
  | 30 => ⟨S_, .i32⟩
  | 31 => ⟨S1024x1x128, .i32⟩
  | 32 => ⟨S1024x1x128, .i1⟩
  | 33 => ⟨S_, .i32⟩
  | 34 => ⟨S1024x1x128, .i32⟩
  | 35 => ⟨S1024x1x128, .i32⟩
  | 36 => ⟨S1024x1x128, .i32⟩
  | 37 => ⟨S1024x128x1, .i32⟩
  | 38 => ⟨S1, .i32⟩
  | 39 => ⟨S_, .i32⟩
  | 40 => ⟨S1024x128x1, .i32⟩
  | 41 => ⟨S1024x128x1, .i1⟩
  | 42 => ⟨S1x1x1, .i32⟩
  | 43 => ⟨S1024x128x1, .i32⟩
  | 44 => ⟨S1024x128x1, .i1⟩
  | 45 => ⟨S1024x128x1, .i1⟩
  | 46 => ⟨S_, .i1⟩
  | 47 => ⟨S1024x128, .i1⟩
  | 48 => ⟨S1024x256x128, .f32⟩
  | 49 => ⟨S1024x256x128, .i1⟩
  | 50 => ⟨S_, .f32⟩
  | 51 => ⟨S1024x256x128, .f32⟩
  | 52 => ⟨S1024x256x128, .f32⟩
  | 53 => ⟨S_, .i32⟩
  | 54 => ⟨S1024x128, .i32⟩
  | 55 => ⟨S1024x128, .i32⟩
  | 56 => ⟨S1024x128, .i32⟩
  | 57 => ⟨S1024x1x128, .i32⟩
  | 58 => ⟨S_, .i32⟩
  | 59 => ⟨S1024x1x128, .i32⟩
  | 60 => ⟨S1024x1x128, .i1⟩
  | 61 => ⟨S_, .i32⟩
  | 62 => ⟨S1024x1x128, .i32⟩
  | 63 => ⟨S1024x1x128, .i32⟩
  | 64 => ⟨S1024x1x128, .i32⟩
  | 65 => ⟨S1024x128x1, .i32⟩
  | 66 => ⟨S1, .i32⟩
  | 67 => ⟨S_, .i32⟩
  | 68 => ⟨S1024x128x1, .i32⟩
  | 69 => ⟨S1024x128x1, .i1⟩
  | 70 => ⟨S1x1x1, .i32⟩
  | 71 => ⟨S1024x128x1, .i32⟩
  | 72 => ⟨S1024x128x1, .i1⟩
  | 73 => ⟨S1024x128x1, .i1⟩
  | 74 => ⟨S_, .i1⟩
  | 75 => ⟨S1024x128, .i1⟩
  | 76 => ⟨S1024x256x128, .f32⟩
  | 77 => ⟨S1024x256x128, .i1⟩
  | 78 => ⟨S_, .f32⟩
  | 79 => ⟨S1024x256x128, .f32⟩
  | 80 => ⟨S1024x256x128, .f32⟩
  | 81 => ⟨S1024x1x128, .f32⟩
  | 82 => ⟨S1024x1x128, .f32⟩
  | 83 => ⟨S_, .f32⟩
  | 84 => ⟨S1024x1x128, .f32⟩
  | 85 => ⟨S1024x1x128, .f32⟩
  | 86 => ⟨S1024x256x128, .f32⟩
  | 87 => ⟨S1024x256x128, .f32⟩
  | 88 => ⟨S_, .f32⟩
  | 89 => ⟨S1024x1x128, .f32⟩
  | 90 => ⟨S1024x1x128, .f32⟩
  | 91 => ⟨S1024x256x128, .f32⟩
  | 92 => ⟨S1024x256x128, .f32⟩
  | 93 => ⟨S1024x256x128, .f32⟩
  | 94 => ⟨S1024x256x128, .f32⟩
  | 95 => ⟨S_, .f32⟩
  | 96 => ⟨S1024x1x128, .f32⟩
  | 97 => ⟨S1024x1x128, .f32⟩
  | 98 => ⟨S1024x256x128, .f32⟩
  | 99 => ⟨S1024x256x128, .f32⟩
  | 100 => ⟨S1024x256x128, .f32⟩
  | 101 => ⟨S_, .f32⟩
  | 102 => ⟨S1024x1x128, .f32⟩
  | 103 => ⟨S1024x1x128, .f32⟩
  | 104 => ⟨S1024x256x128, .f32⟩
  | 105 => ⟨S1024x256x128, .f32⟩
  | 106 => ⟨S1024x256x128, .f32⟩
  | 107 => ⟨S1024x256x128, .f32⟩
  | 108 => ⟨S1024x256x128, .f32⟩
  | 109 => ⟨S1024x256x128, .f32⟩
  | 110 => ⟨S1024x256x128, .f32⟩
  | 111 => ⟨S1024x256x128, .f32⟩
  | 112 => ⟨S1024x256x128, .f32⟩
  | 113 => ⟨S1024x256x128, .f32⟩
  | 114 => ⟨S1024x128x256, .f32⟩
  | 115 => ⟨S_, .i32⟩
  | 116 => ⟨S128x4, .i32⟩
  | 117 => ⟨S128x4, .i1⟩
  | 118 => ⟨S_, .i32⟩
  | 119 => ⟨S128x4, .i32⟩
  | 120 => ⟨S128x4, .i32⟩
  | 121 => ⟨S128x4, .i32⟩
  | 122 => ⟨S128x4x1, .i32⟩
  | 123 => ⟨S1024x128x4x256, .f32⟩
  | 124 => ⟨S_, .f32⟩
  | 125 => ⟨S1024x128x256, .f32⟩
  | 126 => ⟨S_, .f32⟩
  | 127 => ⟨S1024x128x256, .f32⟩
  | _ => ⟨S1024x256x14x14, .f32⟩

abbrev hbmTy0_2 (i : Nat) : BufTy := match i % 128 with
  | 0 => ⟨S1024x128x256, .f32⟩
  | 1 => ⟨S1024x128x256, .f32⟩
  | 2 => ⟨S1024x128x128, .f32⟩
  | 3 => ⟨S_, .f32⟩
  | 4 => ⟨S1024x128x128, .f32⟩
  | 5 => ⟨S1024x128x128, .f32⟩
  | 6 => ⟨S_, .i32⟩
  | 7 => ⟨S128x4, .i32⟩
  | 8 => ⟨S128x4, .i1⟩
  | 9 => ⟨S_, .i32⟩
  | 10 => ⟨S128x4, .i32⟩
  | 11 => ⟨S128x4, .i32⟩
  | 12 => ⟨S128x4, .i32⟩
  | 13 => ⟨S128x4x1, .i32⟩
  | 14 => ⟨S1024x128x4x128, .f32⟩
  | 15 => ⟨S_, .f32⟩
  | 16 => ⟨S1024x128x128, .f32⟩
  | 17 => ⟨S_, .f32⟩
  | 18 => ⟨S1024x128x128, .f32⟩
  | 19 => ⟨S1024x128x128, .f32⟩
  | 20 => ⟨S1024x128x128, .f32⟩
  | 21 => ⟨S1024x128x128, .f32⟩
  | 22 => ⟨S_, .f32⟩
  | 23 => ⟨S1024x128x128, .f32⟩
  | 24 => ⟨S1024x128x128, .f32⟩
  | 25 => ⟨S1024x128x2, .f32⟩
  | 26 => ⟨S1024x128x2, .f32⟩
  | 27 => ⟨S1024x128x2, .f32⟩
  | 28 => ⟨S1024x128x1, .f32⟩
  | 29 => ⟨S1024x128, .f32⟩
  | 30 => ⟨S_, .f32⟩
  | 31 => ⟨S_, .f32⟩
  | 32 => ⟨S_, .f32⟩
  | 33 => ⟨S1024x128, .f32⟩
  | 34 => ⟨S1024x128, .f32⟩
  | 35 => ⟨S_, .f32⟩
  | 36 => ⟨S1024x128, .f32⟩
  | 37 => ⟨S1024x128, .f32⟩
  | 38 => ⟨S1024x128x1, .f32⟩
  | 39 => ⟨S1024x128, .f32⟩
  | 40 => ⟨S_, .f32⟩
  | 41 => ⟨S_, .f32⟩
  | 42 => ⟨S_, .f32⟩
  | 43 => ⟨S1024x128, .f32⟩
  | 44 => ⟨S1024x128, .f32⟩
  | 45 => ⟨S_, .f32⟩
  | 46 => ⟨S1024x128, .f32⟩
  | 47 => ⟨S1024x128, .f32⟩
  | 48 => ⟨S1024x128, .f32⟩
  | 49 => ⟨S1024x128, .f32⟩
  | 50 => ⟨S1024x128, .f32⟩
  | 51 => ⟨S1024x128, .f32⟩
  | 52 => ⟨S1024x128, .i32⟩
  | 53 => ⟨S1024x128, .i32⟩
  | 54 => ⟨S_, .i32⟩
  | 55 => ⟨S1024x128, .i32⟩
  | 56 => ⟨S1024x128, .i32⟩
  | 57 => ⟨S_, .i32⟩
  | 58 => ⟨S_, .i32⟩
  | 59 => ⟨S_, .i32⟩
  | 60 => ⟨S1024x128, .i32⟩
  | 61 => ⟨S1024x128, .i32⟩
  | 62 => ⟨S_, .i32⟩
  | 63 => ⟨S1024x128, .i32⟩
  | 64 => ⟨S1024x128, .i32⟩
  | 65 => ⟨S_, .i32⟩
  | 66 => ⟨S1024x128, .i32⟩
  | 67 => ⟨S1024x128, .i32⟩
  | 68 => ⟨S_, .i32⟩
  | 69 => ⟨S_, .i32⟩
  | 70 => ⟨S_, .i32⟩
  | 71 => ⟨S1024x128, .i32⟩
  | 72 => ⟨S1024x128, .i32⟩
  | 73 => ⟨S_, .i32⟩
  | 74 => ⟨S1024x128, .i32⟩
  | 75 => ⟨S1024x128, .i32⟩
  | 76 => ⟨S1024x256x196, .f32⟩
  | 77 => ⟨S_, .i32⟩
  | 78 => ⟨S1024x128, .i32⟩
  | 79 => ⟨S1024x128, .i32⟩
  | 80 => ⟨S1024x128, .i32⟩
  | 81 => ⟨S1024x1x128, .i32⟩
  | 82 => ⟨S_, .i32⟩
  | 83 => ⟨S1024x1x128, .i32⟩
  | 84 => ⟨S1024x1x128, .i1⟩
  | 85 => ⟨S_, .i32⟩
  | 86 => ⟨S1024x1x128, .i32⟩
  | 87 => ⟨S1024x1x128, .i32⟩
  | 88 => ⟨S1024x1x128, .i32⟩
  | 89 => ⟨S1024x128x1, .i32⟩
  | 90 => ⟨S1, .i32⟩
  | 91 => ⟨S_, .i32⟩
  | 92 => ⟨S1024x128x1, .i32⟩
  | 93 => ⟨S1024x128x1, .i1⟩
  | 94 => ⟨S1x1x1, .i32⟩
  | 95 => ⟨S1024x128x1, .i32⟩
  | 96 => ⟨S1024x128x1, .i1⟩
  | 97 => ⟨S1024x128x1, .i1⟩
  | 98 => ⟨S_, .i1⟩
  | 99 => ⟨S1024x128, .i1⟩
  | 100 => ⟨S1024x256x128, .f32⟩
  | 101 => ⟨S1024x256x128, .i1⟩
  | 102 => ⟨S_, .f32⟩
  | 103 => ⟨S1024x256x128, .f32⟩
  | 104 => ⟨S1024x256x128, .f32⟩
  | 105 => ⟨S_, .i32⟩
  | 106 => ⟨S1024x128, .i32⟩
  | 107 => ⟨S1024x128, .i32⟩
  | 108 => ⟨S1024x128, .i32⟩
  | 109 => ⟨S1024x1x128, .i32⟩
  | 110 => ⟨S_, .i32⟩
  | 111 => ⟨S1024x1x128, .i32⟩
  | 112 => ⟨S1024x1x128, .i1⟩
  | 113 => ⟨S_, .i32⟩
  | 114 => ⟨S1024x1x128, .i32⟩
  | 115 => ⟨S1024x1x128, .i32⟩
  | 116 => ⟨S1024x1x128, .i32⟩
  | 117 => ⟨S1024x128x1, .i32⟩
  | 118 => ⟨S1, .i32⟩
  | 119 => ⟨S_, .i32⟩
  | 120 => ⟨S1024x128x1, .i32⟩
  | 121 => ⟨S1024x128x1, .i1⟩
  | 122 => ⟨S1x1x1, .i32⟩
  | 123 => ⟨S1024x128x1, .i32⟩
  | 124 => ⟨S1024x128x1, .i1⟩
  | 125 => ⟨S1024x128x1, .i1⟩
  | 126 => ⟨S_, .i1⟩
  | 127 => ⟨S1024x128, .i1⟩
  | _ => ⟨S1024x256x14x14, .f32⟩

abbrev hbmTy0_3 (i : Nat) : BufTy := match i % 128 with
  | 0 => ⟨S1024x256x128, .f32⟩
  | 1 => ⟨S1024x256x128, .i1⟩
  | 2 => ⟨S_, .f32⟩
  | 3 => ⟨S1024x256x128, .f32⟩
  | 4 => ⟨S1024x256x128, .f32⟩
  | 5 => ⟨S_, .i32⟩
  | 6 => ⟨S1024x128, .i32⟩
  | 7 => ⟨S1024x128, .i32⟩
  | 8 => ⟨S1024x128, .i32⟩
  | 9 => ⟨S1024x1x128, .i32⟩
  | 10 => ⟨S_, .i32⟩
  | 11 => ⟨S1024x1x128, .i32⟩
  | 12 => ⟨S1024x1x128, .i1⟩
  | 13 => ⟨S_, .i32⟩
  | 14 => ⟨S1024x1x128, .i32⟩
  | 15 => ⟨S1024x1x128, .i32⟩
  | 16 => ⟨S1024x1x128, .i32⟩
  | 17 => ⟨S1024x128x1, .i32⟩
  | 18 => ⟨S1, .i32⟩
  | 19 => ⟨S_, .i32⟩
  | 20 => ⟨S1024x128x1, .i32⟩
  | 21 => ⟨S1024x128x1, .i1⟩
  | 22 => ⟨S1x1x1, .i32⟩
  | 23 => ⟨S1024x128x1, .i32⟩
  | 24 => ⟨S1024x128x1, .i1⟩
  | 25 => ⟨S1024x128x1, .i1⟩
  | 26 => ⟨S_, .i1⟩
  | 27 => ⟨S1024x128, .i1⟩
  | 28 => ⟨S1024x256x128, .f32⟩
  | 29 => ⟨S1024x256x128, .i1⟩
  | 30 => ⟨S_, .f32⟩
  | 31 => ⟨S1024x256x128, .f32⟩
  | 32 => ⟨S1024x256x128, .f32⟩
  | 33 => ⟨S_, .i32⟩
  | 34 => ⟨S1024x128, .i32⟩
  | 35 => ⟨S1024x128, .i32⟩
  | 36 => ⟨S1024x128, .i32⟩
  | 37 => ⟨S1024x1x128, .i32⟩
  | 38 => ⟨S_, .i32⟩
  | 39 => ⟨S1024x1x128, .i32⟩
  | 40 => ⟨S1024x1x128, .i1⟩
  | 41 => ⟨S_, .i32⟩
  | 42 => ⟨S1024x1x128, .i32⟩
  | 43 => ⟨S1024x1x128, .i32⟩
  | 44 => ⟨S1024x1x128, .i32⟩
  | 45 => ⟨S1024x128x1, .i32⟩
  | 46 => ⟨S1, .i32⟩
  | 47 => ⟨S_, .i32⟩
  | 48 => ⟨S1024x128x1, .i32⟩
  | 49 => ⟨S1024x128x1, .i1⟩
  | 50 => ⟨S1x1x1, .i32⟩
  | 51 => ⟨S1024x128x1, .i32⟩
  | 52 => ⟨S1024x128x1, .i1⟩
  | 53 => ⟨S1024x128x1, .i1⟩
  | 54 => ⟨S_, .i1⟩
  | 55 => ⟨S1024x128, .i1⟩
  | 56 => ⟨S1024x256x128, .f32⟩
  | 57 => ⟨S1024x256x128, .i1⟩
  | 58 => ⟨S_, .f32⟩
  | 59 => ⟨S1024x256x128, .f32⟩
  | 60 => ⟨S1024x256x128, .f32⟩
  | 61 => ⟨S1024x1x128, .f32⟩
  | 62 => ⟨S1024x1x128, .f32⟩
  | 63 => ⟨S_, .f32⟩
  | 64 => ⟨S1024x1x128, .f32⟩
  | 65 => ⟨S1024x1x128, .f32⟩
  | 66 => ⟨S1024x256x128, .f32⟩
  | 67 => ⟨S1024x256x128, .f32⟩
  | 68 => ⟨S_, .f32⟩
  | 69 => ⟨S1024x1x128, .f32⟩
  | 70 => ⟨S1024x1x128, .f32⟩
  | 71 => ⟨S1024x256x128, .f32⟩
  | 72 => ⟨S1024x256x128, .f32⟩
  | 73 => ⟨S1024x256x128, .f32⟩
  | 74 => ⟨S1024x256x128, .f32⟩
  | 75 => ⟨S_, .f32⟩
  | 76 => ⟨S1024x1x128, .f32⟩
  | 77 => ⟨S1024x1x128, .f32⟩
  | 78 => ⟨S1024x256x128, .f32⟩
  | 79 => ⟨S1024x256x128, .f32⟩
  | 80 => ⟨S1024x256x128, .f32⟩
  | 81 => ⟨S_, .f32⟩
  | 82 => ⟨S1024x1x128, .f32⟩
  | 83 => ⟨S1024x1x128, .f32⟩
  | 84 => ⟨S1024x256x128, .f32⟩
  | 85 => ⟨S1024x256x128, .f32⟩
  | 86 => ⟨S1024x256x128, .f32⟩
  | 87 => ⟨S1024x256x128, .f32⟩
  | 88 => ⟨S1024x256x128, .f32⟩
  | 89 => ⟨S1024x256x128, .f32⟩
  | 90 => ⟨S1024x256x128, .f32⟩
  | 91 => ⟨S1024x256x128, .f32⟩
  | 92 => ⟨S1024x256x128, .f32⟩
  | 93 => ⟨S1024x256x128, .f32⟩
  | 94 => ⟨S1024x128x256, .f32⟩
  | 95 => ⟨S_, .i32⟩
  | 96 => ⟨S128x4, .i32⟩
  | 97 => ⟨S128x4, .i1⟩
  | 98 => ⟨S_, .i32⟩
  | 99 => ⟨S128x4, .i32⟩
  | 100 => ⟨S128x4, .i32⟩
  | 101 => ⟨S128x4, .i32⟩
  | 102 => ⟨S128x4x1, .i32⟩
  | 103 => ⟨S1024x128x4x256, .f32⟩
  | 104 => ⟨S_, .f32⟩
  | 105 => ⟨S1024x128x256, .f32⟩
  | 106 => ⟨S_, .f32⟩
  | 107 => ⟨S1024x128x256, .f32⟩
  | 108 => ⟨S1024x128x256, .f32⟩
  | 109 => ⟨S1024x128x256, .f32⟩
  | 110 => ⟨S1024x128x128, .f32⟩
  | 111 => ⟨S_, .f32⟩
  | 112 => ⟨S1024x128x128, .f32⟩
  | 113 => ⟨S1024x128x128, .f32⟩
  | 114 => ⟨S_, .i32⟩
  | 115 => ⟨S128x4, .i32⟩
  | 116 => ⟨S128x4, .i1⟩
  | 117 => ⟨S_, .i32⟩
  | 118 => ⟨S128x4, .i32⟩
  | 119 => ⟨S128x4, .i32⟩
  | 120 => ⟨S128x4, .i32⟩
  | 121 => ⟨S128x4x1, .i32⟩
  | 122 => ⟨S1024x128x4x128, .f32⟩
  | 123 => ⟨S_, .f32⟩
  | 124 => ⟨S1024x128x128, .f32⟩
  | 125 => ⟨S_, .f32⟩
  | 126 => ⟨S1024x128x128, .f32⟩
  | 127 => ⟨S1024x128x128, .f32⟩
  | _ => ⟨S1024x256x14x14, .f32⟩

abbrev hbmTy0_4 (i : Nat) : BufTy := match i % 128 with
  | 0 => ⟨S1024x128x128, .f32⟩
  | 1 => ⟨S1024x128x128, .f32⟩
  | 2 => ⟨S_, .f32⟩
  | 3 => ⟨S1024x128x128, .f32⟩
  | 4 => ⟨S1024x128x128, .f32⟩
  | 5 => ⟨S1024x128x2, .f32⟩
  | 6 => ⟨S1024x128x2, .f32⟩
  | 7 => ⟨S1024x128x2, .f32⟩
  | 8 => ⟨S1024x128x1, .f32⟩
  | 9 => ⟨S1024x128, .f32⟩
  | 10 => ⟨S_, .f32⟩
  | 11 => ⟨S_, .f32⟩
  | 12 => ⟨S_, .f32⟩
  | 13 => ⟨S1024x128, .f32⟩
  | 14 => ⟨S1024x128, .f32⟩
  | 15 => ⟨S_, .f32⟩
  | 16 => ⟨S1024x128, .f32⟩
  | 17 => ⟨S1024x128, .f32⟩
  | 18 => ⟨S1024x128x1, .f32⟩
  | 19 => ⟨S1024x128, .f32⟩
  | 20 => ⟨S_, .f32⟩
  | 21 => ⟨S_, .f32⟩
  | 22 => ⟨S_, .f32⟩
  | 23 => ⟨S1024x128, .f32⟩
  | 24 => ⟨S1024x128, .f32⟩
  | 25 => ⟨S_, .f32⟩
  | 26 => ⟨S1024x128, .f32⟩
  | 27 => ⟨S1024x128, .f32⟩
  | 28 => ⟨S1024x128, .f32⟩
  | 29 => ⟨S1024x128, .f32⟩
  | 30 => ⟨S1024x128, .f32⟩
  | 31 => ⟨S1024x128, .f32⟩
  | 32 => ⟨S1024x128, .i32⟩
  | 33 => ⟨S1024x128, .i32⟩
  | 34 => ⟨S_, .i32⟩
  | 35 => ⟨S1024x128, .i32⟩
  | 36 => ⟨S1024x128, .i32⟩
  | 37 => ⟨S_, .i32⟩
  | 38 => ⟨S_, .i32⟩
  | 39 => ⟨S_, .i32⟩
  | 40 => ⟨S1024x128, .i32⟩
  | 41 => ⟨S1024x128, .i32⟩
  | 42 => ⟨S_, .i32⟩
  | 43 => ⟨S1024x128, .i32⟩
  | 44 => ⟨S1024x128, .i32⟩
  | 45 => ⟨S_, .i32⟩
  | 46 => ⟨S1024x128, .i32⟩
  | 47 => ⟨S1024x128, .i32⟩
  | 48 => ⟨S_, .i32⟩
  | 49 => ⟨S_, .i32⟩
  | 50 => ⟨S_, .i32⟩
  | 51 => ⟨S1024x128, .i32⟩
  | 52 => ⟨S1024x128, .i32⟩
  | 53 => ⟨S_, .i32⟩
  | 54 => ⟨S1024x128, .i32⟩
  | 55 => ⟨S1024x128, .i32⟩
  | 56 => ⟨S1024x256x196, .f32⟩
  | 57 => ⟨S_, .i32⟩
  | 58 => ⟨S1024x128, .i32⟩
  | 59 => ⟨S1024x128, .i32⟩
  | 60 => ⟨S1024x128, .i32⟩
  | 61 => ⟨S1024x1x128, .i32⟩
  | 62 => ⟨S_, .i32⟩
  | 63 => ⟨S1024x1x128, .i32⟩
  | 64 => ⟨S1024x1x128, .i1⟩
  | 65 => ⟨S_, .i32⟩
  | 66 => ⟨S1024x1x128, .i32⟩
  | 67 => ⟨S1024x1x128, .i32⟩
  | 68 => ⟨S1024x1x128, .i32⟩
  | 69 => ⟨S1024x128x1, .i32⟩
  | 70 => ⟨S1, .i32⟩
  | 71 => ⟨S_, .i32⟩
  | 72 => ⟨S1024x128x1, .i32⟩
  | 73 => ⟨S1024x128x1, .i1⟩
  | 74 => ⟨S1x1x1, .i32⟩
  | 75 => ⟨S1024x128x1, .i32⟩
  | 76 => ⟨S1024x128x1, .i1⟩
  | 77 => ⟨S1024x128x1, .i1⟩
  | 78 => ⟨S_, .i1⟩
  | 79 => ⟨S1024x128, .i1⟩
  | 80 => ⟨S1024x256x128, .f32⟩
  | 81 => ⟨S1024x256x128, .i1⟩
  | 82 => ⟨S_, .f32⟩
  | 83 => ⟨S1024x256x128, .f32⟩
  | 84 => ⟨S1024x256x128, .f32⟩
  | 85 => ⟨S_, .i32⟩
  | 86 => ⟨S1024x128, .i32⟩
  | 87 => ⟨S1024x128, .i32⟩
  | 88 => ⟨S1024x128, .i32⟩
  | 89 => ⟨S1024x1x128, .i32⟩
  | 90 => ⟨S_, .i32⟩
  | 91 => ⟨S1024x1x128, .i32⟩
  | 92 => ⟨S1024x1x128, .i1⟩
  | 93 => ⟨S_, .i32⟩
  | 94 => ⟨S1024x1x128, .i32⟩
  | 95 => ⟨S1024x1x128, .i32⟩
  | 96 => ⟨S1024x1x128, .i32⟩
  | 97 => ⟨S1024x128x1, .i32⟩
  | 98 => ⟨S1, .i32⟩
  | 99 => ⟨S_, .i32⟩
  | 100 => ⟨S1024x128x1, .i32⟩
  | 101 => ⟨S1024x128x1, .i1⟩
  | 102 => ⟨S1x1x1, .i32⟩
  | 103 => ⟨S1024x128x1, .i32⟩
  | 104 => ⟨S1024x128x1, .i1⟩
  | 105 => ⟨S1024x128x1, .i1⟩
  | 106 => ⟨S_, .i1⟩
  | 107 => ⟨S1024x128, .i1⟩
  | 108 => ⟨S1024x256x128, .f32⟩
  | 109 => ⟨S1024x256x128, .i1⟩
  | 110 => ⟨S_, .f32⟩
  | 111 => ⟨S1024x256x128, .f32⟩
  | 112 => ⟨S1024x256x128, .f32⟩
  | 113 => ⟨S_, .i32⟩
  | 114 => ⟨S1024x128, .i32⟩
  | 115 => ⟨S1024x128, .i32⟩
  | 116 => ⟨S1024x128, .i32⟩
  | 117 => ⟨S1024x1x128, .i32⟩
  | 118 => ⟨S_, .i32⟩
  | 119 => ⟨S1024x1x128, .i32⟩
  | 120 => ⟨S1024x1x128, .i1⟩
  | 121 => ⟨S_, .i32⟩
  | 122 => ⟨S1024x1x128, .i32⟩
  | 123 => ⟨S1024x1x128, .i32⟩
  | 124 => ⟨S1024x1x128, .i32⟩
  | 125 => ⟨S1024x128x1, .i32⟩
  | 126 => ⟨S1, .i32⟩
  | 127 => ⟨S_, .i32⟩
  | _ => ⟨S1024x256x14x14, .f32⟩

abbrev hbmTy0_5 (i : Nat) : BufTy := match i % 128 with
  | 0 => ⟨S1024x128x1, .i32⟩
  | 1 => ⟨S1024x128x1, .i1⟩
  | 2 => ⟨S1x1x1, .i32⟩
  | 3 => ⟨S1024x128x1, .i32⟩
  | 4 => ⟨S1024x128x1, .i1⟩
  | 5 => ⟨S1024x128x1, .i1⟩
  | 6 => ⟨S_, .i1⟩
  | 7 => ⟨S1024x128, .i1⟩
  | 8 => ⟨S1024x256x128, .f32⟩
  | 9 => ⟨S1024x256x128, .i1⟩
  | 10 => ⟨S_, .f32⟩
  | 11 => ⟨S1024x256x128, .f32⟩
  | 12 => ⟨S1024x256x128, .f32⟩
  | 13 => ⟨S_, .i32⟩
  | 14 => ⟨S1024x128, .i32⟩
  | 15 => ⟨S1024x128, .i32⟩
  | 16 => ⟨S1024x128, .i32⟩
  | 17 => ⟨S1024x1x128, .i32⟩
  | 18 => ⟨S_, .i32⟩
  | 19 => ⟨S1024x1x128, .i32⟩
  | 20 => ⟨S1024x1x128, .i1⟩
  | 21 => ⟨S_, .i32⟩
  | 22 => ⟨S1024x1x128, .i32⟩
  | 23 => ⟨S1024x1x128, .i32⟩
  | 24 => ⟨S1024x1x128, .i32⟩
  | 25 => ⟨S1024x128x1, .i32⟩
  | 26 => ⟨S1, .i32⟩
  | 27 => ⟨S_, .i32⟩
  | 28 => ⟨S1024x128x1, .i32⟩
  | 29 => ⟨S1024x128x1, .i1⟩
  | 30 => ⟨S1x1x1, .i32⟩
  | 31 => ⟨S1024x128x1, .i32⟩
  | 32 => ⟨S1024x128x1, .i1⟩
  | 33 => ⟨S1024x128x1, .i1⟩
  | 34 => ⟨S_, .i1⟩
  | 35 => ⟨S1024x128, .i1⟩
  | 36 => ⟨S1024x256x128, .f32⟩
  | 37 => ⟨S1024x256x128, .i1⟩
  | 38 => ⟨S_, .f32⟩
  | 39 => ⟨S1024x256x128, .f32⟩
  | 40 => ⟨S1024x256x128, .f32⟩
  | 41 => ⟨S1024x1x128, .f32⟩
  | 42 => ⟨S1024x1x128, .f32⟩
  | 43 => ⟨S_, .f32⟩
  | 44 => ⟨S1024x1x128, .f32⟩
  | 45 => ⟨S1024x1x128, .f32⟩
  | 46 => ⟨S1024x256x128, .f32⟩
  | 47 => ⟨S1024x256x128, .f32⟩
  | 48 => ⟨S_, .f32⟩
  | 49 => ⟨S1024x1x128, .f32⟩
  | 50 => ⟨S1024x1x128, .f32⟩
  | 51 => ⟨S1024x256x128, .f32⟩
  | 52 => ⟨S1024x256x128, .f32⟩
  | 53 => ⟨S1024x256x128, .f32⟩
  | 54 => ⟨S1024x256x128, .f32⟩
  | 55 => ⟨S_, .f32⟩
  | 56 => ⟨S1024x1x128, .f32⟩
  | 57 => ⟨S1024x1x128, .f32⟩
  | 58 => ⟨S1024x256x128, .f32⟩
  | 59 => ⟨S1024x256x128, .f32⟩
  | 60 => ⟨S1024x256x128, .f32⟩
  | 61 => ⟨S_, .f32⟩
  | 62 => ⟨S1024x1x128, .f32⟩
  | 63 => ⟨S1024x1x128, .f32⟩
  | 64 => ⟨S1024x256x128, .f32⟩
  | 65 => ⟨S1024x256x128, .f32⟩
  | 66 => ⟨S1024x256x128, .f32⟩
  | 67 => ⟨S1024x256x128, .f32⟩
  | 68 => ⟨S1024x256x128, .f32⟩
  | 69 => ⟨S1024x256x128, .f32⟩
  | 70 => ⟨S1024x256x128, .f32⟩
  | 71 => ⟨S1024x256x128, .f32⟩
  | 72 => ⟨S1024x256x128, .f32⟩
  | 73 => ⟨S1024x256x128, .f32⟩
  | 74 => ⟨S1024x128x256, .f32⟩
  | 75 => ⟨S_, .i32⟩
  | 76 => ⟨S128x4, .i32⟩
  | 77 => ⟨S128x4, .i1⟩
  | 78 => ⟨S_, .i32⟩
  | 79 => ⟨S128x4, .i32⟩
  | 80 => ⟨S128x4, .i32⟩
  | 81 => ⟨S128x4, .i32⟩
  | 82 => ⟨S128x4x1, .i32⟩
  | 83 => ⟨S1024x128x4x256, .f32⟩
  | 84 => ⟨S_, .f32⟩
  | 85 => ⟨S1024x128x256, .f32⟩
  | 86 => ⟨S_, .f32⟩
  | 87 => ⟨S1024x128x256, .f32⟩
  | 88 => ⟨S1024x128x256, .f32⟩
  | 89 => ⟨S1024x128x256, .f32⟩
  | 90 => ⟨S1024x128x128, .f32⟩
  | 91 => ⟨S_, .f32⟩
  | 92 => ⟨S1024x128x128, .f32⟩
  | 93 => ⟨S1024x128x128, .f32⟩
  | 94 => ⟨S_, .i32⟩
  | 95 => ⟨S128x4, .i32⟩
  | 96 => ⟨S128x4, .i1⟩
  | 97 => ⟨S_, .i32⟩
  | 98 => ⟨S128x4, .i32⟩
  | 99 => ⟨S128x4, .i32⟩
  | 100 => ⟨S128x4, .i32⟩
  | 101 => ⟨S128x4x1, .i32⟩
  | 102 => ⟨S1024x128x4x128, .f32⟩
  | 103 => ⟨S_, .f32⟩
  | 104 => ⟨S1024x128x128, .f32⟩
  | 105 => ⟨S_, .f32⟩
  | 106 => ⟨S1024x128x128, .f32⟩
  | 107 => ⟨S1024x128x128, .f32⟩
  | 108 => ⟨S1024x128x128, .f32⟩
  | 109 => ⟨S1024x128x128, .f32⟩
  | 110 => ⟨S_, .f32⟩
  | 111 => ⟨S1024x128x128, .f32⟩
  | 112 => ⟨S1024x128x128, .f32⟩
  | 113 => ⟨S1024x128x2, .f32⟩
  | 114 => ⟨S1024x128x2, .f32⟩
  | 115 => ⟨S1024x128x2, .f32⟩
  | _ => ⟨S1024x256x14x14, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S1024x256x14x14, .f32⟩

abbrev bufTy : (tb : Table) → Fin (tcTables nBuf tb) → BufTy
  | .hbm, ⟨i, _⟩ => hbmTy i
  | _, _ => ⟨S1024x256x14x14, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c_2 : Ref sig .tc := ⟨.hbm, 26, rfl⟩
abbrev main_call0_v0 : Ref sig .tc := ⟨.hbm, 27, rfl⟩
abbrev main_call0_c : Ref sig .tc := ⟨.hbm, 28, rfl⟩
abbrev main_call0_v1 : Ref sig .tc := ⟨.hbm, 29, rfl⟩
abbrev main_call0_c_0 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_c_1 : Ref sig .tc := ⟨.hbm, 34, rfl⟩
abbrev main_call0_v5 : Ref sig .tc := ⟨.hbm, 35, rfl⟩
abbrev main_call0_v6 : Ref sig .tc := ⟨.hbm, 36, rfl⟩
abbrev main_call0_c_2 : Ref sig .tc := ⟨.hbm, 37, rfl⟩
abbrev main_call0_v7 : Ref sig .tc := ⟨.hbm, 38, rfl⟩
abbrev main_call0_v8 : Ref sig .tc := ⟨.hbm, 39, rfl⟩
abbrev main_call0_c_3 : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_v12 : Ref sig .tc := ⟨.hbm, 44, rfl⟩
abbrev main_call0_v13 : Ref sig .tc := ⟨.hbm, 45, rfl⟩
abbrev main_call0_v14 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_cst_3 : Ref sig .tc := ⟨.hbm, 50, rfl⟩
abbrev main_cst_4 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_cst_5 : Ref sig .tc := ⟨.hbm, 60, rfl⟩
abbrev main_cst_6 : Ref sig .tc := ⟨.hbm, 61, rfl⟩
abbrev main_call2_v0 : Ref sig .tc := ⟨.hbm, 62, rfl⟩
abbrev main_call2_v1 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_c_7 : Ref sig .tc := ⟨.hbm, 74, rfl⟩
abbrev main_v31 : Ref sig .tc := ⟨.hbm, 75, rfl⟩
abbrev main_v32 : Ref sig .tc := ⟨.hbm, 76, rfl⟩
abbrev main_c_8 : Ref sig .tc := ⟨.hbm, 77, rfl⟩
abbrev main_c_9 : Ref sig .tc := ⟨.hbm, 78, rfl⟩
abbrev main_call3_v0 : Ref sig .tc := ⟨.hbm, 79, rfl⟩
abbrev main_call3_v1 : Ref sig .tc := ⟨.hbm, 80, rfl⟩
abbrev main_call3_v2 : Ref sig .tc := ⟨.hbm, 81, rfl⟩
abbrev main_call3_v3 : Ref sig .tc := ⟨.hbm, 82, rfl⟩
abbrev main_call3_v4 : Ref sig .tc := ⟨.hbm, 83, rfl⟩
abbrev main_v33 : Ref sig .tc := ⟨.hbm, 84, rfl⟩
abbrev main_c_10 : Ref sig .tc := ⟨.hbm, 85, rfl⟩
abbrev main_v34 : Ref sig .tc := ⟨.hbm, 86, rfl⟩
abbrev main_v35 : Ref sig .tc := ⟨.hbm, 87, rfl⟩
abbrev main_c_11 : Ref sig .tc := ⟨.hbm, 88, rfl⟩
abbrev main_c_12 : Ref sig .tc := ⟨.hbm, 89, rfl⟩
abbrev main_call4_v0 : Ref sig .tc := ⟨.hbm, 90, rfl⟩
abbrev main_call4_v1 : Ref sig .tc := ⟨.hbm, 91, rfl⟩
abbrev main_call4_v2 : Ref sig .tc := ⟨.hbm, 92, rfl⟩
abbrev main_call4_v3 : Ref sig .tc := ⟨.hbm, 93, rfl⟩
abbrev main_call4_v4 : Ref sig .tc := ⟨.hbm, 94, rfl⟩
abbrev main_v36 : Ref sig .tc := ⟨.hbm, 95, rfl⟩
abbrev main_v37 : Ref sig .tc := ⟨.hbm, 96, rfl⟩
abbrev main_c_13 : Ref sig .tc := ⟨.hbm, 97, rfl⟩
abbrev main_v38 : Ref sig .tc := ⟨.hbm, 98, rfl⟩
abbrev main_v39 : Ref sig .tc := ⟨.hbm, 99, rfl⟩
abbrev main_v40 : Ref sig .tc := ⟨.hbm, 100, rfl⟩
abbrev main_v41 : Ref sig .tc := ⟨.hbm, 101, rfl⟩
abbrev main_call5_c : Ref sig .tc := ⟨.hbm, 102, rfl⟩
abbrev main_call5_v0 : Ref sig .tc := ⟨.hbm, 103, rfl⟩
abbrev main_call5_v1 : Ref sig .tc := ⟨.hbm, 104, rfl⟩
abbrev main_call5_c_0 : Ref sig .tc := ⟨.hbm, 105, rfl⟩
abbrev main_call5_v2 : Ref sig .tc := ⟨.hbm, 106, rfl⟩
abbrev main_call5_v3 : Ref sig .tc := ⟨.hbm, 107, rfl⟩
abbrev main_call5_v4 : Ref sig .tc := ⟨.hbm, 108, rfl⟩
abbrev main_call5_v5 : Ref sig .tc := ⟨.hbm, 109, rfl⟩
abbrev main_call5_c_1 : Ref sig .tc := ⟨.hbm, 110, rfl⟩
abbrev main_call5_c_2 : Ref sig .tc := ⟨.hbm, 111, rfl⟩
abbrev main_call5_v6 : Ref sig .tc := ⟨.hbm, 112, rfl⟩
abbrev main_call5_v7 : Ref sig .tc := ⟨.hbm, 113, rfl⟩
abbrev main_call5_v8 : Ref sig .tc := ⟨.hbm, 114, rfl⟩
abbrev main_call5_v9 : Ref sig .tc := ⟨.hbm, 115, rfl⟩
abbrev main_call5_v10 : Ref sig .tc := ⟨.hbm, 116, rfl⟩
abbrev main_call5_v11 : Ref sig .tc := ⟨.hbm, 117, rfl⟩
abbrev main_call5_c_3 : Ref sig .tc := ⟨.hbm, 118, rfl⟩
abbrev main_call5_v12 : Ref sig .tc := ⟨.hbm, 119, rfl⟩
abbrev main_call5_v13 : Ref sig .tc := ⟨.hbm, 120, rfl⟩
abbrev main_call5_v14 : Ref sig .tc := ⟨.hbm, 121, rfl⟩
abbrev main_call5_cst : Ref sig .tc := ⟨.hbm, 122, rfl⟩
abbrev main_call5_v15 : Ref sig .tc := ⟨.hbm, 123, rfl⟩
abbrev main_v42 : Ref sig .tc := ⟨.hbm, 124, rfl⟩
abbrev main_c_14 : Ref sig .tc := ⟨.hbm, 125, rfl⟩
abbrev main_v43 : Ref sig .tc := ⟨.hbm, 126, rfl⟩
abbrev main_v44 : Ref sig .tc := ⟨.hbm, 127, rfl⟩
abbrev main_v45 : Ref sig .tc := ⟨.hbm, 128, rfl⟩
abbrev main_v46 : Ref sig .tc := ⟨.hbm, 129, rfl⟩
abbrev main_call6_c : Ref sig .tc := ⟨.hbm, 130, rfl⟩
abbrev main_call6_v0 : Ref sig .tc := ⟨.hbm, 131, rfl⟩
abbrev main_call6_v1 : Ref sig .tc := ⟨.hbm, 132, rfl⟩
abbrev main_call6_c_0 : Ref sig .tc := ⟨.hbm, 133, rfl⟩
abbrev main_call6_v2 : Ref sig .tc := ⟨.hbm, 134, rfl⟩
abbrev main_call6_v3 : Ref sig .tc := ⟨.hbm, 135, rfl⟩
abbrev main_call6_v4 : Ref sig .tc := ⟨.hbm, 136, rfl⟩
abbrev main_call6_v5 : Ref sig .tc := ⟨.hbm, 137, rfl⟩
abbrev main_call6_c_1 : Ref sig .tc := ⟨.hbm, 138, rfl⟩
abbrev main_call6_c_2 : Ref sig .tc := ⟨.hbm, 139, rfl⟩
abbrev main_call6_v6 : Ref sig .tc := ⟨.hbm, 140, rfl⟩
abbrev main_call6_v7 : Ref sig .tc := ⟨.hbm, 141, rfl⟩
abbrev main_call6_v8 : Ref sig .tc := ⟨.hbm, 142, rfl⟩
abbrev main_call6_v9 : Ref sig .tc := ⟨.hbm, 143, rfl⟩
abbrev main_call6_v10 : Ref sig .tc := ⟨.hbm, 144, rfl⟩
abbrev main_call6_v11 : Ref sig .tc := ⟨.hbm, 145, rfl⟩
abbrev main_call6_c_3 : Ref sig .tc := ⟨.hbm, 146, rfl⟩
abbrev main_call6_v12 : Ref sig .tc := ⟨.hbm, 147, rfl⟩
abbrev main_call6_v13 : Ref sig .tc := ⟨.hbm, 148, rfl⟩
abbrev main_call6_v14 : Ref sig .tc := ⟨.hbm, 149, rfl⟩
abbrev main_call6_cst : Ref sig .tc := ⟨.hbm, 150, rfl⟩
abbrev main_call6_v15 : Ref sig .tc := ⟨.hbm, 151, rfl⟩
abbrev main_v47 : Ref sig .tc := ⟨.hbm, 152, rfl⟩
abbrev main_c_15 : Ref sig .tc := ⟨.hbm, 153, rfl⟩
abbrev main_v48 : Ref sig .tc := ⟨.hbm, 154, rfl⟩
abbrev main_v49 : Ref sig .tc := ⟨.hbm, 155, rfl⟩
abbrev main_v50 : Ref sig .tc := ⟨.hbm, 156, rfl⟩
abbrev main_v51 : Ref sig .tc := ⟨.hbm, 157, rfl⟩
abbrev main_call7_c : Ref sig .tc := ⟨.hbm, 158, rfl⟩
abbrev main_call7_v0 : Ref sig .tc := ⟨.hbm, 159, rfl⟩
abbrev main_call7_v1 : Ref sig .tc := ⟨.hbm, 160, rfl⟩
abbrev main_call7_c_0 : Ref sig .tc := ⟨.hbm, 161, rfl⟩
abbrev main_call7_v2 : Ref sig .tc := ⟨.hbm, 162, rfl⟩
abbrev main_call7_v3 : Ref sig .tc := ⟨.hbm, 163, rfl⟩
abbrev main_call7_v4 : Ref sig .tc := ⟨.hbm, 164, rfl⟩
abbrev main_call7_v5 : Ref sig .tc := ⟨.hbm, 165, rfl⟩
abbrev main_call7_c_1 : Ref sig .tc := ⟨.hbm, 166, rfl⟩
abbrev main_call7_c_2 : Ref sig .tc := ⟨.hbm, 167, rfl⟩
abbrev main_call7_v6 : Ref sig .tc := ⟨.hbm, 168, rfl⟩
abbrev main_call7_v7 : Ref sig .tc := ⟨.hbm, 169, rfl⟩
abbrev main_call7_v8 : Ref sig .tc := ⟨.hbm, 170, rfl⟩
abbrev main_call7_v9 : Ref sig .tc := ⟨.hbm, 171, rfl⟩
abbrev main_call7_v10 : Ref sig .tc := ⟨.hbm, 172, rfl⟩
abbrev main_call7_v11 : Ref sig .tc := ⟨.hbm, 173, rfl⟩
abbrev main_call7_c_3 : Ref sig .tc := ⟨.hbm, 174, rfl⟩
abbrev main_call7_v12 : Ref sig .tc := ⟨.hbm, 175, rfl⟩
abbrev main_call7_v13 : Ref sig .tc := ⟨.hbm, 176, rfl⟩
abbrev main_call7_v14 : Ref sig .tc := ⟨.hbm, 177, rfl⟩
abbrev main_call7_cst : Ref sig .tc := ⟨.hbm, 178, rfl⟩
abbrev main_call7_v15 : Ref sig .tc := ⟨.hbm, 179, rfl⟩
abbrev main_v52 : Ref sig .tc := ⟨.hbm, 180, rfl⟩
abbrev main_c_16 : Ref sig .tc := ⟨.hbm, 181, rfl⟩
abbrev main_v53 : Ref sig .tc := ⟨.hbm, 182, rfl⟩
abbrev main_v54 : Ref sig .tc := ⟨.hbm, 183, rfl⟩
abbrev main_v55 : Ref sig .tc := ⟨.hbm, 184, rfl⟩
abbrev main_v56 : Ref sig .tc := ⟨.hbm, 185, rfl⟩
abbrev main_call8_c : Ref sig .tc := ⟨.hbm, 186, rfl⟩
abbrev main_call8_v0 : Ref sig .tc := ⟨.hbm, 187, rfl⟩
abbrev main_call8_v1 : Ref sig .tc := ⟨.hbm, 188, rfl⟩
abbrev main_call8_c_0 : Ref sig .tc := ⟨.hbm, 189, rfl⟩
abbrev main_call8_v2 : Ref sig .tc := ⟨.hbm, 190, rfl⟩
abbrev main_call8_v3 : Ref sig .tc := ⟨.hbm, 191, rfl⟩
abbrev main_call8_v4 : Ref sig .tc := ⟨.hbm, 192, rfl⟩
abbrev main_call8_v5 : Ref sig .tc := ⟨.hbm, 193, rfl⟩
abbrev main_call8_c_1 : Ref sig .tc := ⟨.hbm, 194, rfl⟩
abbrev main_call8_c_2 : Ref sig .tc := ⟨.hbm, 195, rfl⟩
abbrev main_call8_v6 : Ref sig .tc := ⟨.hbm, 196, rfl⟩
abbrev main_call8_v7 : Ref sig .tc := ⟨.hbm, 197, rfl⟩
abbrev main_call8_v8 : Ref sig .tc := ⟨.hbm, 198, rfl⟩
abbrev main_call8_v9 : Ref sig .tc := ⟨.hbm, 199, rfl⟩
abbrev main_call8_v10 : Ref sig .tc := ⟨.hbm, 200, rfl⟩
abbrev main_call8_v11 : Ref sig .tc := ⟨.hbm, 201, rfl⟩
abbrev main_call8_c_3 : Ref sig .tc := ⟨.hbm, 202, rfl⟩
abbrev main_call8_v12 : Ref sig .tc := ⟨.hbm, 203, rfl⟩
abbrev main_call8_v13 : Ref sig .tc := ⟨.hbm, 204, rfl⟩
abbrev main_call8_v14 : Ref sig .tc := ⟨.hbm, 205, rfl⟩
abbrev main_call8_cst : Ref sig .tc := ⟨.hbm, 206, rfl⟩
abbrev main_call8_v15 : Ref sig .tc := ⟨.hbm, 207, rfl⟩
abbrev main_v57 : Ref sig .tc := ⟨.hbm, 208, rfl⟩
abbrev main_v58 : Ref sig .tc := ⟨.hbm, 209, rfl⟩
abbrev main_v59 : Ref sig .tc := ⟨.hbm, 210, rfl⟩
abbrev main_cst_17 : Ref sig .tc := ⟨.hbm, 211, rfl⟩
abbrev main_v60 : Ref sig .tc := ⟨.hbm, 212, rfl⟩
abbrev main_v61 : Ref sig .tc := ⟨.hbm, 213, rfl⟩
abbrev main_v62 : Ref sig .tc := ⟨.hbm, 214, rfl⟩
abbrev main_v63 : Ref sig .tc := ⟨.hbm, 215, rfl⟩
abbrev main_cst_18 : Ref sig .tc := ⟨.hbm, 216, rfl⟩
abbrev main_v64 : Ref sig .tc := ⟨.hbm, 217, rfl⟩
abbrev main_v65 : Ref sig .tc := ⟨.hbm, 218, rfl⟩
abbrev main_v66 : Ref sig .tc := ⟨.hbm, 219, rfl⟩
abbrev main_v67 : Ref sig .tc := ⟨.hbm, 220, rfl⟩
abbrev main_v68 : Ref sig .tc := ⟨.hbm, 221, rfl⟩
abbrev main_v69 : Ref sig .tc := ⟨.hbm, 222, rfl⟩
abbrev main_cst_19 : Ref sig .tc := ⟨.hbm, 223, rfl⟩
abbrev main_v70 : Ref sig .tc := ⟨.hbm, 224, rfl⟩
abbrev main_v71 : Ref sig .tc := ⟨.hbm, 225, rfl⟩
abbrev main_v72 : Ref sig .tc := ⟨.hbm, 226, rfl⟩
abbrev main_v73 : Ref sig .tc := ⟨.hbm, 227, rfl⟩
abbrev main_v74 : Ref sig .tc := ⟨.hbm, 228, rfl⟩
abbrev main_cst_20 : Ref sig .tc := ⟨.hbm, 229, rfl⟩
abbrev main_v75 : Ref sig .tc := ⟨.hbm, 230, rfl⟩
abbrev main_v76 : Ref sig .tc := ⟨.hbm, 231, rfl⟩
abbrev main_v77 : Ref sig .tc := ⟨.hbm, 232, rfl⟩
abbrev main_v78 : Ref sig .tc := ⟨.hbm, 233, rfl⟩
abbrev main_v79 : Ref sig .tc := ⟨.hbm, 234, rfl⟩
abbrev main_v80 : Ref sig .tc := ⟨.hbm, 235, rfl⟩
abbrev main_v81 : Ref sig .tc := ⟨.hbm, 236, rfl⟩
abbrev main_v82 : Ref sig .tc := ⟨.hbm, 237, rfl⟩
abbrev main_v83 : Ref sig .tc := ⟨.hbm, 238, rfl⟩
abbrev main_v84 : Ref sig .tc := ⟨.hbm, 239, rfl⟩
abbrev main_v85 : Ref sig .tc := ⟨.hbm, 240, rfl⟩
abbrev main_v86 : Ref sig .tc := ⟨.hbm, 241, rfl⟩
abbrev main_v87 : Ref sig .tc := ⟨.hbm, 242, rfl⟩
abbrev main_c_21 : Ref sig .tc := ⟨.hbm, 243, rfl⟩
abbrev main_v88 : Ref sig .tc := ⟨.hbm, 244, rfl⟩
abbrev main_v89 : Ref sig .tc := ⟨.hbm, 245, rfl⟩
abbrev main_c_22 : Ref sig .tc := ⟨.hbm, 246, rfl⟩
abbrev main_v90 : Ref sig .tc := ⟨.hbm, 247, rfl⟩
abbrev main_v91 : Ref sig .tc := ⟨.hbm, 248, rfl⟩
abbrev main_v92 : Ref sig .tc := ⟨.hbm, 249, rfl⟩
abbrev main_v93 : Ref sig .tc := ⟨.hbm, 250, rfl⟩
abbrev main_v94 : Ref sig .tc := ⟨.hbm, 251, rfl⟩
abbrev main_cst_23 : Ref sig .tc := ⟨.hbm, 252, rfl⟩
abbrev main_v95 : Ref sig .tc := ⟨.hbm, 253, rfl⟩
abbrev main_cst_24 : Ref sig .tc := ⟨.hbm, 254, rfl⟩
abbrev main_v96 : Ref sig .tc := ⟨.hbm, 255, rfl⟩
abbrev main_v97 : Ref sig .tc := ⟨.hbm, 256, rfl⟩
abbrev main_v98 : Ref sig .tc := ⟨.hbm, 257, rfl⟩
abbrev main_v99 : Ref sig .tc := ⟨.hbm, 258, rfl⟩
abbrev main_call9_cst : Ref sig .tc := ⟨.hbm, 259, rfl⟩
abbrev main_call9_v0 : Ref sig .tc := ⟨.hbm, 260, rfl⟩
abbrev main_v100 : Ref sig .tc := ⟨.hbm, 261, rfl⟩
abbrev main_c_25 : Ref sig .tc := ⟨.hbm, 262, rfl⟩
abbrev main_v101 : Ref sig .tc := ⟨.hbm, 263, rfl⟩
abbrev main_v102 : Ref sig .tc := ⟨.hbm, 264, rfl⟩
abbrev main_c_26 : Ref sig .tc := ⟨.hbm, 265, rfl⟩
abbrev main_v103 : Ref sig .tc := ⟨.hbm, 266, rfl⟩
abbrev main_v104 : Ref sig .tc := ⟨.hbm, 267, rfl⟩
abbrev main_v105 : Ref sig .tc := ⟨.hbm, 268, rfl⟩
abbrev main_v106 : Ref sig .tc := ⟨.hbm, 269, rfl⟩
abbrev main_v107 : Ref sig .tc := ⟨.hbm, 270, rfl⟩
abbrev main_cst_27 : Ref sig .tc := ⟨.hbm, 271, rfl⟩
abbrev main_v108 : Ref sig .tc := ⟨.hbm, 272, rfl⟩
abbrev main_cst_28 : Ref sig .tc := ⟨.hbm, 273, rfl⟩
abbrev main_v109 : Ref sig .tc := ⟨.hbm, 274, rfl⟩
abbrev main_v110 : Ref sig .tc := ⟨.hbm, 275, rfl⟩
abbrev main_v111 : Ref sig .tc := ⟨.hbm, 276, rfl⟩
abbrev main_v112 : Ref sig .tc := ⟨.hbm, 277, rfl⟩
abbrev main_call10_cst : Ref sig .tc := ⟨.hbm, 278, rfl⟩
abbrev main_call10_v0 : Ref sig .tc := ⟨.hbm, 279, rfl⟩
abbrev main_v113 : Ref sig .tc := ⟨.hbm, 280, rfl⟩
abbrev main_v114 : Ref sig .tc := ⟨.hbm, 281, rfl⟩
abbrev main_v115 : Ref sig .tc := ⟨.hbm, 282, rfl⟩
abbrev main_v116 : Ref sig .tc := ⟨.hbm, 283, rfl⟩
abbrev main_v117 : Ref sig .tc := ⟨.hbm, 284, rfl⟩
abbrev main_v118 : Ref sig .tc := ⟨.hbm, 285, rfl⟩
abbrev main_cst_29 : Ref sig .tc := ⟨.hbm, 286, rfl⟩
abbrev main_cst_30 : Ref sig .tc := ⟨.hbm, 287, rfl⟩
abbrev main_call11_v0 : Ref sig .tc := ⟨.hbm, 288, rfl⟩
abbrev main_call11_v1 : Ref sig .tc := ⟨.hbm, 289, rfl⟩
abbrev main_call11_v2 : Ref sig .tc := ⟨.hbm, 290, rfl⟩
abbrev main_call11_v3 : Ref sig .tc := ⟨.hbm, 291, rfl⟩
abbrev main_call11_v4 : Ref sig .tc := ⟨.hbm, 292, rfl⟩
abbrev main_v119 : Ref sig .tc := ⟨.hbm, 293, rfl⟩
abbrev main_v120 : Ref sig .tc := ⟨.hbm, 294, rfl⟩
abbrev main_v121 : Ref sig .tc := ⟨.hbm, 295, rfl⟩
abbrev main_cst_31 : Ref sig .tc := ⟨.hbm, 296, rfl⟩
abbrev main_cst_32 : Ref sig .tc := ⟨.hbm, 297, rfl⟩
abbrev main_call12_v0 : Ref sig .tc := ⟨.hbm, 298, rfl⟩
abbrev main_call12_v1 : Ref sig .tc := ⟨.hbm, 299, rfl⟩
abbrev main_call12_v2 : Ref sig .tc := ⟨.hbm, 300, rfl⟩
abbrev main_call12_v3 : Ref sig .tc := ⟨.hbm, 301, rfl⟩
abbrev main_call12_v4 : Ref sig .tc := ⟨.hbm, 302, rfl⟩
abbrev main_v122 : Ref sig .tc := ⟨.hbm, 303, rfl⟩
abbrev main_v123 : Ref sig .tc := ⟨.hbm, 304, rfl⟩
abbrev main_v124 : Ref sig .tc := ⟨.hbm, 305, rfl⟩
abbrev main_v125 : Ref sig .tc := ⟨.hbm, 306, rfl⟩
abbrev main_v126 : Ref sig .tc := ⟨.hbm, 307, rfl⟩
abbrev main_v127 : Ref sig .tc := ⟨.hbm, 308, rfl⟩
abbrev main_v128 : Ref sig .tc := ⟨.hbm, 309, rfl⟩
abbrev main_c_33 : Ref sig .tc := ⟨.hbm, 310, rfl⟩
abbrev main_v129 : Ref sig .tc := ⟨.hbm, 311, rfl⟩
abbrev main_v130 : Ref sig .tc := ⟨.hbm, 312, rfl⟩
abbrev main_c_34 : Ref sig .tc := ⟨.hbm, 313, rfl⟩
abbrev main_c_35 : Ref sig .tc := ⟨.hbm, 314, rfl⟩
abbrev main_call13_v0 : Ref sig .tc := ⟨.hbm, 315, rfl⟩
abbrev main_call13_v1 : Ref sig .tc := ⟨.hbm, 316, rfl⟩
abbrev main_call13_v2 : Ref sig .tc := ⟨.hbm, 317, rfl⟩
abbrev main_call13_v3 : Ref sig .tc := ⟨.hbm, 318, rfl⟩
abbrev main_call13_v4 : Ref sig .tc := ⟨.hbm, 319, rfl⟩
abbrev main_v131 : Ref sig .tc := ⟨.hbm, 320, rfl⟩
abbrev main_c_36 : Ref sig .tc := ⟨.hbm, 321, rfl⟩
abbrev main_v132 : Ref sig .tc := ⟨.hbm, 322, rfl⟩
abbrev main_v133 : Ref sig .tc := ⟨.hbm, 323, rfl⟩
abbrev main_c_37 : Ref sig .tc := ⟨.hbm, 324, rfl⟩
abbrev main_c_38 : Ref sig .tc := ⟨.hbm, 325, rfl⟩
abbrev main_call14_v0 : Ref sig .tc := ⟨.hbm, 326, rfl⟩
abbrev main_call14_v1 : Ref sig .tc := ⟨.hbm, 327, rfl⟩
abbrev main_call14_v2 : Ref sig .tc := ⟨.hbm, 328, rfl⟩
abbrev main_call14_v3 : Ref sig .tc := ⟨.hbm, 329, rfl⟩
abbrev main_call14_v4 : Ref sig .tc := ⟨.hbm, 330, rfl⟩
abbrev main_v134 : Ref sig .tc := ⟨.hbm, 331, rfl⟩
abbrev main_v135 : Ref sig .tc := ⟨.hbm, 332, rfl⟩
abbrev main_c_39 : Ref sig .tc := ⟨.hbm, 333, rfl⟩
abbrev main_v136 : Ref sig .tc := ⟨.hbm, 334, rfl⟩
abbrev main_v137 : Ref sig .tc := ⟨.hbm, 335, rfl⟩
abbrev main_v138 : Ref sig .tc := ⟨.hbm, 336, rfl⟩
abbrev main_v139 : Ref sig .tc := ⟨.hbm, 337, rfl⟩
abbrev main_call15_c : Ref sig .tc := ⟨.hbm, 338, rfl⟩
abbrev main_call15_v0 : Ref sig .tc := ⟨.hbm, 339, rfl⟩
abbrev main_call15_v1 : Ref sig .tc := ⟨.hbm, 340, rfl⟩
abbrev main_call15_c_0 : Ref sig .tc := ⟨.hbm, 341, rfl⟩
abbrev main_call15_v2 : Ref sig .tc := ⟨.hbm, 342, rfl⟩
abbrev main_call15_v3 : Ref sig .tc := ⟨.hbm, 343, rfl⟩
abbrev main_call15_v4 : Ref sig .tc := ⟨.hbm, 344, rfl⟩
abbrev main_call15_v5 : Ref sig .tc := ⟨.hbm, 345, rfl⟩
abbrev main_call15_c_1 : Ref sig .tc := ⟨.hbm, 346, rfl⟩
abbrev main_call15_c_2 : Ref sig .tc := ⟨.hbm, 347, rfl⟩
abbrev main_call15_v6 : Ref sig .tc := ⟨.hbm, 348, rfl⟩
abbrev main_call15_v7 : Ref sig .tc := ⟨.hbm, 349, rfl⟩
abbrev main_call15_v8 : Ref sig .tc := ⟨.hbm, 350, rfl⟩
abbrev main_call15_v9 : Ref sig .tc := ⟨.hbm, 351, rfl⟩
abbrev main_call15_v10 : Ref sig .tc := ⟨.hbm, 352, rfl⟩
abbrev main_call15_v11 : Ref sig .tc := ⟨.hbm, 353, rfl⟩
abbrev main_call15_c_3 : Ref sig .tc := ⟨.hbm, 354, rfl⟩
abbrev main_call15_v12 : Ref sig .tc := ⟨.hbm, 355, rfl⟩
abbrev main_call15_v13 : Ref sig .tc := ⟨.hbm, 356, rfl⟩
abbrev main_call15_v14 : Ref sig .tc := ⟨.hbm, 357, rfl⟩
abbrev main_call15_cst : Ref sig .tc := ⟨.hbm, 358, rfl⟩
abbrev main_call15_v15 : Ref sig .tc := ⟨.hbm, 359, rfl⟩
abbrev main_v140 : Ref sig .tc := ⟨.hbm, 360, rfl⟩
abbrev main_c_40 : Ref sig .tc := ⟨.hbm, 361, rfl⟩
abbrev main_v141 : Ref sig .tc := ⟨.hbm, 362, rfl⟩
abbrev main_v142 : Ref sig .tc := ⟨.hbm, 363, rfl⟩
abbrev main_v143 : Ref sig .tc := ⟨.hbm, 364, rfl⟩
abbrev main_v144 : Ref sig .tc := ⟨.hbm, 365, rfl⟩
abbrev main_call16_c : Ref sig .tc := ⟨.hbm, 366, rfl⟩
abbrev main_call16_v0 : Ref sig .tc := ⟨.hbm, 367, rfl⟩
abbrev main_call16_v1 : Ref sig .tc := ⟨.hbm, 368, rfl⟩
abbrev main_call16_c_0 : Ref sig .tc := ⟨.hbm, 369, rfl⟩
abbrev main_call16_v2 : Ref sig .tc := ⟨.hbm, 370, rfl⟩
abbrev main_call16_v3 : Ref sig .tc := ⟨.hbm, 371, rfl⟩
abbrev main_call16_v4 : Ref sig .tc := ⟨.hbm, 372, rfl⟩
abbrev main_call16_v5 : Ref sig .tc := ⟨.hbm, 373, rfl⟩
abbrev main_call16_c_1 : Ref sig .tc := ⟨.hbm, 374, rfl⟩
abbrev main_call16_c_2 : Ref sig .tc := ⟨.hbm, 375, rfl⟩
abbrev main_call16_v6 : Ref sig .tc := ⟨.hbm, 376, rfl⟩
abbrev main_call16_v7 : Ref sig .tc := ⟨.hbm, 377, rfl⟩
abbrev main_call16_v8 : Ref sig .tc := ⟨.hbm, 378, rfl⟩
abbrev main_call16_v9 : Ref sig .tc := ⟨.hbm, 379, rfl⟩
abbrev main_call16_v10 : Ref sig .tc := ⟨.hbm, 380, rfl⟩
abbrev main_call16_v11 : Ref sig .tc := ⟨.hbm, 381, rfl⟩
abbrev main_call16_c_3 : Ref sig .tc := ⟨.hbm, 382, rfl⟩
abbrev main_call16_v12 : Ref sig .tc := ⟨.hbm, 383, rfl⟩
abbrev main_call16_v13 : Ref sig .tc := ⟨.hbm, 384, rfl⟩
abbrev main_call16_v14 : Ref sig .tc := ⟨.hbm, 385, rfl⟩
abbrev main_call16_cst : Ref sig .tc := ⟨.hbm, 386, rfl⟩
abbrev main_call16_v15 : Ref sig .tc := ⟨.hbm, 387, rfl⟩
abbrev main_v145 : Ref sig .tc := ⟨.hbm, 388, rfl⟩
abbrev main_c_41 : Ref sig .tc := ⟨.hbm, 389, rfl⟩
abbrev main_v146 : Ref sig .tc := ⟨.hbm, 390, rfl⟩
abbrev main_v147 : Ref sig .tc := ⟨.hbm, 391, rfl⟩
abbrev main_v148 : Ref sig .tc := ⟨.hbm, 392, rfl⟩
abbrev main_v149 : Ref sig .tc := ⟨.hbm, 393, rfl⟩
abbrev main_call17_c : Ref sig .tc := ⟨.hbm, 394, rfl⟩
abbrev main_call17_v0 : Ref sig .tc := ⟨.hbm, 395, rfl⟩
abbrev main_call17_v1 : Ref sig .tc := ⟨.hbm, 396, rfl⟩
abbrev main_call17_c_0 : Ref sig .tc := ⟨.hbm, 397, rfl⟩
abbrev main_call17_v2 : Ref sig .tc := ⟨.hbm, 398, rfl⟩
abbrev main_call17_v3 : Ref sig .tc := ⟨.hbm, 399, rfl⟩
abbrev main_call17_v4 : Ref sig .tc := ⟨.hbm, 400, rfl⟩
abbrev main_call17_v5 : Ref sig .tc := ⟨.hbm, 401, rfl⟩
abbrev main_call17_c_1 : Ref sig .tc := ⟨.hbm, 402, rfl⟩
abbrev main_call17_c_2 : Ref sig .tc := ⟨.hbm, 403, rfl⟩
abbrev main_call17_v6 : Ref sig .tc := ⟨.hbm, 404, rfl⟩
abbrev main_call17_v7 : Ref sig .tc := ⟨.hbm, 405, rfl⟩
abbrev main_call17_v8 : Ref sig .tc := ⟨.hbm, 406, rfl⟩
abbrev main_call17_v9 : Ref sig .tc := ⟨.hbm, 407, rfl⟩
abbrev main_call17_v10 : Ref sig .tc := ⟨.hbm, 408, rfl⟩
abbrev main_call17_v11 : Ref sig .tc := ⟨.hbm, 409, rfl⟩
abbrev main_call17_c_3 : Ref sig .tc := ⟨.hbm, 410, rfl⟩
abbrev main_call17_v12 : Ref sig .tc := ⟨.hbm, 411, rfl⟩
abbrev main_call17_v13 : Ref sig .tc := ⟨.hbm, 412, rfl⟩
abbrev main_call17_v14 : Ref sig .tc := ⟨.hbm, 413, rfl⟩
abbrev main_call17_cst : Ref sig .tc := ⟨.hbm, 414, rfl⟩
abbrev main_call17_v15 : Ref sig .tc := ⟨.hbm, 415, rfl⟩
abbrev main_v150 : Ref sig .tc := ⟨.hbm, 416, rfl⟩
abbrev main_c_42 : Ref sig .tc := ⟨.hbm, 417, rfl⟩
abbrev main_v151 : Ref sig .tc := ⟨.hbm, 418, rfl⟩
abbrev main_v152 : Ref sig .tc := ⟨.hbm, 419, rfl⟩
abbrev main_v153 : Ref sig .tc := ⟨.hbm, 420, rfl⟩
abbrev main_v154 : Ref sig .tc := ⟨.hbm, 421, rfl⟩
abbrev main_call18_c : Ref sig .tc := ⟨.hbm, 422, rfl⟩
abbrev main_call18_v0 : Ref sig .tc := ⟨.hbm, 423, rfl⟩
abbrev main_call18_v1 : Ref sig .tc := ⟨.hbm, 424, rfl⟩
abbrev main_call18_c_0 : Ref sig .tc := ⟨.hbm, 425, rfl⟩
abbrev main_call18_v2 : Ref sig .tc := ⟨.hbm, 426, rfl⟩
abbrev main_call18_v3 : Ref sig .tc := ⟨.hbm, 427, rfl⟩
abbrev main_call18_v4 : Ref sig .tc := ⟨.hbm, 428, rfl⟩
abbrev main_call18_v5 : Ref sig .tc := ⟨.hbm, 429, rfl⟩
abbrev main_call18_c_1 : Ref sig .tc := ⟨.hbm, 430, rfl⟩
abbrev main_call18_c_2 : Ref sig .tc := ⟨.hbm, 431, rfl⟩
abbrev main_call18_v6 : Ref sig .tc := ⟨.hbm, 432, rfl⟩
abbrev main_call18_v7 : Ref sig .tc := ⟨.hbm, 433, rfl⟩
abbrev main_call18_v8 : Ref sig .tc := ⟨.hbm, 434, rfl⟩
abbrev main_call18_v9 : Ref sig .tc := ⟨.hbm, 435, rfl⟩
abbrev main_call18_v10 : Ref sig .tc := ⟨.hbm, 436, rfl⟩
abbrev main_call18_v11 : Ref sig .tc := ⟨.hbm, 437, rfl⟩
abbrev main_call18_c_3 : Ref sig .tc := ⟨.hbm, 438, rfl⟩
abbrev main_call18_v12 : Ref sig .tc := ⟨.hbm, 439, rfl⟩
abbrev main_call18_v13 : Ref sig .tc := ⟨.hbm, 440, rfl⟩
abbrev main_call18_v14 : Ref sig .tc := ⟨.hbm, 441, rfl⟩
abbrev main_call18_cst : Ref sig .tc := ⟨.hbm, 442, rfl⟩
abbrev main_call18_v15 : Ref sig .tc := ⟨.hbm, 443, rfl⟩
abbrev main_v155 : Ref sig .tc := ⟨.hbm, 444, rfl⟩
abbrev main_v156 : Ref sig .tc := ⟨.hbm, 445, rfl⟩
abbrev main_v157 : Ref sig .tc := ⟨.hbm, 446, rfl⟩
abbrev main_cst_43 : Ref sig .tc := ⟨.hbm, 447, rfl⟩
abbrev main_v158 : Ref sig .tc := ⟨.hbm, 448, rfl⟩
abbrev main_v159 : Ref sig .tc := ⟨.hbm, 449, rfl⟩
abbrev main_v160 : Ref sig .tc := ⟨.hbm, 450, rfl⟩
abbrev main_v161 : Ref sig .tc := ⟨.hbm, 451, rfl⟩
abbrev main_cst_44 : Ref sig .tc := ⟨.hbm, 452, rfl⟩
abbrev main_v162 : Ref sig .tc := ⟨.hbm, 453, rfl⟩
abbrev main_v163 : Ref sig .tc := ⟨.hbm, 454, rfl⟩
abbrev main_v164 : Ref sig .tc := ⟨.hbm, 455, rfl⟩
abbrev main_v165 : Ref sig .tc := ⟨.hbm, 456, rfl⟩
abbrev main_v166 : Ref sig .tc := ⟨.hbm, 457, rfl⟩
abbrev main_v167 : Ref sig .tc := ⟨.hbm, 458, rfl⟩
abbrev main_cst_45 : Ref sig .tc := ⟨.hbm, 459, rfl⟩
abbrev main_v168 : Ref sig .tc := ⟨.hbm, 460, rfl⟩
abbrev main_v169 : Ref sig .tc := ⟨.hbm, 461, rfl⟩
abbrev main_v170 : Ref sig .tc := ⟨.hbm, 462, rfl⟩
abbrev main_v171 : Ref sig .tc := ⟨.hbm, 463, rfl⟩
abbrev main_v172 : Ref sig .tc := ⟨.hbm, 464, rfl⟩
abbrev main_cst_46 : Ref sig .tc := ⟨.hbm, 465, rfl⟩
abbrev main_v173 : Ref sig .tc := ⟨.hbm, 466, rfl⟩
abbrev main_v174 : Ref sig .tc := ⟨.hbm, 467, rfl⟩
abbrev main_v175 : Ref sig .tc := ⟨.hbm, 468, rfl⟩
abbrev main_v176 : Ref sig .tc := ⟨.hbm, 469, rfl⟩
abbrev main_v177 : Ref sig .tc := ⟨.hbm, 470, rfl⟩
abbrev main_v178 : Ref sig .tc := ⟨.hbm, 471, rfl⟩
abbrev main_v179 : Ref sig .tc := ⟨.hbm, 472, rfl⟩
abbrev main_v180 : Ref sig .tc := ⟨.hbm, 473, rfl⟩
abbrev main_v181 : Ref sig .tc := ⟨.hbm, 474, rfl⟩
abbrev main_v182 : Ref sig .tc := ⟨.hbm, 475, rfl⟩
abbrev main_v183 : Ref sig .tc := ⟨.hbm, 476, rfl⟩
abbrev main_v184 : Ref sig .tc := ⟨.hbm, 477, rfl⟩
abbrev main_v185 : Ref sig .tc := ⟨.hbm, 478, rfl⟩
abbrev main_c_47 : Ref sig .tc := ⟨.hbm, 479, rfl⟩
abbrev main_v186 : Ref sig .tc := ⟨.hbm, 480, rfl⟩
abbrev main_v187 : Ref sig .tc := ⟨.hbm, 481, rfl⟩
abbrev main_c_48 : Ref sig .tc := ⟨.hbm, 482, rfl⟩
abbrev main_v188 : Ref sig .tc := ⟨.hbm, 483, rfl⟩
abbrev main_v189 : Ref sig .tc := ⟨.hbm, 484, rfl⟩
abbrev main_v190 : Ref sig .tc := ⟨.hbm, 485, rfl⟩
abbrev main_v191 : Ref sig .tc := ⟨.hbm, 486, rfl⟩
abbrev main_v192 : Ref sig .tc := ⟨.hbm, 487, rfl⟩
abbrev main_cst_49 : Ref sig .tc := ⟨.hbm, 488, rfl⟩
abbrev main_v193 : Ref sig .tc := ⟨.hbm, 489, rfl⟩
abbrev main_cst_50 : Ref sig .tc := ⟨.hbm, 490, rfl⟩
abbrev main_v194 : Ref sig .tc := ⟨.hbm, 491, rfl⟩
abbrev main_v195 : Ref sig .tc := ⟨.hbm, 492, rfl⟩
abbrev main_v196 : Ref sig .tc := ⟨.hbm, 493, rfl⟩
abbrev main_v197 : Ref sig .tc := ⟨.hbm, 494, rfl⟩
abbrev main_call19_cst : Ref sig .tc := ⟨.hbm, 495, rfl⟩
abbrev main_call19_v0 : Ref sig .tc := ⟨.hbm, 496, rfl⟩
abbrev main_v198 : Ref sig .tc := ⟨.hbm, 497, rfl⟩
abbrev main_c_51 : Ref sig .tc := ⟨.hbm, 498, rfl⟩
abbrev main_v199 : Ref sig .tc := ⟨.hbm, 499, rfl⟩
abbrev main_v200 : Ref sig .tc := ⟨.hbm, 500, rfl⟩
abbrev main_c_52 : Ref sig .tc := ⟨.hbm, 501, rfl⟩
abbrev main_v201 : Ref sig .tc := ⟨.hbm, 502, rfl⟩
abbrev main_v202 : Ref sig .tc := ⟨.hbm, 503, rfl⟩
abbrev main_v203 : Ref sig .tc := ⟨.hbm, 504, rfl⟩
abbrev main_v204 : Ref sig .tc := ⟨.hbm, 505, rfl⟩
abbrev main_v205 : Ref sig .tc := ⟨.hbm, 506, rfl⟩
abbrev main_cst_53 : Ref sig .tc := ⟨.hbm, 507, rfl⟩
abbrev main_v206 : Ref sig .tc := ⟨.hbm, 508, rfl⟩
abbrev main_cst_54 : Ref sig .tc := ⟨.hbm, 509, rfl⟩
abbrev main_v207 : Ref sig .tc := ⟨.hbm, 510, rfl⟩
abbrev main_v208 : Ref sig .tc := ⟨.hbm, 511, rfl⟩
abbrev main_v209 : Ref sig .tc := ⟨.hbm, 512, rfl⟩
abbrev main_v210 : Ref sig .tc := ⟨.hbm, 513, rfl⟩
abbrev main_call20_cst : Ref sig .tc := ⟨.hbm, 514, rfl⟩
abbrev main_call20_v0 : Ref sig .tc := ⟨.hbm, 515, rfl⟩
abbrev main_v211 : Ref sig .tc := ⟨.hbm, 516, rfl⟩
abbrev main_v212 : Ref sig .tc := ⟨.hbm, 517, rfl⟩
abbrev main_v213 : Ref sig .tc := ⟨.hbm, 518, rfl⟩
abbrev main_v214 : Ref sig .tc := ⟨.hbm, 519, rfl⟩
abbrev main_v215 : Ref sig .tc := ⟨.hbm, 520, rfl⟩
abbrev main_v216 : Ref sig .tc := ⟨.hbm, 521, rfl⟩
abbrev main_cst_55 : Ref sig .tc := ⟨.hbm, 522, rfl⟩
abbrev main_cst_56 : Ref sig .tc := ⟨.hbm, 523, rfl⟩
abbrev main_call21_v0 : Ref sig .tc := ⟨.hbm, 524, rfl⟩
abbrev main_call21_v1 : Ref sig .tc := ⟨.hbm, 525, rfl⟩
abbrev main_call21_v2 : Ref sig .tc := ⟨.hbm, 526, rfl⟩
abbrev main_call21_v3 : Ref sig .tc := ⟨.hbm, 527, rfl⟩
abbrev main_call21_v4 : Ref sig .tc := ⟨.hbm, 528, rfl⟩
abbrev main_v217 : Ref sig .tc := ⟨.hbm, 529, rfl⟩
abbrev main_v218 : Ref sig .tc := ⟨.hbm, 530, rfl⟩
abbrev main_v219 : Ref sig .tc := ⟨.hbm, 531, rfl⟩
abbrev main_cst_57 : Ref sig .tc := ⟨.hbm, 532, rfl⟩
abbrev main_cst_58 : Ref sig .tc := ⟨.hbm, 533, rfl⟩
abbrev main_call22_v0 : Ref sig .tc := ⟨.hbm, 534, rfl⟩
abbrev main_call22_v1 : Ref sig .tc := ⟨.hbm, 535, rfl⟩
abbrev main_call22_v2 : Ref sig .tc := ⟨.hbm, 536, rfl⟩
abbrev main_call22_v3 : Ref sig .tc := ⟨.hbm, 537, rfl⟩
abbrev main_call22_v4 : Ref sig .tc := ⟨.hbm, 538, rfl⟩
abbrev main_v220 : Ref sig .tc := ⟨.hbm, 539, rfl⟩
abbrev main_v221 : Ref sig .tc := ⟨.hbm, 540, rfl⟩
abbrev main_v222 : Ref sig .tc := ⟨.hbm, 541, rfl⟩
abbrev main_v223 : Ref sig .tc := ⟨.hbm, 542, rfl⟩
abbrev main_v224 : Ref sig .tc := ⟨.hbm, 543, rfl⟩
abbrev main_v225 : Ref sig .tc := ⟨.hbm, 544, rfl⟩
abbrev main_v226 : Ref sig .tc := ⟨.hbm, 545, rfl⟩
abbrev main_c_59 : Ref sig .tc := ⟨.hbm, 546, rfl⟩
abbrev main_v227 : Ref sig .tc := ⟨.hbm, 547, rfl⟩
abbrev main_v228 : Ref sig .tc := ⟨.hbm, 548, rfl⟩
abbrev main_c_60 : Ref sig .tc := ⟨.hbm, 549, rfl⟩
abbrev main_c_61 : Ref sig .tc := ⟨.hbm, 550, rfl⟩
abbrev main_call23_v0 : Ref sig .tc := ⟨.hbm, 551, rfl⟩
abbrev main_call23_v1 : Ref sig .tc := ⟨.hbm, 552, rfl⟩
abbrev main_call23_v2 : Ref sig .tc := ⟨.hbm, 553, rfl⟩
abbrev main_call23_v3 : Ref sig .tc := ⟨.hbm, 554, rfl⟩
abbrev main_call23_v4 : Ref sig .tc := ⟨.hbm, 555, rfl⟩
abbrev main_v229 : Ref sig .tc := ⟨.hbm, 556, rfl⟩
abbrev main_c_62 : Ref sig .tc := ⟨.hbm, 557, rfl⟩
abbrev main_v230 : Ref sig .tc := ⟨.hbm, 558, rfl⟩
abbrev main_v231 : Ref sig .tc := ⟨.hbm, 559, rfl⟩
abbrev main_c_63 : Ref sig .tc := ⟨.hbm, 560, rfl⟩
abbrev main_c_64 : Ref sig .tc := ⟨.hbm, 561, rfl⟩
abbrev main_call24_v0 : Ref sig .tc := ⟨.hbm, 562, rfl⟩
abbrev main_call24_v1 : Ref sig .tc := ⟨.hbm, 563, rfl⟩
abbrev main_call24_v2 : Ref sig .tc := ⟨.hbm, 564, rfl⟩
abbrev main_call24_v3 : Ref sig .tc := ⟨.hbm, 565, rfl⟩
abbrev main_call24_v4 : Ref sig .tc := ⟨.hbm, 566, rfl⟩
abbrev main_v232 : Ref sig .tc := ⟨.hbm, 567, rfl⟩
abbrev main_v233 : Ref sig .tc := ⟨.hbm, 568, rfl⟩
abbrev main_c_65 : Ref sig .tc := ⟨.hbm, 569, rfl⟩
abbrev main_v234 : Ref sig .tc := ⟨.hbm, 570, rfl⟩
abbrev main_v235 : Ref sig .tc := ⟨.hbm, 571, rfl⟩
abbrev main_v236 : Ref sig .tc := ⟨.hbm, 572, rfl⟩
abbrev main_v237 : Ref sig .tc := ⟨.hbm, 573, rfl⟩
abbrev main_call25_c : Ref sig .tc := ⟨.hbm, 574, rfl⟩
abbrev main_call25_v0 : Ref sig .tc := ⟨.hbm, 575, rfl⟩
abbrev main_call25_v1 : Ref sig .tc := ⟨.hbm, 576, rfl⟩
abbrev main_call25_c_0 : Ref sig .tc := ⟨.hbm, 577, rfl⟩
abbrev main_call25_v2 : Ref sig .tc := ⟨.hbm, 578, rfl⟩
abbrev main_call25_v3 : Ref sig .tc := ⟨.hbm, 579, rfl⟩
abbrev main_call25_v4 : Ref sig .tc := ⟨.hbm, 580, rfl⟩
abbrev main_call25_v5 : Ref sig .tc := ⟨.hbm, 581, rfl⟩
abbrev main_call25_c_1 : Ref sig .tc := ⟨.hbm, 582, rfl⟩
abbrev main_call25_c_2 : Ref sig .tc := ⟨.hbm, 583, rfl⟩
abbrev main_call25_v6 : Ref sig .tc := ⟨.hbm, 584, rfl⟩
abbrev main_call25_v7 : Ref sig .tc := ⟨.hbm, 585, rfl⟩
abbrev main_call25_v8 : Ref sig .tc := ⟨.hbm, 586, rfl⟩
abbrev main_call25_v9 : Ref sig .tc := ⟨.hbm, 587, rfl⟩
abbrev main_call25_v10 : Ref sig .tc := ⟨.hbm, 588, rfl⟩
abbrev main_call25_v11 : Ref sig .tc := ⟨.hbm, 589, rfl⟩
abbrev main_call25_c_3 : Ref sig .tc := ⟨.hbm, 590, rfl⟩
abbrev main_call25_v12 : Ref sig .tc := ⟨.hbm, 591, rfl⟩
abbrev main_call25_v13 : Ref sig .tc := ⟨.hbm, 592, rfl⟩
abbrev main_call25_v14 : Ref sig .tc := ⟨.hbm, 593, rfl⟩
abbrev main_call25_cst : Ref sig .tc := ⟨.hbm, 594, rfl⟩
abbrev main_call25_v15 : Ref sig .tc := ⟨.hbm, 595, rfl⟩
abbrev main_v238 : Ref sig .tc := ⟨.hbm, 596, rfl⟩
abbrev main_c_66 : Ref sig .tc := ⟨.hbm, 597, rfl⟩
abbrev main_v239 : Ref sig .tc := ⟨.hbm, 598, rfl⟩
abbrev main_v240 : Ref sig .tc := ⟨.hbm, 599, rfl⟩
abbrev main_v241 : Ref sig .tc := ⟨.hbm, 600, rfl⟩
abbrev main_v242 : Ref sig .tc := ⟨.hbm, 601, rfl⟩
abbrev main_call26_c : Ref sig .tc := ⟨.hbm, 602, rfl⟩
abbrev main_call26_v0 : Ref sig .tc := ⟨.hbm, 603, rfl⟩
abbrev main_call26_v1 : Ref sig .tc := ⟨.hbm, 604, rfl⟩
abbrev main_call26_c_0 : Ref sig .tc := ⟨.hbm, 605, rfl⟩
abbrev main_call26_v2 : Ref sig .tc := ⟨.hbm, 606, rfl⟩
abbrev main_call26_v3 : Ref sig .tc := ⟨.hbm, 607, rfl⟩
abbrev main_call26_v4 : Ref sig .tc := ⟨.hbm, 608, rfl⟩
abbrev main_call26_v5 : Ref sig .tc := ⟨.hbm, 609, rfl⟩
abbrev main_call26_c_1 : Ref sig .tc := ⟨.hbm, 610, rfl⟩
abbrev main_call26_c_2 : Ref sig .tc := ⟨.hbm, 611, rfl⟩
abbrev main_call26_v6 : Ref sig .tc := ⟨.hbm, 612, rfl⟩
abbrev main_call26_v7 : Ref sig .tc := ⟨.hbm, 613, rfl⟩
abbrev main_call26_v8 : Ref sig .tc := ⟨.hbm, 614, rfl⟩
abbrev main_call26_v9 : Ref sig .tc := ⟨.hbm, 615, rfl⟩
abbrev main_call26_v10 : Ref sig .tc := ⟨.hbm, 616, rfl⟩
abbrev main_call26_v11 : Ref sig .tc := ⟨.hbm, 617, rfl⟩
abbrev main_call26_c_3 : Ref sig .tc := ⟨.hbm, 618, rfl⟩
abbrev main_call26_v12 : Ref sig .tc := ⟨.hbm, 619, rfl⟩
abbrev main_call26_v13 : Ref sig .tc := ⟨.hbm, 620, rfl⟩
abbrev main_call26_v14 : Ref sig .tc := ⟨.hbm, 621, rfl⟩
abbrev main_call26_cst : Ref sig .tc := ⟨.hbm, 622, rfl⟩
abbrev main_call26_v15 : Ref sig .tc := ⟨.hbm, 623, rfl⟩
abbrev main_v243 : Ref sig .tc := ⟨.hbm, 624, rfl⟩
abbrev main_c_67 : Ref sig .tc := ⟨.hbm, 625, rfl⟩
abbrev main_v244 : Ref sig .tc := ⟨.hbm, 626, rfl⟩
abbrev main_v245 : Ref sig .tc := ⟨.hbm, 627, rfl⟩
abbrev main_v246 : Ref sig .tc := ⟨.hbm, 628, rfl⟩
abbrev main_v247 : Ref sig .tc := ⟨.hbm, 629, rfl⟩
abbrev main_call27_c : Ref sig .tc := ⟨.hbm, 630, rfl⟩
abbrev main_call27_v0 : Ref sig .tc := ⟨.hbm, 631, rfl⟩
abbrev main_call27_v1 : Ref sig .tc := ⟨.hbm, 632, rfl⟩
abbrev main_call27_c_0 : Ref sig .tc := ⟨.hbm, 633, rfl⟩
abbrev main_call27_v2 : Ref sig .tc := ⟨.hbm, 634, rfl⟩
abbrev main_call27_v3 : Ref sig .tc := ⟨.hbm, 635, rfl⟩
abbrev main_call27_v4 : Ref sig .tc := ⟨.hbm, 636, rfl⟩
abbrev main_call27_v5 : Ref sig .tc := ⟨.hbm, 637, rfl⟩
abbrev main_call27_c_1 : Ref sig .tc := ⟨.hbm, 638, rfl⟩
abbrev main_call27_c_2 : Ref sig .tc := ⟨.hbm, 639, rfl⟩
abbrev main_call27_v6 : Ref sig .tc := ⟨.hbm, 640, rfl⟩
abbrev main_call27_v7 : Ref sig .tc := ⟨.hbm, 641, rfl⟩
abbrev main_call27_v8 : Ref sig .tc := ⟨.hbm, 642, rfl⟩
abbrev main_call27_v9 : Ref sig .tc := ⟨.hbm, 643, rfl⟩
abbrev main_call27_v10 : Ref sig .tc := ⟨.hbm, 644, rfl⟩
abbrev main_call27_v11 : Ref sig .tc := ⟨.hbm, 645, rfl⟩
abbrev main_call27_c_3 : Ref sig .tc := ⟨.hbm, 646, rfl⟩
abbrev main_call27_v12 : Ref sig .tc := ⟨.hbm, 647, rfl⟩
abbrev main_call27_v13 : Ref sig .tc := ⟨.hbm, 648, rfl⟩
abbrev main_call27_v14 : Ref sig .tc := ⟨.hbm, 649, rfl⟩
abbrev main_call27_cst : Ref sig .tc := ⟨.hbm, 650, rfl⟩
abbrev main_call27_v15 : Ref sig .tc := ⟨.hbm, 651, rfl⟩
abbrev main_v248 : Ref sig .tc := ⟨.hbm, 652, rfl⟩
abbrev main_c_68 : Ref sig .tc := ⟨.hbm, 653, rfl⟩
abbrev main_v249 : Ref sig .tc := ⟨.hbm, 654, rfl⟩
abbrev main_v250 : Ref sig .tc := ⟨.hbm, 655, rfl⟩
abbrev main_v251 : Ref sig .tc := ⟨.hbm, 656, rfl⟩
abbrev main_v252 : Ref sig .tc := ⟨.hbm, 657, rfl⟩
abbrev main_call28_c : Ref sig .tc := ⟨.hbm, 658, rfl⟩
abbrev main_call28_v0 : Ref sig .tc := ⟨.hbm, 659, rfl⟩
abbrev main_call28_v1 : Ref sig .tc := ⟨.hbm, 660, rfl⟩
abbrev main_call28_c_0 : Ref sig .tc := ⟨.hbm, 661, rfl⟩
abbrev main_call28_v2 : Ref sig .tc := ⟨.hbm, 662, rfl⟩
abbrev main_call28_v3 : Ref sig .tc := ⟨.hbm, 663, rfl⟩
abbrev main_call28_v4 : Ref sig .tc := ⟨.hbm, 664, rfl⟩
abbrev main_call28_v5 : Ref sig .tc := ⟨.hbm, 665, rfl⟩
abbrev main_call28_c_1 : Ref sig .tc := ⟨.hbm, 666, rfl⟩
abbrev main_call28_c_2 : Ref sig .tc := ⟨.hbm, 667, rfl⟩
abbrev main_call28_v6 : Ref sig .tc := ⟨.hbm, 668, rfl⟩
abbrev main_call28_v7 : Ref sig .tc := ⟨.hbm, 669, rfl⟩
abbrev main_call28_v8 : Ref sig .tc := ⟨.hbm, 670, rfl⟩
abbrev main_call28_v9 : Ref sig .tc := ⟨.hbm, 671, rfl⟩
abbrev main_call28_v10 : Ref sig .tc := ⟨.hbm, 672, rfl⟩
abbrev main_call28_v11 : Ref sig .tc := ⟨.hbm, 673, rfl⟩
abbrev main_call28_c_3 : Ref sig .tc := ⟨.hbm, 674, rfl⟩
abbrev main_call28_v12 : Ref sig .tc := ⟨.hbm, 675, rfl⟩
abbrev main_call28_v13 : Ref sig .tc := ⟨.hbm, 676, rfl⟩
abbrev main_call28_v14 : Ref sig .tc := ⟨.hbm, 677, rfl⟩
abbrev main_call28_cst : Ref sig .tc := ⟨.hbm, 678, rfl⟩
abbrev main_call28_v15 : Ref sig .tc := ⟨.hbm, 679, rfl⟩
abbrev main_v253 : Ref sig .tc := ⟨.hbm, 680, rfl⟩
abbrev main_v254 : Ref sig .tc := ⟨.hbm, 681, rfl⟩
abbrev main_v255 : Ref sig .tc := ⟨.hbm, 682, rfl⟩
abbrev main_cst_69 : Ref sig .tc := ⟨.hbm, 683, rfl⟩
abbrev main_v256 : Ref sig .tc := ⟨.hbm, 684, rfl⟩
abbrev main_v257 : Ref sig .tc := ⟨.hbm, 685, rfl⟩
abbrev main_v258 : Ref sig .tc := ⟨.hbm, 686, rfl⟩
abbrev main_v259 : Ref sig .tc := ⟨.hbm, 687, rfl⟩
abbrev main_cst_70 : Ref sig .tc := ⟨.hbm, 688, rfl⟩
abbrev main_v260 : Ref sig .tc := ⟨.hbm, 689, rfl⟩
abbrev main_v261 : Ref sig .tc := ⟨.hbm, 690, rfl⟩
abbrev main_v262 : Ref sig .tc := ⟨.hbm, 691, rfl⟩
abbrev main_v263 : Ref sig .tc := ⟨.hbm, 692, rfl⟩
abbrev main_v264 : Ref sig .tc := ⟨.hbm, 693, rfl⟩
abbrev main_v265 : Ref sig .tc := ⟨.hbm, 694, rfl⟩
abbrev main_cst_71 : Ref sig .tc := ⟨.hbm, 695, rfl⟩
abbrev main_v266 : Ref sig .tc := ⟨.hbm, 696, rfl⟩
abbrev main_v267 : Ref sig .tc := ⟨.hbm, 697, rfl⟩
abbrev main_v268 : Ref sig .tc := ⟨.hbm, 698, rfl⟩
abbrev main_v269 : Ref sig .tc := ⟨.hbm, 699, rfl⟩
abbrev main_v270 : Ref sig .tc := ⟨.hbm, 700, rfl⟩
abbrev main_cst_72 : Ref sig .tc := ⟨.hbm, 701, rfl⟩
abbrev main_v271 : Ref sig .tc := ⟨.hbm, 702, rfl⟩
abbrev main_v272 : Ref sig .tc := ⟨.hbm, 703, rfl⟩
abbrev main_v273 : Ref sig .tc := ⟨.hbm, 704, rfl⟩
abbrev main_v274 : Ref sig .tc := ⟨.hbm, 705, rfl⟩
abbrev main_v275 : Ref sig .tc := ⟨.hbm, 706, rfl⟩
abbrev main_v276 : Ref sig .tc := ⟨.hbm, 707, rfl⟩
abbrev main_v277 : Ref sig .tc := ⟨.hbm, 708, rfl⟩
abbrev main_v278 : Ref sig .tc := ⟨.hbm, 709, rfl⟩
abbrev main_v279 : Ref sig .tc := ⟨.hbm, 710, rfl⟩
abbrev main_v280 : Ref sig .tc := ⟨.hbm, 711, rfl⟩
abbrev main_v281 : Ref sig .tc := ⟨.hbm, 712, rfl⟩
abbrev main_v282 : Ref sig .tc := ⟨.hbm, 713, rfl⟩
abbrev main_v283 : Ref sig .tc := ⟨.hbm, 714, rfl⟩
abbrev main_c_73 : Ref sig .tc := ⟨.hbm, 715, rfl⟩
abbrev main_v284 : Ref sig .tc := ⟨.hbm, 716, rfl⟩
abbrev main_v285 : Ref sig .tc := ⟨.hbm, 717, rfl⟩
abbrev main_c_74 : Ref sig .tc := ⟨.hbm, 718, rfl⟩
abbrev main_v286 : Ref sig .tc := ⟨.hbm, 719, rfl⟩
abbrev main_v287 : Ref sig .tc := ⟨.hbm, 720, rfl⟩
abbrev main_v288 : Ref sig .tc := ⟨.hbm, 721, rfl⟩
abbrev main_v289 : Ref sig .tc := ⟨.hbm, 722, rfl⟩
abbrev main_v290 : Ref sig .tc := ⟨.hbm, 723, rfl⟩
abbrev main_cst_75 : Ref sig .tc := ⟨.hbm, 724, rfl⟩
abbrev main_v291 : Ref sig .tc := ⟨.hbm, 725, rfl⟩
abbrev main_cst_76 : Ref sig .tc := ⟨.hbm, 726, rfl⟩
abbrev main_v292 : Ref sig .tc := ⟨.hbm, 727, rfl⟩
abbrev main_v293 : Ref sig .tc := ⟨.hbm, 728, rfl⟩
abbrev main_v294 : Ref sig .tc := ⟨.hbm, 729, rfl⟩
abbrev main_v295 : Ref sig .tc := ⟨.hbm, 730, rfl⟩
abbrev main_call29_cst : Ref sig .tc := ⟨.hbm, 731, rfl⟩
abbrev main_call29_v0 : Ref sig .tc := ⟨.hbm, 732, rfl⟩
abbrev main_v296 : Ref sig .tc := ⟨.hbm, 733, rfl⟩
abbrev main_c_77 : Ref sig .tc := ⟨.hbm, 734, rfl⟩
abbrev main_v297 : Ref sig .tc := ⟨.hbm, 735, rfl⟩
abbrev main_v298 : Ref sig .tc := ⟨.hbm, 736, rfl⟩
abbrev main_c_78 : Ref sig .tc := ⟨.hbm, 737, rfl⟩
abbrev main_v299 : Ref sig .tc := ⟨.hbm, 738, rfl⟩
abbrev main_v300 : Ref sig .tc := ⟨.hbm, 739, rfl⟩
abbrev main_v301 : Ref sig .tc := ⟨.hbm, 740, rfl⟩
abbrev main_v302 : Ref sig .tc := ⟨.hbm, 741, rfl⟩
abbrev main_v303 : Ref sig .tc := ⟨.hbm, 742, rfl⟩
abbrev main_cst_79 : Ref sig .tc := ⟨.hbm, 743, rfl⟩
abbrev main_v304 : Ref sig .tc := ⟨.hbm, 744, rfl⟩
abbrev main_cst_80 : Ref sig .tc := ⟨.hbm, 745, rfl⟩
abbrev main_v305 : Ref sig .tc := ⟨.hbm, 746, rfl⟩
abbrev main_v306 : Ref sig .tc := ⟨.hbm, 747, rfl⟩
abbrev main_v307 : Ref sig .tc := ⟨.hbm, 748, rfl⟩
abbrev main_v308 : Ref sig .tc := ⟨.hbm, 749, rfl⟩
abbrev main_call30_cst : Ref sig .tc := ⟨.hbm, 750, rfl⟩
abbrev main_call30_v0 : Ref sig .tc := ⟨.hbm, 751, rfl⟩
abbrev main_v309 : Ref sig .tc := ⟨.hbm, 752, rfl⟩
abbrev main_v310 : Ref sig .tc := ⟨.hbm, 753, rfl⟩
abbrev main_v311 : Ref sig .tc := ⟨.hbm, 754, rfl⟩
abbrev main_v312 : Ref sig .tc := ⟨.hbm, 755, rfl⟩

abbrev nD : Nat := 1
abbrev τ : Topo := Topo.v7x

variable {F : FTy → Type} [FloatOps F]
-- ==== Proof.Body.lean ====
module

public import proofs.«01_k».proof.Proof.Gen.KernelIdeal.Launch

@[expose] public section

set_option maxRecDepth 100000

noncomputable section

namespace Cert.KernelIdeal.Hand

open Cert.KernelIdeal Cert.KernelIdeal.Gen
open Idealize.ShloMosaic Idealize.ShloMosaic.TcCoe Idealize.SL.Sem

variable {F : FTy → Type} [FloatOps F]

/-- The programs a TensorCore runs here. -/
abbrev Pr (F : FTy → Type) (α : Type) : Type 1 := Prog (TpuEff nD τ sig (Elt F) Λ₀ .tc) α

/-- `f 0; f 1; …; f (n-1)`: the last `k` rounds of it. -/
def loop {F : FTy → Type} (n : ℕ) (f : Fin n → Pr F PUnit) : (k : ℕ) → k ≤ n → Pr F PUnit
  | 0, _ => .ret ⟨⟩
  | k + 1, h => (f ⟨n - (k + 1), by omega⟩).bind fun _ => loop n f k (Nat.le_of_succ_le h)

section Views
variable (arg1 : Memref sig .tc .hbm S196x1024x256 .f32) (arg9 : Memref sig .tc .vmem S2x64x224x256 .f32) (arg10 : DmaSems sig S2x196)

/-- Where plane `p = 14 a + b` lands in a slot: rows of 16, the last two of each unused. -/
def posOf (p : Fin 196) : ℕ := p.val / 14 * 16 + p.val % 14
theorem posOf_lt (p : Fin 196) : posOf p < 224 := by unfold posOf; omega

theorem src_inb {r : ℕ} (hr : r + 64 ≤ 1024) (p : Fin 196) (a : Fin 3) :
    (![p.val, r, 0] : Fin 3 → ℕ) a + S1x64x256.size a ≤ S196x1024x256.size a := by
  have := p.isLt
  fin_cases a <;> simp <;> omega
theorem dst_inb (s : Fin 2) (p : Fin 196) (a : Fin 4) :
    (![s.val, 0, posOf p, 0] : Fin 4 → ℕ) a + S1x64x1x256.size a ≤ S2x64x224x256.size a := by
  have := posOf_lt p; have := s.isLt
  fin_cases a <;> simp <;> omega
theorem sem_inb (s : Fin 2) (p : Fin 196) (a : Fin 2) :
    (![s.val, p.val] : Fin 2 → ℕ) a + S1x1.size a ≤ S2x196.size a := by
  have := p.isLt; have := s.isLt
  fin_cases a <;> simp <;> omega

/-- 64 rows from row `r` on of plane `p` of the features. -/
def srcM (r : ℕ) (hr : r + 64 ≤ 1024) (p : Fin 196) : Memref sig .tc .hbm S64x256 .f32 :=
  (arg1.slice (Rect.unit (s := S196x1024x256) ![p.val, r, 0] S1x64x256.size (src_inb hr p)) (fun _ => rfl)).squeeze S64x256 squeezes_S1x64x256_S64x256
/-- Plane `p`'s place in slot `s`. -/
def dstM (s : Fin 2) (p : Fin 196) : Memref sig .tc .vmem S64x256 .f32 :=
  (arg9.slice (Rect.unit (s := S2x64x224x256) ![s.val, 0, posOf p, 0] S1x64x1x256.size (dst_inb s p)) (fun _ => rfl)).squeeze S64x256 squeezes_S1x64x1x256_S64x256
/-- Its semaphore. -/
def semM (s : Fin 2) (p : Fin 196) : DmaSem sig :=
  ((arg10.slice (Rect.unit (s := S2x196) ![s.val, p.val] S1x1.size (sem_inb s p))).squeeze S_ squeezes_S1x1_S_).sem

theorem srcM_exact (r : ℕ) (hr : r + 64 ≤ 1024) (p : Fin 196) : (srcM arg1 r hr p).view.WordExact :=
  (View.wordExact_bits rfl).reshape _ _
theorem dstM_exact (s : Fin 2) (p : Fin 196) : (dstM arg9 s p).view.WordExact :=
  (View.wordExact_bits rfl).reshape _ _

/-- One copy started. -/
def start (r : ℕ) (hr : r + 64 ≤ 1024) (s : Fin 2) (p : Fin 196) : Pr F PUnit :=
  Prog.lift (.enqueueDma (srcM arg1 r hr p) (.here (dstM arg9 s p)) (.dma (semM arg10 s p)) (srcM_exact arg1 r hr p) (dstM_exact arg9 s p) ⟨Or.inl rfl, trivial⟩)
/-- One copy waited for. -/
def await (r : ℕ) (hr : r + 64 ≤ 1024) (s : Fin 2) (p : Fin 196) : Pr F PUnit :=
  Prog.lift (.waitDma2 (semM arg10 s p) (srcM arg1 r hr p) (dstM arg9 s p) (srcM_exact arg1 r hr p) (dstM_exact arg9 s p))

def startAll (r : ℕ) (hr : r + 64 ≤ 1024) (s : Fin 2) : Pr F PUnit := loop 196 (start arg1 arg9 arg10 r hr s) 196 le_rfl
def awaitAll (r : ℕ) (hr : r + 64 ≤ 1024) (s : Fin 2) : Pr F PUnit := loop 196 (await arg1 arg9 arg10 r hr s) 196 le_rfl

theorem pad_inb (q : Fin 28) (a : Fin 4) :
    (![q.val / 14, 0, q.val % 14 * 16 + 14, 0] : Fin 4 → ℕ) a + S1x64x2x256.size a ≤ S2x64x224x256.size a := by
  have := q.isLt
  fin_cases a <;> simp <;> omega
/-- The two unused columns of row `q` (of both slots' 28 rows). -/
def padR (q : Fin 28) : Rect S2x64x224x256 :=
  Rect.unit (s := S2x64x224x256) ![q.val / 14, 0, q.val % 14 * 16 + 14, 0] S1x64x2x256.size (pad_inb q)
/-- What is written there. -/
def zeroPad : FVec F S1x64x2x256 .f32 :=
  shapeCast S1x64x2x256 (broadcast S64x2x256 (Scalar.ofBits .f32 0x00000000#32 : F .f32)) shapeCasts_S64x2x256_S1x64x2x256
def clear (q : Fin 28) : Pr F PUnit :=
  (Prog.lift (.load arg9 (padR q).toLoadRect (View.loadsAt_vmem h_S1x64x2x256))).bind fun _ =>
    Prog.lift (.store arg9 (padR q) zeroPad Finset.univ (View.stores_vmem_bits_univ h_S1x64x2x256 rfl) (.inl rfl))
def clearAll : Pr F PUnit := loop 28 (clear arg9) 28 le_rfl

end Views

section Words
variable (i : grid0.Coords)
/-- The grid coordinate as a word. -/
def stepW : BitVec 32 := BitVec.ofNat 32 (i 0).val
/-- Is this the first point? -/
def cond1 : BitVec 1 := Scalar.cmpi .ne (Scalar.extui (Scalar.cmpi .eq (stepW i) 0#32) : BitVec 32) 0#32
/-- The slot of this point's block, as a word. -/
def slotW : BitVec 32 :=
  let two : BitVec 32 := Scalar.select (Scalar.cmpi .eq 2#32 0#32) 1#32 2#32
  let rem : BitVec 32 := Scalar.remsi (stepW i) two
  Scalar.select (Scalar.andi (Scalar.xori (Scalar.cmpi .slt rem 0#32) (Scalar.cmpi .slt two 0#32)) (Scalar.cmpi .ne rem 0#32)) (Scalar.addi rem two) rem
/-- The first row of the next block, and of this one. -/
def nextRow : ℕ := (Scalar.muli (Scalar.addi (stepW i) 1#32) 64#32).toNat
def thisRow : ℕ := (Scalar.muli (stepW i) 64#32).toNat
theorem nextRow_a (h : k0_cond2 i = 1#1) : nextRow i + 64 ≤ 1024 := k0_off1_inb i h 1
theorem nextRow_b (h : k0_cond3 i = 1#1) : nextRow i + 64 ≤ 1024 := k0_off197_inb i h 1
theorem thisRow_a (h : k0_cond4 i = 1#1) : thisRow i + 64 ≤ 1024 := k0_off393_inb i h 1
theorem thisRow_b (h : k0_cond5 i = 1#1) : thisRow i + 64 ≤ 1024 := k0_off589_inb i h 1
end Words

section Values
variable (w1t : FVec F S128x256 .bf16) (w2t : FVec F S128x128 .bf16) (woutt : FVec F S8x128 .bf16) (mm : FVec F S128x128 .bf16)

/-- One sample's features projected by the transposed first weight. -/
def proj (blk : Vec F S1x1x224x256 .f32) : FVec F S128x224 .bf16 :=
  truncf .bf16 (matmul dot_S128x256_S224x256_S128x224_1_1_0_0_n_n none w1t
    (truncf .bf16 (shapeCast S224x256 blk shapeCasts_S1x1x224x256_S224x256) bitsLt_bf16_f32 : FVec F S224x256 .bf16)
    (constant S128x224 .f32 0x00000000#32)) bitsLt_bf16_f32

/-- A coordinate clipped to the image. -/
def clipW (x : FVec F S1x128 .f32) : FVec F S1x128 .f32 :=
  minimumf (broadcast S1x128 (Scalar.ofBits .f32 0x414FFF97#32 : F .f32))
    (maximumf (broadcast S1x128 (Scalar.ofBits .f32 0x00000000#32 : F .f32)) x)
def cellW (x : FVec F S1x128 .f32) : IVec S1x128 32 := fptosi 32 (floor (clipW x))
def fracW (x : FVec F S1x128 .f32) : FVec F S1x128 .f32 := subf (clipW x) (floor (clipW x))
def rows16 : IVec S16x128 32 := iota .tc S16x128 32 [0] iota_S16x128_d0_w32
def rows14 : IVec S14x128 32 := iota .tc S14x128 32 [0] iota_S14x128_d0_w32

/-- The weights of the 16 columns. -/
def hatX (x : FVec F S1x128 .f32) : FVec F S16x128 .bf16 :=
  truncf .bf16 (addf
    (select (cmpi .eq rows16 (broadcastTo S16x128 (cellW x) broadcasts_S1x128_S16x128))
      (broadcastTo S16x128 (shapeCast S1x128 (subf (broadcast S1x128 (Scalar.ofBits .f32 0x3F800000#32 : F .f32)) (fracW x)) shapeCasts_S1x128_S1x128) broadcasts_S1x128_S16x128)
      (broadcast S16x128 (Scalar.ofBits .f32 0x00000000#32 : F .f32)))
    (select (cmpi .eq rows16 (broadcastTo S16x128 (addi (cellW x) (broadcast S1x128 1#32)) broadcasts_S1x128_S16x128))
      (broadcastTo S16x128 (shapeCast S1x128 (fracW x) shapeCasts_S1x128_S1x128) broadcasts_S1x128_S16x128)
      (broadcast S16x128 (Scalar.ofBits .f32 0x00000000#32 : F .f32)))) bitsLt_bf16_f32
/-- The weights of the 14 rows. -/
def hatY (x : FVec F S1x128 .f32) : FVec F S14x128 .bf16 :=
  truncf .bf16 (addf
    (select (cmpi .eq rows14 (broadcastTo S14x128 (cellW x) broadcasts_S1x128_S14x128))
      (broadcastTo S14x128 (shapeCast S1x128 (subf (broadcast S1x128 (Scalar.ofBits .f32 0x3F800000#32 : F .f32)) (fracW x)) shapeCasts_S1x128_S1x128) broadcasts_S1x128_S14x128)
      (broadcast S14x128 (Scalar.ofBits .f32 0x00000000#32 : F .f32)))
    (select (cmpi .eq rows14 (broadcastTo S14x128 (addi (cellW x) (broadcast S1x128 1#32)) broadcasts_S1x128_S14x128))
      (broadcastTo S14x128 (shapeCast S1x128 (fracW x) shapeCasts_S1x128_S1x128) broadcasts_S1x128_S14x128)
      (broadcast S14x128 (Scalar.ofBits .f32 0x00000000#32 : F .f32)))) bitsLt_bf16_f32
/-- The sampling matrix: position `16 a + b`, vertex `n`. -/
def sampM (x y : FVec F S1x128 .f32) : FVec F S224x128 .bf16 :=
  shapeCast S224x128 (mulf (broadcastTo S14x16x128 (shapeCast S14x1x128 (hatY y) shapeCasts_S14x128_S14x1x128) broadcasts_S14x1x128_S14x16x128)
    (broadcastTo S14x16x128 (shapeCast S1x16x128 (hatX x) shapeCasts_S16x128_S1x16x128) broadcasts_S1x16x128_S14x16x128)) shapeCasts_S14x16x128_S224x128
/-- A 128-square array times the neighbour matrix. -/
def mixM (u : FVec F S128x128 .f32) : FVec F S128x128 .f32 :=
  matmul dot_S128x128_S128x128_S128x128_1_0_0_1_n_n none (truncf .bf16 u bitsLt_bf16_f32 : FVec F S128x128 .bf16) mm (constant S128x128 .f32 0x00000000#32)
def reluW (u : FVec F S128x128 .f32) : FVec F S128x128 .bf16 :=
  truncf .bf16 (maximumf u (broadcast S128x128 (Scalar.ofBits .f32 0x00000000#32 : F .f32))) bitsLt_bf16_f32
/-- The offsets of one round. -/
def offW (g : FVec F S128x224 .bf16) (x y : FVec F S1x128 .f32) : FVec F S8x128 .f32 :=
  tanh (matmul dot_S8x128_S128x128_S8x128_1_0_0_1_n_n none woutt
    (reluW (matmul dot_S128x128_S128x128_S128x128_1_0_0_1_n_n none w2t
      (truncf .bf16 (matmul dot_S128x128_S128x128_S128x128_1_0_0_1_n_n none
        (reluW (mixM mm (matmul dot_S128x224_S224x128_S128x128_1_0_0_1_n_n none g (sampM x y) (constant S128x128 .f32 0x00000000#32))))
        mm (constant S128x128 .f32 0x00000000#32)) bitsLt_bf16_f32 : FVec F S128x128 .bf16)
      (constant S128x128 .f32 0x00000000#32)))
    (constant S8x128 .f32 0x00000000#32))
/-- One round: the two coordinates moved by the offsets. -/
def roundX (g : FVec F S128x224 .bf16) (x y : FVec F S1x128 .f32) : FVec F S1x128 .f32 :=
  addf x (extractStridedSlice S1x128 ![0, 0] (offW w2t woutt mm g x y) slices_S8x128_o0_0_S1x128)
def roundY (g : FVec F S128x224 .bf16) (x y : FVec F S1x128 .f32) : FVec F S1x128 .f32 :=
  addf y (extractStridedSlice S1x128 ![1, 0] (offW w2t woutt mm g x y) slices_S8x128_o1_0_S1x128)
/-- Three rounds, stacked. -/
def threeRounds (g : FVec F S128x224 .bf16) (x y : FVec F S1x128 .f32) : FVec F S1x2x128 .f32 :=
  let x1 := roundX w2t woutt mm g x y
  let y1 := roundY w2t woutt mm g x y
  let x2 := roundX w2t woutt mm g x1 y1
  let y2 := roundY w2t woutt mm g x1 y1
  let x3 := roundX w2t woutt mm g x2 y2
  let y3 := roundY w2t woutt mm g x2 y2
  shapeCast S1x2x128 (concatenate S2x128 0 [⟨S1x128, x3⟩, ⟨S1x128, y3⟩] concatenates_S1x128_S1x128_S2x128_d0) shapeCasts_S2x128_S1x2x128

end Values

section Main
variable (i : grid0.Coords)
variable (arg2 : Memref sig .tc .vmem S128x256 .bf16) (arg3 : Memref sig .tc .vmem S128x128 .bf16) (arg4 : Memref sig .tc .vmem S8x128 .bf16)
variable (arg5 : Memref sig .tc .vmem S128x128 .bf16) (arg6 arg7 : Memref sig .tc .vmem S1x128 .f32)
variable (arg1 : Memref sig .tc .hbm S196x1024x256 .f32)
variable (arg8 : Memref sig .tc .vmem S64x2x128 .f32) (arg9 : Memref sig .tc .vmem S2x64x224x256 .f32) (arg10 : DmaSems sig S2x196)

/-- What happens before the weights are loaded; `k` is what follows. -/
def before {α : Type} (k : Pr F α) : Pr F α :=
  let k3 : Pr F α := if h : k0_cond3 i = 1#1 then (startAll arg1 arg9 arg10 (nextRow i) (nextRow_b i h) 0).bind fun _ => k else k
  let k2 : Pr F α := if h : k0_cond2 i = 1#1 then (startAll arg1 arg9 arg10 (nextRow i) (nextRow_a i h) 1).bind fun _ => k3 else k3
  if h : cond1 i = 1#1 then (clearAll arg9).bind fun _ => (startAll arg1 arg9 arg10 0 (by omega) 0).bind fun _ => k2 else k2

/-- This block's copies waited for. -/
def waits {α : Type} (k : Pr F α) : Pr F α :=
  let k5 : Pr F α := if h : k0_cond5 i = 1#1 then (awaitAll arg1 arg9 arg10 (thisRow i) (thisRow_b i h) 1).bind fun _ => k else k
  if h : k0_cond4 i = 1#1 then (awaitAll arg1 arg9 arg10 (thisRow i) (thisRow_a i h) 0).bind fun _ => k5 else k5

theorem load_inb (j : Fin 64) (a : Fin 4) :
    (![(Scalar.indexCast (slotW i) : BitVec 32).toNat, j.val, 0, 0] : Fin 4 → ℕ) a + S1x1x224x256.size a ≤ S2x64x224x256.size a := by
  have h0 := k0_off785_inb i 0
  have := j.isLt
  fin_cases a
  · exact h0
  · simp; omega
  · simp
  · simp
/-- Sample `j` of the slot in use. -/
def loadR (j : Fin 64) : Rect S2x64x224x256 :=
  Rect.unit (s := S2x64x224x256) ![(Scalar.indexCast (slotW i) : BitVec 32).toNat, j.val, 0, 0] S1x1x224x256.size (load_inb i j)
/-- The last `k` of the 64 samples loaded and projected, each kept under its number. -/
def gather {α : Type} (w1t : FVec F S128x256 .bf16) (cont : (ℕ → FVec F S128x224 .bf16) → Pr F α) :
    (k : ℕ) → k ≤ 64 → (ℕ → FVec F S128x224 .bf16) → Pr F α
  | 0, _, g => cont g
  | k + 1, h, g => (Prog.lift (.load arg9 (loadR i ⟨64 - (k + 1), by omega⟩).toLoadRect (View.loadsAt_vmem h_S1x1x224x256))).bind fun v =>
      gather w1t cont k (Nat.le_of_succ_le h) (fun r => if r = 64 - (k + 1) then proj w1t v else g r)

theorem out_inb (j : Fin 64) (a : Fin 3) :
    (![j.val, 0, 0] : Fin 3 → ℕ) a + S1x2x128.size a ≤ S64x2x128.size a := by
  have := j.isLt
  fin_cases a <;> simp <;> omega
def outR (j : Fin 64) : Rect S64x2x128 :=
  Rect.unit (s := S64x2x128) ![j.val, 0, 0] S1x2x128.size (out_inb j)
/-- Row `j` of the result written. -/
def put (val : ℕ → FVec F S1x2x128 .f32) (j : Fin 64) : Pr F PUnit :=
  (Prog.lift (.load arg8 (outR j).toLoadRect (View.loadsAt_vmem h_S1x2x128))).bind fun _ =>
    Prog.lift (.store arg8 (outR j) (val j) Finset.univ (View.stores_vmem_bits_univ h_S1x2x128 rfl) (.inl rfl))

/-- The whole body. -/
def body : Pr F PUnit :=
  before i arg1 arg9 arg10 <|
  (Prog.lift (.load arg2 (Rect.unit (s := S128x256) ![0, 0] S128x256.size inb_S128x256_S128x256_0_0).toLoadRect (View.loadsAt_vmem h_S128x256))).bind fun (v25 : Vec F S128x256 .bf16) =>
  (Prog.lift (.load arg3 (Rect.unit (s := S128x128) ![0, 0] S128x128.size inb_S128x128_S128x128_0_0).toLoadRect (View.loadsAt_vmem h_S128x128))).bind fun (v27 : Vec F S128x128 .bf16) =>
  (Prog.lift (.load arg4 (Rect.unit (s := S8x128) ![0, 0] S8x128.size inb_S8x128_S8x128_0_0).toLoadRect (View.loadsAt_vmem h_S8x128))).bind fun (v29 : Vec F S8x128 .bf16) =>
  (Prog.lift (.load arg5 (Rect.unit (s := S128x128) ![0, 0] S128x128.size inb_S128x128_S128x128_0_0).toLoadRect (View.loadsAt_vmem h_S128x128))).bind fun (v31 : Vec F S128x128 .bf16) =>
  waits i arg1 arg9 arg10 <|
  gather i arg9 (shapeCast S128x256 v25 shapeCasts_S128x256_S128x256) (fun g =>
    (Prog.lift (.load arg6 (Rect.unit (s := S1x128) ![0, 0] S1x128.size inb_S1x128_S1x128_0_0).toLoadRect (View.loadsAt_vmem h_S1x128))).bind fun (v424 : Vec F S1x128 .f32) =>
    (Prog.lift (.load arg7 (Rect.unit (s := S1x128) ![0, 0] S1x128.size inb_S1x128_S1x128_0_0).toLoadRect (View.loadsAt_vmem h_S1x128))).bind fun (v425 : Vec F S1x128 .f32) =>
    loop 64 (put arg8 fun r => threeRounds (shapeCast S128x128 v27 shapeCasts_S128x128_S128x128) (shapeCast S8x128 v29 shapeCasts_S8x128_S8x128) v31 (g r) v424 v425) 64 le_rfl)
    64 le_rfl (fun _ => constant S128x224 .bf16 0x0000#16)

end Main

end Cert.KernelIdeal.Hand

end
-- ==== Proof.Regions.lean ====
module

public import proofs.«01_k».proof.Proof.Body

@[expose] public section

set_option maxRecDepth 100000

noncomputable section

namespace Cert.KernelIdeal.Hand

open Cert.KernelIdeal Cert.KernelIdeal.Gen
open Idealize.ShloMosaic Idealize.ShloMosaic.TcCoe Idealize.SL.Sem

variable {F : FTy → Type} [FloatOps F]

/-- The features, left in HBM, and the two slots. -/
abbrev feat : Memref sig .tc .hbm S196x1024x256 .f32 := Memref.whole main_call0_v3
abbrev slots : Memref sig .tc .vmem S2x64x224x256 .f32 := Memref.whole cc0_scratch0
/-- The indices of the two. -/
abbrev FIx : Type := S196x1024x256.Idx
abbrev SIx : Type := S2x64x224x256.Idx
abbrev FBuf (F : FTy → Type) : Type := FIx → F .f32
abbrev SBuf (F : FTy → Type) : Type := SIx → F .f32

/-! ## Where the pieces lie -/

theorem squeeze_src (y : S64x256.Idx) :
    ((Shape.reshapeEquiv squeezes_S1x64x256_S64x256.numel_eq y : S1x64x256.Idx)) = Fin.cons ⟨0, Nat.one_pos⟩ y :=
  Shape.reshapeEquiv_cons_one _ _
/-- An element of the unsqueezed piece. -/
def unsq (y : S64x256.Idx) : S1x64x1x256.Idx := fun
  | ⟨0, _⟩ => ⟨0, Nat.one_pos⟩
  | ⟨1, _⟩ => ⟨(y 0).val, (y 0).isLt⟩
  | ⟨2, _⟩ => ⟨0, Nat.one_pos⟩
  | ⟨3, _⟩ => ⟨(y 1).val, (y 1).isLt⟩
theorem squeeze_dst (y : S64x256.Idx) :
    (Shape.reshapeEquiv squeezes_S1x64x1x256_S64x256.numel_eq y : S1x64x1x256.Idx) = unsq y := by
  refine Shape.reshapeEquiv_eq_of_rowMajor _ ?_
  refine (Shape.rowMajor_val_four (d := S1x64x1x256.size) (unsq y)).trans (Eq.trans ?_ (Shape.rowMajor_val_two (d := S64x256.size) y).symm)
  show ((0 * 64 + (y 0).val) * 1 + 0) * 256 + (y 1).val = (y 0).val * 256 + (y 1).val
  omega

/-- The element `y` of a piece, in the features and in a slot. -/
def srcIx (r : ℕ) (hr : r + 64 ≤ 1024) (p : Fin 196) (y : S64x256.Idx) : FIx := fun
  | ⟨0, _⟩ => ⟨p.val, p.isLt⟩
  | ⟨1, _⟩ => ⟨r + (y 0).val, by have : (y 0).val < 64 := (y 0).isLt; show r + (y 0).val < 1024; omega⟩
  | ⟨2, _⟩ => ⟨(y 1).val, (y 1).isLt⟩
def dstIx (s : Fin 2) (p : Fin 196) (y : S64x256.Idx) : SIx := fun
  | ⟨0, _⟩ => ⟨s.val, s.isLt⟩
  | ⟨1, _⟩ => ⟨(y 0).val, (y 0).isLt⟩
  | ⟨2, _⟩ => ⟨posOf p, posOf_lt p⟩
  | ⟨3, _⟩ => ⟨(y 1).val, (y 1).isLt⟩

theorem src_emb (r : ℕ) (hr : r + 64 ≤ 1024) (p : Fin 196) (y : S64x256.Idx) :
    (srcM feat r hr p).view.emb y = srcIx r hr p y := by
  change (Rect.unit (s := S196x1024x256) ![p.val, r, 0] S1x64x256.size (src_inb hr p)).emb (Shape.reshapeEquiv squeezes_S1x64x256_S64x256.numel_eq y) = _
  rw [squeeze_src]
  funext a; apply Fin.ext
  fin_cases a
  · show p.val + 1 * 0 = p.val; omega
  · show r + 1 * (y 0).val = r + (y 0).val; omega
  · show 0 + 1 * (y 1).val = (y 1).val; omega
theorem dst_emb (s : Fin 2) (p : Fin 196) (y : S64x256.Idx) :
    (dstM slots s p).view.emb y = dstIx s p y := by
  change (Rect.unit (s := S2x64x224x256) ![s.val, 0, posOf p, 0] S1x64x1x256.size (dst_inb s p)).emb (Shape.reshapeEquiv squeezes_S1x64x1x256_S64x256.numel_eq y) = _
  rw [squeeze_dst]
  funext a; apply Fin.ext
  fin_cases a
  · show s.val + 1 * 0 = s.val; omega
  · show 0 + 1 * (y 0).val = (y 0).val; omega
  · show posOf p + 1 * 0 = posOf p; omega
  · show 0 + 1 * (y 1).val = (y 1).val; omega

/-- Block `t`'s part of plane `p`; slot `s`; plane `p`'s place in it; its unused columns. -/
def srcSet (t : Fin 16) (p : Fin 196) : Finset FIx := Finset.univ.filter fun x => (x 0).val = p.val ∧ (x 1).val / 64 = t.val
def blkSet (t : Fin 16) : Finset FIx := Finset.univ.filter fun x => (x 1).val / 64 = t.val
def slotSet (s : Fin 2) : Finset SIx := Finset.univ.filter fun x => (x 0).val = s.val
def dstSet (s : Fin 2) (p : Fin 196) : Finset SIx := Finset.univ.filter fun x => (x 0).val = s.val ∧ (x 2).val = posOf p
def padSet (s : Fin 2) : Finset SIx := Finset.univ.filter fun x => (x 0).val = s.val ∧ 14 ≤ (x 2).val % 16

theorem mem_srcSet {t : Fin 16} {p : Fin 196} {x : FIx} : x ∈ srcSet t p ↔ (x 0).val = p.val ∧ (x 1).val / 64 = t.val := by simp [srcSet]
theorem mem_blkSet {t : Fin 16} {x : FIx} : x ∈ blkSet t ↔ (x 1).val / 64 = t.val := by simp [blkSet]
theorem mem_slotSet {s : Fin 2} {x : SIx} : x ∈ slotSet s ↔ (x 0).val = s.val := by simp [slotSet]
theorem mem_dstSet {s : Fin 2} {p : Fin 196} {x : SIx} : x ∈ dstSet s p ↔ (x 0).val = s.val ∧ (x 2).val = posOf p := by simp [dstSet]
theorem mem_padSet {s : Fin 2} {x : SIx} : x ∈ padSet s ↔ (x 0).val = s.val ∧ 14 ≤ (x 2).val % 16 := by simp [padSet]

theorem src_set (t : Fin 16) {r : ℕ} (hr : r + 64 ≤ 1024) (e : r = 64 * t.val) (p : Fin 196) : (srcM feat r hr p).view.set = srcSet t p := by
  subst e
  refine Finset.ext fun (x : FIx) => Iff.trans ?_ mem_srcSet.symm
  constructor
  · intro h
    obtain ⟨y, -, rfl⟩ := Finset.mem_map.mp h
    rw [src_emb]
    have : (y 0).val < 64 := (y 0).isLt
    exact ⟨rfl, by show (64 * t.val + (y 0).val) / 64 = t.val; omega⟩
  · rintro ⟨h0, h1⟩
    have hx1 : (x 1).val < 1024 := (x 1).isLt
    refine Finset.mem_map.mpr ⟨fun
      | ⟨0, _⟩ => ⟨(x 1).val - 64 * t.val, by show _ < 64; omega⟩
      | ⟨1, _⟩ => ⟨(x 2).val, (x 2).isLt⟩, Finset.mem_univ _, ?_⟩
    rw [src_emb]
    funext a; apply Fin.ext
    fin_cases a
    · exact h0.symm
    · show 64 * t.val + ((x 1).val - 64 * t.val) = (x 1).val; omega
    · rfl
theorem dst_set (s : Fin 2) (p : Fin 196) : (dstM slots s p).view.set = dstSet s p := by
  refine Finset.ext fun (x : SIx) => Iff.trans ?_ mem_dstSet.symm
  constructor
  · intro h
    obtain ⟨y, -, rfl⟩ := Finset.mem_map.mp h
    rw [dst_emb]
    exact ⟨rfl, rfl⟩
  · rintro ⟨h0, h1⟩
    refine Finset.mem_map.mpr ⟨fun
      | ⟨0, _⟩ => ⟨(x 1).val, (x 1).isLt⟩
      | ⟨1, _⟩ => ⟨(x 3).val, (x 3).isLt⟩, Finset.mem_univ _, ?_⟩
    rw [dst_emb]
    funext a; apply Fin.ext
    fin_cases a
    · exact h0.symm
    · rfl
    · exact h1.symm
    · rfl

theorem posOf_inj {p p' : Fin 196} (h : posOf p = posOf p') : p = p' := by
  unfold posOf at h; apply Fin.ext; have := p.isLt; have := p'.isLt; omega
/-- A slot is its planes' places and its unused columns. -/
theorem slotSet_eq (s : Fin 2) : slotSet s = padSet s ∪ Finset.univ.biUnion (dstSet s) := by
  ext x
  simp only [Finset.mem_union, Finset.mem_biUnion, Finset.mem_univ, true_and, mem_slotSet, mem_padSet, mem_dstSet]
  constructor
  · intro h
    by_cases hp : 14 ≤ (x 2).val % 16
    · exact .inl ⟨h, hp⟩
    · have h2 : (x 2).val < 224 := (x 2).isLt
      refine .inr ⟨⟨(x 2).val / 16 * 14 + (x 2).val % 16, by omega⟩, h, ?_⟩
      show (x 2).val = ((x 2).val / 16 * 14 + (x 2).val % 16) / 14 * 16 + ((x 2).val / 16 * 14 + (x 2).val % 16) % 14
      omega
  · rintro (⟨h, -⟩ | ⟨_, h, -⟩) <;> exact h
theorem disj_pad (s : Fin 2) : Disjoint (padSet s) (Finset.univ.biUnion (dstSet s)) := by
  rw [Finset.disjoint_left]
  intro x h1 h2
  obtain ⟨p, -, h2⟩ := Finset.mem_biUnion.mp h2
  rw [mem_padSet] at h1; rw [mem_dstSet] at h2
  have := h2.2; unfold posOf at this; have := p.isLt
  omega
theorem disj_dst (s : Fin 2) : ∀ p ∈ (Finset.univ : Finset (Fin 196)), ∀ p' ∈ (Finset.univ : Finset (Fin 196)), p ≠ p' → Disjoint (dstSet s p) (dstSet s p') := by
  intro p _ p' _ hne
  rw [Finset.disjoint_left]
  intro x h1 h2
  rw [mem_dstSet] at h1 h2
  exact hne (posOf_inj (h1.2.symm.trans h2.2))
theorem slots_univ : (Finset.univ : Finset SIx) = slotSet 0 ∪ slotSet 1 := by
  ext x
  simp only [Finset.mem_union, Finset.mem_univ, mem_slotSet, true_iff]
  have : (x 0).val < 2 := (x 0).isLt
  show (x 0).val = 0 ∨ (x 0).val = 1
  omega
theorem disj_slots : Disjoint (slotSet 0) (slotSet 1) := by
  rw [Finset.disjoint_left]
  intro x h1 h2
  rw [mem_slotSet] at h1 h2
  exact absurd (h1.symm.trans h2) (by decide)
theorem blkSet_eq (t : Fin 16) : blkSet t = Finset.univ.biUnion (srcSet t) := by
  ext x
  simp only [Finset.mem_biUnion, Finset.mem_univ, true_and, mem_blkSet, mem_srcSet]
  exact ⟨fun h => ⟨⟨(x 0).val, (x 0).isLt⟩, rfl, h⟩, fun ⟨_, _, h⟩ => h⟩
theorem disj_src (t : Fin 16) : ∀ p ∈ (Finset.univ : Finset (Fin 196)), ∀ p' ∈ (Finset.univ : Finset (Fin 196)), p ≠ p' → Disjoint (srcSet t p) (srcSet t p') := by
  intro p _ p' _ hne
  rw [Finset.disjoint_left]
  intro x h1 h2
  rw [mem_srcSet] at h1 h2
  exact hne (Fin.ext (h1.1.symm.trans h2.1))
theorem feat_univ : (Finset.univ : Finset FIx) = Finset.univ.biUnion blkSet := by
  ext x
  simp only [Finset.mem_biUnion, Finset.mem_univ, true_and, mem_blkSet, true_iff]
  have : (x 1).val < 1024 := (x 1).isLt
  exact ⟨⟨(x 1).val / 64, by omega⟩, rfl⟩
theorem disj_blk : ∀ t ∈ (Finset.univ : Finset (Fin 16)), ∀ t' ∈ (Finset.univ : Finset (Fin 16)), t ≠ t' → Disjoint (blkSet t) (blkSet t') := by
  intro t _ t' _ hne
  rw [Finset.disjoint_left]
  intro x h1 h2
  rw [mem_blkSet] at h1 h2
  exact hne (Fin.ext (h1.symm.trans h2))

/-! ## What a slot holds -/

/-- The zero the kernel writes. -/
abbrev zeroF : F .f32 := Scalar.ofBits .f32 0x00000000#32
/-- What a slot holds once block `t` of the features `f` has landed. -/
def slotBuf (f : FBuf F) (t : Fin 16) : SBuf F := fun x =>
  if h : (x 2).val % 16 < 14 then
    f fun
      | ⟨0, _⟩ => ⟨(x 2).val / 16 * 14 + (x 2).val % 16, by have : (x 2).val < 224 := (x 2).isLt; show _ < 196; omega⟩
      | ⟨1, _⟩ => ⟨64 * t.val + (x 1).val, by have : (x 1).val < 64 := (x 1).isLt; have := t.isLt; show _ < 1024; omega⟩
      | ⟨2, _⟩ => ⟨(x 3).val, (x 3).isLt⟩
  else zeroF

/-- A landed piece. -/
theorem landed (f : FBuf F) (g : SBuf F) (t : Fin 16) {r : ℕ} (hr : r + 64 ≤ 1024) (e : r = 64 * t.val) (s : Fin 2) (p : Fin 196) (x : SIx) (hx : x ∈ dstSet s p) :
    (dstM slots s p).view.write (Elt F) g ((srcM feat r hr p).view.read (Elt F) f) Finset.univ x = slotBuf f t x := by
  subst e
  rw [← dst_set] at hx
  obtain ⟨y, -, rfl⟩ := Finset.mem_map.mp hx
  refine (View.write_emb_of_mem (v := (dstM slots s p).view) (Val := Elt F) g _ (Finset.mem_univ y)).trans ?_
  change f ((srcM feat (64 * t.val) hr p).view.emb y) = slotBuf f t ((dstM slots s p).view.emb y)
  refine (congrArg f (src_emb _ hr p y)).trans (Eq.trans ?_ (congrArg (slotBuf f t) (dst_emb s p y)).symm)
  have h1 : (dstIx s p y 2).val = posOf p := rfl
  have h2 : (dstIx s p y 1).val = (y 0).val := rfl
  have h3 : (dstIx s p y 3).val = (y 1).val := rfl
  have hm : posOf p % 16 < 14 := by unfold posOf; omega
  unfold slotBuf
  rw [dif_pos (by rw [h1]; exact hm)]
  refine congrArg f (funext fun a => Fin.ext ?_)
  have := p.isLt
  fin_cases a
  · show p.val = posOf p / 16 * 14 + posOf p % 16
    unfold posOf; omega
  · rfl
  · rfl
theorem slotBuf_pad (f : FBuf F) (t : Fin 16) (s : Fin 2) (x : SIx) (hx : x ∈ padSet s) : slotBuf f t x = zeroF := by
  rw [mem_padSet] at hx
  unfold slotBuf
  rw [dif_neg (by omega)]

/-! ## The semaphores -/

theorem semM_val (s : Fin 2) (p : Fin 196) : (semM cc0_scratch1 s p : DmaSem sig).val = 8 + (s.val * 196 + p.val) := by
  show 8 + (S2x196.rowMajor ((Rect.unit (s := S2x196) ![s.val, p.val] S1x1.size (sem_inb s p)).idx (Shape.reshapeEquiv squeezes_S1x1_S_.numel_eq fun i => i.elim0))).val = _
  rw [Shape.rowMajor_val_two (d := S2x196.size)]
  generalize (Shape.reshapeEquiv squeezes_S1x1_S_.numel_eq fun i => i.elim0 : S1x1.Idx) = z
  have h0 : (z 0).val < 1 := (z 0).isLt
  have h1 : (z 1).val < 1 := (z 1).isLt
  show 8 + ((s.val + 1 * (z 0).val) * 196 + (p.val + 1 * (z 1).val)) = _
  omega

end Cert.KernelIdeal.Hand

end
-- ==== Proof.Steps.lean ====
module

public import proofs.«01_k».proof.Proof.Regions
public import Idealize.ShloMosaic.Lib.Pipeline.FrameBody
public import Idealize.ShloMosaic.Lib.Ring
public import Idealize.ShloMosaic.Lib.Tactic

@[expose] public section

set_option maxRecDepth 100000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- What it takes for a program run by core `c` to end in `Q`. -/
abbrev Runs (c : Dev nD) (P : Pr F PUnit) (Q : PUnit → sProp 𝕄) : sProp 𝕄 :=
  wp frame (wpE (defs₀ (F := F)) Variants.none (c : Thread nD τ) none) Set.univ P Q

/-! ## Loops -/

/-- A loop by an invariant of the rounds done. -/
theorem wp_loop (c : Dev nD) {n : ℕ} (f : Fin n → Pr F PUnit) (J : ℕ → sProp 𝕄) (Q : PUnit → sProp 𝕄) (K : Pr F PUnit)
    (step : ∀ (p : Fin n) (K' : Pr F PUnit), J p.val ⊢ iprop((J (p.val + 1) -∗ Runs c K' Q) -∗ Runs c ((f p).bind fun _ => K') Q)) :
    ∀ (k : ℕ) (h : k ≤ n), J (n - k) ⊢ iprop((J n -∗ Runs c K Q) -∗ Runs c ((loop n f k h).bind fun _ => K) Q)
  | 0, _ => by
    iintro HJ Hk
    iapply Hk
    iexact HJ
  | k + 1, h => by
    have e : (loop n f (k + 1) h).bind (fun _ => K) = (f ⟨n - (k + 1), by omega⟩).bind fun _ => (loop n f k (Nat.le_of_succ_le h)).bind fun _ => K :=
      Prog.bind_assoc _ _ _
    rw [e]
    iintro HJ Hk
    iapply (step ⟨n - (k + 1), Nat.sub_lt_of_pos_le (Nat.succ_pos k) h⟩ _) $$ HJ
    iintro HJ
    iapply (wp_loop c f J Q K step k (Nat.le_of_succ_le h)) $$ [HJ] [Hk]
    · rw [show n - k = n - (k + 1) + 1 by omega]
      iexact HJ
    · iexact Hk

/-- A loop each of whose rounds turns a resource of its own into another, beside one handed on. -/
theorem wp_loop_each (c : Dev nD) {n : ℕ} (f : Fin n → Pr F PUnit) (A B : Fin n → sProp 𝕄) (I : sProp 𝕄) (Q : PUnit → sProp 𝕄) (K : Pr F PUnit)
    (step : ∀ (p : Fin n) (K' : Pr F PUnit), iprop(A p ∗ I) ⊢ iprop((iprop(B p ∗ I) -∗ Runs c K' Q) -∗ Runs c ((f p).bind fun _ => K') Q)) :
    iprop(bigSep Finset.univ A ∗ I) ⊢ iprop((iprop(bigSep Finset.univ B ∗ I) -∗ Runs c K Q) -∗ Runs c ((loop n f n le_rfl).bind fun _ => K) Q) := by
  have h := wp_loop c f (fun m => iprop(bigSep (Finset.univ.filter fun p : Fin n => p.val < m) B ∗ bigSep (Finset.univ.filter fun p : Fin n => m ≤ p.val) A ∗ I)) Q K
    (fun p K' => by
      have e1 : (Finset.univ.filter fun q : Fin n => p.val ≤ q.val) = insert p (Finset.univ.filter fun q : Fin n => p.val + 1 ≤ q.val) := by
        ext q; simp only [Finset.mem_filter, Finset.mem_univ, true_and, Finset.mem_insert, Fin.ext_iff]; omega
      have e2 : (Finset.univ.filter fun q : Fin n => q.val < p.val + 1) = insert p (Finset.univ.filter fun q : Fin n => q.val < p.val) := by
        ext q; simp only [Finset.mem_filter, Finset.mem_univ, true_and, Finset.mem_insert, Fin.ext_iff]; omega
      have eA : bigSep (Finset.univ.filter fun q : Fin n => p.val ≤ q.val) A = iprop(A p ∗ bigSep (Finset.univ.filter fun q : Fin n => p.val + 1 ≤ q.val) A) := by
        rw [e1]; exact BI.bigSep_insert (by simp)
      have eB : bigSep (Finset.univ.filter fun q : Fin n => q.val < p.val + 1) B = iprop(B p ∗ bigSep (Finset.univ.filter fun q : Fin n => q.val < p.val) B) := by
        rw [e2]; exact BI.bigSep_insert (by simp)
      rw [eA, eB]
      iintro ⟨HB, ⟨Hp, HA⟩, HI⟩ Hk
      iapply (step p K') $$ [Hp HI]
      · isplitl [Hp]; · iexact Hp
        iexact HI
      iintro ⟨Hp, HI⟩
      iapply Hk
      isplitl [Hp HB]
      · isplitl [Hp]; · iexact Hp
        iexact HB
      isplitl [HA]; · iexact HA
      iexact HI) n le_rfl
  have f0 : (Finset.univ.filter fun q : Fin n => q.val < n - n) = ∅ := by ext q; simp
  have f1 : (Finset.univ.filter fun q : Fin n => n - n ≤ q.val) = Finset.univ := by ext q; simp
  have f2 : (Finset.univ.filter fun q : Fin n => q.val < n) = Finset.univ := by ext q; simp
  have f3 : (Finset.univ.filter fun q : Fin n => n ≤ q.val) = ∅ := by ext q; simp
  rw [f0, f1, f2, f3, BI.bigSep_empty, BI.bigSep_empty] at h
  iintro ⟨HA, HI⟩ Hk
  iapply h $$ [HA HI]
  · isplitr; · iempintro
    isplitl [HA]; · iexact HA
    iexact HI
  iintro ⟨HB, -, HI⟩
  iapply Hk
  isplitl [HB]; · iexact HB
  iexact HI

/-! ## The pieces held -/

/-- Elements of a slot, and of the features. -/
abbrev slotPt (c : Dev nD) (S : Finset SIx) (f : SBuf F) : sProp 𝕄 := slots.view.loc (c : Thread nD τ) ↦[S]{fullShare} f
abbrev featPt (c : Dev nD) (S : Finset FIx) (f : FBuf F) : sProp 𝕄 := feat.view.loc (c : Thread nD τ) ↦[S]{fullShare} f
/-- A semaphore at zero. -/
abbrev semZ (c : Dev nD) (s : Fin 2) (p : Fin 196) : sProp 𝕄 := semVal ((c : Thread nD τ), SemLoc.dma (semM cc0_scratch1 s p)) 0
/-- What one copy credits. -/
abbrev credN : ℕ := (dstM slots 0 0).view.dmaCredit
theorem cred_eq (s : Fin 2) (p : Fin 196) : (dstM slots s p).view.dmaCredit = credN := rfl
theorem cred_pos : 0 < credN := View.dmaCredit_pos _ (by decide)
/-- A copy of block `t`'s part of plane `p` under way. -/
def Fly (c : Dev nD) (f : FBuf F) (s : Fin 2) (t : Fin 16) (p : Fin 196) : sProp 𝕄 :=
  iprop(∃ D : sProp 𝕄, Transfers.Flight (countersEmb (U := Pipeline.UD sig nD τ)) (c : Thread nD τ) (.dma (semM cc0_scratch1 s p)) () credN D
    ∗ ⌜D ⊢ iprop(slotPt c (dstSet s p) (slotBuf f t) ∗ featPt c (srcSet t p) f)⌝)

/-- A slot, split. -/
theorem slot_split (c : Dev nD) (s : Fin 2) (g : SBuf F) :
    slotPt c (slotSet s) g = iprop(slotPt c (padSet s) g ∗ bigSep Finset.univ fun p => slotPt c (dstSet s p) g) := by
  rw [slotSet_eq]
  have hu : slotPt c (padSet s ∪ Finset.univ.biUnion (dstSet s)) g ⊣⊢ iprop(slotPt c (padSet s) g ∗ slotPt c (Finset.univ.biUnion (dstSet s)) g) := pointsTo_union (disj_pad s)
  rw [BI.equiv_iff.mp ⟨hu.1, hu.2⟩]
  exact congrArg (fun X => iprop(slotPt c (padSet s) g ∗ X)) (pointsTo_biUnion _ _ (disj_dst s))
/-- A block of the features, split. -/
theorem blk_split (c : Dev nD) (t : Fin 16) (f : FBuf F) :
    featPt c (blkSet t) f = bigSep Finset.univ fun p => featPt c (srcSet t p) f := by
  rw [blkSet_eq]
  exact pointsTo_biUnion _ _ (disj_src t)

/-- One copy started. -/
theorem wp_start (c : Dev nD) (f : FBuf F) (g : SBuf F) (t : Fin 16) {r : ℕ} (hr : r + 64 ≤ 1024) (e : r = 64 * t.val) (s : Fin 2) (p : Fin 196)
    (Q : PUnit → sProp 𝕄) (K : Pr F PUnit) :
    iprop((slotPt c (dstSet s p) g ∗ semZ c s p) ∗ featPt c (srcSet t p) f)
      ⊢ iprop((Fly c f s t p -∗ Runs c K Q) -∗ Runs c ((start feat slots cc0_scratch1 r hr s p).bind fun _ => K) Q) := by
  iintro ⟨⟨Hd, Hz⟩, Hs⟩ Hk
  iapply (Transfers.wp_dmaLocal (countersEmb (U := Pipeline.UD sig nD τ)) Variants.none (c : Thread nD τ) none (src := srcM feat r hr p) (dst := dstM slots s p)
    (sm := .dma (semM cc0_scratch1 s p)) (via := .same) (fs := f) (fd := g) (Sd := dstSet s p) (q := fullShare) () credN (cred_eq s p) cred_pos (dst_set s p).subset) $$ [Hs Hd Hz]
  · isplitl [Hs]
    · rw [src_set t hr e p]; iexact Hs
    isplitl [Hd]; · iexact Hd
    iexact Hz
  iintro HF
  iapply Hk
  unfold Fly
  iexists _
  isplitl [HF]; · iexact HF
  ipureintro
  rw [src_set t hr e p]
  refine BI.sep_mono (Entails.of_eq (pointsTo_congr fun x hx => ?_)) (BI.Entails.refl _)
  exact landed f g t hr e s p x hx

/-- One copy waited for. -/
theorem wp_await (c : Dev nD) (f : FBuf F) (t : Fin 16) {r : ℕ} (hr : r + 64 ≤ 1024) (s : Fin 2) (p : Fin 196)
    (Q : PUnit → sProp 𝕄) (K : Pr F PUnit) :
    iprop(Fly c f s t p ∗ ∃ W, owes (c : Thread nD τ) 0 W)
      ⊢ iprop((iprop(((slotPt c (dstSet s p) (slotBuf f t) ∗ semZ c s p) ∗ featPt c (srcSet t p) f) ∗ ∃ W, owes (c : Thread nD τ) 0 W) -∗ Runs c K Q)
          -∗ Runs c ((await feat slots cc0_scratch1 r hr s p).bind fun _ => K) Q) := by
  unfold Fly
  iintro ⟨⟨%D, HF, %hD⟩, ⟨%W, HW⟩⟩ Hk
  iapply (Transfers.wp_waitLocal (countersEmb (U := Pipeline.UD sig nD τ)) Variants.none (c : Thread nD τ) none (srcw := srcM feat r hr p) (dstw := dstM slots s p)
    (sem := semM cc0_scratch1 s p) () (cred_eq s p)) $$ [HF HW]
  · isplitl [HF]; · iexact HF
    iexact HW
  iintro ⟨HD, Hz, HW⟩
  iapply Hk
  ihave HD' := hD $$ HD
  icases HD' with ⟨Hd, Hs⟩
  isplitr [HW]
  · isplitr [Hs]
    · isplitl [Hd]; · iexact Hd
      iexact Hz
    iexact Hs
  iexists _; iexact HW

end Cert.KernelIdeal.Hand

end
-- ==== Proof.Phases.lean ====
module

public import proofs.«01_k».proof.Proof.Steps

@[expose] public section

set_option maxRecDepth 100000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The two slots between the phases -/

/-- The core's record of what it has waited for. -/
abbrev Wts (c : Dev nD) : sProp 𝕄 := iprop(∃ W, owes (c : Thread nD τ) 0 W)
abbrev semsZ (c : Dev nD) (s : Fin 2) : sProp 𝕄 := bigSep Finset.univ fun p => semZ (F := F) c s p
/-- Nothing under way into slot `s`; its unused columns are zero. -/
def Idle (c : Dev nD) (s : Fin 2) : sProp 𝕄 :=
  iprop((∃ g : SBuf F, ⌜∀ x ∈ padSet s, g x = zeroF⌝ ∗ slotPt c (slotSet s) g) ∗ semsZ c s)
/-- Block `t` under way into slot `s`. -/
def Coming (c : Dev nD) (f : FBuf F) (s : Fin 2) (t : Fin 16) : sProp 𝕄 :=
  iprop(slotPt c (padSet s) (fun _ => zeroF) ∗ bigSep Finset.univ fun p => Fly c f s t p)
/-- Block `t` in slot `s`. -/
def There (c : Dev nD) (f : FBuf F) (s : Fin 2) (t : Fin 16) : sProp 𝕄 :=
  iprop(slotPt c (slotSet s) (slotBuf f t) ∗ semsZ c s)

theorem There_idle (c : Dev nD) (f : FBuf F) (s : Fin 2) (t : Fin 16) : There c f s t ⊢ Idle c s := by
  unfold There Idle
  iintro ⟨Hs, Hz⟩
  isplitr [Hz]
  · iexists _
    isplitr
    swap; · iexact Hs
    ipureintro; exact slotBuf_pad f t s
  iexact Hz

theorem sep3 {n : ℕ} (A B C : Fin n → sProp 𝕄) :
    bigSep Finset.univ (fun p => iprop((A p ∗ B p) ∗ C p)) = iprop((bigSep Finset.univ A ∗ bigSep Finset.univ B) ∗ bigSep Finset.univ C) :=
  (BI.bigSep_sep _ _ _).trans (congrArg (fun X => iprop(X ∗ bigSep Finset.univ C)) (BI.bigSep_sep _ _ _))
theorem slotPt_congr (c : Dev nD) {S : Finset SIx} {g g' : SBuf F} (h : ∀ x ∈ S, g x = g' x) : slotPt c S g = slotPt c S g' :=
  pointsTo_congr h

theorem wp_startAll (c : Dev nD) (f : FBuf F) (t : Fin 16) {r : ℕ} (hr : r + 64 ≤ 1024) (e : r = 64 * t.val) (s : Fin 2) (Q : PUnit → sProp 𝕄) (K : Pr F PUnit) :
    iprop(Idle c s ∗ featPt c (blkSet t) f)
      ⊢ iprop((Coming c f s t -∗ Runs c K Q) -∗ Runs c ((startAll feat slots cc0_scratch1 r hr s).bind fun _ => K) Q) := by
  unfold Idle Coming startAll semsZ
  iintro ⟨⟨⟨%g, %hg, Hs⟩, Hz⟩, Hf⟩ Hk
  ihave Hs := (Entails.of_eq (slot_split c s g)) $$ Hs
  icases Hs with ⟨Hp, Hs⟩
  ihave Hf := (Entails.of_eq (blk_split c t f)) $$ Hf
  iapply (wp_loop_each c (start feat slots cc0_scratch1 r hr s)
    (fun p => iprop((slotPt c (dstSet s p) g ∗ semZ c s p) ∗ featPt c (srcSet t p) f)) (fun p => Fly c f s t p) iprop(emp) Q K (fun p K' => by
      iintro ⟨HA, -⟩ Hk
      iapply (wp_start c f g t hr e s p Q K') $$ HA
      iintro HF
      iapply Hk
      isplitl [HF]; · iexact HF
      iempintro)) $$ [Hs Hz Hf]
  · isplitl
    · iapply (Entails.of_eq (sep3 (fun p => slotPt c (dstSet s p) g) (fun p => semZ c s p) (fun p => featPt c (srcSet t p) f)).symm)
      isplitr [Hf]
      · isplitl [Hs]; · iexact Hs
        iexact Hz
      iexact Hf
    iempintro
  iintro ⟨HB, -⟩
  iapply Hk
  isplitl [Hp]
  · iapply (Entails.of_eq (slotPt_congr c (g' := fun _ => zeroF) hg)); iexact Hp
  iexact HB

theorem wp_awaitAll (c : Dev nD) (f : FBuf F) (t : Fin 16) {r : ℕ} (hr : r + 64 ≤ 1024) (s : Fin 2) (Q : PUnit → sProp 𝕄) (K : Pr F PUnit) :
    iprop(Coming c f s t ∗ Wts c)
      ⊢ iprop((iprop(There c f s t ∗ featPt c (blkSet t) f ∗ Wts c) -∗ Runs c K Q) -∗ Runs c ((awaitAll feat slots cc0_scratch1 r hr s).bind fun _ => K) Q) := by
  unfold Coming There awaitAll semsZ
  iintro ⟨⟨Hp, HA⟩, HW⟩ Hk
  iapply (wp_loop_each c (await feat slots cc0_scratch1 r hr s) (fun p => Fly c f s t p)
    (fun p => iprop((slotPt c (dstSet s p) (slotBuf f t) ∗ semZ c s p) ∗ featPt c (srcSet t p) f)) (Wts c) Q K (fun p K' => wp_await c f t hr s p Q K')) $$ [HA HW]
  · isplitl [HA]; · iexact HA
    iexact HW
  iintro ⟨HB, HW⟩
  ihave HB := (Entails.of_eq (sep3 (fun p => slotPt c (dstSet s p) (slotBuf f t)) (fun p => semZ c s p) (fun p => featPt c (srcSet t p) f))) $$ HB
  icases HB with ⟨⟨Hs, Hz⟩, Hf⟩
  iapply Hk
  isplitl [Hp Hs Hz]
  · isplitl [Hp Hs]
    · iapply (Entails.of_eq (slot_split c s (slotBuf f t)).symm)
      isplitl [Hp]
      · iapply (Entails.of_eq (slotPt_congr c (g' := fun _ => zeroF) (slotBuf_pad f t s)).symm); iexact Hp
      iexact Hs
    iexact Hz
  isplitl [Hf]; · iapply (Entails.of_eq (blk_split c t f).symm); iexact Hf
  iexact HW

/-! ## The unused columns cleared -/

theorem mem_padR (q : Fin 28) (x : SIx) : x ∈ (padR q).set ↔ (x 0).val * 14 + (x 2).val / 16 = q.val ∧ 14 ≤ (x 2).val % 16 := by
  unfold padR
  rw [Rect.mem_set_unit]
  have h0 : (x 0).val < 2 := (x 0).isLt
  have h1 : (x 1).val < 64 := (x 1).isLt
  have h2 : (x 2).val < 224 := (x 2).isLt
  have h3 : (x 3).val < 256 := (x 3).isLt
  constructor
  · intro h
    have a0 : q.val / 14 ≤ (x 0).val ∧ (x 0).val < q.val / 14 + 1 := h 0
    have a2 : q.val % 14 * 16 + 14 ≤ (x 2).val ∧ (x 2).val < q.val % 14 * 16 + 14 + 2 := h 2
    omega
  · rintro ⟨a, b⟩ k
    fin_cases k
    · show q.val / 14 ≤ (x 0).val ∧ (x 0).val < q.val / 14 + 1; omega
    · show 0 ≤ (x 1).val ∧ (x 1).val < 0 + 64; omega
    · show q.val % 14 * 16 + 14 ≤ (x 2).val ∧ (x 2).val < q.val % 14 * 16 + 14 + 2; omega
    · show 0 ≤ (x 3).val ∧ (x 3).val < 0 + 256; omega

theorem zeroPad_apply (z : S1x64x2x256.Idx) : (zeroPad : FVec F S1x64x2x256 .f32) z = zeroF := rfl
theorem cleared (g : SBuf F) (q : Fin 28) (x : SIx) :
    slots.view.read (Elt F) ((slots.access (padR q)).write (Elt F) g zeroPad Finset.univ) x = if x ∈ (padR q).set then zeroF else slots.view.read (Elt F) g x := by
  split_ifs with h
  · rw [← Rect.map_emb_univ] at h
    obtain ⟨z, -, rfl⟩ := Finset.mem_map.mp h
    exact (View.read_slice_write_emb (v := slots.view) (Val := Elt F) (padR q) g zeroPad (Finset.mem_univ z)).trans (zeroPad_apply z)
  · exact View.read_slice_write_of_not_mem (v := slots.view) (Val := Elt F) (padR q) g zeroPad Finset.univ (by rw [Rect.map_emb_univ]; exact h)

theorem read_slots (f : SBuf F) : slots.view.read (Elt F) f = f := rfl
theorem cleared_step (g : SBuf F) (q : Fin 28) (hg : ∀ x : SIx, 14 ≤ (x 2).val % 16 → (x 0).val * 14 + (x 2).val / 16 < q.val → g x = zeroF)
    (x : SIx) (h1 : 14 ≤ (x 2).val % 16) (h2 : (x 0).val * 14 + (x 2).val / 16 < q.val + 1) :
    slots.view.read (Elt F) ((slots.access (padR q)).write (Elt F) g zeroPad Finset.univ) x = zeroF := by
  rw [cleared g q x]
  split_ifs with h
  · rfl
  · rw [mem_padR] at h
    exact hg x h1 (by omega)

/-- The scratch after one row's unused columns are cleared. -/
def afterClear (g : SBuf F) (q : Fin 28) : SBuf F := (slots.access (padR q)).write (Elt F) g zeroPad Finset.univ
theorem afterClear_step (g : SBuf F) (q : Fin 28) (hg : ∀ x : SIx, 14 ≤ (x 2).val % 16 → (x 0).val * 14 + (x 2).val / 16 < q.val → g x = zeroF)
    (x : SIx) (h1 : 14 ≤ (x 2).val % 16) (h2 : (x 0).val * 14 + (x 2).val / 16 < q.val + 1) : afterClear g q x = zeroF :=
  (congrFun (read_slots (afterClear g q)).symm x).trans (cleared_step g q hg x h1 h2)

/-- The whole scratch. -/
def allS : Finset SIx := slotSet 0 ∪ slotSet 1
theorem allS_eq : allS = Finset.univ := slots_univ.symm
theorem mem_allS (x : SIx) : x ∈ allS := by rw [allS_eq]; exact Finset.mem_univ x

/-- The scratch with the unused columns of the rows below `m` zero. -/
def Cleared (c : Dev nD) (m : ℕ) : sProp 𝕄 :=
  iprop(∃ g : SBuf F, ⌜∀ x : SIx, 14 ≤ (x 2).val % 16 → (x 0).val * 14 + (x 2).val / 16 < m → g x = zeroF⌝ ∗ slotPt c allS g)

theorem wp_clear_of (c : Dev nD) (arg9 : Memref sig .tc .vmem S2x64x224x256 .f32) (q : Fin 28) (S : Finset (Idx (arg9.view.loc (c : Thread nD τ))))
    (hS : arg9.view.set ⊆ S) (f : Buf (Elt F) (arg9.view.loc (c : Thread nD τ))) (Q : PUnit → sProp 𝕄) (K : Pr F PUnit) :
    iprop(arg9.view.loc (c : Thread nD τ) ↦[S]{fullShare} f)
      ⊢ iprop((iprop(arg9.view.loc (c : Thread nD τ) ↦[S]{fullShare} (arg9.access (padR q)).write (Elt F) f zeroPad Finset.univ) -∗ Runs c K Q)
          -∗ Runs c ((clear arg9 q).bind fun _ => K) Q) := by
  iintro Hs Hk
  iapply (wp_load Variants.none (c : Thread nD τ) none Set.univ (m := arg9) (S := S) ((View.setOn_subset_set _ _).trans hS)) $$ Hs
  iintro Hs
  iapply (wp_store Variants.none (c : Thread nD τ) none Set.univ (m := arg9) (r := padR q) (S := S) ((View.set_slice_subset arg9.view (padR q)).trans hS)) $$ Hs
  iexact Hk

theorem wp_clear_raw (c : Dev nD) (q : Fin 28) (g : SBuf F) (Q : PUnit → sProp 𝕄) (K : Pr F PUnit) :
    slotPt c allS g ⊢ iprop((slotPt c allS (afterClear g q) -∗ Runs c K Q) -∗ Runs c ((clear slots q).bind fun _ => K) Q) :=
  wp_clear_of c slots q allS (fun x _ => mem_allS x) g Q K

theorem wp_clear (c : Dev nD) (q : Fin 28) (Q : PUnit → sProp 𝕄) (K : Pr F PUnit) :
    Cleared c q.val ⊢ iprop((Cleared c (q.val + 1) -∗ Runs c K Q) -∗ Runs c ((clear slots q).bind fun _ => K) Q) := by
  unfold Cleared
  iintro ⟨%g, %hg, Hs⟩ Hk
  iapply (wp_clear_raw c q g Q K) $$ Hs
  iintro Hs
  iapply Hk
  iexists (afterClear g q)
  isplitr
  swap; · iexact Hs
  ipureintro
  exact afterClear_step g q hg

theorem wp_clearAll (c : Dev nD) (Q : PUnit → sProp 𝕄) (K : Pr F PUnit) :
    iprop(∃ g : SBuf F, slotPt c allS g)
      ⊢ iprop((iprop(∃ g : SBuf F, ⌜∀ x : SIx, 14 ≤ (x 2).val % 16 → g x = zeroF⌝ ∗ slotPt c allS g) -∗ Runs c K Q)
          -∗ Runs c ((clearAll slots).bind fun _ => K) Q) := by
  have h := wp_loop c (clear slots) (Cleared c) Q K (fun q K' => wp_clear c q Q K') 28 le_rfl
  unfold Cleared at h
  unfold clearAll
  iintro ⟨%g, Hs⟩ Hk
  iapply h $$ [Hs]
  · iexists g
    isplitr
    swap; · iexact Hs
    ipureintro; intro x _ h; omega
  iintro ⟨%g', %hg', Hs⟩
  iapply Hk
  iexists g'
  isplitr
  swap; · iexact Hs
  ipureintro
  intro x h1
  have h0 : (x 0).val < 2 := (x 0).isLt
  have h2 : (x 2).val < 224 := (x 2).isLt
  exact hg' x h1 (by omega)

/-- Both slots, idle, from the whole scratch. -/
theorem both_split (c : Dev nD) (g : SBuf F) : slotPt c allS g = iprop(slotPt c (slotSet 0) g ∗ slotPt c (slotSet 1) g) := by
  unfold allS
  have hu : slotPt c (slotSet 0 ∪ slotSet 1) g ⊣⊢ iprop(slotPt c (slotSet 0) g ∗ slotPt c (slotSet 1) g) := pointsTo_union disj_slots
  exact BI.equiv_iff.mp ⟨hu.1, hu.2⟩

/-! ## The samples loaded -/

/-- Sample `j` of block `t`: its 224 places. -/
def rowOf (f : FBuf F) (t : Fin 16) (j : ℕ) : Vec F S1x1x224x256 .f32 := fun y =>
  if h : j < 64 then slotBuf f t (fun
    | ⟨0, _⟩ => ⟨0, Nat.zero_lt_two⟩
    | ⟨1, _⟩ => ⟨j, h⟩
    | ⟨2, _⟩ => ⟨(y 2).val, (y 2).isLt⟩
    | ⟨3, _⟩ => ⟨(y 3).val, (y 3).isLt⟩)
  else zeroF

theorem loaded (i : grid0.Coords) (f : FBuf F) (t : Fin 16) (j : Fin 64) :
    slots.view.readAt (Elt F) (loadR i j).toLoadRect (slotBuf f t) = rowOf f t j.val := by
  funext (y : S1x1x224x256.Idx)
  have y1 : (y 1).val < 1 := (y 1).isLt
  show slotBuf f t ((loadR i j).idx y) = _
  unfold rowOf
  rw [dif_pos j.isLt]
  have e1 : ((loadR i j).idx y 1).val = j.val := by
    show j.val + 1 * (y 1).val = j.val; omega
  have e2 : ((loadR i j).idx y 2).val = (y 2).val := by
    show 0 + 1 * (y 2).val = (y 2).val; omega
  have e3 : ((loadR i j).idx y 3).val = (y 3).val := by
    show 0 + 1 * (y 3).val = (y 3).val; omega
  unfold slotBuf
  simp only [e1, e2, e3]

theorem load_sub (i : grid0.Coords) (s : Fin 2) (hs : (Scalar.indexCast (slotW i) : BitVec 32).toNat = s.val) (j : Fin 64) :
    slots.view.setOn (loadR i j).toLoadRect.set ⊆ slotSet s := by
  intro (x : SIx) hx
  have hx' : x ∈ (loadR i j).set := by
    obtain ⟨z, hz, hzx⟩ := Finset.mem_map.mp hx
    have : z = x := hzx
    rw [← this]; exact hz
  unfold loadR at hx'
  rw [Rect.mem_set_unit] at hx'
  have a0 : (Scalar.indexCast (slotW i) : BitVec 32).toNat ≤ (x 0).val ∧ (x 0).val < (Scalar.indexCast (slotW i) : BitVec 32).toNat + 1 := hx' 0
  rw [mem_slotSet]
  omega

theorem wp_gather (c : Dev nD) (i : grid0.Coords) (f : FBuf F) (s : Fin 2) (hs : (Scalar.indexCast (slotW i) : BitVec 32).toNat = s.val) (t : Fin 16)
    (w1t : FVec F S128x256 .bf16) (cont : (ℕ → FVec F S128x224 .bf16) → Pr F PUnit) (Q : PUnit → sProp 𝕄) :
    ∀ (k : ℕ) (hk : k ≤ 64) (g : ℕ → FVec F S128x224 .bf16), (∀ r, r < 64 - k → g r = proj w1t (rowOf f t r)) →
    (slotPt c (slotSet s) (slotBuf f t)
      ⊢ iprop((∀ g', iprop(⌜∀ r, r < 64 → g' r = proj w1t (rowOf f t r)⌝ -∗ slotPt c (slotSet s) (slotBuf f t) -∗ Runs c (cont g') Q)) -∗ Runs c (gather i slots w1t cont k hk g) Q))
  | 0, hk, g, hg => by
    iintro Hs Hk
    unfold gather
    iapply Hk $$ [] [Hs]
    · ipureintro; exact hg
    · iexact Hs
  | k + 1, hk, g, hg => by
    iintro Hs Hk
    unfold gather
    iapply (wp_load Variants.none (c : Thread nD τ) none Set.univ (m := slots) (S := slotSet s) (load_sub i s hs ⟨64 - (k + 1), by omega⟩)) $$ Hs
    iintro Hs
    rw [loaded]
    iapply (wp_gather c i f s hs t w1t cont Q k (Nat.le_of_succ_le hk) _ (fun r hr => by
      dsimp only
      split_ifs with h
      · rw [h]
      · exact hg r (by omega))) $$ Hs
    iexact Hk

/-! ## The result written -/

section Out
variable (arg8 : Memref sig .tc .vmem S64x2x128 .f32)

theorem mem_outR (j : Fin 64) (x : S64x2x128.Idx) : x ∈ (outR j).set ↔ (x 0).val = j.val := by
  unfold outR
  rw [Rect.mem_set_unit]
  have h0 : (x 0).val < 64 := (x 0).isLt
  have h1 : (x 1).val < 2 := (x 1).isLt
  have h2 : (x 2).val < 128 := (x 2).isLt
  constructor
  · intro h
    have a0 : j.val ≤ (x 0).val ∧ (x 0).val < j.val + 1 := h 0
    omega
  · intro h k
    fin_cases k
    · show j.val ≤ (x 0).val ∧ (x 0).val < j.val + 1; omega
    · show 0 ≤ (x 1).val ∧ (x 1).val < 0 + 2; omega
    · show 0 ≤ (x 2).val ∧ (x 2).val < 0 + 128; omega

/-- The rows, stacked. -/
def stack (val : ℕ → FVec F S1x2x128 .f32) : Vec F S64x2x128 .f32 := fun x =>
  val (x 0).val fun
    | ⟨0, _⟩ => ⟨0, Nat.one_pos⟩
    | ⟨1, _⟩ => ⟨(x 1).val, (x 1).isLt⟩
    | ⟨2, _⟩ => ⟨(x 2).val, (x 2).isLt⟩

theorem put_read (f : BufTy.Contents (Elt F) arg8.view.ty) (val : ℕ → FVec F S1x2x128 .f32) (j : Fin 64) (x : S64x2x128.Idx) :
    arg8.view.read (Elt F) ((arg8.access (outR j)).write (Elt F) f (val j.val) Finset.univ) x
      = if (x 0).val = j.val then stack val x else arg8.view.read (Elt F) f x := by
  split_ifs with h
  · have hx : x ∈ (outR j).set := (mem_outR j x).mpr h
    rw [← Rect.map_emb_univ] at hx
    obtain ⟨z, -, rfl⟩ := Finset.mem_map.mp hx
    refine (View.read_slice_write_emb (v := arg8.view) (Val := Elt F) (outR j) f (val j.val) (Finset.mem_univ z)).trans ?_
    unfold stack
    rw [h]
    refine congrArg (val j.val) (funext fun a => Fin.ext ?_)
    have z0 : (z 0).val < 1 := (z 0).isLt
    fin_cases a
    · show (z 0).val = 0; omega
    · show (z 1).val = 0 + 1 * (z 1).val; omega
    · show (z 2).val = 0 + 1 * (z 2).val; omega
  · refine View.read_slice_write_of_not_mem (v := arg8.view) (Val := Elt F) (outR j) f (val j.val) Finset.univ ?_
    rw [Rect.map_emb_univ, mem_outR]
    exact h

theorem wp_putAll (c : Dev nD) (val : ℕ → FVec F S1x2x128 .f32) (Q : PUnit → sProp 𝕄) (K : Pr F PUnit) :
    iprop(∃ X, owns (c : Thread nD τ) arg8 fullShare X)
      ⊢ iprop((owns (c : Thread nD τ) arg8 fullShare (stack val) -∗ Runs c K Q) -∗ Runs c ((loop 64 (put arg8 val) 64 le_rfl).bind fun _ => K) Q) := by
  have h := wp_loop c (put arg8 val) (fun m => iprop(∃ X : S64x2x128.Idx → Elt F .f32, ⌜∀ x : S64x2x128.Idx, (x 0).val < m → X x = stack val x⌝ ∗ owns (c : Thread nD τ) arg8 fullShare X)) Q K
    (fun j K' => by
      unfold owns
      iintro ⟨%X, %hX, ⟨%f, %hf, Hs⟩⟩ Hk
      iapply (wp_load Variants.none (c : Thread nD τ) none Set.univ (m := arg8) (S := arg8.view.set) (View.setOn_subset_set _ _)) $$ Hs
      iintro Hs
      iapply (wp_store Variants.none (c : Thread nD τ) none Set.univ (m := arg8) (r := outR j) (S := arg8.view.set) (View.set_slice_subset arg8.view (outR j))) $$ Hs
      iintro Hs
      iapply Hk
      iexists _
      isplitr
      swap
      · iexists _
        isplitr
        swap; · iexact Hs
        ipureintro; rfl
      ipureintro
      intro x hx
      refine (put_read arg8 f val j x).trans ?_
      split_ifs with h
      · rfl
      · rw [hf]; exact hX x (by omega)) 64 le_rfl
  iintro ⟨%X, Hs⟩ Hk
  iapply h $$ [Hs]
  · iexists X
    isplitr
    swap; · iexact Hs
    ipureintro; intro x h; omega
  iintro ⟨%X', %hX', Hs⟩
  iapply Hk
  have e : X' = stack val := funext fun x => hX' x (x 0).isLt
  rw [e]
  iexact Hs

end Out

/-! ## A whole buffer loaded -/

theorem wp_loadw (c : Dev nD) {s : Shape} {e : EltTy} (m : Memref sig .tc .vmem s e) (X : s.Idx → Elt F e) (off : Fin s.rank → ℕ) (h0 : off = fun _ => 0)
    (inb : ∀ a, off a + s.size a ≤ s.size a) (hl : m.view.LoadsAt (Rect.unit off s.size inb).toLoadRect)
    (k : (s.Idx → Elt F e) → Pr F PUnit) (Q : PUnit → sProp 𝕄) :
    owns (c : Thread nD τ) m fullShare X
      ⊢ iprop((owns (c : Thread nD τ) m fullShare X -∗ Runs c (k X) Q) -∗ Runs c ((Prog.lift (.load m (Rect.unit off s.size inb).toLoadRect hl)).bind k) Q) := by
  unfold owns
  iintro ⟨%f, %hf, Hs⟩ Hk
  iapply (wp_load Variants.none (c : Thread nD τ) none Set.univ (m := m) (S := m.view.set) (View.setOn_subset_set _ _)) $$ Hs
  iintro Hs
  have e : m.view.readAt (Elt F) (Rect.unit off s.size inb).toLoadRect f = X := by
    rw [← hf]
    funext y
    show m.view.read (Elt F) f ((Rect.unit off s.size inb).idx y) = _
    refine congrArg (m.view.read (Elt F) f) (funext fun a => Fin.ext ?_)
    subst h0
    show 0 + 1 * (y a).val = (y a).val
    omega
  have e' : k (m.view.readAt (Elt F) (Rect.unit off s.size inb).toLoadRect f) = k X := congrArg k e
  iapply (Entails.of_eq (congrArg (fun P => Runs c P Q) e'.symm))
  iapply Hk
  iexists f
  isplitr
  · ipureintro; exact hf
  iexact Hs

end Cert.KernelIdeal.Hand

end
-- ==== Proof.Printed.lean ====
module
public import proofs.«01_k».proof.Proof.Body
@[expose] public section
set_option maxRecDepth 1000000
set_option maxHeartbeats 4000000
noncomputable section
namespace Cert.KernelIdeal.Hand
open Cert.KernelIdeal Cert.KernelIdeal.Gen
open Idealize.ShloMosaic Idealize.ShloMosaic.TcCoe Idealize.SL.Sem
variable {F : FTy → Type} [FloatOps F]

variable (i : grid0.Coords) (arg1 : Memref sig .tc .hbm S196x1024x256 .f32) (harg1 : arg1.IsWhole) (arg2 : Memref sig .tc .vmem S128x256 .bf16) (harg2 : arg2.IsWhole) (arg3 : Memref sig .tc .vmem S128x128 .bf16) (harg3 : arg3.IsWhole) (arg4 : Memref sig .tc .vmem S8x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S1x128 .f32) (harg7 : arg7.IsWhole) (arg8 : Memref sig .tc .vmem S64x2x128 .f32) (harg8 : arg8.IsWhole) (arg9 : Memref sig .tc .vmem S2x64x224x256 .f32) (harg9 : arg9.IsWhole) (arg10 : DmaSems sig S2x196)

theorem before_bind {α β : Type} (k : Pr F α) (f : α → Pr F β) : (before i arg1 arg9 arg10 k).bind f = before i arg1 arg9 arg10 (k.bind f) := by
  unfold before
  dsimp only
  split_ifs <;> repeat' (first | rfl | refine (Prog.bind_assoc _ _ _).trans (congrArg _ (funext fun _ => ?_)))
theorem waits_bind {α β : Type} (k : Pr F α) (f : α → Pr F β) : (waits i arg1 arg9 arg10 k).bind f = waits i arg1 arg9 arg10 (k.bind f) := by
  unfold waits
  dsimp only
  split_ifs <;> repeat' (first | rfl | refine (Prog.bind_assoc _ _ _).trans (congrArg _ (funext fun _ => ?_)))

include harg1 harg2 harg3 harg4 harg5 harg6 harg7 harg8 harg9
/-- The first piece of the printed body. -/
theorem piece1 : k0_part253 (F := F) i arg1 harg1 arg2 harg2 arg3 harg3 arg4 harg4 arg5 harg5 arg6 harg6 arg7 harg7 arg8 harg8 arg9 harg9 arg10 = before i arg1 arg9 arg10 ((Prog.lift (.load arg2 (Rect.unit (s := S128x256) ![0, 0] S128x256.size inb_S128x256_S128x256_0_0).toLoadRect (View.loadsAt_vmem h_S128x256))).bind fun v25 =>
   (Prog.lift (.load arg3 (Rect.unit (s := S128x128) ![0, 0] S128x128.size inb_S128x128_S128x128_0_0).toLoadRect (View.loadsAt_vmem h_S128x128))).bind fun v27 =>
   (Prog.lift (.load arg4 (Rect.unit (s := S8x128) ![0, 0] S8x128.size inb_S8x128_S8x128_0_0).toLoadRect (View.loadsAt_vmem h_S8x128))).bind fun v29 =>
   (Prog.lift (.load arg5 (Rect.unit (s := S128x128) ![0, 0] S128x128.size inb_S128x128_S128x128_0_0).toLoadRect (View.loadsAt_vmem h_S128x128))).bind fun v31 =>
   .ret ⟨stepW i, slotW i, shapeCast S128x256 v25 shapeCasts_S128x256_S128x256, shapeCast S128x128 v27 shapeCasts_S128x128_S128x128, shapeCast S8x128 v29 shapeCasts_S8x128_S8x128, v31⟩) := by
  rfl
/-- The second piece. -/
theorem piece2 (a0 v12 : BitVec 32) (w : FVec F S128x256 .bf16) : k0_part254 (F := F) i arg1 harg1 arg2 harg2 arg3 harg3 arg4 harg4 arg5 harg5 arg6 harg6 arg7 harg7 arg8 harg8 arg9 harg9 arg10 a0 v12 w =
    waits i arg1 arg9 arg10 ((Prog.lift (.load arg9 (loadR i 0).toLoadRect (View.loadsAt_vmem h_S1x1x224x256))).bind fun (u0 : Vec F S1x1x224x256 .f32) =>
   (Prog.lift (.load arg9 (loadR i 1).toLoadRect (View.loadsAt_vmem h_S1x1x224x256))).bind fun (u1 : Vec F S1x1x224x256 .f32) =>
   (Prog.lift (.load arg9 (loadR i 2).toLoadRect (View.loadsAt_vmem h_S1x1x224x256))).bind fun (u2 : Vec F S1x1x224x256 .f32) =>
   (Prog.lift (.load arg9 (loadR i 3).toLoadRect (View.loadsAt_vmem h_S1x1x224x256))).bind fun (u3 : Vec F S1x1x224x256 .f32) =>
   (Prog.lift (.load arg9 (loadR i 4).toLoadRect (View.loadsAt_vmem h_S1x1x224x256))).bind fun (u4 : Vec F S1x1x224x256 .f32) =>
   .ret ⟨rows14, rows16, proj w u0, proj w u1, proj w u2, proj w u3, shapeCast S224x256 u4 shapeCasts_S1x1x224x256_S224x256⟩) := by
  rfl
theorem cc_eq : cc0__roi_kernel (F := F) i arg1 harg1 arg2 harg2 arg3 harg3 arg4 harg4 arg5 harg5 arg6 harg6 arg7 harg7 arg8 harg8 arg9 harg9 arg10 =
    body i arg2 arg3 arg4 arg5 arg6 arg7 arg1 arg8 arg9 arg10 := by
  change Prog.bind (Prog.bind (k0_part253 (F := F) i arg1 harg1 arg2 harg2 arg3 harg3 arg4 harg4 arg5 harg5 arg6 harg6 arg7 harg7 arg8 harg8 arg9 harg9 arg10) _) _ = _
  rw [piece1, before_bind, before_bind]
  unfold body
  refine congrArg (before i arg1 arg9 arg10) ?_
  refine congrArg (Prog.op _) (funext fun v25 => ?_)
  refine congrArg (Prog.op _) (funext fun v27 => ?_)
  refine congrArg (Prog.op _) (funext fun v29 => ?_)
  refine congrArg (Prog.op _) (funext fun v31 => ?_)
  change Prog.bind (Prog.bind (k0_part254 (F := F) i arg1 harg1 arg2 harg2 arg3 harg3 arg4 harg4 arg5 harg5 arg6 harg6 arg7 harg7 arg8 harg8 arg9 harg9 arg10 _ _ _) _) _ = _
  rw [piece2, waits_bind, waits_bind]
  refine congrArg (waits i arg1 arg9 arg10) ?_
  rfl
end Cert.KernelIdeal.Hand
end
-- ==== Proof.Point.lean ====
module

public import proofs.«01_k».proof.Proof.Phases
public import proofs.«01_k».proof.Proof.Printed

@[expose] public section

set_option maxRecDepth 100000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The words of the sixteen points -/

theorem words : ∀ t : Fin grid0.N,
    (cond1 (grid0.coords t) = 1#1 ↔ t.val = 0) ∧ (k0_cond2 (grid0.coords t) = 1#1 ↔ t.val % 2 = 0)
      ∧ (k0_cond3 (grid0.coords t) = 1#1 ↔ t.val % 2 = 1 ∧ t.val < 15) ∧ (k0_cond4 (grid0.coords t) = 1#1 ↔ t.val % 2 = 0)
      ∧ (k0_cond5 (grid0.coords t) = 1#1 ↔ t.val % 2 = 1) ∧ (Scalar.indexCast (slotW (grid0.coords t)) : BitVec 32).toNat = t.val % 2
      ∧ nextRow (grid0.coords t) = 64 * (t.val + 1) ∧ thisRow (grid0.coords t) = 64 * t.val := by decide +kernel

theorem N16 : grid0.N = 16 := N_0
/-- A point's block, the slot it goes to, the other slot. -/
def blkOf (t : Fin grid0.N) : Fin 16 := ⟨t.val, t.isLt.trans_eq N16⟩
def slotOf (n : ℕ) : Fin 2 := ⟨n % 2, Nat.mod_lt _ Nat.two_pos⟩
theorem slotOf_even {n : ℕ} (h : n % 2 = 0) : slotOf n = 0 := Fin.ext h
theorem slotOf_odd {n : ℕ} (h : n % 2 = 1) : slotOf n = 1 := Fin.ext h
theorem slotOf_succ {n : ℕ} : slotOf (n + 2) = slotOf n := Fin.ext (by show (n + 2) % 2 = n % 2; omega)

/-! ## What is held between two points -/

variable (c : Dev nD) (f : FBuf F)

/-- The blocks of the features in `S`. -/
abbrev blks (S : Finset (Fin 16)) : sProp 𝕄 := bigSep S fun u => featPt c (blkSet u) f
theorem blks_all : featPt c Finset.univ f = blks c f Finset.univ := by
  rw [feat_univ]
  exact pointsTo_biUnion _ _ disj_blk
theorem blks_take {S : Finset (Fin 16)} {t : Fin 16} (h : t ∈ S) : blks c f S = iprop(featPt c (blkSet t) f ∗ blks c f (S.erase t)) := BI.bigSep_erase h

/-- Block `t` under way, the other slot idle, the other blocks at rest. -/
def Ready (t : Fin 16) : sProp 𝕄 :=
  iprop(Coming c f (slotOf t.val) t ∗ Idle c (slotOf (t.val + 1)) ∗ blks c f (Finset.univ.erase t))
/-- The same while block `t` is in use. -/
def Rest (t : Fin 16) : sProp 𝕄 :=
  if h : t.val + 1 < 16 then iprop(Coming c f (slotOf (t.val + 1)) ⟨t.val + 1, h⟩ ∗ blks c f ((Finset.univ.erase t).erase ⟨t.val + 1, h⟩))
  else iprop(Idle c (slotOf (t.val + 1)) ∗ blks c f (Finset.univ.erase t))
/-- Before the first point, and after the last. -/
def First : sProp 𝕄 := iprop((∃ g : SBuf F, slotPt c allS g) ∗ semsZ c 0 ∗ semsZ c 1 ∗ featPt c Finset.univ f)
def Final : sProp 𝕄 := iprop(Idle (F := F) c 0 ∗ Idle c 1 ∗ featPt c Finset.univ f)
/-- Before point `n`. -/
def Between (n : ℕ) : sProp 𝕄 :=
  if n = 0 then First c f else if h : n < 16 then Ready c f ⟨n, h⟩ else Final c f

/-- The block used is given back. -/
theorem Rest_next (t : Fin 16) : iprop(Idle c (slotOf t.val) ∗ featPt c (blkSet t) f ∗ Rest c f t) ⊢ Between c f (t.val + 1) := by
  unfold Rest Between
  rw [if_neg (Nat.succ_ne_zero _)]
  split_ifs with h
  · unfold Ready
    iintro ⟨Hi, Hb, Hc, Hr⟩
    isplitl [Hc]; · iexact Hc
    isplitl [Hi]; · rw [slotOf_succ]; iexact Hi
    have e : blks c f (Finset.univ.erase (⟨t.val + 1, h⟩ : Fin 16)) = iprop(featPt c (blkSet t) f ∗ blks c f ((Finset.univ.erase t).erase ⟨t.val + 1, h⟩)) := by
      rw [blks_take c f (S := Finset.univ.erase (⟨t.val + 1, h⟩ : Fin 16)) (t := t)
        (Finset.mem_erase.mpr ⟨fun e => by have := congrArg Fin.val e; simp at this, Finset.mem_univ _⟩), Finset.erase_right_comm]
    iapply (Entails.of_eq e.symm)
    isplitl [Hb]; · iexact Hb
    iexact Hr
  · have ht : t.val = 15 := by omega
    unfold Final
    rw [slotOf_odd (n := t.val) (by omega), slotOf_even (n := t.val + 1) (by omega)]
    iintro ⟨Hi, Hb, Hc, Hr⟩
    isplitl [Hc]; · iexact Hc
    isplitl [Hi]; · iexact Hi
    iapply (Entails.of_eq ((blks_all c f).trans (blks_take c f (Finset.mem_univ t))).symm)
    isplitl [Hb]; · iexact Hb
    iexact Hr

/-! ## The next block called for -/

theorem wp_call (Q : PUnit → sProp 𝕄) (K : Pr F PUnit) (t : Fin 16) (h : t.val + 1 < 16) {r : ℕ} (hr : r + 64 ≤ 1024) (e : r = 64 * (t.val + 1)) (s : Fin 2) (hs : slotOf (t.val + 1) = s) :
    Ready c f t ⊢ iprop((iprop(Coming c f (slotOf t.val) t ∗ Rest c f t) -∗ Runs c K Q) -∗ Runs c ((startAll feat slots cc0_scratch1 r hr s).bind fun _ => K) Q) := by
  subst hs
  unfold Ready Rest
  rw [dif_pos h]
  iintro ⟨Hc, Hi, Hr⟩ Hk
  ihave Hr := (Entails.of_eq (blks_take c f (S := Finset.univ.erase t) (t := ⟨t.val + 1, h⟩)
    (Finset.mem_erase.mpr ⟨fun e => by have := congrArg Fin.val e; simp at this, Finset.mem_univ _⟩))) $$ Hr
  icases Hr with ⟨Hb, Hr⟩
  iapply (wp_startAll c f ⟨t.val + 1, h⟩ hr e (slotOf (t.val + 1)) Q K) $$ [Hi Hb]
  · isplitl [Hi]; · iexact Hi
    iexact Hb
  iintro Hn
  iapply Hk
  isplitl [Hc]; · iexact Hc
  isplitl [Hn]; · iexact Hn
  iexact Hr

/-- The first point's own part: the columns cleared, the first block called for. -/
theorem wp_first (Q : PUnit → sProp 𝕄) (K : Pr F PUnit) (hr : 0 + 64 ≤ 1024) :
    First c f ⊢ iprop((Ready c f 0 -∗ Runs c K Q)
      -∗ Runs c ((clearAll slots).bind fun _ => (startAll feat slots cc0_scratch1 0 hr 0).bind fun _ => K) Q) := by
  unfold First Ready
  iintro ⟨Hs, Hz0, Hz1, Hf⟩ Hk
  iapply (wp_clearAll c Q _) $$ Hs
  iintro ⟨%g, %hg, Hs⟩
  ihave Hs := (Entails.of_eq (both_split c g)) $$ Hs
  icases Hs with ⟨H0, H1⟩
  ihave Hf := (Entails.of_eq ((blks_all c f).trans (blks_take c f (Finset.mem_univ 0)))) $$ Hf
  icases Hf with ⟨Hb, Hr⟩
  iapply (wp_startAll c f 0 hr rfl 0 Q K) $$ [H0 Hz0 Hb]
  · isplitl [H0 Hz0]
    · unfold Idle
      isplitl [H0]
      · iexists g
        isplitr
        swap; · iexact H0
        ipureintro; exact fun x hx => hg x (mem_padSet.mp hx).2
      iexact Hz0
    iexact Hb
  iintro Hc
  iapply Hk
  isplitl [Hc]; · iexact Hc
  isplitl [H1 Hz1]
  · unfold Idle
    isplitl [H1]
    · iexists g
      isplitr
      swap; · iexact H1
      ipureintro; exact fun x hx => hg x (mem_padSet.mp hx).2
    iexact Hz1
  iexact Hr

/-- Everything before the weights are loaded. -/
theorem wp_before (Q : PUnit → sProp 𝕄) (K : Pr F PUnit) (t : Fin grid0.N) :
    Between c f t.val ⊢ iprop((iprop(Coming c f (slotOf t.val) (blkOf t) ∗ Rest c f (blkOf t)) -∗ Runs c K Q)
      -∗ Runs c (before (grid0.coords t) feat slots cc0_scratch1 K) Q) := by
  obtain ⟨h1, h2, h3, -, -, -, hn, -⟩ := words t
  have ht : t.val < 16 := t.isLt.trans_eq N16
  have late : Ready c f (blkOf t) ⊢ iprop((iprop(Coming c f (slotOf t.val) (blkOf t) ∗ Rest c f (blkOf t)) -∗ Runs c K Q) -∗ Runs c
      (if h : k0_cond2 (grid0.coords t) = 1#1 then (startAll feat slots cc0_scratch1 (nextRow (grid0.coords t)) (nextRow_a (grid0.coords t) h) 1).bind fun _ =>
          (if h : k0_cond3 (grid0.coords t) = 1#1 then (startAll feat slots cc0_scratch1 (nextRow (grid0.coords t)) (nextRow_b (grid0.coords t) h) 0).bind fun _ => K else K)
        else (if h : k0_cond3 (grid0.coords t) = 1#1 then (startAll feat slots cc0_scratch1 (nextRow (grid0.coords t)) (nextRow_b (grid0.coords t) h) 0).bind fun _ => K else K)) Q) := by
    by_cases e : t.val % 2 = 0
    · rw [dif_pos (h2.mpr e), dif_neg (fun h => by have := (h3.mp h).1; omega)]
      exact wp_call c f Q K (blkOf t) (by show t.val + 1 < 16; omega) _ hn 1 (slotOf_odd (by show (t.val + 1) % 2 = 1; omega))
    · rw [dif_neg (fun h => e (h2.mp h))]
      by_cases l : t.val < 15
      · rw [dif_pos (h3.mpr ⟨by omega, l⟩)]
        exact wp_call c f Q K (blkOf t) (by show t.val + 1 < 16; omega) _ hn 0 (slotOf_even (by show (t.val + 1) % 2 = 0; omega))
      · rw [dif_neg (fun h => l (h3.mp h).2)]
        unfold Ready Rest
        rw [dif_neg (by show ¬ t.val + 1 < 16; omega)]
        iintro ⟨Hc, Hi, Hr⟩ Hk
        iapply Hk
        isplitl [Hc]; · iexact Hc
        isplitl [Hi]; · iexact Hi
        iexact Hr
  unfold before Between
  dsimp only
  by_cases h0 : t.val = 0
  · rw [if_pos h0, dif_pos (h1.mpr h0)]
    iintro H Hk
    iapply (wp_first c f Q _ _) $$ H
    iintro H
    have e0 : (0 : Fin 16) = blkOf t := Fin.ext h0.symm
    rw [e0]
    iapply late $$ H
    iexact Hk
  · rw [if_neg h0, dif_pos ht, dif_neg (fun h => h0 (h1.mp h))]
    exact late

/-- This point's block waited for. -/
theorem wp_waits (Q : PUnit → sProp 𝕄) (K : Pr F PUnit) (t : Fin grid0.N) :
    iprop(Coming c f (slotOf t.val) (blkOf t) ∗ Wts c)
      ⊢ iprop((iprop(There c f (slotOf t.val) (blkOf t) ∗ featPt c (blkSet (blkOf t)) f ∗ Wts c) -∗ Runs c K Q)
        -∗ Runs c (waits (grid0.coords t) feat slots cc0_scratch1 K) Q) := by
  obtain ⟨-, -, -, h4, h5, -, -, -⟩ := words t
  unfold waits
  dsimp only
  by_cases e : t.val % 2 = 0
  · rw [dif_pos (h4.mpr e), dif_neg (fun h => by have := h5.mp h; omega), slotOf_even e]
    exact wp_awaitAll c f (blkOf t) _ 0 Q K
  · rw [dif_neg (fun h => e (h4.mp h)), dif_pos (h5.mpr (by omega)), slotOf_odd (by omega)]
    exact wp_awaitAll c f (blkOf t) _ 1 Q K

end Cert.KernelIdeal.Hand

end
-- ==== Proof.Frame.lean ====
module

public import proofs.«01_k».proof.Proof.Point
public import proofs.«01_k».proof.Proof.Gen.KernelIdeal.Frame
public import Idealize.ShloMosaic.Lib.Pipeline.FrameSuffixV

@[expose] public section

set_option maxRecDepth 100000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

/-! ## One point's body -/

theorem bind_done (P : Pr F PUnit) : (P.bind fun _ => Prog.ret PUnit.unit) = P := by
  induction P with
  | ret a => rfl
  | op e k ih => exact congrArg (Prog.op e) (funext ih)

/-- What one point writes: 64 samples refined. -/
def outVal (f : FBuf F) (w1 : Vec F S128x256 .bf16) (w2 : Vec F S128x128 .bf16) (wo : Vec F S8x128 .bf16) (mm : Vec F S128x128 .bf16)
    (xs ys : Vec F S1x128 .f32) (t : Fin 16) (r : ℕ) : FVec F S1x2x128 .f32 :=
  threeRounds (shapeCast S128x128 w2 shapeCasts_S128x128_S128x128) (shapeCast S8x128 wo shapeCasts_S8x128_S8x128) mm
    (proj (shapeCast S128x256 w1 shapeCasts_S128x256_S128x256) (rowOf f t r)) xs ys

section Body
variable (arg2 : Memref sig .tc .vmem S128x256 .bf16) (arg3 : Memref sig .tc .vmem S128x128 .bf16) (arg4 : Memref sig .tc .vmem S8x128 .bf16)
variable (arg5 : Memref sig .tc .vmem S128x128 .bf16) (arg6 arg7 : Memref sig .tc .vmem S1x128 .f32) (arg8 : Memref sig .tc .vmem S64x2x128 .f32)
variable (c : Dev nD) (f : FBuf F)
variable (w1 : Vec F S128x256 .bf16) (w2 : Vec F S128x128 .bf16) (wo : Vec F S8x128 .bf16) (mm : Vec F S128x128 .bf16) (xs ys : Vec F S1x128 .f32)

theorem zz2 : (![0, 0] : Fin 2 → ℕ) = fun _ => 0 := by funext a; fin_cases a <;> rfl

theorem wp_body (t : Fin grid0.N) (Q : PUnit → sProp 𝕄) :
    iprop(Between c f t.val ∗ Wts c ∗ owns (c : Thread nD τ) arg2 fullShare w1 ∗ owns (c : Thread nD τ) arg3 fullShare w2
        ∗ owns (c : Thread nD τ) arg4 fullShare wo ∗ owns (c : Thread nD τ) arg5 fullShare mm ∗ owns (c : Thread nD τ) arg6 fullShare xs
        ∗ owns (c : Thread nD τ) arg7 fullShare ys ∗ (∃ X, owns (c : Thread nD τ) arg8 fullShare X))
      ⊢ iprop((iprop(Between c f (t.val + 1) ∗ Wts c ∗ owns (c : Thread nD τ) arg2 fullShare w1 ∗ owns (c : Thread nD τ) arg3 fullShare w2
        ∗ owns (c : Thread nD τ) arg4 fullShare wo ∗ owns (c : Thread nD τ) arg5 fullShare mm ∗ owns (c : Thread nD τ) arg6 fullShare xs
        ∗ owns (c : Thread nD τ) arg7 fullShare ys ∗ owns (c : Thread nD τ) arg8 fullShare (stack (outVal f w1 w2 wo mm xs ys (blkOf t)))) -∗ Q PUnit.unit)
          -∗ Runs c (body (grid0.coords t) arg2 arg3 arg4 arg5 arg6 arg7 feat arg8 slots cc0_scratch1) Q) := by
  obtain ⟨-, -, -, -, -, hsl, -, -⟩ := words t
  iintro ⟨HB, HW, H2, H3, H4, H5, H6, H7, H8⟩ Hk
  unfold body
  iapply (wp_before c f Q _ t) $$ HB
  iintro ⟨HC, HR⟩
  iapply (wp_loadw c arg2 w1 ![0, 0] zz2) $$ H2
  iintro H2
  iapply (wp_loadw c arg3 w2 ![0, 0] zz2) $$ H3
  iintro H3
  iapply (wp_loadw c arg4 wo ![0, 0] zz2) $$ H4
  iintro H4
  iapply (wp_loadw c arg5 mm ![0, 0] zz2) $$ H5
  iintro H5
  iapply (wp_waits c f Q _ t) $$ [HC HW]
  · isplitl [HC]; · iexact HC
    iexact HW
  iintro ⟨HT, Hf, HW⟩
  unfold There
  icases HT with ⟨Hs, Hz⟩
  iapply (wp_gather c (grid0.coords t) f (slotOf t.val) hsl (blkOf t) _ _ Q 64 le_rfl _ (fun r hr => absurd hr (by omega))) $$ Hs
  iintro %g %hg Hs
  iapply (wp_loadw c arg6 xs ![0, 0] zz2) $$ H6
  iintro H6
  iapply (wp_loadw c arg7 ys ![0, 0] zz2) $$ H7
  iintro H7
  rw [← bind_done (loop 64 _ 64 le_rfl)]
  iapply (wp_putAll arg8 c _ Q _) $$ H8
  iintro H8
  have e : stack (fun r => threeRounds (shapeCast S128x128 w2 shapeCasts_S128x128_S128x128) (shapeCast S8x128 wo shapeCasts_S8x128_S8x128) mm (g r) xs ys)
      = stack (outVal f w1 w2 wo mm xs ys (blkOf t)) := by
    funext (x : S64x2x128.Idx)
    unfold stack outVal
    dsimp only
    rw [hg (x 0).val (x 0).isLt]
  rw [e]
  iapply (Entails.of_eq (wp_ret (Fr := frame) (E := Set.univ) (wpE := wpE (defs₀ (F := F)) Variants.none (c : Thread nD τ) none) PUnit.unit Q).symm)
  imodintro
  iapply Hk
  isplitl [Hs Hz Hf HR]
  · iapply (Rest_next c f (blkOf t))
    isplitl [Hs Hz]
    · iapply (There_idle c f (slotOf t.val) (blkOf t))
      unfold There
      isplitl [Hs]; · iexact Hs
      iexact Hz
    isplitl [Hf]; · iexact Hf
    iexact HR
  isplitl [HW]; · iexact HW
  isplitl [H2]; · iexact H2
  isplitl [H3]; · iexact H3
  isplitl [H4]; · iexact H4
  isplitl [H5]; · iexact H5
  isplitl [H6]; · iexact H6
  isplitl [H7]; · iexact H7
  iexact H8
end Body

/-! ## The pipeline's data -/

variable (m : (ℓ : Loc nD τ sig) → Buf (Elt F) ℓ) (ρ : Dev nD → PrngReg)

/-- The features as the region finds them. -/
abbrev featV (c : Dev nD) : FBuf F := V m c main_call0_v3

/-- What a point leaves in its output block. -/
def outAt (c : Dev nD) (t : Fin cfg0.N) : Vec F S64x2x128 .f32 :=
  stack (outVal (featV m c) (iblk m c 0 t) (iblk m c 1 t) (iblk m c 2 t) (iblk m c 3 t) (iblk m c 4 t) (iblk m c 5 t) (blkOf t))

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ n := Between c (featV m c) n.val
  q _ := fullShare
  owed _ := 0

theorem A_eq (c : Dev nD) (w : Fin cfg0.W) : (dats m 0 c).A w = V m c (Pipeline.arrRef spec0 w) := by
  dsimp only [dats]
theorem before_0 (c : Dev nD) (t : Fin cfg0.N) (d) : (dats m 0 c).before 0 t d = iblk m c 0 t :=
  ((dats m 0 c).before_in_eq_fetched 0 rfl (fun _ => rfl) (fun _ _ _ => rfl) (fun t => by dsimp only [dats]; rfl) t d).trans rfl
theorem before_1 (c : Dev nD) (t : Fin cfg0.N) (d) : (dats m 0 c).before 1 t d = iblk m c 1 t :=
  ((dats m 0 c).before_in_eq_fetched 1 rfl (fun _ => rfl) (fun _ _ _ => rfl) (fun t => by dsimp only [dats]; rfl) t d).trans rfl
theorem before_2 (c : Dev nD) (t : Fin cfg0.N) (d) : (dats m 0 c).before 2 t d = iblk m c 2 t :=
  ((dats m 0 c).before_in_eq_fetched 2 rfl (fun _ => rfl) (fun _ _ _ => rfl) (fun t => by dsimp only [dats]; rfl) t d).trans rfl
theorem before_3 (c : Dev nD) (t : Fin cfg0.N) (d) : (dats m 0 c).before 3 t d = iblk m c 3 t :=
  ((dats m 0 c).before_in_eq_fetched 3 rfl (fun _ => rfl) (fun _ _ _ => rfl) (fun t => by dsimp only [dats]; rfl) t d).trans rfl
theorem before_4 (c : Dev nD) (t : Fin cfg0.N) (d) : (dats m 0 c).before 4 t d = iblk m c 4 t :=
  ((dats m 0 c).before_in_eq_fetched 4 rfl (fun _ => rfl) (fun _ _ _ => rfl) (fun t => by dsimp only [dats]; rfl) t d).trans rfl
theorem before_5 (c : Dev nD) (t : Fin cfg0.N) (d) : (dats m 0 c).before 5 t d = iblk m c 5 t :=
  ((dats m 0 c).before_in_eq_fetched 5 rfl (fun _ => rfl) (fun _ _ _ => rfl) (fun t => by dsimp only [dats]; rfl) t d).trans rfl

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [cc_eq]
  rw [show (dats m 0 c).Φ t.castSucc = Between c (featV m c) t.val from rfl, show (dats m 0 c).Φ t.succ = Between c (featV m c) (t.val + 1) from rfl]
  unfold Dat.owesAt Pipeline.owesWithin
  rw [show (dats m 0 c).owed t.castSucc = 0 from rfl, show (dats m 0 c).owed t.succ = 0 from rfl]
  simp only [before_0, before_1, before_2, before_3, before_4, before_5]
  rw [show (dats m 0 c).after 0 t = iblk m c 0 t from rfl, show (dats m 0 c).after 1 t = iblk m c 1 t from rfl, show (dats m 0 c).after 2 t = iblk m c 2 t from rfl,
    show (dats m 0 c).after 3 t = iblk m c 3 t from rfl, show (dats m 0 c).after 4 t = iblk m c 4 t from rfl, show (dats m 0 c).after 5 t = iblk m c 5 t from rfl,
    show (dats m 0 c).after 6 t = outAt m c t from rfl]
  unfold outAt
  iintro ⟨HB, ⟨%W, -, HW⟩, ⟨%d0, H0⟩, ⟨%d1, H1⟩, ⟨%d2, H2⟩, ⟨%d3, H3⟩, ⟨%d4, H4⟩, ⟨%d5, H5⟩, ⟨%d6, H6⟩⟩
  iapply (wp_body (st0_0 t) (st0_1 t) (st0_2 t) (st0_3 t) (st0_4 t) (st0_5 t) (st0_6 t) c (featV m c) (iblk m c 0 t) (iblk m c 1 t) (iblk m c 2 t) (iblk m c 3 t) (iblk m c 4 t) (iblk m c 5 t) t _)
    $$ [HB HW H0 H1 H2 H3 H4 H5 H6]
  · isplitl [HB]; · iexact HB
    isplitl [HW]; · iexists W; iexact HW
    isplitl [H0]; · iexact H0
    isplitl [H1]; · iexact H1
    isplitl [H2]; · iexact H2
    isplitl [H3]; · iexact H3
    isplitl [H4]; · iexact H4
    isplitl [H5]; · iexact H5
    iexists _; iexact H6
  iintro ⟨HB, ⟨%W', HW'⟩, H0, H1, H2, H3, H4, H5, H6⟩
  isplitl [HB]; · iexact HB
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

end Cert.KernelIdeal.Hand

end
-- ==== Proof.Run.lean ====
module

public import proofs.«01_k».proof.Proof.Frame

@[expose] public section

set_option maxRecDepth 100000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The body's own semaphores. -/
abbrev osem0 : Fin 2 × Fin 196 → SemLoc sig := fun x => SemLoc.dma (semM cc0_scratch1 x.1 x.2)

theorem win_sem_lt : ∀ (w : Fin 7) (s : Fin (spec0 w).nbuf), ((spec0 w).sem s).val < 8 := by decide

theorem ownSemFacts0 : Pipeline.OwnSemFacts spec0 osem0 where
  isScoped := by
    have h : ∀ k : DmaSem sig, (SemLoc.dma k : SemLoc sig).isScoped .tc = true := by decide
    exact fun k => h _
  inj := by
    rintro ⟨s, p⟩ ⟨s', p'⟩ h
    have h' : semM cc0_scratch1 s p = semM cc0_scratch1 s' p' := SemLoc.dma.inj h
    have h2 := congrArg Fin.val h'
    rw [semM_val, semM_val] at h2
    have := p.isLt; have := p'.isLt; have := s.isLt; have := s'.isLt
    exact Prod.ext (Fin.ext (by show s.val = s'.val; omega)) (Fin.ext (by show p.val = p'.val; omega))
  disj := by
    rintro ⟨s, p⟩ w s' h
    have h' : semM cc0_scratch1 s p = (spec0 w).sem s' := SemLoc.dma.inj h
    have h2 := congrArg Fin.val h'
    rw [semM_val] at h2
    have := win_sem_lt w s'
    omega

theorem ownSems00_eq (c : Dev nD) :
    (Pipeline.ownSems0 (Ix := Unit) (Name := ℕ) (U := Pipeline.UD sig nD τ) (Lvl := ℕ) (Val := Elt F) (τ := τ) osem0 c : sProp 𝕄) = iprop(semsZ c 0 ∗ semsZ c 1) :=
  (BI.bigSep_univ_prod (fun x : Fin 2 × Fin 196 => semZ (F := F) c x.1 x.2)).trans (BI.bigSep_fin_two _)

/-- The array left in HBM. -/
def H0 : Finset (Ref sig .tc) := {main_call0_v3}
theorem H0_sub : H0 ⊆ Pipeline.restRefs sig spec0 := by decide

theorem enter (c : Dev nD) (G) : Pipeline.ΦDRV osem0 spec0 H0 ∅ (V m) G c ⊢ First c (featV m c) := by
  unfold Pipeline.ΦDRV First
  rw [scopedRest0_eq, ownSems00_eq, allS_eq]
  unfold H0
  rw [BI.bigSep_singleton]
  iintro ⟨⟨%g, Hs⟩, ⟨Hz0, Hz1⟩, Hf, -⟩
  isplitl [Hs]
  · iexists g; iexact Hs
  isplitl [Hz0]; · iexact Hz0
  isplitl [Hz1]; · iexact Hz1
  iexact Hf

theorem leave (c : Dev nD) (G) : Final c (featV m c) ⊢ Pipeline.ΦDRV osem0 spec0 H0 ∅ (V m) G c := by
  unfold Pipeline.ΦDRV Final Idle
  rw [scopedRest0_eq, ownSems00_eq]
  unfold H0
  rw [BI.bigSep_singleton, BI.bigSep_empty]
  iintro ⟨⟨⟨%g0, -, H0⟩, Hz0⟩, ⟨⟨%g1, -, H1⟩, Hz1⟩, Hf⟩
  isplitl [H0 H1]
  · have hj : iprop(slotPt c (slotSet 0) g0 ∗ slotPt c (slotSet 1) g1) ⊢ slotPt c (slotSet 0 ∪ slotSet 1) ((slotSet 1).piecewise g1 g0) := pointsTo_join disj_slots
    ihave H := hj $$ [H0 H1]
    · isplitl [H0]; · iexact H0
      iexact H1
    iexists ((slotSet 1).piecewise g1 g0)
    have e : slotPt c (slotSet 0 ∪ slotSet 1) ((slotSet 1).piecewise g1 g0) = slotPt c Finset.univ ((slotSet 1).piecewise g1 g0) :=
      congrArg (fun S => slotPt c S ((slotSet 1).piecewise g1 g0)) slots_univ.symm
    iapply (Entails.of_eq e)
    iexact H
  isplitl [Hz0 Hz1]
  · isplitl [Hz0]; · iexact Hz0
    iexact Hz1
  isplitl [Hf]; · iexact Hf
  iempintro

theorem hmain (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- What the buffers hold at the end. -/
abbrev endV (c : Dev nD) : Valuation τ sig (Elt F) :=
  StableHlo.after [hostOps1].flatten (Pipeline.withArrays spec0 c (Pipeline.withR (V0 m c) ∅ c (V m c)) fun w => (dats m 0 c).arrAt w cfg0.N)

set_option backward.isDefEq.respectTransparency.types false in
theorem run_main : θ_run defs (onTc (τ := τ) (main (F := F))) (s₀ m ρ) (fun r => (∀ c : Dev nD,
      ∀ b ∈ Pipeline.restRefs sig spec0, r.2.mem ((c.tc : Thread nD τ).loc b) = endV m c (Proc.devRef .tc b)) ∧ r.2.sem = fun _ => 0) :=
  Pipeline.θ_run_frame_dmaR_aroundV (Q' := _) (hQ' := fun r h => ⟨fun c => (h.1 c).2, h.2⟩) cfgs (dats m) (0 : Fin 1) launch0 osem0 defs₀ Variants.none ownSemFacts0 H0 ∅ H0_sub
    (Finset.empty_subset _) m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (G := V m)
    (hmain := hmain m Variants.none) (hA := A_eq m)
    (hin := fun c => enter m c _) (hout := fun c => leave m c _)

theorem endV_of_ne (c : Dev nD) (b : Ref sig .tc) (h1 : b ≠ main_v0) (h2 : ∀ w, Pipeline.arrRef spec0 w ≠ b) : endV m c (Proc.devRef .tc b) = V m c b := by
  unfold endV
  rw [StableHlo.after_of_forall_not_mem (b := Proc.devRef .tc b) _ _ (List.forall_iff_forall_mem.mp (by
      simp only [hostOps1, List.flatten_cons, List.flatten_nil, List.append_nil, List.cons_append, List.nil_append, List.Forall, StableHlo.unary_writes, Finset.mem_singleton]
      exact StableHlo.devRef_ne_of_ne h1)),
    Pipeline.withArrays_of_ne _ c _ _ b h2]
  exact Pipeline.withR_of_not_mem (V0 m c) ∅ c (V m c) b (Finset.notMem_empty b)

/-- The run keeps the arguments and stills the semaphores. -/
theorem frame_all : θ_run defs (onTc (τ := τ) (main (F := F))) ⟨m, fun _ => 0, ρ⟩ (fun r => (∀ c : Dev nD,
      r.2.mem ((c.tc : Thread nD τ).loc main_v0) = endV m c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun r h => ⟨fun c => ⟨h.1 c main_v0 (Pipeline.mem_restRefs_of main_v0 (by decide) (by decide)),
      (h.1 c main_arg0 (Pipeline.mem_restRefs_of main_arg0 (by decide) (by decide))).trans ((endV_of_ne m c _ (by decide) (by decide)).trans (V_main_arg0 m c)),
      (h.1 c main_arg1 (Pipeline.mem_restRefs_of main_arg1 (by decide) (by decide))).trans ((endV_of_ne m c _ (by decide) (by decide)).trans (V_main_arg1 m c)),
      (h.1 c main_arg2 (Pipeline.mem_restRefs_of main_arg2 (by decide) (by decide))).trans ((endV_of_ne m c _ (by decide) (by decide)).trans (V_main_arg2 m c)),
      (h.1 c main_arg3 (Pipeline.mem_restRefs_of main_arg3 (by decide) (by decide))).trans ((endV_of_ne m c _ (by decide) (by decide)).trans (V_main_arg3 m c))⟩, h.2⟩) (run_main m ρ)

end Cert.KernelIdeal.Hand

end
-- ==== Proof.Sampling.lean ====
module

public import Idealize.ShloMosaic.PureOps.Ideal
public import Idealize.ShloMosaic.PureOps.Ideal.Laws
public import Mathlib.Tactic.Ring
public import Mathlib.Tactic.NormNum
public import Mathlib.Tactic.FinCases
public import Mathlib.Algebra.BigOperators.Intervals

/-! One refinement round over the extended reals, written plainly, and the two rearrangements that the kernel makes of it:
    the bilinear sample as a sum over all positions, and the average over the neighbours as a product with a matrix. -/

@[expose] public section

noncomputable section

namespace Cert.Sampling

open Idealize.ShloMosaic

/-! ## Coordinates -/

/-- The largest coordinate: 13 less a little. -/
def top : EReal := Ideal.ofBits .f32 0x414FFF97#32
theorem top_eq : top = ((13631383 / 1048576 : ℝ) : EReal) := by
  unfold top
  simp [Ideal.ofBits, Ideal.ieee]
  rw [← EReal.coe_mul]
  norm_num

/-- A coordinate clipped to the image. -/
def clip (x : EReal) : EReal := min top (max 0 x)
/-- The same, as a real number. -/
def pos (x : EReal) : ℝ := (clip x).toReal
theorem clip_nonneg (x : EReal) : 0 ≤ clip x := by
  refine le_min ?_ (le_max_left _ _)
  rw [top_eq]
  exact_mod_cast (by norm_num : (0 : ℝ) ≤ 13631383 / 1048576)
theorem clip_le (x : EReal) : clip x ≤ ((13631383 / 1048576 : ℝ) : EReal) := by
  rw [← top_eq]
  exact min_le_left _ _
theorem clip_eq (x : EReal) : clip x = (pos x : EReal) := by
  refine (EReal.coe_toReal ?_ ?_).symm
  · exact ne_top_of_le_ne_top (EReal.coe_ne_top _) (clip_le x)
  · exact ne_bot_of_le_ne_bot (EReal.zero_ne_bot) (clip_nonneg x)
theorem pos_nonneg (x : EReal) : 0 ≤ pos x := by
  have h := clip_nonneg x
  rw [clip_eq] at h
  exact_mod_cast h
theorem pos_lt (x : EReal) : pos x < 13 := by
  have h := clip_le x
  rw [clip_eq] at h
  have h' : pos x ≤ 13631383 / 1048576 := by exact_mod_cast h
  linarith [h', (by norm_num : (13631383 / 1048576 : ℝ) < 13)]

/-- The cell a coordinate lies in, and how far into it. -/
def cell (x : EReal) : ℕ := ⌊pos x⌋₊
def frac (x : EReal) : ℝ := pos x - cell x
theorem cell_lt (x : EReal) : cell x < 13 := (Nat.floor_lt (pos_nonneg x)).mpr (by exact_mod_cast pos_lt x)
theorem floor_clip (x : EReal) : Ideal.liftRound Int.floor (clip x) = ((cell x : ℝ) : EReal) := by
  rw [clip_eq]
  show (((⌊pos x⌋ : ℤ) : ℝ) : EReal) = _
  rw [← natCast_floor_eq_intCast_floor (pos_nonneg x)]
  rfl
theorem frac_eq (x : EReal) : clip x - ((cell x : ℝ) : EReal) = ((frac x : ℝ) : EReal) := by
  rw [clip_eq, ← EReal.coe_sub]
  rfl
theorem word_cell (x : EReal) : Ideal.fptosi 32 ((cell x : ℝ) : EReal) = BitVec.ofNat 32 (cell x) := by
  have h := cell_lt x
  rw [Ideal.fptosi, Ideal.toIntClamped_coe]
  rw [if_pos (Nat.cast_nonneg _), Int.floor_natCast]
  generalize cell x = n at h
  interval_cases n <;> decide

/-- The weight of grid line `q` for a coordinate. -/
def hat (x : EReal) (q : ℕ) : ℝ := (if q = cell x then 1 - frac x else 0) + (if q = cell x + 1 then frac x else 0)

theorem sum_hat (x : EReal) (N : ℕ) (hN : 14 ≤ N) (f : ℕ → ℝ) :
    ∑ q ∈ Finset.range N, f q * hat x q = f (cell x) * (1 - frac x) + f (cell x + 1) * frac x := by
  have h := cell_lt x
  simp only [hat, mul_add, mul_ite, mul_zero, Finset.sum_add_distrib, Finset.sum_ite_eq', Finset.mem_range]
  rw [if_pos (by omega), if_pos (by omega)]

/-! ## Sampling -/

/-- A channel `φ` of an image (row, column) sampled at a point. -/
def bil (φ : ℕ → ℕ → ℝ) (x y : EReal) : ℝ :=
  φ (cell y) (cell x) * (1 - frac x) * (1 - frac y) + φ (cell y) (cell x + 1) * frac x * (1 - frac y)
    + φ (cell y + 1) (cell x) * (1 - frac x) * frac y + φ (cell y + 1) (cell x + 1) * frac x * frac y

theorem bil_sum (φ : ℕ → ℕ → ℝ) (x y : EReal) :
    ∑ a ∈ Finset.range 14, ∑ b ∈ Finset.range 16, (if b < 14 then φ a b else 0) * (hat y a * hat x b) = bil φ x y := by
  have hx := cell_lt x
  have e : ∀ a, ∑ b ∈ Finset.range 16, (if b < 14 then φ a b else 0) * (hat y a * hat x b)
      = (φ a (cell x) * (1 - frac x) + φ a (cell x + 1) * frac x) * hat y a := fun a => by
    have := sum_hat x 16 (by norm_num) (fun b => if b < 14 then φ a b else 0)
    rw [if_pos (by omega), if_pos (by omega)] at this
    rw [← this, Finset.sum_mul]
    exact Finset.sum_congr rfl fun b _ => by ring
  simp only [e]
  rw [sum_hat y 14 le_rfl (fun a => φ a (cell x) * (1 - frac x) + φ a (cell x + 1) * frac x)]
  unfold bil
  ring

/-! ## Neighbours -/

/-- The four neighbours of a vertex on the ring. -/
def nb (n : Fin 128) (k : Fin 4) : Fin 128 := ⟨(n.val + ![126, 127, 1, 2] k) % 128, Nat.mod_lt _ (by norm_num)⟩
/-- A vertex's value and the average of its neighbours'. -/
def mixed (f : Fin 128 → ℝ) (n : Fin 128) : ℝ := f n + (∑ k : Fin 4, f (nb n k)) / 4
/-- Four times the entry of the neighbour matrix. -/
def wt (p n : Fin 128) : ℕ := if p = n then 4 else if (p.val + 128 - n.val) % 128 ∈ [1, 2, 126, 127] then 1 else 0
theorem wt_eq : ∀ p n : Fin 128, wt p n = (if p = n then 4 else 0) + ∑ k : Fin 4, if p = nb n k then 1 else 0 := by
  decide +kernel

theorem mixed_sum (f : Fin 128 → ℝ) (n : Fin 128) : ∑ p : Fin 128, f p * ((wt p n : ℝ) / 4) = mixed f n := by
  have e : ∀ p : Fin 128, f p * ((wt p n : ℝ) / 4) = (if p = n then f p else 0) + (∑ k : Fin 4, if p = nb n k then f p else 0) / 4 := fun p => by
    rw [wt_eq]
    push_cast
    have e1 : (∑ k : Fin 4, if p = nb n k then f p else 0) = f p * ∑ k : Fin 4, (if p = nb n k then (1 : ℝ) else 0) := by
      rw [Finset.mul_sum]
      exact Finset.sum_congr rfl fun k _ => by split_ifs <;> ring
    rw [e1]
    split_ifs <;> ring
  simp only [e, Finset.sum_add_distrib, Finset.sum_ite_eq', Finset.mem_univ, if_true, ← Finset.sum_div]
  rw [Finset.sum_comm]
  simp only [Finset.sum_ite_eq', Finset.mem_univ, if_true]
  rfl

/-! ## One round -/

section Round
variable (φ : Fin 256 → ℕ → ℕ → ℝ) (W1 : Fin 256 → Fin 128 → ℝ) (W2 : Fin 128 → Fin 128 → EReal) (Wo : Fin 128 → Fin 2 → EReal)
variable (x y : Fin 128 → EReal)

/-- Channel `c` at vertex `n`. -/
def smp (n : Fin 128) (c : Fin 256) : ℝ := bil (φ c) (x n) (y n)
/-- The first layer. -/
def hid (n j : Fin 128) : ℝ := max (∑ c : Fin 256, mixed (fun n => smp φ x y n c) n * W1 c j) 0
/-- The second layer. -/
def out2 (n k : Fin 128) : EReal := max (∑ j : Fin 128, ((mixed (fun n => hid φ W1 x y n j) n : ℝ) : EReal) * W2 j k) 0
/-- By how much a vertex moves. -/
def off (n : Fin 128) (i : Fin 2) : EReal := Ideal.tanh (∑ k : Fin 128, out2 φ W1 W2 x y n k * Wo k i)

end Round

/-- The vertices after `r` rounds. -/
def walk (φ : Fin 256 → ℕ → ℕ → ℝ) (W1 : Fin 256 → Fin 128 → ℝ) (W2 : Fin 128 → Fin 128 → EReal) (Wo : Fin 128 → Fin 2 → EReal) :
    ℕ → (Fin 128 → Fin 2 → EReal) → (Fin 128 → Fin 2 → EReal)
  | 0, z => z
  | r + 1, z => walk φ W1 W2 Wo r fun n i => z n i + off φ W1 W2 Wo (fun n => z n 0) (fun n => z n 1) n i

/-! ## Sums of finite numbers -/

theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]
theorem coe_max (a b : ℝ) : ((max a b : ℝ) : EReal) = max (a : EReal) (b : EReal) := by
  rcases le_total a b with h | h
  · rw [max_eq_right h, max_eq_right (by exact_mod_cast h)]
  · rw [max_eq_left h, max_eq_left (by exact_mod_cast h)]

end Cert.Sampling

end
-- ==== Proof.KerVal.lean ====
module

public import proofs.«01_k».proof.Proof.Body
public import proofs.«01_k».proof.Proof.Sampling
public import Idealize.ShloMosaic.Lib.Pointwise
public import Idealize.ShloMosaic.Lib.Pipeline.ValueKit.Acc

/-! The kernel's arithmetic read over the extended reals: three rounds of it are three rounds of `Sampling`. -/

@[expose] public section

set_option maxRecDepth 16384

noncomputable section

namespace Cert.KernelIdeal.Hand

open Cert.KernelIdeal Cert.KernelIdeal.Gen
open Idealize.ShloMosaic
open Cert.Sampling

theorem clipW_apply (x : FVec Ideal S1x128 .f32) (n : Fin 128) : clipW x (ix2 0 n) = clip (x (ix2 0 n)) := by
  pointwise [clipW]
  rfl
theorem floorW_apply (x : FVec Ideal S1x128 .f32) (n : Fin 128) : floor (clipW x) (ix2 0 n) = ((cell (x (ix2 0 n)) : ℝ) : EReal) := by
  rw [← floor_clip, ← clipW_apply]
  rfl
theorem cellW_apply (x : FVec Ideal S1x128 .f32) (n : Fin 128) : cellW x (ix2 0 n) = BitVec.ofNat 32 (cell (x (ix2 0 n))) := by
  rw [← word_cell, ← floorW_apply]
  rfl
theorem fracW_apply (x : FVec Ideal S1x128 .f32) (n : Fin 128) : fracW x (ix2 0 n) = ((frac (x (ix2 0 n)) : ℝ) : EReal) := by
  rw [← frac_eq, ← floorW_apply, ← clipW_apply]
  rfl

/-- Two small numbers are equal as words exactly when they are equal. -/
theorem word_inj {a b : ℕ} (ha : a < 32) (hb : b < 32) : BitVec.ofNat 32 a = BitVec.ofNat 32 b ↔ a = b := by
  constructor
  · intro h
    have := congrArg BitVec.toNat h
    rw [BitVec.toNat_ofNat, BitVec.toNat_ofNat, Nat.mod_eq_of_lt (by omega), Nat.mod_eq_of_lt (by omega)] at this
    exact this
  · exact fun h => h ▸ rfl
theorem select_eq_word {a b : ℕ} (ha : a < 32) (hb : b < 32) (u v : EReal) :
    Scalar.select (IntOp.cmpi .eq (BitVec.ofNat 32 a) (BitVec.ofNat 32 b)) u v = if a = b then u else v := by
  have e : IntOp.cmpi .eq (BitVec.ofNat 32 a) (BitVec.ofNat 32 b) = BitVec.ofBool (BitVec.ofNat 32 a == BitVec.ofNat 32 b) := rfl
  rw [e]
  by_cases h : a = b
  · subst h
    simp [Scalar.select]
  · rw [if_neg h, beq_eq_false_iff_ne.mpr fun h' => h ((word_inj ha hb).mp h')]
    simp [Scalar.select]
theorem succ_word (a : ℕ) : IntOp.addi (BitVec.ofNat 32 a) 1#32 = BitVec.ofNat 32 (a + 1) := (BitVec.ofNat_add a 1).symm

/-- The weight of a grid line as the kernel writes it. -/
theorem hat_coe (x : EReal) (q : ℕ) (hq : q < 16) :
    Scalar.select (IntOp.cmpi .eq (BitVec.ofNat 32 q) (BitVec.ofNat 32 (cell x))) (1 - ((frac x : ℝ) : EReal)) 0
      + Scalar.select (IntOp.cmpi .eq (BitVec.ofNat 32 q) (IntOp.addi (BitVec.ofNat 32 (cell x)) 1#32)) ((frac x : ℝ) : EReal) 0
    = ((hat x q : ℝ) : EReal) := by
  have h := cell_lt x
  rw [succ_word, select_eq_word (by omega) (by omega), select_eq_word (by omega) (by omega)]
  unfold hat
  rw [EReal.coe_add]
  congr 1
  · split_ifs
    · rw [EReal.coe_sub]; rfl
    · rfl
  · split_ifs <;> rfl

theorem hatX_apply (x : FVec Ideal S1x128 .f32) (q : Fin 16) (n : Fin 128) : hatX x (ix2 q n) = ((hat (x (ix2 0 n)) q.val : ℝ) : EReal) := by
  rw [← hat_coe _ _ q.isLt]
  pointwise [hatX, rows16]
  rw [cellW_apply, fracW_apply]
theorem hatY_apply (x : FVec Ideal S1x128 .f32) (q : Fin 14) (n : Fin 128) : hatY x (ix2 q n) = ((hat (x (ix2 0 n)) q.val : ℝ) : EReal) := by
  rw [← hat_coe _ _ (by omega)]
  pointwise [hatY, rows14]
  rw [cellW_apply, fracW_apply]
theorem sampM_apply (x y : FVec Ideal S1x128 .f32) (p : Fin 224) (n : Fin 128) :
    sampM x y (ix2 p n) = ((hat (y (ix2 0 n)) (p.val / 16) * hat (x (ix2 0 n)) (p.val % 16) : ℝ) : EReal) := by
  pointwise [sampM]
  rw [hatY_apply, hatX_apply, EReal.coe_mul]

/-- A sample's image as it lies in memory: rows of 16, of which 14 are used. -/
def pad (φ : ℕ → ℕ → ℝ) (p : ℕ) : ℝ := if p % 16 < 14 then φ (p / 16) (p % 16) else 0

theorem bil_pad (φ : ℕ → ℕ → ℝ) (x y : EReal) : ∑ p : Fin 224, pad φ p.val * (hat y (p.val / 16) * hat x (p.val % 16)) = bil φ x y := by
  rw [← bil_sum, Fin.sum_univ_eq_sum_range (fun p => pad φ p * (hat y (p / 16) * hat x (p % 16))) 224]
  exact Finset.sum_range_mul_divmod 14 16 (fun a b => (if b < 14 then φ a b else 0) * (hat y a * hat x b))

section Round
variable (φ : Fin 256 → ℕ → ℕ → ℝ) (W1 : Fin 256 → Fin 128 → ℝ) (W2 : Fin 128 → Fin 128 → EReal) (Wo : Fin 128 → Fin 2 → EReal)
variable (w2t : FVec Ideal S128x128 .bf16) (woutt : FVec Ideal S8x128 .bf16) (mm : FVec Ideal S128x128 .bf16) (g : FVec Ideal S128x224 .bf16)
variable (x y : FVec Ideal S1x128 .f32)

/-- What the weights and the projected sample must be. -/
structure Reads : Prop where
  g_eq : ∀ (j : Fin 128) (p : Fin 224), g (ix2 j p) = ((∑ c : Fin 256, W1 c j * pad (φ c) p.val : ℝ) : EReal)
  mm_eq : ∀ p n : Fin 128, mm (ix2 p n) = (((wt p n : ℝ) / 4 : ℝ) : EReal)
  w2_eq : ∀ k j : Fin 128, w2t (ix2 k j) = W2 j k
  wo_eq : ∀ (i : Fin 2) (k : Fin 128), woutt (ix2 ⟨i.val, by omega⟩ k) = Wo k i

variable {φ W1 W2 Wo w2t woutt mm g}
variable (h : Reads φ W1 W2 Wo w2t woutt mm g)
include h

theorem mix_apply (f : Fin 128 → ℝ) (n : Fin 128) : ∑ p : Fin 128, ((f p : ℝ) : EReal) * mm (ix2 p n) = ((mixed f n : ℝ) : EReal) := by
  rw [← mixed_sum, coe_sum]
  exact Finset.sum_congr rfl fun p _ => by rw [h.mm_eq, EReal.coe_mul]

theorem proj_smp (j n : Fin 128) : ∑ p : Fin 224, g (ix2 j p) * sampM x y (ix2 p n)
    = ((∑ c : Fin 256, W1 c j * smp φ (fun n => x (ix2 0 n)) (fun n => y (ix2 0 n)) n c : ℝ) : EReal) := by
  have e : ∀ p : Fin 224, g (ix2 j p) * sampM x y (ix2 p n)
      = (((∑ c : Fin 256, W1 c j * pad (φ c) p.val) * (hat (y (ix2 0 n)) (p.val / 16) * hat (x (ix2 0 n)) (p.val % 16)) : ℝ) : EReal) := fun p => by
    rw [h.g_eq, sampM_apply, ← EReal.coe_mul]
  rw [Finset.sum_congr rfl fun p _ => e p, ← coe_sum]
  congr 1
  simp only [smp, ← bil_pad, Finset.mul_sum, Finset.sum_mul]
  rw [Finset.sum_comm]
  exact Finset.sum_congr rfl fun c _ => Finset.sum_congr rfl fun p _ => by ring

theorem hid_apply (j n : Fin 128) :
    max (∑ p : Fin 128, (∑ q : Fin 224, g (ix2 j q) * sampM x y (ix2 q p)) * mm (ix2 p n)) 0
      = ((hid φ W1 (fun n => x (ix2 0 n)) (fun n => y (ix2 0 n)) n j : ℝ) : EReal) := by
  rw [Finset.sum_congr rfl fun p _ => congrArg (· * mm (ix2 p n)) (proj_smp x y h j p), mix_apply h]
  unfold hid
  rw [coe_max]
  congr 2
  unfold mixed
  simp only [add_mul, Finset.sum_add_distrib]
  congr 1
  · exact Finset.sum_congr rfl fun c _ => mul_comm _ _
  rw [Finset.sum_comm, Finset.sum_div]
  refine Finset.sum_congr rfl fun c _ => ?_
  rw [← Finset.mul_sum]
  ring

theorem offW_apply (i : Fin 2) (n : Fin 128) : offW w2t woutt mm g x y (ix2 ⟨i.val, by omega⟩ n)
    = off φ W1 W2 Wo (fun n => x (ix2 0 n)) (fun n => y (ix2 0 n)) n i := by
  pointwise [offW, mixM, reluW]
  simp only [hid_apply x y h, mix_apply h, h.w2_eq, h.wo_eq]
  unfold off out2
  congr 1
  refine Finset.sum_congr rfl fun k _ => ?_
  rw [mul_comm]
  congr 2

  exact Finset.sum_congr rfl fun j _ => mul_comm (W2 j k) _

theorem roundX_apply (n : Fin 128) : roundX w2t woutt mm g x y (ix2 0 n)
    = x (ix2 0 n) + off φ W1 W2 Wo (fun n => x (ix2 0 n)) (fun n => y (ix2 0 n)) n 0 := by
  rw [← offW_apply x y h]
  pointwise [roundX]
theorem roundY_apply (n : Fin 128) : roundY w2t woutt mm g x y (ix2 0 n)
    = y (ix2 0 n) + off φ W1 W2 Wo (fun n => x (ix2 0 n)) (fun n => y (ix2 0 n)) n 1 := by
  rw [← offW_apply x y h]
  pointwise [roundY]

theorem threeRounds_apply (i : Fin 2) (n : Fin 128) : threeRounds w2t woutt mm g x y (ix3 0 i n)
    = walk φ W1 W2 Wo 3 (fun n i => if i = 0 then x (ix2 0 n) else y (ix2 0 n)) n i := by
  have hx := fun x y => roundX_apply x y h
  have hy := fun x y => roundY_apply x y h
  unfold threeRounds
  generalize hX : roundX w2t woutt mm g = X at hx
  generalize hY : roundY w2t woutt mm g = Y at hy
  fin_cases i
  · pointwise []
    simp [hx, hy, walk]
  · pointwise []
    simp [hx, hy, walk]

end Round

/-- One sample's projection. -/
theorem proj_apply (φ : Fin 256 → ℕ → ℕ → ℝ) (W1 : Fin 256 → Fin 128 → ℝ) (w : FVec Ideal S128x256 .bf16) (b : Vec Ideal S1x1x224x256 .f32)
    (hw : ∀ (j : Fin 128) (c : Fin 256), w (ix2 j c) = ((W1 c j : ℝ) : EReal))
    (hb : ∀ (p : Fin 224) (c : Fin 256), b (ix4 0 0 p c) = ((pad (φ c) p.val : ℝ) : EReal)) (j : Fin 128) (p : Fin 224) :
    proj w b (ix2 j p) = ((∑ c : Fin 256, W1 c j * pad (φ c) p.val : ℝ) : EReal) := by
  pointwise [proj]
  rw [coe_sum]
  exact Finset.sum_congr rfl fun c _ => by rw [hw, hb, EReal.coe_mul]

end Cert.KernelIdeal.Hand

end
-- ==== Proof.Tables.lean ====
module

public import proofs.«01_k».proof.Proof.Gen.KernelIdeal.Frame
public import proofs.«01_k».proof.Proof.Gen.ReferenceIdeal
public import proofs.«01_k».proof.Proof.Sampling

/-! The literal tables of the two programs. -/

@[expose] public section

set_option maxRecDepth 100000

namespace Cert.KernelIdeal.Hand

open Cert.KernelIdeal Cert.KernelIdeal.Gen
open Idealize.ShloMosaic
open Cert.Sampling

theorem startX : ∀ n : Fin 128, lit0 n = Cert.ReferenceIdeal.lit0 n := by decide +kernel
theorem startY : ∀ n : Fin 128, lit1 n = Cert.ReferenceIdeal.lit1 n := by decide +kernel

/-- The neighbour matrix: 1 on the diagonal, a quarter at the four neighbours. -/
theorem matrix : ∀ p n : Fin 128, lit2 ⟨p.val * 128 + n.val, by omega⟩
    = if wt p n = 4 then 0x3F80#16 else if wt p n = 1 then 0x3E80#16 else 0x0000#16 := by decide +kernel

end Cert.KernelIdeal.Hand
-- ==== Proof.HostVal.lean ====
module

public import proofs.«01_k».proof.Proof.Run
public import proofs.«01_k».proof.Proof.KerVal
public import proofs.«01_k».proof.Proof.Tables
public import Idealize.ShloMosaic.Lib.Pointwise
public import Idealize.ShloMosaic.Lib.Tactic.CleanTypes
public import Idealize.ShloMosaic.Lib.Claim
public import Idealize.ShloMosaic.Lib.Pipeline.ValueKit
public import Idealize.ShloMosaic.Lib.Routing.OpsSet
public import Idealize.ShloMosaic.Lib.Routing.OpsPair

/-! What the kernel's windows hold, and its result array. -/

@[expose] public section

set_option maxRecDepth 16384

noncomputable section

namespace Cert.KernelIdeal.Hand

open Cert.KernelIdeal Cert.KernelIdeal.Gen
open Idealize.ShloMosaic Idealize.ShloMosaic.TcCoe Idealize.ShloMosaic.StableHlo
open Idealize.SL.Sem
open Cert.Sampling

variable (m : (ℓ : Loc nD τ sig) → Buf (Elt Ideal) ℓ) (c : Dev nD)

/-! ## The arrays prepared before the kernel -/

theorem V_v0 : V m c main_call0_v0 = broadcastInDim S1x128 ![1] bcast_S128_S1x128_1 (fun i => Ideal.ofBits .f32 (lit0 (S128.rowMajor i))) := by
  simp only [V, V0, List.flatten_cons, List.flatten_nil, List.append_nil, hostOps0, TRef.binary, TRef.nullary, TRef.ternary, TRef.unary, TRef.reshape, TRef.toBuf, TRef.ofBuf, cast_eq]
  after_results_simp
  all_goals rfl
theorem V_v1 : V m c main_call0_v1 = broadcastInDim S1x128 ![1] bcast_S128_S1x128_1 (fun i => Ideal.ofBits .f32 (lit1 (S128.rowMajor i))) := by
  simp only [V, V0, List.flatten_cons, List.flatten_nil, List.append_nil, hostOps0, TRef.binary, TRef.nullary, TRef.ternary, TRef.unary, TRef.reshape, TRef.toBuf, TRef.ofBuf, cast_eq]
  after_results_simp
  all_goals rfl
theorem V_cst_1 : V m c main_call0_cst_1 = fun i => Ideal.ofBits .bf16 (lit2 (S128x128.rowMajor i)) := by
  simp only [V, V0, List.flatten_cons, List.flatten_nil, List.append_nil, hostOps0, TRef.binary, TRef.nullary, TRef.ternary, TRef.unary, TRef.reshape, TRef.toBuf, TRef.ofBuf, cast_eq]
  after_results_simp
  all_goals rfl
theorem V_v3 : V m c main_call0_v3 = shapeCast (s := S14x14x1024x256) S196x1024x256 (transpose S14x14x1024x256 [2, 3, 0, 1] (m (c, Proc.devRef .tc main_arg0)) transposes_S1024x256x14x14_S14x14x1024x256_2_3_0_1) shapeCasts_S14x14x1024x256_S196x1024x256 := by
  simp only [V, V0, List.flatten_cons, List.flatten_nil, List.append_nil, hostOps0, TRef.binary, TRef.nullary, TRef.ternary, TRef.unary, TRef.reshape, TRef.toBuf, TRef.ofBuf, cast_eq]
  after_results_simp
  all_goals rfl
theorem V_v5 : V m c main_call0_v5 = truncf (F := Ideal) (s := S128x256) .bf16 (transpose S128x256 [1, 0] (m (c, Proc.devRef .tc main_arg1)) transposes_S256x128_S128x256_1_0) bitsLt_bf16_f32 := by
  simp only [V, V0, List.flatten_cons, List.flatten_nil, List.append_nil, hostOps0, TRef.binary, TRef.nullary, TRef.ternary, TRef.unary, TRef.reshape, TRef.toBuf, TRef.ofBuf, cast_eq]
  after_results_simp
  all_goals rfl
theorem V_v7 : V m c main_call0_v7 = truncf (F := Ideal) (s := S128x128) .bf16 (transpose S128x128 [1, 0] (m (c, Proc.devRef .tc main_arg2)) transposes_S128x128_S128x128_1_0) bitsLt_bf16_f32 := by
  simp only [V, V0, List.flatten_cons, List.flatten_nil, List.append_nil, hostOps0, TRef.binary, TRef.nullary, TRef.ternary, TRef.unary, TRef.reshape, TRef.toBuf, TRef.ofBuf, cast_eq]
  after_results_simp
  all_goals rfl
theorem V_v12 : V m c main_call0_v12 = truncf (F := Ideal) (s := S8x128) .bf16 (Host.scatter scatter_S8x128_S1_S2x128_01_n_0_0 (fun _ b => b)
    (broadcastInDim S8x128 ![] bcast_S_S8x128 (constant S_ .f32 0x00000000#32)) (broadcastInDim S1 ![] bcast_S_S1 (constantI S_ 32 0#32))
    (transpose S2x128 [1, 0] (m (c, Proc.devRef .tc main_arg3)) transposes_S128x2_S2x128_1_0)) bitsLt_bf16_f32 := by
  simp only [V, V0, List.flatten_cons, List.flatten_nil, List.append_nil, hostOps0, TRef.binary, TRef.nullary, TRef.ternary, TRef.unary, TRef.reshape, TRef.toBuf, TRef.ofBuf, cast_eq]
  after_results_simp
  all_goals rfl

/-- Two rows put at the top of eight. -/
theorem top_rows (x : FVec Ideal S8x128 .f32) (idx : IVec S1 32) (h : ∀ i, idx i = 0#32) (u : FVec Ideal S2x128 .f32) (i : Fin 2) (k : Fin 128) :
    Host.scatter scatter_S8x128_S1_S2x128_01_n_0_0 (fun _ b => b) x idx u (ix2 ⟨i.val, by omega⟩ k) = u (ix2 i k) := by
  have e : ∀ j : S2x128.Idx, scatter_S8x128_S1_S2x128_01_n_0_0.resultIdx? j idx = some (ix2 ⟨i.val, by omega⟩ k) ↔ (j 0).val = i.val ∧ (j 1).val = k.val := fun j => by
    rw [Routing.resultIdx?_eq_some]
    have s0 : scatter_S8x128_S1_S2x128_01_n_0_0.start j idx 0 = 0 := by
      show (idx _).toInt = 0
      rw [h]; rfl
    have s1 : scatter_S8x128_S1_S2x128_01_n_0_0.start j idx 1 = 0 := rfl
    have w0 : scatter_S8x128_S1_S2x128_01_n_0_0.window j 0 = (j 0).val := rfl
    have w1 : scatter_S8x128_S1_S2x128_01_n_0_0.window j 1 = (j 1).val := rfl
    constructor
    · intro q
      have q0 : _ = ((i.val : ℕ) : ℤ) := q 0
      have q1 : _ = ((k.val : ℕ) : ℤ) := q 1
      rw [s0, w0] at q0
      rw [s1, w1] at q1
      omega
    · rintro ⟨q0, q1⟩ a
      match a with
      | ⟨0, _⟩ => show scatter_S8x128_S1_S2x128_01_n_0_0.start j idx 0 + (scatter_S8x128_S1_S2x128_01_n_0_0.window j 0 : ℤ) = ((i.val : ℕ) : ℤ); rw [s0, w0]; omega
      | ⟨1, _⟩ => show scatter_S8x128_S1_S2x128_01_n_0_0.start j idx 1 + (scatter_S8x128_S1_S2x128_01_n_0_0.window j 1 : ℤ) = ((k.val : ℕ) : ℤ); rw [s1, w1]; omega
  refine Routing.scatter_set_hit _ x idx u _ _ (fun j hj => ?_) (ix2 i k) ((e _).mpr ⟨rfl, rfl⟩)
  obtain ⟨h0, h1⟩ := (e j).mp hj
  refine congrArg u (funext fun a => Fin.ext ?_)
  match a with
  | ⟨0, _⟩ => exact h0
  | ⟨1, _⟩ => exact h1

/-! ## The windows read at an index -/

theorem index_in : ∀ t : Fin cfg0.N, (cfg0.win 0).index t = ![0, 0] ∧ (cfg0.win 1).index t = ![0, 0] ∧ (cfg0.win 2).index t = ![0, 0] ∧ (cfg0.win 3).index t = ![0, 0]
    ∧ (cfg0.win 4).index t = ![0, 0] ∧ (cfg0.win 5).index t = ![0, 0] := by decide +kernel

theorem win0_apply (t : Fin cfg0.N) (j : Fin 128) (k : Fin 256) : iblk m c 0 t (ix2 j k) = V m c main_call0_v5 (ix2 j k) := by
  blk_ext [iblk, index_in t]
theorem win1_apply (t : Fin cfg0.N) (j : Fin 128) (k : Fin 128) : iblk m c 1 t (ix2 j k) = V m c main_call0_v7 (ix2 j k) := by
  blk_ext [iblk, index_in t]
theorem win2_apply (t : Fin cfg0.N) (j : Fin 8) (k : Fin 128) : iblk m c 2 t (ix2 j k) = V m c main_call0_v12 (ix2 j k) := by
  blk_ext [iblk, index_in t]
theorem win3_apply (t : Fin cfg0.N) (j : Fin 128) (k : Fin 128) : iblk m c 3 t (ix2 j k) = V m c main_call0_cst_1 (ix2 j k) := by
  blk_ext [iblk, index_in t]
theorem win4_apply (t : Fin cfg0.N) (k : Fin 128) : iblk m c 4 t (ix2 (0 : Fin 1) k) = V m c main_call0_v0 (ix2 (0 : Fin 1) k) := by
  blk_ext [iblk, index_in t]
theorem win5_apply (t : Fin cfg0.N) (k : Fin 128) : iblk m c 5 t (ix2 (0 : Fin 1) k) = V m c main_call0_v1 (ix2 (0 : Fin 1) k) := by
  blk_ext [iblk, index_in t]

theorem feat_apply (p : Fin 196) (b : Fin 1024) (k : Fin 256) :
    V m c main_call0_v3 (ix3 p b k) = m (c, Proc.devRef .tc main_arg0) (ix4 b k ⟨p.val / 14, by omega⟩ ⟨p.val % 14, by omega⟩) := by
  rw [V_v3]
  clean_types
  pointwise []
theorem w1_apply (j : Fin 128) (k : Fin 256) : V m c main_call0_v5 (ix2 j k) = m (c, Proc.devRef .tc main_arg1) (ix2 k j) := by
  rw [V_v5]
  clean_types
  pointwise []
theorem w2_apply (k j : Fin 128) : V m c main_call0_v7 (ix2 k j) = m (c, Proc.devRef .tc main_arg2) (ix2 j k) := by
  rw [V_v7]
  clean_types
  pointwise []
theorem wo_apply (i : Fin 2) (k : Fin 128) : V m c main_call0_v12 (ix2 (⟨i.val, by omega⟩ : Fin 8) k) = m (c, Proc.devRef .tc main_arg3) (ix2 k i) := by
  rw [V_v12]
  refine (top_rows _ _ (fun _ => rfl) _ i k).trans ?_
  clean_types
  pointwise []
theorem xs_apply (n : Fin 128) : V m c main_call0_v0 (ix2 (0 : Fin 1) n) = Ideal.ofBits .f32 (Cert.ReferenceIdeal.lit0 (S128.rowMajor (ix1 n))) := by
  rw [V_v0]
  refine Eq.trans ?_ (congrArg (Ideal.ofBits .f32) (startX (S128.rowMajor (ix1 n))))
  clean_types
  pointwise []
theorem ys_apply (n : Fin 128) : V m c main_call0_v1 (ix2 (0 : Fin 1) n) = Ideal.ofBits .f32 (Cert.ReferenceIdeal.lit1 (S128.rowMajor (ix1 n))) := by
  rw [V_v1]
  refine Eq.trans ?_ (congrArg (Ideal.ofBits .f32) (startY (S128.rowMajor (ix1 n))))
  clean_types
  pointwise []

theorem bf16_one : Ideal.ofBits .bf16 0x3F80#16 = ((1 : ℝ) : EReal) := by
  simp [Ideal.ofBits, Ideal.ieee, -EReal.coe_mul]; norm_num
theorem bf16_quarter : Ideal.ofBits .bf16 0x3E80#16 = ((1 / 4 : ℝ) : EReal) := by
  simp [Ideal.ofBits, Ideal.ieee, -EReal.coe_mul]; norm_num
theorem bf16_zero : Ideal.ofBits .bf16 0x0000#16 = ((0 : ℝ) : EReal) := by
  simp [Ideal.ofBits, Ideal.ieee]

theorem mm_apply (p n : Fin 128) : V m c main_call0_cst_1 (ix2 p n) = (((wt p n : ℝ) / 4 : ℝ) : EReal) := by
  rw [V_cst_1]
  have e : S128x128.rowMajor (ix2 p n) = ⟨p.val * 128 + n.val, by show _ < 128 * 128; omega⟩ := Fin.ext (Shape.rowMajor_val_two _)
  show Ideal.ofBits .bf16 (lit2 (S128x128.rowMajor (ix2 p n))) = _
  rw [e, matrix]
  have h : wt p n = 4 ∨ wt p n = 1 ∨ wt p n = 0 := by
    unfold wt
    split_ifs <;> simp
  rcases h with h | h | h <;> rw [h] <;> norm_num [bf16_one, bf16_quarter, bf16_zero]

end Cert.KernelIdeal.Hand

end
-- ==== Proof.OutVal.lean ====
module

public import proofs.«01_k».proof.Proof.HostVal
public import Idealize.ShloMosaic.Lib.Pointwise
public import Idealize.ShloMosaic.Lib.Pipeline.ValueKit

/-! The kernel's result array at an index: three rounds of `Sampling` from the starting points. -/

@[expose] public section

set_option maxRecDepth 16384

noncomputable section

namespace Cert.KernelIdeal.Hand

open Cert.KernelIdeal Cert.KernelIdeal.Gen
open Idealize.ShloMosaic Idealize.ShloMosaic.TcCoe Idealize.ShloMosaic.StableHlo Idealize.SL.Sem
open Cert.Sampling

/-- Where every vertex starts. -/
abbrev origin (n : Fin 128) (i : Fin 2) : EReal :=
  if i = 0 then Ideal.ofBits .f32 (Cert.ReferenceIdeal.lit0 (S128.rowMajor (ix1 n))) else Ideal.ofBits .f32 (Cert.ReferenceIdeal.lit1 (S128.rowMajor (ix1 n)))

variable (m : (ℓ : Loc nD τ sig) → Buf (Elt Ideal) ℓ) (c : Dev nD)
variable (φ : Fin 1024 → Fin 256 → ℕ → ℕ → ℝ) (W1 : Fin 256 → Fin 128 → ℝ)

/-- Sample `r` of block `t` as it was loaded. -/
theorem rowOf_apply
    (h0 : ∀ (b : Fin 1024) (k : Fin 256) (p : Fin 196), m (c, Proc.devRef .tc main_arg0) (ix4 b k ⟨p.val / 14, by omega⟩ ⟨p.val % 14, by omega⟩) = ((φ b k (p.val / 14) (p.val % 14) : ℝ) : EReal))
    (t : Fin 16) (r : Fin 64) (p : Fin 224) (k : Fin 256) :
    rowOf (featV m c) t r.val (ix4 0 0 p k) = ((pad (φ ⟨64 * t.val + r.val, by omega⟩ k) p.val : ℝ) : EReal) := by
  unfold rowOf
  rw [dif_pos r.isLt]
  unfold slotBuf pad
  by_cases hp : p.val % 16 < 14
  · rw [if_pos hp]
    refine (dif_pos hp).trans ?_
    have hq : p.val / 16 * 14 + p.val % 16 < 196 := by have := p.isLt; omega
    refine Eq.trans ?_ ((feat_apply m c ⟨p.val / 16 * 14 + p.val % 16, hq⟩ ⟨64 * t.val + r.val, by omega⟩ k).trans ((h0 _ k ⟨p.val / 16 * 14 + p.val % 16, hq⟩).trans ?_))
    · refine congrArg (featV m c) (funext fun a => ?_)
      match a with
      | ⟨0, _⟩ => rfl
      | ⟨1, _⟩ => rfl
      | ⟨2, _⟩ => rfl
    · have e1 : (p.val / 16 * 14 + p.val % 16) / 14 = p.val / 16 := by omega
      have e2 : (p.val / 16 * 14 + p.val % 16) % 14 = p.val % 16 := by omega
      simp only [e1, e2]
  · rw [if_neg hp]
    refine (dif_neg hp).trans ?_
    show Ideal.ofBits .f32 0x00000000#32 = _
    simp [Ideal.ofBits, Ideal.ieee]

/-- Sample `r` of block `t` as it is written. -/
theorem outVal_apply
    (h0 : ∀ (b : Fin 1024) (k : Fin 256) (p : Fin 196), m (c, Proc.devRef .tc main_arg0) (ix4 b k ⟨p.val / 14, by omega⟩ ⟨p.val % 14, by omega⟩) = ((φ b k (p.val / 14) (p.val % 14) : ℝ) : EReal))
    (h1 : ∀ (k : Fin 256) (j : Fin 128), m (c, Proc.devRef .tc main_arg1) (ix2 k j) = ((W1 k j : ℝ) : EReal))
    (t : Fin cfg0.N) (s : Fin 16) (r : Fin 64) (i : Fin 2) (n : Fin 128) :
    outVal (featV m c) (iblk m c 0 t) (iblk m c 1 t) (iblk m c 2 t) (iblk m c 3 t) (iblk m c 4 t) (iblk m c 5 t) s r.val (ix3 0 i n)
      = walk (φ ⟨64 * s.val + r.val, by omega⟩) W1 (fun j k => m (c, Proc.devRef .tc main_arg2) (ix2 j k)) (fun k i => m (c, Proc.devRef .tc main_arg3) (ix2 k i)) 3 origin n i := by
  unfold outVal
  have hR : Reads (φ ⟨64 * s.val + r.val, by omega⟩) W1 (fun j k => m (c, Proc.devRef .tc main_arg2) (ix2 j k)) (fun k i => m (c, Proc.devRef .tc main_arg3) (ix2 k i))
      (shapeCast S128x128 (iblk m c 1 t : Vec Ideal S128x128 .bf16) shapeCasts_S128x128_S128x128) (shapeCast S8x128 (iblk m c 2 t : Vec Ideal S8x128 .bf16) shapeCasts_S8x128_S8x128) (iblk m c 3 t)
      (proj (shapeCast S128x256 (iblk m c 0 t : Vec Ideal S128x256 .bf16) shapeCasts_S128x256_S128x256) (rowOf (featV m c) s r.val)) :=
    { g_eq := fun j p => proj_apply _ W1 _ _ (fun j k => by
          refine (congrFun (shapeCast_id _ _) _).trans ?_
          exact (win0_apply m c t j k).trans ((w1_apply m c j k).trans (h1 k j))) (rowOf_apply m c φ h0 s r) j p
      mm_eq := fun p n => (win3_apply m c t p n).trans (mm_apply m c p n)
      w2_eq := fun k j => by
          refine (congrFun (shapeCast_id _ _) _).trans ?_
          exact (win1_apply m c t k j).trans (w2_apply m c k j)
      wo_eq := fun i k => by
          refine (congrFun (shapeCast_id _ _) _).trans ?_
          exact (win2_apply m c t _ k).trans (wo_apply m c i k) }
  refine (threeRounds_apply _ _ hR i n).trans ?_
  have e : (fun (n : Fin 128) (i : Fin 2) => if i = 0 then (iblk m c 4 t : Vec Ideal S1x128 .f32) (ix2 (0 : Fin 1) n) else (iblk m c 5 t : Vec Ideal S1x128 .f32) (ix2 (0 : Fin 1) n)) = origin := by
    funext n i
    rw [win4_apply m c t n, win5_apply m c t n, xs_apply, ys_apply]
  exact congrArg (fun z => walk _ W1 _ _ 3 z n i) e

/-- The array the region writes. -/
def outArr : FVec Ideal S1024x2x128 .f32 := fun x =>
  outVal (featV m c) (V m c main_call0_v5) (V m c main_call0_v7) (V m c main_call0_v12) (V m c main_call0_cst_1) (V m c main_call0_v0) (V m c main_call0_v1)
    ⟨(x 0).val / 64, by have : (x 0).val < 1024 := (x 0).isLt; omega⟩ ((x 0).val % 64) (ix3 (0 : Fin 1) (x 1) (x 2))

theorem whole_in (t : Fin cfg0.N) : iblk m c 0 t = V m c main_call0_v5 ∧ iblk m c 1 t = V m c main_call0_v7 ∧ iblk m c 2 t = V m c main_call0_v12
    ∧ iblk m c 3 t = V m c main_call0_cst_1 ∧ iblk m c 4 t = V m c main_call0_v0 ∧ iblk m c 5 t = V m c main_call0_v1 := by
  refine ⟨?_, ?_, ?_, ?_, ?_, ?_⟩ <;> funext y <;> blk_ext [iblk, index_in t]

theorem index_out : ∀ t : Fin cfg0.N, (cfg0.win 6).index t = ![t.val, 0, 0] := by decide +kernel

theorem same_out (f : FBuf Ideal) (w1 : Vec Ideal S128x256 .bf16) (w2 : Vec Ideal S128x128 .bf16) (wo : Vec Ideal S8x128 .bf16) (mm : Vec Ideal S128x128 .bf16)
    (xs ys : Vec Ideal S1x128 .f32) {s s' : Fin 16} {r r' : ℕ} {x x' : S1x2x128.Idx} (hs : s = s') (hr : r = r') (hx : x = x') :
    outVal f w1 w2 wo mm xs ys s r x = outVal f w1 w2 wo mm xs ys s' r' x' := by
  rw [hs, hr, hx]

theorem arr_out : (dats m 0 c).arrAt 6 cfg0.N = outArr m c := by
  refine (dats m 0 c).arrAt_eq_of_covers 6 _ (by decide +kernel) fun t hf y => ?_
  obtain ⟨e0, e1, e2, e3, e4, e5⟩ := whole_in m c t
  have ht : (dats m 0 c).after 6 t = outAt m c t := rfl
  blk_simp [index_out t]
  rw [ht]
  unfold outAt stack outArr
  rw [e0, e1, e2, e3, e4, e5]
  have q0 : ((win0_6.blk t).view.emb y 0).val = t.val * 64 + (y 0).val := by blk_simp [index_out t]
  have q1 : ((win0_6.blk t).view.emb y 1).val = (y 1).val := by blk_simp [index_out t]
  have q2 : ((win0_6.blk t).view.emb y 2).val = (y 2).val := by blk_simp [index_out t]
  have hy : (y 0).val < 64 := (y 0).isLt
  refine same_out _ _ _ _ _ _ _ (Fin.ext ?_) ?_ (funext fun a => Fin.ext ?_)
  · show t.val = ((win0_6.blk t).view.emb y 0).val / 64
    omega
  · omega
  · match a with
    | ⟨0, _⟩ => rfl
    | ⟨1, _⟩ => exact q1.symm
    | ⟨2, _⟩ => exact q2.symm

/-! ## The result at an index -/

theorem endV_out : endV m c (Proc.devRef .tc main_v0) = transpose S1024x128x2 [0, 2, 1] (outArr m c) transposes_S1024x2x128_S1024x128x2_0_2_1 := by
  rw [← arr_out]
  simp only [endV, List.flatten_cons, List.flatten_nil, List.append_nil, hostOps1, TRef.unary, TRef.toBuf, TRef.ofBuf, cast_eq]
  after_results_simp
  exact congrArg (fun a => transpose S1024x128x2 [0, 2, 1] a transposes_S1024x2x128_S1024x128x2_0_2_1)
    (Pipeline.withArrays_arr spec0 (by decide) c _ _ 6)

theorem out_apply
    (h0 : ∀ (b : Fin 1024) (k : Fin 256) (p : Fin 196), m (c, Proc.devRef .tc main_arg0) (ix4 b k ⟨p.val / 14, by omega⟩ ⟨p.val % 14, by omega⟩) = ((φ b k (p.val / 14) (p.val % 14) : ℝ) : EReal))
    (h1 : ∀ (k : Fin 256) (j : Fin 128), m (c, Proc.devRef .tc main_arg1) (ix2 k j) = ((W1 k j : ℝ) : EReal)) (b : Fin 1024) (n : Fin 128) (i : Fin 2) :
    endV m c (Proc.devRef .tc main_v0) (ix3 b n i)
      = walk (φ b) W1 (fun j k => m (c, Proc.devRef .tc main_arg2) (ix2 j k)) (fun k i => m (c, Proc.devRef .tc main_arg3) (ix2 k i)) 3 origin n i := by
  have hb : (⟨64 * (b.val / 64) + b.val % 64, by omega⟩ : Fin 1024) = b := Fin.ext (by show 64 * (b.val / 64) + b.val % 64 = b.val; omega)
  have h := outVal_apply m c φ W1 h0 h1 ⟨0, by decide⟩ ⟨b.val / 64, by omega⟩ ⟨b.val % 64, by omega⟩ i n
  obtain ⟨e0, e1, e2, e3, e4, e5⟩ := whole_in m c ⟨0, by decide⟩
  rw [e0, e1, e2, e3, e4, e5] at h
  have hφ : φ ⟨64 * (b.val / 64) + b.val % 64, by omega⟩ = φ b := congrArg φ hb
  rw [endV_out]
  refine Eq.trans ?_ (h.trans (congrArg (fun f => walk f W1 _ _ 3 origin n i) hφ))
  have e : transpose S1024x128x2 [0, 2, 1] (outArr m c) transposes_S1024x2x128_S1024x128x2_0_2_1 (ix3 b n i) = outArr m c (ix3 b i n) := by
    pointwise []
  exact e

end Cert.KernelIdeal.Hand

end
-- ==== Proof.RefDefs.lean ====
module

public import proofs.«01_k».proof.Proof.Gen.ReferenceIdeal.Run
public import proofs.«01_k».proof.Proof.Sampling
public import Idealize.ShloMosaic.Lib.Pointwise

/-! The reference's round, cut into small steps, and its result as three such rounds. -/

@[expose] public section

set_option maxRecDepth 16384

noncomputable section

namespace Cert.ReferenceIdeal.Hand

open Cert.ReferenceIdeal Cert.ReferenceIdeal.Gen Cert.ReferenceIdeal.Value
open Idealize.ShloMosaic Idealize.ShloMosaic.TcCoe Idealize.SL.Sem

/-! ## The steps of one round -/

abbrev Coords := FVec Ideal S1024x128x2 .f32
abbrev Flat := FVec Ideal S1024x128 .f32
abbrev Cells := IVec S1024x128 32
abbrev Row := FVec Ideal S1024x1x128 .f32

/-- A coordinate clipped to the grid. -/
def clipV (v : Flat) : Flat :=
  minimumf (broadcastInDim S1024x128 ![] bcast_S_S1024x128 (id (constant S_ .f32 0x414FFF97#32)))
    (maximumf (broadcastInDim S1024x128 ![] bcast_S_S1024x128 (id (constant S_ .f32 0x00000000#32))) v)
/-- The x coordinates. -/
def xs (z : Coords) : Flat :=
  shapeCast _ (extractStridedSlice S1024x128x1 ![0, 0, 0] z slices_S1024x128x2_S1024x128x1_0_0_0) shapeCasts_S1024x128x1_S1024x128
/-- The y coordinates. -/
def ys (z : Coords) : Flat :=
  shapeCast _ (extractStridedSlice S1024x128x1 ![0, 0, 1] z slices_S1024x128x2_S1024x128x1_0_0_1) shapeCasts_S1024x128x1_S1024x128
/-- The cell of each clipped coordinate. -/
def cellV (v : Flat) : Cells := fptosi 32 (Host.floor (clipV v))
/-- The next cell, kept on the grid. -/
def nextV (q : Cells) : Cells :=
  minsi (broadcastInDim S1024x128 ![] bcast_S_S1024x128 (id (constantI S_ 32 13#32)))
    (maxsi (broadcastInDim S1024x128 ![] bcast_S_S1024x128 (id (constantI S_ 32 0#32)))
      (addi q (broadcastInDim S1024x128 ![] bcast_S_S1024x128 (constantI S_ 32 1#32))))
/-- The grid point in row `y` and column `x`, counted row by row. -/
def flatV (y x : Cells) : IVec S1024x1x128 32 :=
  broadcastInDim S1024x1x128 ![0, 2] bcast_S1024x128_S1024x1x128_0_2
    (addi (muli y (broadcastInDim S1024x128 ![] bcast_S_S1024x128 (constantI S_ 32 14#32))) x)
/-- A point's number, a negative one counted from the end. -/
def wrapV (q : IVec S1024x1x128 32) : IVec S1024x128x1 32 :=
  shapeCast _ (select (cmpi .slt q (broadcastInDim S1024x1x128 ![] bcast_S_S1024x1x128 (constantI S_ 32 0#32)))
    (addi q (broadcastInDim S1024x1x128 ![] bcast_S_S1024x1x128 (constantI S_ 32 196#32))) q) shapeCasts_S1024x1x128_S1024x128x1
/-- How far the clipped coordinate lies into its cell. -/
def fracV (v : Flat) : Row :=
  broadcastInDim S1024x1x128 ![0, 2] bcast_S1024x128_S1024x1x128_0_2 (subf (clipV v) (Host.floor (clipV v)))
/-- One minus that. -/
def restV (v : Row) : Row := subf (broadcastInDim S1024x1x128 ![] bcast_S_S1024x1x128 (constant S_ .f32 0x3F800000#32)) v
/-- Whether every number is that of a grid point. -/
def inside (q : IVec S1024x128x1 32) : IVec S1024x128 1 :=
  Host.reduce IntOp.andi (andi (cmpi .sge q (broadcastInDim S1024x128x1 ![] bcast_S_S1024x128x1 (constantI S_ 32 0#32)))
    (cmpi .sle q (broadcastInDim S1024x128x1 ![0, 1, 2] bcast_S1x1x1_S1024x128x1_0_1_2
      (broadcastInDim S1x1x1 ![2] bcast_S1_S1x1x1_2 (constantI S1 32 195#32))))) (constantI S_ 1 1#1) reducesTo_S1024x128x1_S1024x128_d2 h_S_
/-- The image at one corner of each vertex's cell. -/
def corner (img : FVec Ideal S1024x256x196 .f32) (q : IVec S1024x128x1 32) : FVec Ideal S1024x256x128 .f32 :=
  select (broadcastInDim S1024x256x128 ![0, 2] bcast_S1024x128_S1024x256x128_0_2 (inside q))
    (Host.gather gather_S1024x256x196_S1024x128x1_S1024x256x128_1_2_0_0_2_2_12561 img q)
    (broadcastInDim S1024x256x128 ![] bcast_S_S1024x256x128 (constant S_ .f32 0x7FC00000#32))
/-- A corner weighted along both axes. -/
def weighted (a : FVec Ideal S1024x256x128 .f32) (wx wy : Row) : FVec Ideal S1024x256x128 .f32 :=
  mulf (mulf a (broadcastInDim S1024x256x128 ![0, 1, 2] bcast_S1024x1x128_S1024x256x128_0_1_2 wx))
    (broadcastInDim S1024x256x128 ![0, 1, 2] bcast_S1024x1x128_S1024x256x128_0_1_2 wy)
/-- The image sampled at every vertex. -/
def sampled (img : FVec Ideal S1024x256x196 .f32) (x y : Flat) : FVec Ideal S1024x128x256 .f32 :=
  transpose S1024x128x256 [0, 2, 1] (addf (addf (addf
    (weighted (corner img (wrapV (flatV (cellV y) (cellV x)))) (restV (fracV x)) (restV (fracV y)))
    (weighted (corner img (wrapV (flatV (cellV y) (nextV (cellV x))))) (fracV x) (restV (fracV y))))
    (weighted (corner img (wrapV (flatV (nextV (cellV y)) (cellV x)))) (restV (fracV x)) (fracV y)))
    (weighted (corner img (wrapV (flatV (nextV (cellV y)) (nextV (cellV x))))) (fracV x) (fracV y))) transposes_S1024x256x128_S1024x128x256_0_2_1
/-- Every vertex's four neighbours, from a table of vertex numbers. -/
def around (t : IVec S128x4 32) : IVec S128x4x1 32 :=
  broadcastInDim S128x4x1 ![0, 1] bcast_S128x4_S128x4x1_0_1
    (select (cmpi .slt t (broadcastInDim S128x4 ![] bcast_S_S128x4 (constantI S_ 32 0#32)))
      (addi t (broadcastInDim S128x4 ![] bcast_S_S128x4 (constantI S_ 32 128#32))) t)
/-- A vertex's vector plus the mean of its neighbours', 256 wide. -/
def mixWide (t : IVec S128x4 32) (u : FVec Ideal S1024x128x256 .f32) : FVec Ideal S1024x128x256 .f32 :=
  addf u (Host.divf (Host.reduceAdd (Host.gather gather_S1024x128x256_S128x4x1_S1024x128x4x256_03_1_n_n_1_2_10241256 u (around t))
    (constant S_ .f32 0x00000000#32) reducesTo_S1024x128x4x256_S1024x128x256_d2 h_S_)
    (broadcastInDim S1024x128x256 ![] bcast_S_S1024x128x256 (constant S_ .f32 0x40800000#32)))
/-- The same, 128 wide. -/
def mixNarrow (t : IVec S128x4 32) (u : FVec Ideal S1024x128x128 .f32) : FVec Ideal S1024x128x128 .f32 :=
  addf u (Host.divf (Host.reduceAdd (Host.gather gather_S1024x128x128_S128x4x1_S1024x128x4x128_03_1_n_n_1_2_10241128 u (around t))
    (constant S_ .f32 0x00000000#32) reducesTo_S1024x128x4x128_S1024x128x128_d2 h_S_)
    (broadcastInDim S1024x128x128 ![] bcast_S_S1024x128x128 (constant S_ .f32 0x40800000#32)))
def positive (u : FVec Ideal S1024x128x128 .f32) : FVec Ideal S1024x128x128 .f32 :=
  maximumf u (broadcastInDim S1024x128x128 ![] bcast_S_S1024x128x128 (constant S_ .f32 0x00000000#32))
/-- One round. -/
def roundV (t : IVec S128x4 32) (img : FVec Ideal S1024x256x196 .f32) (W1 : FVec Ideal S256x128 .f32) (W2 : FVec Ideal S128x128 .f32)
    (Wo : FVec Ideal S128x2 .f32) (z : Coords) : Coords :=
  addf z (Host.tanh (Host.dotGeneral dot_S1024x128x128_S128x2_S1024x128x2_2_0_01_1_n_n none
    (positive (Host.dotGeneral dot_S1024x128x128_S128x128_S1024x128x128_2_0_01_1_n_n none
      (mixNarrow t (positive (Host.dotGeneral dot_S1024x128x256_S256x128_S1024x128x128_2_0_01_1_n_n none
        (mixWide t (sampled img (xs z) (ys z))) W1))) W2)) Wo))

/-! ## The result as three rounds -/

section Result
variable (V : Valuation τ sig (Elt Ideal))

def pixels : FVec Ideal S1024x256x196 .f32 := shapeCast _ (V (Proc.devRef .tc main_arg0)) shapeCasts_S1024x256x14x14_S1024x256x196
def oneRound (z : Coords) : Coords :=
  roundV (res_main_v18 V) (pixels V) (V (Proc.devRef .tc main_arg1)) (V (Proc.devRef .tc main_arg2)) (V (Proc.devRef .tc main_arg3)) z

theorem first : res_main_v116 V = oneRound V (res_main_v4 V) := rfl
theorem second : res_main_v214 V = oneRound V (res_main_v116 V) := rfl

end Result

theorem run3 (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v312)
        = oneRound (StableHlo.launchContents m c) (oneRound (StableHlo.launchContents m c) (oneRound (StableHlo.launchContents m c) (res_main_v4 (StableHlo.launchContents m c))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (by rw [← first, ← second]; rfl), (h c).2⟩) (Value.run m ρ)

end Cert.ReferenceIdeal.Hand

end
-- ==== Proof.RefVal.lean ====
module

public import proofs.«01_k».proof.Proof.RefDefs
public import Idealize.ShloMosaic.Lib.Tactic.CleanTypes

/-! The reference's round read at an index: it is a round of `Sampling`. -/

@[expose] public section

set_option maxRecDepth 16384

noncomputable section

namespace Cert.ReferenceIdeal.Hand

open Cert.ReferenceIdeal Cert.ReferenceIdeal.Gen Cert.ReferenceIdeal.Value
open Idealize.ShloMosaic Idealize.ShloMosaic.TcCoe Idealize.SL.Sem
open Cert.Sampling

/-! ## Taking entries by number -/

theorem toNat_of_word {k : ℕ} (hk : k < 2 ^ 31) : (BitVec.ofNat 32 k).toInt.toNat = k := by
  rw [BitVec.toInt_eq_toNat_of_lt] <;> rw [BitVec.toNat_ofNat, Nat.mod_eq_of_lt (by omega)]
  · exact Int.toNat_natCast k
  · omega

theorem take_pixel (x : FVec Ideal S1024x256x196 .f32) (q : IVec S1024x128x1 32) (b : Fin 1024) (c : Fin 256) (n : Fin 128) (k : Fin 196)
    (h : q (ix3 b n 0) = BitVec.ofNat 32 k.val) :
    Host.gather gather_S1024x256x196_S1024x128x1_S1024x256x128_1_2_0_0_2_2_12561 x q (ix3 b c n) = x (ix3 b c k) := by
  unfold Host.gather
  refine congrArg x (funext fun a => Fin.ext ?_)
  match a with
  | ⟨0, _⟩ => show 0 + b.val + 0 = b.val; omega
  | ⟨1, _⟩ => show 0 + 0 + c.val = c.val; omega
  | ⟨2, _⟩ =>
    have e : ∀ w, gather_S1024x256x196_S1024x128x1_S1024x256x128_1_2_0_0_2_2_12561.siIdx (ix3 b c n) w = ix3 b n 0 := fun w => by
      funext a
      match a with
      | ⟨0, _⟩ => rfl
      | ⟨1, _⟩ => rfl
      | ⟨2, _⟩ => exact Fin.ext (Nat.lt_one_iff.mp w.isLt)
    show min (q (gather_S1024x256x196_S1024x128x1_S1024x256x128_1_2_0_0_2_2_12561.siIdx (ix3 b c n) _)).toInt.toNat 195 + 0 + 0 = k.val
    rw [e, h, toNat_of_word (by omega)]
    omega

theorem take_wide (x : FVec Ideal S1024x128x256 .f32) (q : IVec S128x4x1 32) (b : Fin 1024) (n : Fin 128) (k : Fin 4) (c : Fin 256) (p : Fin 128)
    (h : q (ix3 n k 0) = BitVec.ofNat 32 p.val) :
    Host.gather gather_S1024x128x256_S128x4x1_S1024x128x4x256_03_1_n_n_1_2_10241256 x q (ix4 b n k c) = x (ix3 b p c) := by
  unfold Host.gather
  refine congrArg x (funext fun a => Fin.ext ?_)
  match a with
  | ⟨0, _⟩ => show 0 + 0 + b.val = b.val; omega
  | ⟨2, _⟩ => show 0 + 0 + c.val = c.val; omega
  | ⟨1, _⟩ =>
    have e : ∀ w, gather_S1024x128x256_S128x4x1_S1024x128x4x256_03_1_n_n_1_2_10241256.siIdx (ix4 b n k c) w = ix3 n k 0 := fun w => by
      funext a
      match a with
      | ⟨0, _⟩ => rfl
      | ⟨1, _⟩ => rfl
      | ⟨2, _⟩ => exact Fin.ext (Nat.lt_one_iff.mp w.isLt)
    show min (q (gather_S1024x128x256_S128x4x1_S1024x128x4x256_03_1_n_n_1_2_10241256.siIdx (ix4 b n k c) _)).toInt.toNat 127 + 0 + 0 = p.val
    rw [e, h, toNat_of_word (by omega)]
    omega

theorem take_narrow (x : FVec Ideal S1024x128x128 .f32) (q : IVec S128x4x1 32) (b : Fin 1024) (n : Fin 128) (k : Fin 4) (c : Fin 128) (p : Fin 128)
    (h : q (ix3 n k 0) = BitVec.ofNat 32 p.val) :
    Host.gather gather_S1024x128x128_S128x4x1_S1024x128x4x128_03_1_n_n_1_2_10241128 x q (ix4 b n k c) = x (ix3 b p c) := by
  unfold Host.gather
  refine congrArg x (funext fun a => Fin.ext ?_)
  match a with
  | ⟨0, _⟩ => show 0 + 0 + b.val = b.val; omega
  | ⟨2, _⟩ => show 0 + 0 + c.val = c.val; omega
  | ⟨1, _⟩ =>
    have e : ∀ w, gather_S1024x128x128_S128x4x1_S1024x128x4x128_03_1_n_n_1_2_10241128.siIdx (ix4 b n k c) w = ix3 n k 0 := fun w => by
      funext a
      match a with
      | ⟨0, _⟩ => rfl
      | ⟨1, _⟩ => rfl
      | ⟨2, _⟩ => exact Fin.ext (Nat.lt_one_iff.mp w.isLt)
    show min (q (gather_S1024x128x128_S128x4x1_S1024x128x4x128_03_1_n_n_1_2_10241128.siIdx (ix4 b n k c) _)).toInt.toNat 127 + 0 + 0 = p.val
    rw [e, h, toNat_of_word (by omega)]
    omega

/-! ## Cells -/

theorem clipV_apply (v : Flat) (b : Fin 1024) (n : Fin 128) : clipV v (ix2 b n) = clip (v (ix2 b n)) := by
  pointwise [clipV, id]
  rfl
theorem floorV_apply (v : Flat) (b : Fin 1024) (n : Fin 128) : Host.floor (clipV v) (ix2 b n) = ((cell (v (ix2 b n)) : ℝ) : EReal) := by
  rw [← floor_clip, ← clipV_apply]
  rfl
theorem cellV_apply (v : Flat) (b : Fin 1024) (n : Fin 128) : cellV v (ix2 b n) = BitVec.ofNat 32 (cell (v (ix2 b n))) := by
  rw [← word_cell, ← floorV_apply]
  rfl
theorem fracV_apply (v : Flat) (b : Fin 1024) (n : Fin 128) : fracV v (ix3 b 0 n) = ((frac (v (ix2 b n)) : ℝ) : EReal) := by
  rw [← frac_eq, ← floorV_apply, ← clipV_apply]
  pointwise [fracV]
theorem restV_apply (v : Flat) (b : Fin 1024) (n : Fin 128) : restV (fracV v) (ix3 b 0 n) = ((1 - frac (v (ix2 b n)) : ℝ) : EReal) := by
  rw [EReal.coe_sub, ← fracV_apply]
  pointwise [restV]
  rfl
theorem nextV_apply (q : Cells) (b : Fin 1024) (n : Fin 128) (k : ℕ) (hk : k < 13) (h : q (ix2 b n) = BitVec.ofNat 32 k) :
    nextV q (ix2 b n) = BitVec.ofNat 32 (k + 1) := by
  pointwise [nextV]
  rw [h]
  interval_cases k <;> decide

/-- The number of a grid point is that of the entry read. -/
theorem wrapV_apply (y x : Cells) (b : Fin 1024) (n : Fin 128) (j k : ℕ) (hj : j < 14) (hk : k < 14) (hy : y (ix2 b n) = BitVec.ofNat 32 j)
    (hx : x (ix2 b n) = BitVec.ofNat 32 k) : wrapV (flatV y x) (ix3 b n 0) = BitVec.ofNat 32 (j * 14 + k) := by
  pointwise [wrapV, flatV]
  rw [hx, hy]
  interval_cases j <;> interval_cases k <;> decide

theorem inside_apply (q : IVec S1024x128x1 32) (b : Fin 1024) (n : Fin 128) (k : Fin 196) (h : q (ix3 b n 0) = BitVec.ofNat 32 k.val) :
    inside q (ix2 b n) = 1#1 := by
  have e : ∀ k : Fin 196, IntOp.andi (IntOp.cmpi .sge (BitVec.ofNat 32 k.val) 0#32) (IntOp.cmpi .sle (BitVec.ofNat 32 k.val) 195#32) = 1#1 := by
    decide
  pointwise [inside]
  simp [h, e]
  rfl

/-! ## Sampling -/

section Sampled
variable (img : FVec Ideal S1024x256x196 .f32) (φ : Fin 1024 → Fin 256 → ℕ → ℕ → ℝ)
variable (himg : ∀ (b : Fin 1024) (c : Fin 256) (p : Fin 196), img (ix3 b c p) = ((φ b c (p.val / 14) (p.val % 14) : ℝ) : EReal))
include himg

theorem corner_apply (y x : Cells) (b : Fin 1024) (c : Fin 256) (n : Fin 128) (j k : ℕ) (hj : j < 14) (hk : k < 14)
    (hy : y (ix2 b n) = BitVec.ofNat 32 j) (hx : x (ix2 b n) = BitVec.ofNat 32 k) :
    corner img (wrapV (flatV y x)) (ix3 b c n) = ((φ b c j k : ℝ) : EReal) := by
  have h : wrapV (flatV y x) (ix3 b n 0) = BitVec.ofNat 32 (⟨j * 14 + k, by omega⟩ : Fin 196).val := wrapV_apply y x b n j k hj hk hy hx
  have h1 := inside_apply _ b n _ h
  have h2 := take_pixel img _ b c n _ h
  rw [himg] at h2
  unfold corner
  generalize wrapV (flatV y x) = q at h1 h2
  pointwise []
  rw [h1, h2]
  have e1 : (j * 14 + k) / 14 = j := by omega
  have e2 : (j * 14 + k) % 14 = k := by omega
  simp only [e1, e2]
  rfl

theorem sampled_apply (x y : Flat) (b : Fin 1024) (n : Fin 128) (c : Fin 256) :
    sampled img x y (ix3 b n c) = ((bil (φ b c) (x (ix2 b n)) (y (ix2 b n)) : ℝ) : EReal) := by
  have hx := cell_lt (x (ix2 b n))
  have hy := cell_lt (y (ix2 b n))
  have nx := nextV_apply _ b n _ hx (cellV_apply x b n)
  have ny := nextV_apply _ b n _ hy (cellV_apply y b n)
  have c1 := corner_apply img φ himg _ _ b c n _ _ (by omega) (by omega) (cellV_apply y b n) (cellV_apply x b n)
  have c2 := corner_apply img φ himg _ _ b c n _ _ (by omega) (by omega) (cellV_apply y b n) nx
  have c3 := corner_apply img φ himg _ _ b c n _ _ (by omega) (by omega) ny (cellV_apply x b n)
  have c4 := corner_apply img φ himg _ _ b c n _ _ (by omega) (by omega) ny nx
  pointwise [sampled, weighted]
  rw [c1, c2, c3, c4, fracV_apply, fracV_apply, restV_apply, restV_apply]
  unfold bil
  simp only [EReal.coe_add, EReal.coe_mul]

end Sampled

/-! ## Neighbours -/

section Mixes
variable (t : IVec S128x4 32) (ht : ∀ (n : Fin 128) (k : Fin 4), t (ix2 n k) = BitVec.ofNat 32 (nb n k).val)
include ht

theorem around_apply (n : Fin 128) (k : Fin 4) : around t (ix3 n k 0) = BitVec.ofNat 32 (nb n k).val := by
  have e : ∀ p : Fin 128, Scalar.select (IntOp.cmpi .slt (BitVec.ofNat 32 p.val) 0#32) (IntOp.addi (BitVec.ofNat 32 p.val) 128#32)
      (BitVec.ofNat 32 p.val) = BitVec.ofNat 32 p.val := by decide
  rw [← e, ← ht]
  pointwise [around]

omit ht in
theorem quarter (s : ℝ) : Ideal.div ((s : ℝ) : EReal) (Ideal.ofBits .f32 0x40800000#32) = ((s / 4 : ℝ) : EReal) := by
  have e : Ideal.ofBits .f32 0x40800000#32 = ((4 : ℝ) : EReal) := by
    simp [Ideal.ofBits, Ideal.ieee]
    rw [← EReal.coe_mul]
    norm_num
  rw [e, Ideal.div, if_neg (by exact_mod_cast (by norm_num : (4 : ℝ) ≠ 0)), ← EReal.coe_inv, ← EReal.coe_mul, div_eq_mul_inv]

theorem mixWide_apply (u : FVec Ideal S1024x128x256 .f32) (b : Fin 1024) (c : Fin 256) (f : Fin 128 → ℝ)
    (hu : ∀ n, u (ix3 b n c) = ((f n : ℝ) : EReal)) (n : Fin 128) : mixWide t u (ix3 b n c) = ((mixed f n : ℝ) : EReal) := by
  have h := fun k => take_wide u (around t) b n k c (nb n k) (around_apply t ht n k)
  unfold mixWide
  generalize Host.gather gather_S1024x128x256_S128x4x1_S1024x128x4x256_03_1_n_n_1_2_10241256 u (around t) = G at h
  pointwise []
  simp only [h, hu]
  rw [← coe_sum, quarter]
  exact (EReal.coe_add _ _).symm
theorem mixNarrow_apply (u : FVec Ideal S1024x128x128 .f32) (b : Fin 1024) (c : Fin 128) (f : Fin 128 → ℝ)
    (hu : ∀ n, u (ix3 b n c) = ((f n : ℝ) : EReal)) (n : Fin 128) : mixNarrow t u (ix3 b n c) = ((mixed f n : ℝ) : EReal) := by
  have h := fun k => take_narrow u (around t) b n k c (nb n k) (around_apply t ht n k)
  unfold mixNarrow
  generalize Host.gather gather_S1024x128x128_S128x4x1_S1024x128x4x128_03_1_n_n_1_2_10241128 u (around t) = G at h
  pointwise []
  simp only [h, hu]
  rw [← coe_sum, quarter]
  exact (EReal.coe_add _ _).symm

section RoundVal
variable (img : FVec Ideal S1024x256x196 .f32) (φ : Fin 1024 → Fin 256 → ℕ → ℕ → ℝ)
variable (himg : ∀ (b : Fin 1024) (c : Fin 256) (p : Fin 196), img (ix3 b c p) = ((φ b c (p.val / 14) (p.val % 14) : ℝ) : EReal))
variable (w1 : FVec Ideal S256x128 .f32) (W1 : Fin 256 → Fin 128 → ℝ) (hw1 : ∀ c j, w1 (ix2 c j) = ((W1 c j : ℝ) : EReal))
variable (w2 : FVec Ideal S128x128 .f32) (wo : FVec Ideal S128x2 .f32)
include himg hw1

theorem hidden_apply (x y : Flat) (b : Fin 1024) (n j : Fin 128) :
    positive (Host.dotGeneral dot_S1024x128x256_S256x128_S1024x128x128_2_0_01_1_n_n none (mixWide t (sampled img x y)) w1) (ix3 b n j)
      = ((hid (φ b) W1 (fun n => x (ix2 b n)) (fun n => y (ix2 b n)) n j : ℝ) : EReal) := by
  have h := fun c => mixWide_apply t ht (sampled img x y) b c _ (fun n => sampled_apply img φ himg x y b n c) n
  pointwise [positive]
  simp only [h, hw1]
  unfold hid
  rw [coe_max, coe_sum]
  simp only [EReal.coe_mul]
  rfl

theorem roundV_apply (z : Coords) (b : Fin 1024) (n : Fin 128) (i : Fin 2) : roundV t img w1 w2 wo z (ix3 b n i)
    = z (ix3 b n i) + off (φ b) W1 (fun j k => w2 (ix2 j k)) (fun k i => wo (ix2 k i)) (fun n => z (ix3 b n 0)) (fun n => z (ix3 b n 1)) n i := by
  have hx : ∀ n, xs z (ix2 b n) = z (ix3 b n 0) := fun n => by pointwise [xs]
  have hy : ∀ n, ys z (ix2 b n) = z (ix3 b n 1) := fun n => by pointwise [ys]
  have h := fun j => mixNarrow_apply t ht _ b j _ (fun n => hidden_apply t ht img φ himg w1 W1 hw1 (xs z) (ys z) b n j) n
  unfold roundV
  generalize mixNarrow t _ = G at h ⊢
  pointwise [positive]
  simp only [h, hx, hy]
  rfl

end RoundVal

end Mixes

variable (V : Valuation τ sig (Elt Ideal))
theorem table (n : Fin 128) (k : Fin 4) : res_main_v18 V (ix2 n k) = BitVec.ofNat 32 (nb n k).val := by
  unfold res_main_v18 res_main_call0_v4 res_main_call0_v2 res_main_call0_v0
  clean_types
  pointwise [id]
  revert n k
  decide +kernel

theorem start_apply (b : Fin 1024) (n : Fin 128) (i : Fin 2) : res_main_v4 V (ix3 b n i) = if i = 0 then Ideal.ofBits .f32 (lit0 (S128.rowMajor (ix1 n))) else Ideal.ofBits .f32 (lit1 (S128.rowMajor (ix1 n))) := by
  unfold res_main_v4
  clean_types
  pointwise [id]
  fin_cases i <;> rfl

theorem pixels_apply (b : Fin 1024) (c : Fin 256) (p : Fin 196) : pixels V (ix3 b c p) = V (Proc.devRef .tc main_arg0) (ix4 b c ⟨p.val / 14, by omega⟩ ⟨p.val % 14, by omega⟩) := by
  unfold pixels
  clean_types
  pointwise []

/-- The reference's result: three rounds from the starting polygon. -/
theorem result_apply (φ : Fin 1024 → Fin 256 → ℕ → ℕ → ℝ) (W1 : Fin 256 → Fin 128 → ℝ)
    (h0 : ∀ (b : Fin 1024) (c : Fin 256) (p : Fin 196), V (Proc.devRef .tc main_arg0) (ix4 b c ⟨p.val / 14, by omega⟩ ⟨p.val % 14, by omega⟩) = ((φ b c (p.val / 14) (p.val % 14) : ℝ) : EReal))
    (h1 : ∀ (c : Fin 256) (j : Fin 128), V (Proc.devRef .tc main_arg1) (ix2 c j) = ((W1 c j : ℝ) : EReal)) (b : Fin 1024) (n : Fin 128) (i : Fin 2) :
    oneRound V (oneRound V (oneRound V (res_main_v4 V))) (ix3 b n i)
      = walk (φ b) W1 (fun j k => V (Proc.devRef .tc main_arg2) (ix2 j k)) (fun k i => V (Proc.devRef .tc main_arg3) (ix2 k i)) 3
          (fun n i => if i = 0 then Ideal.ofBits .f32 (lit0 (S128.rowMajor (ix1 n))) else Ideal.ofBits .f32 (lit1 (S128.rowMajor (ix1 n)))) n i := by
  have h := roundV_apply _ (table V) (pixels V) φ (fun b c p => (pixels_apply V b c p).trans (h0 b c p)) (V (Proc.devRef .tc main_arg1)) W1 h1
    (V (Proc.devRef .tc main_arg2)) (V (Proc.devRef .tc main_arg3))
  have e : ∀ (z : Coords) n i, oneRound V z (ix3 b n i) = _ := fun z n i => h z b n i
  simp only [e, start_apply, walk]

end Cert.ReferenceIdeal.Hand

end
-- ==== Proof.Finite.lean ====
module

public import proofs.«01_k».proof.Defs
public import Idealize.ShloMosaic.Lib.ReduceAll
public import Idealize.ShloMosaic.Lib.Pointwise

/-! The precondition read off: every feature and every first-layer weight is a real number. -/

@[expose] public section

set_option maxRecDepth 16384

noncomputable section

namespace Cert.Pre_finite_features_and_w1

open Idealize.ShloMosaic

theorem facts : Facts where
  bcast_S_S1024x256x14x14 := by decide
  reducesTo_S1024x256x14x14_S_d0_1_2_3 := by decide
  h_S_ := by decide
  bcast_S_S256x128 := by decide
  reducesTo_S256x128_S_d0_1 := by decide

/-- A value whose size is below infinity is a real number. -/
theorem real_of_lt {x : EReal} (h : Ideal.cmp .olt (max x (-x)) (Ideal.ofBits .f32 0x7F800000#32) = 1#1) : x = ((x.toReal : ℝ) : EReal) := by
  have e : Ideal.ofBits .f32 0x7F800000#32 = ⊤ := by simp [Ideal.ofBits, Ideal.ieee]
  rw [e] at h
  induction x with
  | bot => exact absurd h (by simp [Ideal.cmp])
  | coe r => rw [EReal.toReal_coe]
  | top => exact absurd h (by simp [Ideal.cmp])

theorem both {a b : BitVec 1} (h : IntOp.andi a b = 1#1) : a = 1#1 ∧ b = 1#1 := by
  revert a b
  decide

variable [Facts]
variable {x0 : FVec Ideal S1024x256x14x14 .f32} {x1 : FVec Ideal S256x128 .f32} {x2 : FVec Ideal S128x128 .f32} {x3 : FVec Ideal S128x2 .f32}

theorem real_args (h : fn x0 x1 x2 x3 = fun _ => 1#1) :
    (∀ i, x0 i = (((x0 i : EReal).toReal : ℝ) : EReal)) ∧ ∀ i, x1 i = (((x1 i : EReal).toReal : ℝ) : EReal) := by
  haveI : Subsingleton S_.Idx := ⟨fun a b => funext fun k => k.elim0⟩
  obtain ⟨ha, hb⟩ := both (congrFun h fun k => k.elim0)
  exact ⟨fun i => real_of_lt (Host.reduce_andi_all _ _ _ _ _ ha i), fun i => real_of_lt (Host.reduce_andi_all _ _ _ _ _ hb i)⟩

end Cert.Pre_finite_features_and_w1

end
-- ==== Proof.Equal.lean ====
module

public import proofs.«01_k».proof.Proof.OutVal
public import proofs.«01_k».proof.Proof.RefVal
public import proofs.«01_k».proof.Proof.Finite

/-! The two programs end with the same result. -/

@[expose] public section

set_option maxRecDepth 16384

noncomputable section

namespace Cert.Equal

open Idealize.ShloMosaic Idealize.ShloMosaic.TcCoe Idealize.ShloMosaic.StableHlo Idealize.SL.Sem
open Cert.Sampling

/-- The features as real numbers. -/
def image (x0 : FVec Ideal Cert.KernelIdeal.S1024x256x14x14 .f32) : Fin 1024 → Fin 256 → ℕ → ℕ → ℝ := fun b k y x =>
  if h : y < 14 ∧ x < 14 then (x0 (ix4 b k ⟨y, h.1⟩ ⟨x, h.2⟩) : EReal).toReal else 0
/-- The first layer's weights as real numbers. -/
def weight (x1 : FVec Ideal Cert.KernelIdeal.S256x128 .f32) : Fin 256 → Fin 128 → ℝ := fun k j => (x1 (ix2 k j) : EReal).toReal

theorem image_eq {x0 : FVec Ideal Cert.KernelIdeal.S1024x256x14x14 .f32} (h : ∀ i, x0 i = (((x0 i : EReal).toReal : ℝ) : EReal)) (b : Fin 1024) (k : Fin 256) (p : Fin 196) :
    x0 (ix4 b k ⟨p.val / 14, by omega⟩ ⟨p.val % 14, by omega⟩) = ((image x0 b k (p.val / 14) (p.val % 14) : ℝ) : EReal) := by
  unfold image
  rw [dif_pos ⟨by omega, by omega⟩]
  exact h _

theorem results (hF : Cert.Pre_finite_features_and_w1.Facts)
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hp : Cert.Pre_KernelIdeal_finite_features_and_w1 m) (c : Dev Cert.KernelIdeal.nD)
    (a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    Cert.ReferenceIdeal.Hand.oneRound (launchContents m' c) (Cert.ReferenceIdeal.Hand.oneRound (launchContents m' c) (Cert.ReferenceIdeal.Hand.oneRound (launchContents m' c)
        (Cert.ReferenceIdeal.Value.res_main_v4 (launchContents m' c))))
      = (Cert.KernelIdeal.Hand.endV m c (Proc.devRef .tc Cert.KernelIdeal.main_v0) : FVec Ideal Cert.KernelIdeal.S1024x128x2 .f32) := by
  obtain ⟨r0, r1⟩ := Cert.Pre_finite_features_and_w1.real_args (hp c)
  have k0 := image_eq r0
  have k1 : ∀ (k : Fin 256) (j : Fin 128), m ((c.tc : Thread Cert.KernelIdeal.nD Cert.KernelIdeal.τ).loc Cert.KernelIdeal.main_arg1) (ix2 k j)
      = ((weight (m ((c.tc : Thread Cert.KernelIdeal.nD Cert.KernelIdeal.τ).loc Cert.KernelIdeal.main_arg1)) k j : ℝ) : EReal) := fun k j => r1 _
  have l0 : launchContents m' c (Proc.devRef .tc Cert.ReferenceIdeal.main_arg0) = _ := a0
  have l1 : launchContents m' c (Proc.devRef .tc Cert.ReferenceIdeal.main_arg1) = _ := a1
  have l2 : launchContents m' c (Proc.devRef .tc Cert.ReferenceIdeal.main_arg2) = _ := a2
  have l3 : launchContents m' c (Proc.devRef .tc Cert.ReferenceIdeal.main_arg3) = _ := a3
  funext (x : Cert.KernelIdeal.S1024x128x2.Idx)
  rw [eq_ix3 x]
  refine (Cert.ReferenceIdeal.Hand.result_apply (launchContents m' c) _ _ (fun b k p => (congrFun l0 _).trans (k0 b k p)) (fun k j => (congrFun l1 _).trans (k1 k j)) (x 0) (x 1) (x 2)).trans ?_
  refine Eq.trans ?_ (Cert.KernelIdeal.Hand.out_apply m c _ _ k0 k1 (x 0) (x 1) (x 2)).symm
  rw [l2, l3]

end Cert.Equal

end
-- ==== Proof.lean ====
/- The proof of the certificate's claim.  Both readings of the kernel, the printed one and the ideal one, run to their
   end on every memory, leave their arguments alone and end with every semaphore at zero (`frame_all`, once for each);
   the reference is a run of pure operations.  On finite features and first-layer weights the two results, read over
   the extended reals, are equal (`Equal.results`). -/
module

public import proofs.«01_k».proof.Defs
public import proofs.«01_k».proof.Proof.Run
public import proofs.«01_k».proof.Proof.RunK
public import proofs.«01_k».proof.Proof.Equal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

/-- The kernel as printed runs and is quiescent at its end. -/
theorem frame_kernel : Cert.quiescent_Kernel := fun m g _ =>
  (θ_run (Cert.Kernel.defs (F := Bits)) _ _).mono (fun _ h => ⟨fun c => (h.1 c).2, h.2⟩) (Cert.Kernel.Hand.frame_all m g)

/-- So does the kernel read at the ideal instance. -/
theorem frame_ideal : Cert.quiescent_KernelIdeal := fun m g _ =>
  (θ_run (Cert.KernelIdeal.defs (F := Ideal)) _ _).mono (fun _ h => ⟨fun c => (h.1 c).2, h.2⟩)
    (Cert.KernelIdeal.Hand.frame_all m g)

/-- The reference has no semaphore, so its run ends quiescent. -/
theorem frame_reference : Cert.quiescent_ReferenceIdeal := fun m g _ =>
  (θ_run (Cert.ReferenceIdeal.defs (F := Ideal)) _ _).mono
    (fun r h => ⟨fun c => (h c).2, Idealize.ShloMosaic.sem_eq_zero_of_no_sems (by decide) r.2⟩)
    (Cert.ReferenceIdeal.Value.run m g)

/-- The two programs end with the same result. -/
theorem equal : Cert.algebraic_KernelIdeal_ReferenceIdeal_pre_finite_features_and_w1
    (hPre_finite_features_and_w1 := Cert.Pre_finite_features_and_w1.facts) := fun m g m' g' hp ha =>
  ⟨fun c => Cert.KernelIdeal.Hand.endV m c (Proc.devRef .tc Cert.KernelIdeal.main_v0),
    (θ_run (Cert.KernelIdeal.defs (F := Ideal)) _ _).mono (fun _ h c => h.1 c) (Cert.KernelIdeal.Hand.frame_all m g),
    (θ_run (Cert.ReferenceIdeal.defs (F := Ideal)) _ _).mono
      (fun _ h c => ⟨(h c).1.trans (Cert.Equal.results Cert.Pre_finite_features_and_w1.facts m m' hp c (ha c).1 (ha c).2.1 (ha c).2.2.1 (ha c).2.2.2), (h c).2⟩)
      (Cert.ReferenceIdeal.Hand.run3 m' g')⟩

theorem claim : Cert.Claim :=
  ⟨Cert.Kernel.Gen.facts, Cert.KernelIdeal.Gen.facts, Cert.ReferenceIdeal.Gen.facts, Cert.Pre_finite_features_and_w1.facts,
    frame_kernel, frame_ideal, fun m g _ => frame_ideal m g trivial, frame_reference, fun m g _ => frame_reference m g trivial, trivial, equal⟩

end Cert.Proof

end
